-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lam_above_minus_inf [hPre_lam_above_minus_inf : Cert.Pre_lam_above_minus_inf.Facts] (m : (ℓ : Loc Cert.KernelIdeal.nD Cert.KernelIdeal.τ Cert.KernelIdeal.sig) → Buf (Elt Ideal) ℓ) : Prop :=
  ∀ c : Dev Cert.KernelIdeal.nD,
    (Cert.Pre_lam_above_minus_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lam_above_minus_inf [hPre_lam_above_minus_inf : Cert.Pre_lam_above_minus_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lam_above_minus_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_lam_above_minus_inf [hKernelIdeal : Cert.KernelIdeal.Facts] [hPre_lam_above_minus_inf : Cert.Pre_lam_above_minus_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lam_above_minus_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_lam_above_minus_inf [hReferenceIdeal : Cert.ReferenceIdeal.Facts] [hPre_lam_above_minus_inf : Cert.Pre_lam_above_minus_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lam_above_minus_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  True

def algebraic_KernelIdeal_ReferenceIdeal_pre_lam_above_minus_inf [hKernelIdeal : Cert.KernelIdeal.Facts] [hReferenceIdeal : Cert.ReferenceIdeal.Facts] [hPre_lam_above_minus_inf : Cert.Pre_lam_above_minus_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lam_above_minus_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_v180) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v51) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v17)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v83_0)) (v1 : (c : Dev Cert.Kernel7Ideal.nD) → Buf (Elt Ideal) ((c.tc : Thread Cert.Kernel7Ideal.nD Cert.Kernel7Ideal.τ).loc Cert.Kernel7Ideal.main_v83_1)) (v2 : (c : Dev Cert.Kernel7Ideal.nD) → Buf (Elt Ideal) ((c.tc : Thread Cert.Kernel7Ideal.nD Cert.Kernel7Ideal.τ).loc Cert.Kernel7Ideal.main_v83_2)) (v3 : (c : Dev Cert.Kernel7Ideal.nD) → Buf (Elt Ideal) ((c.tc : Thread Cert.Kernel7Ideal.nD Cert.Kernel7Ideal.τ).loc Cert.Kernel7Ideal.main_v83_3)) (v4 : (c : Dev Cert.Kernel7Ideal.nD) → Buf (Elt Ideal) ((c.tc : Thread Cert.Kernel7Ideal.nD Cert.Kernel7Ideal.τ).loc Cert.Kernel7Ideal.main_v83_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v83_0) = v0 c
          ∧ r.2.mem ((c.tc : Thread Cert.Kernel7Ideal.nD Cert.Kernel7Ideal.τ).loc Cert.Kernel7Ideal.main_v83_1) = v1 c
          ∧ r.2.mem ((c.tc : Thread Cert.Kernel7Ideal.nD Cert.Kernel7Ideal.τ).loc Cert.Kernel7Ideal.main_v83_2) = v2 c
          ∧ r.2.mem ((c.tc : Thread Cert.Kernel7Ideal.nD Cert.Kernel7Ideal.τ).loc Cert.Kernel7Ideal.main_v83_3) = v3 c
          ∧ r.2.mem ((c.tc : Thread Cert.Kernel7Ideal.nD Cert.Kernel7Ideal.τ).loc Cert.Kernel7Ideal.main_v83_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v126) = v0 c
          ∧ r.2.mem ((c.tc : Thread Cert.Reference7Ideal.nD Cert.Reference7Ideal.τ).loc Cert.Reference7Ideal.main_v127) = v1 c
          ∧ r.2.mem ((c.tc : Thread Cert.Reference7Ideal.nD Cert.Reference7Ideal.τ).loc Cert.Reference7Ideal.main_v128) = v2 c
          ∧ r.2.mem ((c.tc : Thread Cert.Reference7Ideal.nD Cert.Reference7Ideal.τ).loc Cert.Reference7Ideal.main_v129) = v3 c
          ∧ r.2.mem ((c.tc : Thread Cert.Reference7Ideal.nD Cert.Reference7Ideal.τ).loc Cert.Reference7Ideal.main_v130) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_lam_above_minus_inf : Cert.Pre_lam_above_minus_inf.Facts),
    quiescent_Kernel (hKernel := hKernel)
    ∧ quiescent_KernelIdeal (hKernelIdeal := hKernelIdeal)
    ∧ quiescent_KernelIdeal_pre_lam_above_minus_inf (hKernelIdeal := hKernelIdeal) (hPre_lam_above_minus_inf := hPre_lam_above_minus_inf)
    ∧ quiescent_ReferenceIdeal (hReferenceIdeal := hReferenceIdeal)
    ∧ quiescent_ReferenceIdeal_pre_lam_above_minus_inf (hReferenceIdeal := hReferenceIdeal) (hPre_lam_above_minus_inf := hPre_lam_above_minus_inf)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_lam_above_minus_inf (hKernelIdeal := hKernelIdeal) (hReferenceIdeal := hReferenceIdeal) (hPre_lam_above_minus_inf := hPre_lam_above_minus_inf)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_lam_above_minus_inf.lean ====
abbrev S8x2304x2048 : Shape := ⟨3, ![8, 2304, 2048]⟩
abbrev S4x1024 : Shape := ⟨2, ![4, 1024]⟩
abbrev S1024 : Shape := ⟨1, ![1024]⟩
abbrev S8x128x128 : Shape := ⟨3, ![8, 128, 128]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : FVec F S8x2304x2048 .f32) (main_arg1 : FVec F S4x1024 .f32) (main_arg2 : FVec F S1024 .f32) (main_arg3 : FVec F S8x128x128 .f32) (main_arg4 : FVec F S1024 .f32) (main_arg5 : FVec F S8x128x128 .f32) (main_arg6 : FVec F S1024 .f32) (main_arg7 : FVec F S1024 .f32) : IVec S1024 1 :=
  let main_cst : FVec F S_ .f32 := constant S_ .f32 0xFF800000#32
  let main_v0 : FVec F S1024 .f32 := broadcastInDim S1024 ![] bcast_S_S1024 main_cst
  let main_v1 : IVec S1024 1 := cmpf .ogt main_arg7 main_v0
  main_v1
-- ==== Kernel.lean ====
abbrev S8x2304x2048 : Shape := ⟨3, ![8, 2304, 2048]⟩
abbrev S4x1024 : Shape := ⟨2, ![4, 1024]⟩
abbrev S1024 : Shape := ⟨1, ![1024]⟩
abbrev S8x128x128 : Shape := ⟨3, ![8, 128, 128]⟩
abbrev S2304x8x2048 : Shape := ⟨3, ![2304, 8, 2048]⟩
abbrev S18432x2048 : Shape := ⟨2, ![18432, 2048]⟩
abbrev S_ : Shape := ⟨0, ![]⟩
abbrev S8x128x256 : Shape := ⟨3, ![8, 128, 256]⟩
abbrev S1x1024 : Shape := ⟨2, ![1, 1024]⟩
abbrev S18432x1024 : Shape := ⟨2, ![18432, 1024]⟩
abbrev S1024x1024 : Shape := ⟨2, ![1024, 1024]⟩
abbrev S8x1024 : Shape := ⟨2, ![8, 1024]⟩
abbrev S1048x1024 : Shape := ⟨2, ![1048, 1024]⟩
abbrev S1024x128 : Shape := ⟨2, ![1024, 128]⟩
abbrev S1x128x256 : Shape := ⟨3, ![1, 128, 256]⟩
abbrev S128x256 : Shape := ⟨2, ![128, 256]⟩
abbrev S1024x256 : Shape := ⟨2, ![1024, 256]⟩
abbrev S1x128 : Shape := ⟨2, ![1, 128]⟩

abbrev nBuf : Space → Nat
  | .hbm => 45
  | .vmem => 22
  | .smem => 0
  | _ => 0

abbrev bufTy : (tb : Table) → Fin (tcTables nBuf tb) → BufTy
  | .hbm, ⟨0, _⟩ => ⟨S8x2304x2048, .f32⟩
  | .hbm, ⟨1, _⟩ => ⟨S4x1024, .f32⟩
  | .hbm, ⟨2, _⟩ => ⟨S1024, .f32⟩
  | .hbm, ⟨3, _⟩ => ⟨S8x128x128, .f32⟩
  | .hbm, ⟨4, _⟩ => ⟨S1024, .f32⟩
  | .hbm, ⟨5, _⟩ => ⟨S8x128x128, .f32⟩
  | .hbm, ⟨6, _⟩ => ⟨S1024, .f32⟩
  | .hbm, ⟨7, _⟩ => ⟨S1024, .f32⟩
  | .hbm, ⟨8, _⟩ => ⟨S2304x8x2048, .f32⟩
  | .hbm, ⟨9, _⟩ => ⟨S18432x2048, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .i1⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S8x128x256, .f32⟩
  | .hbm, ⟨29, _⟩ => ⟨S_, .f32⟩
  | .hbm, ⟨30, _⟩ => ⟨S8x128x256, .f32⟩
  | .hbm, ⟨31, _⟩ => ⟨S8x128x256, .f32⟩
  | .hbm, ⟨32, _⟩ => ⟨S8x128x256, .bf16⟩
  | .hbm, ⟨33, _⟩ => ⟨S1x1024, .f32⟩
  | .hbm, ⟨34, _⟩ => ⟨S1x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S18432x1024, .f32⟩
  | .hbm, ⟨44, _⟩ => ⟨S18432x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S4x1024, .f32⟩
  | .local _ .vmem, ⟨9, _⟩ => ⟨S1x1024, .f32⟩
  | .local _ .vmem, ⟨10, _⟩ => ⟨S8x128x256, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S8x1024, .f32⟩
  | .local _ .vmem, ⟨19, _⟩ => ⟨S1048x1024, .f32⟩
  | .local _ .vmem, ⟨20, _⟩ => ⟨S1024x1024, .f32⟩
  | .local _ .vmem, ⟨21, _⟩ => ⟨S1024x1024, .f32⟩
  | _, _ => ⟨S8x2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst_0 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_1 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18_0 : Ref sig .tc := ⟨.hbm, 43, rfl⟩
abbrev main_v18_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![18], ![false]⟩

@[reducible] def k0_t1_loop : Scf.Loop 32 :=
  let c0_i32_182 : BitVec 32 := 0#32
  let c128_i32 : BitVec 32 := 128#32
  let v420 : BitVec 32 := Scalar.addi c0_i32_182 c128_i32
  let c1_i32_183 : BitVec 32 := 1#32
  ⟨c0_i32_182, v420, c1_i32_183⟩
def k0_mult1 (k0_t1 : Fin k0_t1_loop.trips) : BitVec 32 :=
  let c0_i32_182 : BitVec 32 := 0#32
  let c1_i32_183 : BitVec 32 := 1#32
  let arg17 : BitVec 32 := Scf.iv c0_i32_182 c1_i32_183 k0_t1
  let c8_i32 : BitVec 32 := 8#32
  let v427 : BitVec 32 := Scalar.muli arg17 c8_i32
  v427
def k0_off1 (k0_t1 : Fin k0_t1_loop.trips) : Fin 2 → Nat :=
  let c0_i32_182 : BitVec 32 := 0#32
  let c1_i32_183 : BitVec 32 := 1#32
  let arg17 : BitVec 32 := Scf.iv c0_i32_182 c1_i32_183 k0_t1
  let c8_i32 : BitVec 32 := 8#32
  let v427 : BitVec 32 := Scalar.muli arg17 c8_i32
  let v428 : BitVec 32 := v427
  let v429 : Index := Scalar.indexCast v428
  let c0_191 : Index := 0#32
  ![v429.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.addi v0 c128_i32_0
  let c2303_i32 : BitVec 32 := 2303#32
  let v2 : BitVec 32 := Scalar.minsi v1 c2303_i32
  let c0_i32 : BitVec 32 := 0#32
  let c0_i32_1 : BitVec 32 := 0#32
  ![v2.toNat, c0_i32.toNat]

def cc0_transform_3 (i : grid0.Coords) : Fin 2 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.addi v0 c128_i32_0
  let c1_i32 : BitVec 32 := 1#32
  let v2 : BitVec 32 := Scalar.addi v1 c1_i32
  let c2303_i32 : BitVec 32 := 2303#32
  let v3 : BitVec 32 := Scalar.minsi v2 c2303_i32
  let c0_i32 : BitVec 32 := 0#32
  let c0_i32_1 : BitVec 32 := 0#32
  ![v3.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S8x2304x2048 : Shape := ⟨3, ![8, 2304, 2048]⟩
abbrev S4x1024 : Shape := ⟨2, ![4, 1024]⟩
abbrev S1024 : Shape := ⟨1, ![1024]⟩
abbrev S8x128x128 : Shape := ⟨3, ![8, 128, 128]⟩
abbrev S8x2304x1024 : Shape := ⟨3, ![8, 2304, 1024]⟩
abbrev S8x256x1024 : Shape := ⟨3, ![8, 256, 1024]⟩
abbrev S_ : Shape := ⟨0, ![]⟩
abbrev S8x259x1024 : Shape := ⟨3, ![8, 259, 1024]⟩
abbrev S1x1024 : Shape := ⟨2, ![1, 1024]⟩
abbrev S1x1x1024 : Shape := ⟨3, ![1, 1, 1024]⟩
abbrev S8x2048x1024 : Shape := ⟨3, ![8, 2048, 1024]⟩
abbrev S8x2051x1024 : Shape := ⟨3, ![8, 2051, 1024]⟩
abbrev S8x2304x8x128 : Shape := ⟨4, ![8, 2304, 8, 128]⟩
abbrev S8x128x8x2304 : Shape := ⟨4, ![8, 128, 8, 2304]⟩
abbrev S8x1024 : Shape := ⟨2, ![8, 1024]⟩
abbrev S2304x8x1024 : Shape := ⟨3, ![2304, 8, 1024]⟩
abbrev S1x8x1024 : Shape := ⟨3, ![1, 8, 1024]⟩
abbrev S18432x1024 : Shape := ⟨2, ![18432, 1024]⟩

abbrev nBuf : Space → Nat
  | .hbm => 241
  | .vmem => 0
  | .smem => 0
  | _ => 0

abbrev hbmTy0_0 (i : Nat) : BufTy := match i % 128 with
  | 0 => ⟨S8x2304x2048, .f32⟩
  | 1 => ⟨S4x1024, .f32⟩
  | 2 => ⟨S1024, .f32⟩
  | 3 => ⟨S8x128x128, .f32⟩
  | 4 => ⟨S1024, .f32⟩
  | 5 => ⟨S8x128x128, .f32⟩
  | 6 => ⟨S1024, .f32⟩
  | 7 => ⟨S1024, .f32⟩
  | 8 => ⟨S8x2304x1024, .f32⟩
  | 9 => ⟨S8x256x1024, .f32⟩
  | 10 => ⟨S_, .i32⟩
  | 11 => ⟨S_, .f32⟩
  | 12 => ⟨S8x259x1024, .f32⟩
  | 13 => ⟨S8x256x1024, .f32⟩
  | 14 => ⟨S1x1024, .f32⟩
  | 15 => ⟨S1024, .f32⟩
  | 16 => ⟨S1x1x1024, .f32⟩
  | 17 => ⟨S8x256x1024, .f32⟩
  | 18 => ⟨S8x256x1024, .f32⟩
  | 19 => ⟨S1x1x1024, .f32⟩
  | 20 => ⟨S8x256x1024, .f32⟩
  | 21 => ⟨S8x256x1024, .f32⟩
  | 22 => ⟨S8x256x1024, .f32⟩
  | 23 => ⟨S1x1024, .f32⟩
  | 24 => ⟨S1024, .f32⟩
  | 25 => ⟨S1x1x1024, .f32⟩
  | 26 => ⟨S8x256x1024, .f32⟩
  | 27 => ⟨S8x256x1024, .f32⟩
  | 28 => ⟨S8x256x1024, .f32⟩
  | 29 => ⟨S8x256x1024, .f32⟩
  | 30 => ⟨S1x1024, .f32⟩
  | 31 => ⟨S1024, .f32⟩
  | 32 => ⟨S1x1x1024, .f32⟩
  | 33 => ⟨S8x256x1024, .f32⟩
  | 34 => ⟨S8x256x1024, .f32⟩
  | 35 => ⟨S8x256x1024, .f32⟩
  | 36 => ⟨S8x256x1024, .f32⟩
  | 37 => ⟨S1x1024, .f32⟩
  | 38 => ⟨S1024, .f32⟩
  | 39 => ⟨S1x1x1024, .f32⟩
  | 40 => ⟨S8x256x1024, .f32⟩
  | 41 => ⟨S8x256x1024, .f32⟩
  | 42 => ⟨S8x256x1024, .f32⟩
  | 43 => ⟨S8x2048x1024, .f32⟩
  | 44 => ⟨S_, .i32⟩
  | 45 => ⟨S_, .f32⟩
  | 46 => ⟨S8x2051x1024, .f32⟩
  | 47 => ⟨S8x2048x1024, .f32⟩
  | 48 => ⟨S1x1024, .f32⟩
  | 49 => ⟨S1024, .f32⟩
  | 50 => ⟨S1x1x1024, .f32⟩
  | 51 => ⟨S8x2048x1024, .f32⟩
  | 52 => ⟨S8x2048x1024, .f32⟩
  | 53 => ⟨S1x1x1024, .f32⟩
  | 54 => ⟨S8x2048x1024, .f32⟩
  | 55 => ⟨S8x2048x1024, .f32⟩
  | 56 => ⟨S8x2048x1024, .f32⟩
  | 57 => ⟨S1x1024, .f32⟩
  | 58 => ⟨S1024, .f32⟩
  | 59 => ⟨S1x1x1024, .f32⟩
  | 60 => ⟨S8x2048x1024, .f32⟩
  | 61 => ⟨S8x2048x1024, .f32⟩
  | 62 => ⟨S8x2048x1024, .f32⟩
  | 63 => ⟨S8x2048x1024, .f32⟩
  | 64 => ⟨S1x1024, .f32⟩
  | 65 => ⟨S1024, .f32⟩
  | 66 => ⟨S1x1x1024, .f32⟩
  | 67 => ⟨S8x2048x1024, .f32⟩
  | 68 => ⟨S8x2048x1024, .f32⟩
  | 69 => ⟨S8x2048x1024, .f32⟩
  | 70 => ⟨S8x2048x1024, .f32⟩
  | 71 => ⟨S1x1024, .f32⟩
  | 72 => ⟨S1024, .f32⟩
  | 73 => ⟨S1x1x1024, .f32⟩
  | 74 => ⟨S8x2048x1024, .f32⟩
  | 75 => ⟨S8x2048x1024, .f32⟩
  | 76 => ⟨S8x2048x1024, .f32⟩
  | 77 => ⟨S8x2304x1024, .f32⟩
  | 78 => ⟨S8x2304x8x128, .f32⟩
  | 79 => ⟨S8x128x8x2304, .f32⟩
  | 80 => ⟨S8x2304x8x128, .f32⟩
  | 81 => ⟨S8x2304x1024, .f32⟩
  | 82 => ⟨S1x1x1024, .f32⟩
  | 83 => ⟨S8x2304x1024, .f32⟩
  | 84 => ⟨S8x2304x1024, .f32⟩
  | 85 => ⟨S8x2304x1024, .f32⟩
  | 86 => ⟨S8x2304x1024, .f32⟩
  | 87 => ⟨S_, .f32⟩
  | 88 => ⟨S8x2304x1024, .f32⟩
  | 89 => ⟨S8x2304x1024, .f32⟩
  | 90 => ⟨S_, .f32⟩
  | 91 => ⟨S8x2304x1024, .f32⟩
  | 92 => ⟨S8x2304x1024, .f32⟩
  | 93 => ⟨S8x2304x8x128, .f32⟩
  | 94 => ⟨S8x128x8x2304, .f32⟩
  | 95 => ⟨S8x2304x8x128, .f32⟩
  | 96 => ⟨S8x2304x1024, .f32⟩
  | 97 => ⟨S1x1x1024, .f32⟩
  | 98 => ⟨S8x2304x1024, .f32⟩
  | 99 => ⟨S8x2304x1024, .f32⟩
  | 100 => ⟨S8x2304x1024, .f32⟩
  | 101 => ⟨S8x2304x1024, .f32⟩
  | 102 => ⟨S_, .f32⟩
  | 103 => ⟨S8x2304x1024, .f32⟩
  | 104 => ⟨S8x2304x1024, .f32⟩
  | 105 => ⟨S_, .f32⟩
  | 106 => ⟨S8x2304x1024, .f32⟩
  | 107 => ⟨S8x2304x1024, .f32⟩
  | 108 => ⟨S_, .f32⟩
  | 109 => ⟨S8x2304x1024, .f32⟩
  | 110 => ⟨S8x2304x1024, .f32⟩
  | 111 => ⟨S1024, .f32⟩
  | 112 => ⟨S_, .f32⟩
  | 113 => ⟨S1024, .f32⟩
  | 114 => ⟨S1024, .f32⟩
  | 115 => ⟨S1024, .f32⟩
  | 116 => ⟨S1024, .f32⟩
  | 117 => ⟨S1024, .i1⟩
  | 118 => ⟨S1024, .f32⟩
  | 119 => ⟨S1024, .f32⟩
  | 120 => ⟨S1024, .f32⟩
  | 121 => ⟨S1024, .f32⟩
  | 122 => ⟨S1024, .f32⟩
  | 123 => ⟨S1024, .f32⟩
  | 124 => ⟨S1024, .f32⟩
  | 125 => ⟨S1024, .f32⟩
  | 126 => ⟨S1x1x1024, .f32⟩
  | 127 => ⟨S8x2304x1024, .f32⟩
  | _ => ⟨S8x2304x2048, .f32⟩

abbrev hbmTy0_1 (i : Nat) : BufTy := match i % 128 with
  | 0 => ⟨S8x2304x1024, .f32⟩
  | 1 => ⟨S_, .f32⟩
  | 2 => ⟨S8x2304x1024, .f32⟩
  | 3 => ⟨S8x2304x1024, .f32⟩
  | 4 => ⟨S8x2304x1024, .f32⟩
  | 5 => ⟨S8x2304x1024, .f32⟩
  | 6 => ⟨S8x2304x1024, .f32⟩
  | 7 => ⟨S8x2304x1024, .f32⟩
  | 8 => ⟨S8x2304x1024, .f32⟩
  | 9 => ⟨S8x2304x1024, .f32⟩
  | 10 => ⟨S_, .f32⟩
  | 11 => ⟨S8x1024, .f32⟩
  | 12 => ⟨S2304x8x1024, .f32⟩
  | 13 => ⟨S2304x8x1024, .f32⟩
  | 14 => ⟨S_, .f32⟩
  | 15 => ⟨S2304x8x1024, .f32⟩
  | 16 => ⟨S_, .i32⟩
  | 17 => ⟨S2304x8x1024, .f32⟩
  | 18 => ⟨S2304x8x1024, .f32⟩
  | 19 => ⟨S_, .i32⟩
  | 20 => ⟨S8x1024, .f32⟩
  | 21 => ⟨S2304x8x1024, .f32⟩
  | 22 => ⟨S_, .i32⟩
  | 23 => ⟨S_, .i1⟩
  | 24 => ⟨S_, .i32⟩
  | 25 => ⟨S_, .i32⟩
  | 26 => ⟨S1x8x1024, .f32⟩
  | 27 => ⟨S8x1024, .f32⟩
  | 28 => ⟨S_, .i32⟩
  | 29 => ⟨S_, .i32⟩
  | 30 => ⟨S1x8x1024, .f32⟩
  | 31 => ⟨S8x1024, .f32⟩
  | 32 => ⟨S8x1024, .f32⟩
  | 33 => ⟨S8x1024, .f32⟩
  | 34 => ⟨S1x8x1024, .f32⟩
  | 35 => ⟨S_, .i32⟩
  | 36 => ⟨S_, .i32⟩
  | 37 => ⟨S2304x8x1024, .f32⟩
  | 38 => ⟨S_, .i32⟩
  | 39 => ⟨S_, .i32⟩
  | 40 => ⟨S8x2304x1024, .f32⟩
  | 41 => ⟨S8x256x1024, .f32⟩
  | 42 => ⟨S_, .i32⟩
  | 43 => ⟨S_, .f32⟩
  | 44 => ⟨S8x259x1024, .f32⟩
  | 45 => ⟨S8x256x1024, .f32⟩
  | 46 => ⟨S1x1024, .f32⟩
  | 47 => ⟨S1024, .f32⟩
  | 48 => ⟨S1x1x1024, .f32⟩
  | 49 => ⟨S8x256x1024, .f32⟩
  | 50 => ⟨S8x256x1024, .f32⟩
  | 51 => ⟨S1x1x1024, .f32⟩
  | 52 => ⟨S8x256x1024, .f32⟩
  | 53 => ⟨S8x256x1024, .f32⟩
  | 54 => ⟨S8x256x1024, .f32⟩
  | 55 => ⟨S1x1024, .f32⟩
  | 56 => ⟨S1024, .f32⟩
  | 57 => ⟨S1x1x1024, .f32⟩
  | 58 => ⟨S8x256x1024, .f32⟩
  | 59 => ⟨S8x256x1024, .f32⟩
  | 60 => ⟨S8x256x1024, .f32⟩
  | 61 => ⟨S8x256x1024, .f32⟩
  | 62 => ⟨S1x1024, .f32⟩
  | 63 => ⟨S1024, .f32⟩
  | 64 => ⟨S1x1x1024, .f32⟩
  | 65 => ⟨S8x256x1024, .f32⟩
  | 66 => ⟨S8x256x1024, .f32⟩
  | 67 => ⟨S8x256x1024, .f32⟩
  | 68 => ⟨S8x256x1024, .f32⟩
  | 69 => ⟨S1x1024, .f32⟩
  | 70 => ⟨S1024, .f32⟩
  | 71 => ⟨S1x1x1024, .f32⟩
  | 72 => ⟨S8x256x1024, .f32⟩
  | 73 => ⟨S8x256x1024, .f32⟩
  | 74 => ⟨S8x256x1024, .f32⟩
  | 75 => ⟨S8x2048x1024, .f32⟩
  | 76 => ⟨S_, .i32⟩
  | 77 => ⟨S_, .f32⟩
  | 78 => ⟨S8x2051x1024, .f32⟩
  | 79 => ⟨S8x2048x1024, .f32⟩
  | 80 => ⟨S1x1024, .f32⟩
  | 81 => ⟨S1024, .f32⟩
  | 82 => ⟨S1x1x1024, .f32⟩
  | 83 => ⟨S8x2048x1024, .f32⟩
  | 84 => ⟨S8x2048x1024, .f32⟩
  | 85 => ⟨S1x1x1024, .f32⟩
  | 86 => ⟨S8x2048x1024, .f32⟩
  | 87 => ⟨S8x2048x1024, .f32⟩
  | 88 => ⟨S8x2048x1024, .f32⟩
  | 89 => ⟨S1x1024, .f32⟩
  | 90 => ⟨S1024, .f32⟩
  | 91 => ⟨S1x1x1024, .f32⟩
  | 92 => ⟨S8x2048x1024, .f32⟩
  | 93 => ⟨S8x2048x1024, .f32⟩
  | 94 => ⟨S8x2048x1024, .f32⟩
  | 95 => ⟨S8x2048x1024, .f32⟩
  | 96 => ⟨S1x1024, .f32⟩
  | 97 => ⟨S1024, .f32⟩
  | 98 => ⟨S1x1x1024, .f32⟩
  | 99 => ⟨S8x2048x1024, .f32⟩
  | 100 => ⟨S8x2048x1024, .f32⟩
  | 101 => ⟨S8x2048x1024, .f32⟩
  | 102 => ⟨S8x2048x1024, .f32⟩
  | 103 => ⟨S1x1024, .f32⟩
  | 104 => ⟨S1024, .f32⟩
  | 105 => ⟨S1x1x1024, .f32⟩
  | 106 => ⟨S8x2048x1024, .f32⟩
  | 107 => ⟨S8x2048x1024, .f32⟩
  | 108 => ⟨S8x2048x1024, .f32⟩
  | 109 => ⟨S8x2304x1024, .f32⟩
  | 110 => ⟨S2304x8x1024, .f32⟩
  | 111 => ⟨S18432x1024, .f32⟩
  | 112 => ⟨S18432x1024, .f32⟩
  | _ => ⟨S8x2304x2048, .f32⟩

abbrev hbmTy (i : Nat) : BufTy := match i / 128 with
  | 0 => hbmTy0_0 i
  | 1 => hbmTy0_1 i
  | _ => ⟨S8x2304x2048, .f32⟩

abbrev bufTy : (tb : Table) → Fin (tcTables nBuf tb) → BufTy
  | .hbm, ⟨i, _⟩ => hbmTy i
  | _, _ => ⟨S8x2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_0 : Ref sig .tc := ⟨.hbm, 44, rfl⟩
abbrev main_call1_v0 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_cst : Ref sig .tc := ⟨.hbm, 87, rfl⟩
abbrev main_v75 : Ref sig .tc := ⟨.hbm, 88, rfl⟩
abbrev main_v76 : Ref sig .tc := ⟨.hbm, 89, rfl⟩
abbrev main_cst_1 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_cst_2 : Ref sig .tc := ⟨.hbm, 102, rfl⟩
abbrev main_v88 : Ref sig .tc := ⟨.hbm, 103, rfl⟩
abbrev main_v89 : Ref sig .tc := ⟨.hbm, 104, rfl⟩
abbrev main_cst_3 : Ref sig .tc := ⟨.hbm, 105, rfl⟩
abbrev main_v90 : Ref sig .tc := ⟨.hbm, 106, rfl⟩
abbrev main_v91 : Ref sig .tc := ⟨.hbm, 107, rfl⟩
abbrev main_cst_4 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_call2_cst : Ref sig .tc := ⟨.hbm, 112, rfl⟩
abbrev main_call2_v0 : Ref sig .tc := ⟨.hbm, 113, rfl⟩
abbrev main_call2_v1 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_v5 : Ref sig .tc := ⟨.hbm, 118, rfl⟩
abbrev main_call2_v6 : Ref sig .tc := ⟨.hbm, 119, rfl⟩
abbrev main_call2_v7 : Ref sig .tc := ⟨.hbm, 120, rfl⟩
abbrev main_call2_v8 : Ref sig .tc := ⟨.hbm, 121, rfl⟩
abbrev main_call2_v9 : Ref sig .tc := ⟨.hbm, 122, rfl⟩
abbrev main_call2_v10 : Ref sig .tc := ⟨.hbm, 123, rfl⟩
abbrev main_call2_v11 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_5 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_6 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_cst_7 : Ref sig .tc := ⟨.hbm, 142, rfl⟩
abbrev main_v110 : Ref sig .tc := ⟨.hbm, 143, rfl⟩
abbrev main_c_8 : Ref sig .tc := ⟨.hbm, 144, rfl⟩
abbrev main_v111_0 : Ref sig .tc := ⟨.hbm, 145, rfl⟩
abbrev main_v111_1 : Ref sig .tc := ⟨.hbm, 146, rfl⟩
abbrev main_v111_2 : Ref sig .tc := ⟨.hbm, 147, rfl⟩
abbrev main_v111_3 : Ref sig .tc := ⟨.hbm, 148, rfl⟩
abbrev main_v111_4 : Ref sig .tc := ⟨.hbm, 149, rfl⟩
abbrev main_while0c_c_15 : Ref sig .tc := ⟨.hbm, 150, rfl⟩
abbrev main_while0c_v181 : Ref sig .tc := ⟨.hbm, 151, rfl⟩
abbrev main_while0b_call3_c : Ref sig .tc := ⟨.hbm, 152, rfl⟩
abbrev main_while0b_call3_c_0 : Ref sig .tc := ⟨.hbm, 153, rfl⟩
abbrev main_while0b_call3_v0 : Ref sig .tc := ⟨.hbm, 154, rfl⟩
abbrev main_while0b_v181 : Ref sig .tc := ⟨.hbm, 155, rfl⟩
abbrev main_while0b_call4_c : Ref sig .tc := ⟨.hbm, 156, rfl⟩
abbrev main_while0b_call4_c_0 : Ref sig .tc := ⟨.hbm, 157, rfl⟩
abbrev main_while0b_call4_v0 : Ref sig .tc := ⟨.hbm, 158, rfl⟩
abbrev main_while0b_v182 : Ref sig .tc := ⟨.hbm, 159, rfl⟩
abbrev main_while0b_v183 : Ref sig .tc := ⟨.hbm, 160, rfl⟩
abbrev main_while0b_v184 : Ref sig .tc := ⟨.hbm, 161, rfl⟩
abbrev main_while0b_call5_v0 : Ref sig .tc := ⟨.hbm, 162, rfl⟩
abbrev main_while0b_call5_c : Ref sig .tc := ⟨.hbm, 163, rfl⟩
abbrev main_while0b_call5_c_0 : Ref sig .tc := ⟨.hbm, 164, rfl⟩
abbrev main_while0b_v185 : Ref sig .tc := ⟨.hbm, 165, rfl⟩
abbrev main_while0b_c_15 : Ref sig .tc := ⟨.hbm, 166, rfl⟩
abbrev main_while0b_v186 : Ref sig .tc := ⟨.hbm, 167, rfl⟩
abbrev main_v112 : Ref sig .tc := ⟨.hbm, 168, rfl⟩
abbrev main_v113 : Ref sig .tc := ⟨.hbm, 169, rfl⟩
abbrev main_c_9 : Ref sig .tc := ⟨.hbm, 170, rfl⟩
abbrev main_call6_v0 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_c_10 : Ref sig .tc := ⟨.hbm, 204, rfl⟩
abbrev main_call7_v0 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩

abbrev nD : Nat := 1
abbrev τ : Topo := Topo.v7x

variable {F : FTy → Type} [FloatOps F]

abbrev main_while0_count : Scf.Loop 32 := ⟨0#32, 2304#32, 1#32⟩
-- ==== Kernel2.lean ====
abbrev S8x2304x1024 : Shape := ⟨3, ![8, 2304, 1024]⟩
abbrev S1024x1024 : Shape := ⟨2, ![1024, 1024]⟩
abbrev S8x1024 : Shape := ⟨2, ![8, 1024]⟩
abbrev S1024 : Shape := ⟨1, ![1024]⟩
abbrev S1x1024 : Shape := ⟨2, ![1, 1024]⟩
abbrev S9x1024 : Shape := ⟨2, ![9, 1024]⟩
abbrev S9x1x1024 : Shape := ⟨3, ![9, 1, 1024]⟩
abbrev S9x8x1024 : Shape := ⟨3, ![9, 8, 1024]⟩
abbrev S8x2048x1024 : Shape := ⟨3, ![8, 2048, 1024]⟩
abbrev S1x256x1024 : Shape := ⟨3, ![1, 256, 1024]⟩
abbrev S1x8x1024 : Shape := ⟨3, ![1, 8, 1024]⟩
abbrev S256x1024 : Shape := ⟨2, ![256, 1024]⟩
abbrev S32x8x1024 : Shape := ⟨3, ![32, 8, 1024]⟩
abbrev S256 : Shape := ⟨1, ![256]⟩
abbrev S256x1 : Shape := ⟨2, ![256, 1]⟩

abbrev nBuf : Space → Nat
  | .hbm => 13
  | .vmem => 10
  | .smem => 0
  | _ => 0

abbrev bufTy : (tb : Table) → Fin (tcTables nBuf tb) → BufTy
  | .hbm, ⟨0, _⟩ => ⟨S8x2304x1024, .bf16⟩
  | .hbm, ⟨1, _⟩ => ⟨S1024x1024, .f32⟩
  | .hbm, ⟨2, _⟩ => ⟨S8x2304x1024, .f32⟩
  | .hbm, ⟨3, _⟩ => ⟨S8x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S9x1024, .f32⟩
  | .hbm, ⟨9, _⟩ => ⟨S9x1x1024, .f32⟩
  | .hbm, ⟨10, _⟩ => ⟨S9x8x1024, .f32⟩
  | .hbm, ⟨11, _⟩ => ⟨S1x1024, .f32⟩
  | .hbm, ⟨12, _⟩ => ⟨S8x2048x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1024x1024, .bf16⟩
  | .local _ .vmem, ⟨3, _⟩ => ⟨S1x256x1024, .f32⟩
  | .local _ .vmem, ⟨4, _⟩ => ⟨S1x256x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x1024, .f32⟩
  | .local _ .vmem, ⟨8, _⟩ => ⟨S1x256x1024, .f32⟩
  | .local _ .vmem, ⟨9, _⟩ => ⟨S1x256x1024, .f32⟩
  | _, _ => ⟨S8x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg1
  let c0_i32 : BitVec 32 := 0#32
  let v1 : BitVec 32 := Scalar.addi v0 c0_i32
  let c1_i32_0 : BitVec 32 := 1#32
  let v2 : BitVec 32 := Scalar.addi v1 c1_i32_0
  let c1_i32_1 : BitVec 32 := 1#32
  let v3 : BitVec 1 := Scalar.cmpi .slt v2 c1_i32_1
  let c8_i32 : BitVec 32 := 8#32
  let v4 : BitVec 32 := Scalar.select v3 c8_i32 arg0
  let c0_i32_2 : BitVec 32 := 0#32
  let c0_i32_3 : BitVec 32 := 0#32
  let c0_i32_4 : BitVec 32 := 0#32
  ![v4.toNat, c0_i32_2.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8x2304x1024 : Shape := ⟨3, ![8, 2304, 1024]⟩
abbrev S1024x1024 : Shape := ⟨2, ![1024, 1024]⟩
abbrev S8x1024 : Shape := ⟨2, ![8, 1024]⟩
abbrev S1024 : Shape := ⟨1, ![1024]⟩
abbrev S8x2048x1024 : Shape := ⟨3, ![8, 2048, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8x2304x1024, .bf16⟩
  | .hbm, ⟨1, _⟩ => ⟨S1024x1024, .f32⟩
  | .hbm, ⟨2, _⟩ => ⟨S8x2304x1024, .f32⟩
  | .hbm, ⟨3, _⟩ => ⟨S8x1024, .f32⟩
  | .hbm, ⟨4, _⟩ => ⟨S1024, .f32⟩
  | .hbm, ⟨5, _⟩ => ⟨S1024, .f32⟩
  | .hbm, ⟨6, _⟩ => ⟨S8x2048x1024, .bf16⟩
  | .hbm, ⟨7, _⟩ => ⟨S8x2048x1024, .f32⟩
  | .hbm, ⟨8, _⟩ => ⟨S8x2048x1024, .f32⟩
  | .hbm, ⟨9, _⟩ => ⟨S8x2048x1024, .f32⟩
  | .hbm, ⟨10, _⟩ => ⟨S8x1x1024, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S8x2048x1, .f32⟩
  | .hbm, ⟨25, _⟩ => ⟨S8x2048x1024, .f32⟩
  | .hbm, ⟨26, _⟩ => ⟨S8x2048x1024, .f32⟩
  | .hbm, ⟨27, _⟩ => ⟨S1x1x1024, .f32⟩
  | .hbm, ⟨28, _⟩ => ⟨S8x2048x1024, .f32⟩
  | .hbm, ⟨29, _⟩ => ⟨S8x2048x1024, .f32⟩
  | _, _ => ⟨S8x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel3.lean ====
abbrev S8x2304x1024 : Shape := ⟨3, ![8, 2304, 1024]⟩
abbrev S8x1024 : Shape := ⟨2, ![8, 1024]⟩
abbrev S1024 : Shape := ⟨1, ![1024]⟩
abbrev S1024x5120 : Shape := ⟨2, ![1024, 5120]⟩
abbrev S1024x2048 : Shape := ⟨2, ![1024, 2048]⟩
abbrev S_ : Shape := ⟨0, ![]⟩
abbrev S1024x3072 : Shape := ⟨2, ![1024, 3072]⟩
abbrev S1x1024 : Shape := ⟨2, ![1, 1024]⟩
abbrev S9x1024 : Shape := ⟨2, ![9, 1024]⟩
abbrev S9x1x1024 : Shape := ⟨3, ![9, 1, 1024]⟩
abbrev S9x8x1024 : Shape := ⟨3, ![9, 8, 1024]⟩
abbrev S8x2304x5120 : Shape := ⟨3, ![8, 2304, 5120]⟩
abbrev S1x768x1024 : Shape := ⟨3, ![1, 768, 1024]⟩
abbrev S1x8x1024 : Shape := ⟨3, ![1, 8, 1024]⟩
abbrev S1x768x5120 : Shape := ⟨3, ![1, 768, 5120]⟩
abbrev S768x1024 : Shape := ⟨2, ![768, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S32x8x1024 : Shape := ⟨3, ![32, 8, 1024]⟩
abbrev S256x5120 : Shape := ⟨2, ![256, 5120]⟩
abbrev S1x256x5120 : Shape := ⟨3, ![1, 256, 5120]⟩

abbrev nBuf : Space → Nat
  | .hbm => 24
  | .vmem => 19
  | .smem => 0
  | _ => 0

abbrev bufTy : (tb : Table) → Fin (tcTables nBuf tb) → BufTy
  | .hbm, ⟨0, _⟩ => ⟨S8x2304x1024, .f32⟩
  | .hbm, ⟨1, _⟩ => ⟨S8x1024, .f32⟩
  | .hbm, ⟨2, _⟩ => ⟨S8x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x5120, .f32⟩
  | .hbm, ⟨7, _⟩ => ⟨S1024x2048, .f32⟩
  | .hbm, ⟨8, _⟩ => ⟨S_, .f32⟩
  | .hbm, ⟨9, _⟩ => ⟨S1024x2048, .f32⟩
  | .hbm, ⟨10, _⟩ => ⟨S1024x2048, .f32⟩
  | .hbm, ⟨11, _⟩ => ⟨S1024x3072, .f32⟩
  | .hbm, ⟨12, _⟩ => ⟨S1024x5120, .f32⟩
  | .hbm, ⟨13, _⟩ => ⟨S1024x5120, .bf16⟩
  | .hbm, ⟨14, _⟩ => ⟨S1x1024, .f32⟩
  | .hbm, ⟨15, _⟩ => ⟨S9x1024, .f32⟩
  | .hbm, ⟨16, _⟩ => ⟨S9x1x1024, .f32⟩
  | .hbm, ⟨17, _⟩ => ⟨S9x8x1024, .f32⟩
  | .hbm, ⟨18, _⟩ => ⟨S1x1024, .f32⟩
  | .hbm, ⟨19, _⟩ => ⟨S9x1024, .f32⟩
  | .hbm, ⟨20, _⟩ => ⟨S9x1x1024, .f32⟩
  | .hbm, ⟨21, _⟩ => ⟨S9x8x1024, .f32⟩
  | .hbm, ⟨22, _⟩ => ⟨S1x1024, .f32⟩
  | .hbm, ⟨23, _⟩ => ⟨S8x2304x5120, .f32⟩
  | .local _ .vmem, ⟨0, _⟩ => ⟨S1x768x1024, .f32⟩
  | .local _ .vmem, ⟨1, _⟩ => ⟨S1x768x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x8x1024, .f32⟩
  | .local _ .vmem, ⟨9, _⟩ => ⟨S1x8x1024, .f32⟩
  | .local _ .vmem, ⟨10, _⟩ => ⟨S1x8x1024, .f32⟩
  | .local _ .vmem, ⟨11, _⟩ => ⟨S1x8x1024, .f32⟩
  | .local _ .vmem, ⟨12, _⟩ => ⟨S1x8x1024, .f32⟩
  | .local _ .vmem, ⟨13, _⟩ => ⟨S1x8x1024, .f32⟩
  | .local _ .vmem, ⟨14, _⟩ => ⟨S1x1024, .f32⟩
  | .local _ .vmem, ⟨15, _⟩ => ⟨S1024x5120, .bf16⟩
  | .local _ .vmem, ⟨16, _⟩ => ⟨S1x768x5120, .f32⟩
  | .local _ .vmem, ⟨17, _⟩ => ⟨S1x768x5120, .f32⟩
  | .local _ .vmem, ⟨18, _⟩ => ⟨S768x1024, .bf16⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c0_i32 : BitVec 32 := 0#32
  let v1 : BitVec 32 := Scalar.addi v0 c0_i32
  let c0_i32_0 : BitVec 32 := 0#32
  let v2 : BitVec 32 := Scalar.addi v1 c0_i32_0
  let c1_i32 : BitVec 32 := 1#32
  let v3 : BitVec 1 := Scalar.cmpi .slt v2 c1_i32
  let c8_i32 : BitVec 32 := 8#32
  let v4 : BitVec 32 := Scalar.select v3 c8_i32 arg0
  let c0_i32_1 : BitVec 32 := 0#32
  let c0_i32_2 : BitVec 32 := 0#32
  let c0_i32_3 : BitVec 32 := 0#32
  ![v4.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c1_i32 : BitVec 32 := 1#32
  let v1 : BitVec 32 := Scalar.addi v0 c1_i32
  let c0_i32 : BitVec 32 := 0#32
  let v2 : BitVec 32 := Scalar.addi v1 c0_i32
  let c1_i32_0 : BitVec 32 := 1#32
  let v3 : BitVec 1 := Scalar.cmpi .slt v2 c1_i32_0
  let c8_i32 : BitVec 32 := 8#32
  let v4 : BitVec 32 := Scalar.select v3 c8_i32 arg0
  let c0_i32_1 : BitVec 32 := 0#32
  let c0_i32_2 : BitVec 32 := 0#32
  let c0_i32_3 : BitVec 32 := 0#32
  ![v4.toNat, c0_i32_1.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c2_i32 : BitVec 32 := 2#32
  let v1 : BitVec 32 := Scalar.addi v0 c2_i32
  let c0_i32 : BitVec 32 := 0#32
  let v2 : BitVec 32 := Scalar.addi v1 c0_i32
  let c1_i32 : BitVec 32 := 1#32
  let v3 : BitVec 1 := Scalar.cmpi .slt v2 c1_i32
  let c8_i32 : BitVec 32 := 8#32
  let v4 : BitVec 32 := Scalar.select v3 c8_i32 arg0
  let c0_i32_0 : BitVec 32 := 0#32
  let c0_i32_1 : BitVec 32 := 0#32
  let c0_i32_2 : BitVec 32 := 0#32
  ![v4.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c0_i32 : BitVec 32 := 0#32
  let v1 : BitVec 32 := Scalar.addi v0 c0_i32
  let c0_i32_0 : BitVec 32 := 0#32
  let v2 : BitVec 32 := Scalar.addi v1 c0_i32_0
  let c1_i32 : BitVec 32 := 1#32
  let v3 : BitVec 1 := Scalar.cmpi .slt v2 c1_i32
  let c8_i32 : BitVec 32 := 8#32
  let v4 : BitVec 32 := Scalar.select v3 c8_i32 arg0
  let c0_i32_1 : BitVec 32 := 0#32
  let c0_i32_2 : BitVec 32 := 0#32
  let c0_i32_3 : BitVec 32 := 0#32
  ![v4.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c1_i32 : BitVec 32 := 1#32
  let v1 : BitVec 32 := Scalar.addi v0 c1_i32
  let c0_i32 : BitVec 32 := 0#32
  let v2 : BitVec 32 := Scalar.addi v1 c0_i32
  let c1_i32_0 : BitVec 32 := 1#32
  let v3 : BitVec 1 := Scalar.cmpi .slt v2 c1_i32_0
  let c8_i32 : BitVec 32 := 8#32
  let v4 : BitVec 32 := Scalar.select v3 c8_i32 arg0
  let c0_i32_1 : BitVec 32 := 0#32
  let c0_i32_2 : BitVec 32 := 0#32
  let c0_i32_3 : BitVec 32 := 0#32
  ![v4.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c2_i32 : BitVec 32 := 2#32
  let v1 : BitVec 32 := Scalar.addi v0 c2_i32
  let c0_i32 : BitVec 32 := 0#32
  let v2 : BitVec 32 := Scalar.addi v1 c0_i32
  let c1_i32 : BitVec 32 := 1#32
  let v3 : BitVec 1 := Scalar.cmpi .slt v2 c1_i32
  let c8_i32 : BitVec 32 := 8#32
  let v4 : BitVec 32 := Scalar.select v3 c8_i32 arg0
  let c0_i32_0 : BitVec 32 := 0#32
  let c0_i32_1 : BitVec 32 := 0#32
  let c0_i32_2 : BitVec 32 := 0#32
  ![v4.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x5120 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x768x5120 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S8x2304x1024 : Shape := ⟨3, ![8, 2304, 1024]⟩
abbrev S8x1024 : Shape := ⟨2, ![8, 1024]⟩
abbrev S1024 : Shape := ⟨1, ![1024]⟩
abbrev S1024x5120 : Shape := ⟨2, ![1024, 5120]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x256x1024 : Shape := ⟨3, ![8, 256, 1024]⟩
abbrev S8x256 : Shape := ⟨2, ![8, 256]⟩
abbrev S8x256x1 : Shape := ⟨3, ![8, 256, 1]⟩
abbrev S8x256x5120 : Shape := ⟨3, ![8, 256, 5120]⟩
abbrev S8x2048x5120 : Shape := ⟨3, ![8, 2048, 5120]⟩
abbrev S8x2304x5120 : Shape := ⟨3, ![8, 2304, 5120]⟩
abbrev S8x2304x2048 : Shape := ⟨3, ![8, 2304, 2048]⟩
abbrev S8x2304x3072 : Shape := ⟨3, ![8, 2304, 3072]⟩

abbrev nBuf : Space → Nat
  | .hbm => 68
  | .vmem => 0
  | .smem => 0
  | _ => 0

abbrev bufTy : (tb : Table) → Fin (tcTables nBuf tb) → BufTy
  | .hbm, ⟨0, _⟩ => ⟨S8x2304x1024, .f32⟩
  | .hbm, ⟨1, _⟩ => ⟨S8x1024, .f32⟩
  | .hbm, ⟨2, _⟩ => ⟨S8x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x5120, .f32⟩
  | .hbm, ⟨7, _⟩ => ⟨S8x2048x1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S8x1x1024, .f32⟩
  | .hbm, ⟨25, _⟩ => ⟨S8x1x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x256x1024, .f32⟩
  | .hbm, ⟨34, _⟩ => ⟨S8x256x1024, .f32⟩
  | .hbm, ⟨35, _⟩ => ⟨S_, .f32⟩
  | .hbm, ⟨36, _⟩ => ⟨S8x256, .f32⟩
  | .hbm, ⟨37, _⟩ => ⟨S8x256x1, .f32⟩
  | .hbm, ⟨38, _⟩ => ⟨S_, .f32⟩
  | .hbm, ⟨39, _⟩ => ⟨S8x256x1, .f32⟩
  | .hbm, ⟨40, _⟩ => ⟨S8x256x1, .f32⟩
  | .hbm, ⟨41, _⟩ => ⟨S_, .f32⟩
  | .hbm, ⟨42, _⟩ => ⟨S8x256x1, .f32⟩
  | .hbm, ⟨43, _⟩ => ⟨S8x256x1, .f32⟩
  | .hbm, ⟨44, _⟩ => ⟨S8x256x1, .f32⟩
  | .hbm, ⟨45, _⟩ => ⟨S8x256x1024, .f32⟩
  | .hbm, ⟨46, _⟩ => ⟨S8x256x1024, .f32⟩
  | .hbm, ⟨47, _⟩ => ⟨S1x1x1024, .f32⟩
  | .hbm, ⟨48, _⟩ => ⟨S8x256x1024, .f32⟩
  | .hbm, ⟨49, _⟩ => ⟨S8x256x1024, .f32⟩
  | .hbm, ⟨50, _⟩ => ⟨S_, .f32⟩
  | .hbm, ⟨51, _⟩ => ⟨S1024, .f32⟩
  | .hbm, ⟨52, _⟩ => ⟨S1024, .f32⟩
  | .hbm, ⟨53, _⟩ => ⟨S1x1x1024, .f32⟩
  | .hbm, ⟨54, _⟩ => ⟨S8x256x1024, .f32⟩
  | .hbm, ⟨55, _⟩ => ⟨S8x256x1024, .f32⟩
  | .hbm, ⟨56, _⟩ => ⟨S1x1x1024, .f32⟩
  | .hbm, ⟨57, _⟩ => ⟨S8x256x1024, .f32⟩
  | .hbm, ⟨58, _⟩ => ⟨S8x256x1024, .f32⟩
  | .hbm, ⟨59, _⟩ => ⟨S8x256x5120, .f32⟩
  | .hbm, ⟨60, _⟩ => ⟨S8x2048x5120, .f32⟩
  | .hbm, ⟨61, _⟩ => ⟨S8x2304x5120, .f32⟩
  | .hbm, ⟨62, _⟩ => ⟨S8x2304x2048, .f32⟩
  | .hbm, ⟨63, _⟩ => ⟨S_, .f32⟩
  | .hbm, ⟨64, _⟩ => ⟨S8x2304x2048, .f32⟩
  | .hbm, ⟨65, _⟩ => ⟨S8x2304x2048, .f32⟩
  | .hbm, ⟨66, _⟩ => ⟨S8x2304x3072, .f32⟩
  | .hbm, ⟨67, _⟩ => ⟨S8x2304x5120, .f32⟩
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Kernel4.lean ====
abbrev S8x2304x1024 : Shape := ⟨3, ![8, 2304, 1024]⟩
abbrev S2048x1024 : Shape := ⟨2, ![2048, 1024]⟩
abbrev S8x1024 : Shape := ⟨2, ![8, 1024]⟩
abbrev S1024 : Shape := ⟨1, ![1024]⟩
abbrev S1x1024 : Shape := ⟨2, ![1, 1024]⟩
abbrev S9x1024 : Shape := ⟨2, ![9, 1024]⟩
abbrev S9x1x1024 : Shape := ⟨3, ![9, 1, 1024]⟩
abbrev S9x8x1024 : Shape := ⟨3, ![9, 8, 1024]⟩
abbrev S1x768x1024 : Shape := ⟨3, ![1, 768, 1024]⟩
abbrev S1x8x1024 : Shape := ⟨3, ![1, 8, 1024]⟩
abbrev S768x1024 : Shape := ⟨2, ![768, 1024]⟩
abbrev S1024x1024 : Shape := ⟨2, ![1024, 1024]⟩
abbrev S256x1024 : Shape := ⟨2, ![256, 1024]⟩
abbrev S32x8x1024 : Shape := ⟨3, ![32, 8, 1024]⟩
abbrev S1x256x1024 : Shape := ⟨3, ![1, 256, 1024]⟩

abbrev nBuf : Space → Nat
  | .hbm => 12
  | .vmem => 15
  | .smem => 0
  | _ => 0

abbrev bufTy : (tb : Table) → Fin (tcTables nBuf tb) → BufTy
  | .hbm, ⟨0, _⟩ => ⟨S8x2304x1024, .bf16⟩
  | .hbm, ⟨1, _⟩ => ⟨S8x2304x1024, .bf16⟩
  | .hbm, ⟨2, _⟩ => ⟨S2048x1024, .f32⟩
  | .hbm, ⟨3, _⟩ => ⟨S8x2304x1024, .f32⟩
  | .hbm, ⟨4, _⟩ => ⟨S8x1024, .f32⟩
  | .hbm, ⟨5, _⟩ => ⟨S1024, .f32⟩
  | .hbm, ⟨6, _⟩ => ⟨S2048x1024, .bf16⟩
  | .hbm, ⟨7, _⟩ => ⟨S1x1024, .f32⟩
  | .hbm, ⟨8, _⟩ => ⟨S9x1024, .f32⟩
  | .hbm, ⟨9, _⟩ => ⟨S9x1x1024, .f32⟩
  | .hbm, ⟨10, _⟩ => ⟨S9x8x1024, .f32⟩
  | .hbm, ⟨11, _⟩ => ⟨S8x2304x1024, .f32⟩
  | .local _ .vmem, ⟨0, _⟩ => ⟨S1x768x1024, .bf16⟩
  | .local _ .vmem, ⟨1, _⟩ => ⟨S1x768x1024, .bf16⟩
  | .local _ .vmem, ⟨2, _⟩ => ⟨S1x768x1024, .bf16⟩
  | .local _ .vmem, ⟨3, _⟩ => ⟨S1x768x1024, .bf16⟩
  | .local _ .vmem, ⟨4, _⟩ => ⟨S2048x1024, .bf16⟩
  | .local _ .vmem, ⟨5, _⟩ => ⟨S1x768x1024, .f32⟩
  | .local _ .vmem, ⟨6, _⟩ => ⟨S1x768x1024, .f32⟩
  | .local _ .vmem, ⟨7, _⟩ => ⟨S1x8x1024, .f32⟩
  | .local _ .vmem, ⟨8, _⟩ => ⟨S1x8x1024, .f32⟩
  | .local _ .vmem, ⟨9, _⟩ => ⟨S1x8x1024, .f32⟩
  | .local _ .vmem, ⟨10, _⟩ => ⟨S1x8x1024, .f32⟩
  | .local _ .vmem, ⟨11, _⟩ => ⟨S1x8x1024, .f32⟩
  | .local _ .vmem, ⟨12, _⟩ => ⟨S1x8x1024, .f32⟩
  | .local _ .vmem, ⟨13, _⟩ => ⟨S1x768x1024, .f32⟩
  | .local _ .vmem, ⟨14, _⟩ => ⟨S1x768x1024, .f32⟩
  | _, _ => ⟨S8x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c0_i32 : BitVec 32 := 0#32
  let v1 : BitVec 32 := Scalar.addi v0 c0_i32
  let c0_i32_0 : BitVec 32 := 0#32
  let v2 : BitVec 32 := Scalar.addi v1 c0_i32_0
  let c1_i32 : BitVec 32 := 1#32
  let v3 : BitVec 1 := Scalar.cmpi .slt v2 c1_i32
  let c8_i32 : BitVec 32 := 8#32
  let v4 : BitVec 32 := Scalar.select v3 c8_i32 arg0
  let c0_i32_1 : BitVec 32 := 0#32
  let c0_i32_2 : BitVec 32 := 0#32
  let c0_i32_3 : BitVec 32 := 0#32
  ![v4.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c1_i32 : BitVec 32 := 1#32
  let v1 : BitVec 32 := Scalar.addi v0 c1_i32
  let c0_i32 : BitVec 32 := 0#32
  let v2 : BitVec 32 := Scalar.addi v1 c0_i32
  let c1_i32_0 : BitVec 32 := 1#32
  let v3 : BitVec 1 := Scalar.cmpi .slt v2 c1_i32_0
  let c8_i32 : BitVec 32 := 8#32
  let v4 : BitVec 32 := Scalar.select v3 c8_i32 arg0
  let c0_i32_1 : BitVec 32 := 0#32
  let c0_i32_2 : BitVec 32 := 0#32
  let c0_i32_3 : BitVec 32 := 0#32
  ![v4.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c2_i32 : BitVec 32 := 2#32
  let v1 : BitVec 32 := Scalar.addi v0 c2_i32
  let c0_i32 : BitVec 32 := 0#32
  let v2 : BitVec 32 := Scalar.addi v1 c0_i32
  let c1_i32 : BitVec 32 := 1#32
  let v3 : BitVec 1 := Scalar.cmpi .slt v2 c1_i32
  let c8_i32 : BitVec 32 := 8#32
  let v4 : BitVec 32 := Scalar.select v3 c8_i32 arg0
  let c0_i32_0 : BitVec 32 := 0#32
  let c0_i32_1 : BitVec 32 := 0#32
  let c0_i32_2 : BitVec 32 := 0#32
  ![v4.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x768x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S8x2304x1024 : Shape := ⟨3, ![8, 2304, 1024]⟩
abbrev S2048x1024 : Shape := ⟨2, ![2048, 1024]⟩
abbrev S8x1024 : Shape := ⟨2, ![8, 1024]⟩
abbrev S1024 : Shape := ⟨1, ![1024]⟩
abbrev S8x2304x2048 : Shape := ⟨3, ![8, 2304, 2048]⟩
abbrev S8x256x1024 : Shape := ⟨3, ![8, 256, 1024]⟩
abbrev S8x256x2048 : Shape := ⟨3, ![8, 256, 2048]⟩
abbrev S1x1x1024 : Shape := ⟨3, ![1, 1, 1024]⟩
abbrev S8x2048x1024 : Shape := ⟨3, ![8, 2048, 1024]⟩
abbrev S8x1x1024 : Shape := ⟨3, ![8, 1, 1024]⟩
abbrev S8x2048x2048 : Shape := ⟨3, ![8, 2048, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8x2304x1024, .bf16⟩
  | .hbm, ⟨1, _⟩ => ⟨S8x2304x1024, .bf16⟩
  | .hbm, ⟨2, _⟩ => ⟨S2048x1024, .f32⟩
  | .hbm, ⟨3, _⟩ => ⟨S8x2304x1024, .f32⟩
  | .hbm, ⟨4, _⟩ => ⟨S8x1024, .f32⟩
  | .hbm, ⟨5, _⟩ => ⟨S1024, .f32⟩
  | .hbm, ⟨6, _⟩ => ⟨S8x2304x2048, .bf16⟩
  | .hbm, ⟨7, _⟩ => ⟨S8x2304x2048, .f32⟩
  | .hbm, ⟨8, _⟩ => ⟨S8x256x1024, .f32⟩
  | .hbm, ⟨9, _⟩ => ⟨S8x256x2048, .f32⟩
  | .hbm, ⟨10, _⟩ => ⟨S8x256x1024, .f32⟩
  | .hbm, ⟨11, _⟩ => ⟨S1x1x1024, .f32⟩
  | .hbm, ⟨12, _⟩ => ⟨S8x256x1024, .f32⟩
  | .hbm, ⟨13, _⟩ => ⟨S8x256x1024, .f32⟩
  | .hbm, ⟨14, _⟩ => ⟨S8x256x1024, .f32⟩
  | .hbm, ⟨15, _⟩ => ⟨S8x2048x1024, .f32⟩
  | .hbm, ⟨16, _⟩ => ⟨S8x1x1024, .f32⟩
  | .hbm, ⟨17, _⟩ => ⟨S8x2048x2048, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S8x2304x1024, .f32⟩
  | _, _ => ⟨S8x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel5.lean ====
abbrev S8x2304x1024 : Shape := ⟨3, ![8, 2304, 1024]⟩
abbrev S1024x4608 : Shape := ⟨2, ![1024, 4608]⟩
abbrev S1024x2048 : Shape := ⟨2, ![1024, 2048]⟩
abbrev S1024x64 : Shape := ⟨2, ![1024, 64]⟩
abbrev S1024x2560 : Shape := ⟨2, ![1024, 2560]⟩
abbrev S1024x1024 : Shape := ⟨2, ![1024, 1024]⟩
abbrev S2304x8x1024 : Shape := ⟨3, ![2304, 8, 1024]⟩
abbrev S18432x1024 : Shape := ⟨2, ![18432, 1024]⟩
abbrev S18432x2048 : Shape := ⟨2, ![18432, 2048]⟩

abbrev nBuf : Space → Nat
  | .hbm => 20
  | .vmem => 5
  | .smem => 0
  | _ => 0

abbrev bufTy : (tb : Table) → Fin (tcTables nBuf tb) → BufTy
  | .hbm, ⟨0, _⟩ => ⟨S8x2304x1024, .bf16⟩
  | .hbm, ⟨1, _⟩ => ⟨S1024x4608, .f32⟩
  | .hbm, ⟨2, _⟩ => ⟨S1024x2048, .f32⟩
  | .hbm, ⟨3, _⟩ => ⟨S1024x64, .f32⟩
  | .hbm, ⟨4, _⟩ => ⟨S1024x64, .f32⟩
  | .hbm, ⟨5, _⟩ => ⟨S1024x64, .f32⟩
  | .hbm, ⟨6, _⟩ => ⟨S1024x64, .f32⟩
  | .hbm, ⟨7, _⟩ => ⟨S1024x64, .f32⟩
  | .hbm, ⟨8, _⟩ => ⟨S1024x64, .f32⟩
  | .hbm, ⟨9, _⟩ => ⟨S1024x64, .f32⟩
  | .hbm, ⟨10, _⟩ => ⟨S1024x64, .f32⟩
  | .hbm, ⟨11, _⟩ => ⟨S1024x2560, .f32⟩
  | .hbm, ⟨12, _⟩ => ⟨S1024x2560, .bf16⟩
  | .hbm, ⟨13, _⟩ => ⟨S1024x1024, .f32⟩
  | .hbm, ⟨14, _⟩ => ⟨S1024x1024, .f32⟩
  | .hbm, ⟨15, _⟩ => ⟨S1024x2048, .f32⟩
  | .hbm, ⟨16, _⟩ => ⟨S1024x2048, .bf16⟩
  | .hbm, ⟨17, _⟩ => ⟨S2304x8x1024, .bf16⟩
  | .hbm, ⟨18, _⟩ => ⟨S18432x1024, .bf16⟩
  | .hbm, ⟨19, _⟩ => ⟨S18432x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .f32⟩
  | .local _ .vmem, ⟨4, _⟩ => ⟨S1024x2048, .f32⟩
  | _, _ => ⟨S8x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S8x2304x1024 : Shape := ⟨3, ![8, 2304, 1024]⟩
abbrev S1024x4608 : Shape := ⟨2, ![1024, 4608]⟩
abbrev S8x2304x4608 : Shape := ⟨3, ![8, 2304, 4608]⟩
abbrev S8x2304x2048 : Shape := ⟨3, ![8, 2304, 2048]⟩
abbrev S2304x8x2048 : Shape := ⟨3, ![2304, 8, 2048]⟩
abbrev S18432x2048 : Shape := ⟨2, ![18432, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8x2304x1024, .bf16⟩
  | .hbm, ⟨1, _⟩ => ⟨S1024x4608, .f32⟩
  | .hbm, ⟨2, _⟩ => ⟨S8x2304x1024, .f32⟩
  | .hbm, ⟨3, _⟩ => ⟨S8x2304x4608, .f32⟩
  | .hbm, ⟨4, _⟩ => ⟨S8x2304x1024, .f32⟩
  | .hbm, ⟨5, _⟩ => ⟨S8x2304x1024, .f32⟩
  | .hbm, ⟨6, _⟩ => ⟨S8x2304x2048, .f32⟩
  | .hbm, ⟨7, _⟩ => ⟨S2304x8x2048, .f32⟩
  | .hbm, ⟨8, _⟩ => ⟨S18432x2048, .f32⟩
  | _, _ => ⟨S8x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel6.lean ====
abbrev S8x2304x1024 : Shape := ⟨3, ![8, 2304, 1024]⟩
abbrev S1024x1024 : Shape := ⟨2, ![1024, 1024]⟩
abbrev S8x1024 : Shape := ⟨2, ![8, 1024]⟩
abbrev S1024 : Shape := ⟨1, ![1024]⟩
abbrev S1x1024 : Shape := ⟨2, ![1, 1024]⟩
abbrev S9x1024 : Shape := ⟨2, ![9, 1024]⟩
abbrev S9x1x1024 : Shape := ⟨3, ![9, 1, 1024]⟩
abbrev S9x8x1024 : Shape := ⟨3, ![9, 8, 1024]⟩
abbrev S1x768x1024 : Shape := ⟨3, ![1, 768, 1024]⟩
abbrev S1x8x1024 : Shape := ⟨3, ![1, 8, 1024]⟩
abbrev S768x1024 : Shape := ⟨2, ![768, 1024]⟩
abbrev S256x1024 : Shape := ⟨2, ![256, 1024]⟩
abbrev S32x8x1024 : Shape := ⟨3, ![32, 8, 1024]⟩
abbrev S1x256x1024 : Shape := ⟨3, ![1, 256, 1024]⟩

abbrev nBuf : Space → Nat
  | .hbm => 11
  | .vmem => 13
  | .smem => 0
  | _ => 0

abbrev bufTy : (tb : Table) → Fin (tcTables nBuf tb) → BufTy
  | .hbm, ⟨0, _⟩ => ⟨S8x2304x1024, .bf16⟩
  | .hbm, ⟨1, _⟩ => ⟨S1024x1024, .f32⟩
  | .hbm, ⟨2, _⟩ => ⟨S8x2304x1024, .f32⟩
  | .hbm, ⟨3, _⟩ => ⟨S8x1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S9x1024, .f32⟩
  | .hbm, ⟨8, _⟩ => ⟨S9x1x1024, .f32⟩
  | .hbm, ⟨9, _⟩ => ⟨S9x8x1024, .f32⟩
  | .hbm, ⟨10, _⟩ => ⟨S8x2304x1024, .f32⟩
  | .local _ .vmem, ⟨0, _⟩ => ⟨S1x768x1024, .bf16⟩
  | .local _ .vmem, ⟨1, _⟩ => ⟨S1x768x1024, .bf16⟩
  | .local _ .vmem, ⟨2, _⟩ => ⟨S1024x1024, .bf16⟩
  | .local _ .vmem, ⟨3, _⟩ => ⟨S1x768x1024, .f32⟩
  | .local _ .vmem, ⟨4, _⟩ => ⟨S1x768x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x8x1024, .f32⟩
  | .local _ .vmem, ⟨9, _⟩ => ⟨S1x8x1024, .f32⟩
  | .local _ .vmem, ⟨10, _⟩ => ⟨S1x8x1024, .f32⟩
  | .local _ .vmem, ⟨11, _⟩ => ⟨S1x768x1024, .f32⟩
  | .local _ .vmem, ⟨12, _⟩ => ⟨S1x768x1024, .f32⟩
  | _, _ => ⟨S8x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c0_i32 : BitVec 32 := 0#32
  let v1 : BitVec 32 := Scalar.addi v0 c0_i32
  let c0_i32_0 : BitVec 32 := 0#32
  let v2 : BitVec 32 := Scalar.addi v1 c0_i32_0
  let c1_i32 : BitVec 32 := 1#32
  let v3 : BitVec 1 := Scalar.cmpi .slt v2 c1_i32
  let c8_i32 : BitVec 32 := 8#32
  let v4 : BitVec 32 := Scalar.select v3 c8_i32 arg0
  let c0_i32_1 : BitVec 32 := 0#32
  let c0_i32_2 : BitVec 32 := 0#32
  let c0_i32_3 : BitVec 32 := 0#32
  ![v4.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c1_i32 : BitVec 32 := 1#32
  let v1 : BitVec 32 := Scalar.addi v0 c1_i32
  let c0_i32 : BitVec 32 := 0#32
  let v2 : BitVec 32 := Scalar.addi v1 c0_i32
  let c1_i32_0 : BitVec 32 := 1#32
  let v3 : BitVec 1 := Scalar.cmpi .slt v2 c1_i32_0
  let c8_i32 : BitVec 32 := 8#32
  let v4 : BitVec 32 := Scalar.select v3 c8_i32 arg0
  let c0_i32_1 : BitVec 32 := 0#32
  let c0_i32_2 : BitVec 32 := 0#32
  let c0_i32_3 : BitVec 32 := 0#32
  ![v4.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c2_i32 : BitVec 32 := 2#32
  let v1 : BitVec 32 := Scalar.addi v0 c2_i32
  let c0_i32 : BitVec 32 := 0#32
  let v2 : BitVec 32 := Scalar.addi v1 c0_i32
  let c1_i32 : BitVec 32 := 1#32
  let v3 : BitVec 1 := Scalar.cmpi .slt v2 c1_i32
  let c8_i32 : BitVec 32 := 8#32
  let v4 : BitVec 32 := Scalar.select v3 c8_i32 arg0
  let c0_i32_0 : BitVec 32 := 0#32
  let c0_i32_1 : BitVec 32 := 0#32
  let c0_i32_2 : BitVec 32 := 0#32
  ![v4.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S8x2304x1024 : Shape := ⟨3, ![8, 2304, 1024]⟩
abbrev S1024x1024 : Shape := ⟨2, ![1024, 1024]⟩
abbrev S8x1024 : Shape := ⟨2, ![8, 1024]⟩
abbrev S1024 : Shape := ⟨1, ![1024]⟩
abbrev S8x256x1024 : Shape := ⟨3, ![8, 256, 1024]⟩
abbrev S1x1x1024 : Shape := ⟨3, ![1, 1, 1024]⟩
abbrev S8x2048x1024 : Shape := ⟨3, ![8, 2048, 1024]⟩
abbrev S8x1x1024 : Shape := ⟨3, ![8, 1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8x2304x1024, .bf16⟩
  | .hbm, ⟨1, _⟩ => ⟨S1024x1024, .f32⟩
  | .hbm, ⟨2, _⟩ => ⟨S8x2304x1024, .f32⟩
  | .hbm, ⟨3, _⟩ => ⟨S8x1024, .f32⟩
  | .hbm, ⟨4, _⟩ => ⟨S1024, .f32⟩
  | .hbm, ⟨5, _⟩ => ⟨S8x256x1024, .f32⟩
  | .hbm, ⟨6, _⟩ => ⟨S8x256x1024, .bf16⟩
  | .hbm, ⟨7, _⟩ => ⟨S8x256x1024, .f32⟩
  | .hbm, ⟨8, _⟩ => ⟨S8x256x1024, .f32⟩
  | .hbm, ⟨9, _⟩ => ⟨S1x1x1024, .f32⟩
  | .hbm, ⟨10, _⟩ => ⟨S8x256x1024, .f32⟩
  | .hbm, ⟨11, _⟩ => ⟨S8x256x1024, .f32⟩
  | .hbm, ⟨12, _⟩ => ⟨S8x256x1024, .f32⟩
  | .hbm, ⟨13, _⟩ => ⟨S8x2048x1024, .f32⟩
  | .hbm, ⟨14, _⟩ => ⟨S8x1x1024, .f32⟩
  | .hbm, ⟨15, _⟩ => ⟨S8x2048x1024, .bf16⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S8x2304x1024, .f32⟩
  | _, _ => ⟨S8x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel7.lean ====
abbrev S8x2304x1024 : Shape := ⟨3, ![8, 2304, 1024]⟩
abbrev S8x1024 : Shape := ⟨2, ![8, 1024]⟩
abbrev S1024 : Shape := ⟨1, ![1024]⟩
abbrev S1024x4608 : Shape := ⟨2, ![1024, 4608]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x32x1 : Shape := ⟨3, ![2048, 32, 1]⟩
abbrev S2048x32x2 : Shape := ⟨3, ![2048, 32, 2]⟩
abbrev S2048x64 : Shape := ⟨2, ![2048, 64]⟩
abbrev S1x128 : Shape := ⟨2, ![1, 128]⟩
abbrev S2048x128 : Shape := ⟨2, ![2048, 128]⟩
abbrev S256x128 : Shape := ⟨2, ![256, 128]⟩
abbrev S2304x128 : Shape := ⟨2, ![2304, 128]⟩
abbrev S1024x2048 : Shape := ⟨2, ![1024, 2048]⟩
abbrev S1024x64 : Shape := ⟨2, ![1024, 64]⟩
abbrev S1024x2560 : Shape := ⟨2, ![1024, 2560]⟩
abbrev S1024x1024 : Shape := ⟨2, ![1024, 1024]⟩
abbrev S1x1024 : Shape := ⟨2, ![1, 1024]⟩
abbrev S9x1024 : Shape := ⟨2, ![9, 1024]⟩
abbrev S9x1x1024 : Shape := ⟨3, ![9, 1, 1024]⟩
abbrev S9x8x1024 : Shape := ⟨3, ![9, 8, 1024]⟩
abbrev S8x2304x512 : Shape := ⟨3, ![8, 2304, 512]⟩
abbrev S8x256x2304 : Shape := ⟨3, ![8, 256, 2304]⟩
abbrev S1x768x1024 : Shape := ⟨3, ![1, 768, 1024]⟩
abbrev S1x8x1024 : Shape := ⟨3, ![1, 8, 1024]⟩
abbrev S768x128 : Shape := ⟨2, ![768, 128]⟩
abbrev S1x768x512 : Shape := ⟨3, ![1, 768, 512]⟩
abbrev S1x256x768 : Shape := ⟨3, ![1, 256, 768]⟩
abbrev S768x1024 : Shape := ⟨2, ![768, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S32x8x1024 : Shape := ⟨3, ![32, 8, 1024]⟩
abbrev S1024x512 : Shape := ⟨2, ![1024, 512]⟩
abbrev S768x512 : Shape := ⟨2, ![768, 512]⟩
abbrev S1x768x128 : Shape := ⟨3, ![1, 768, 128]⟩
abbrev S128x768 : Shape := ⟨2, ![128, 768]⟩
abbrev S64x768 : Shape := ⟨2, ![64, 768]⟩
abbrev S1x64x768 : Shape := ⟨3, ![1, 64, 768]⟩

abbrev nBuf : Space → Nat
  | .hbm => 106
  | .vmem => 39
  | .smem => 0
  | _ => 0

abbrev bufTy : (tb : Table) → Fin (tcTables nBuf tb) → BufTy
  | .hbm, ⟨0, _⟩ => ⟨S8x2304x1024, .f32⟩
  | .hbm, ⟨1, _⟩ => ⟨S8x1024, .f32⟩
  | .hbm, ⟨2, _⟩ => ⟨S8x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x4608, .f32⟩
  | .hbm, ⟨7, _⟩ => ⟨S2048, .f32⟩
  | .hbm, ⟨8, _⟩ => ⟨S2048, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S2048x1, .f32⟩
  | .hbm, ⟨24, _⟩ => ⟨S1x16, .f32⟩
  | .hbm, ⟨25, _⟩ => ⟨S2048x16, .f32⟩
  | .hbm, ⟨26, _⟩ => ⟨S2048x16, .f32⟩
  | .hbm, ⟨27, _⟩ => ⟨S2048x16, .f32⟩
  | .hbm, ⟨28, _⟩ => ⟨S2048x1, .f32⟩
  | .hbm, ⟨29, _⟩ => ⟨S1x16, .f32⟩
  | .hbm, ⟨30, _⟩ => ⟨S2048x16, .f32⟩
  | .hbm, ⟨31, _⟩ => ⟨S2048x16, .f32⟩
  | .hbm, ⟨32, _⟩ => ⟨S2048x16, .f32⟩
  | .hbm, ⟨33, _⟩ => ⟨S2048x32, .f32⟩
  | .hbm, ⟨34, _⟩ => ⟨S2048x32, .f32⟩
  | .hbm, ⟨35, _⟩ => ⟨S2048x32, .f32⟩
  | .hbm, ⟨36, _⟩ => ⟨S_, .f32⟩
  | .hbm, ⟨37, _⟩ => ⟨S2048x32, .f32⟩
  | .hbm, ⟨38, _⟩ => ⟨S2048x32x1, .f32⟩
  | .hbm, ⟨39, _⟩ => ⟨S2048x32x1, .f32⟩
  | .hbm, ⟨40, _⟩ => ⟨S2048x32x2, .f32⟩
  | .hbm, ⟨41, _⟩ => ⟨S2048x64, .f32⟩
  | .hbm, ⟨42, _⟩ => ⟨S2048x32, .f32⟩
  | .hbm, ⟨43, _⟩ => ⟨S2048x32x1, .f32⟩
  | .hbm, ⟨44, _⟩ => ⟨S2048x32x1, .f32⟩
  | .hbm, ⟨45, _⟩ => ⟨S2048x32x2, .f32⟩
  | .hbm, ⟨46, _⟩ => ⟨S2048x64, .f32⟩
  | .hbm, ⟨47, _⟩ => ⟨S2048x32x1, .f32⟩
  | .hbm, ⟨48, _⟩ => ⟨S2048x32x1, .f32⟩
  | .hbm, ⟨49, _⟩ => ⟨S2048x32x2, .f32⟩
  | .hbm, ⟨50, _⟩ => ⟨S2048x64, .f32⟩
  | .hbm, ⟨51, _⟩ => ⟨S_, .f32⟩
  | .hbm, ⟨52, _⟩ => ⟨S2048x64, .f32⟩
  | .hbm, ⟨53, _⟩ => ⟨S_, .f32⟩
  | .hbm, ⟨54, _⟩ => ⟨S2048x64, .f32⟩
  | .hbm, ⟨55, _⟩ => ⟨S_, .f32⟩
  | .hbm, ⟨56, _⟩ => ⟨S1x128, .f32⟩
  | .hbm, ⟨57, _⟩ => ⟨S_, .f32⟩
  | .hbm, ⟨58, _⟩ => ⟨S1x128, .f32⟩
  | .hbm, ⟨59, _⟩ => ⟨S2048x128, .f32⟩
  | .hbm, ⟨60, _⟩ => ⟨S256x128, .f32⟩
  | .hbm, ⟨61, _⟩ => ⟨S2304x128, .f32⟩
  | .hbm, ⟨62, _⟩ => ⟨S2048x128, .f32⟩
  | .hbm, ⟨63, _⟩ => ⟨S256x128, .f32⟩
  | .hbm, ⟨64, _⟩ => ⟨S2304x128, .f32⟩
  | .hbm, ⟨65, _⟩ => ⟨S2048x128, .f32⟩
  | .hbm, ⟨66, _⟩ => ⟨S256x128, .f32⟩
  | .hbm, ⟨67, _⟩ => ⟨S2304x128, .f32⟩
  | .hbm, ⟨68, _⟩ => ⟨S2048x128, .f32⟩
  | .hbm, ⟨69, _⟩ => ⟨S256x128, .f32⟩
  | .hbm, ⟨70, _⟩ => ⟨S2304x128, .f32⟩
  | .hbm, ⟨71, _⟩ => ⟨S2048x128, .f32⟩
  | .hbm, ⟨72, _⟩ => ⟨S256x128, .f32⟩
  | .hbm, ⟨73, _⟩ => ⟨S2304x128, .f32⟩
  | .hbm, ⟨74, _⟩ => ⟨S2048x128, .f32⟩
  | .hbm, ⟨75, _⟩ => ⟨S256x128, .f32⟩
  | .hbm, ⟨76, _⟩ => ⟨S2304x128, .f32⟩
  | .hbm, ⟨77, _⟩ => ⟨S1024x2048, .f32⟩
  | .hbm, ⟨78, _⟩ => ⟨S1024x64, .f32⟩
  | .hbm, ⟨79, _⟩ => ⟨S1024x64, .f32⟩
  | .hbm, ⟨80, _⟩ => ⟨S1024x64, .f32⟩
  | .hbm, ⟨81, _⟩ => ⟨S1024x64, .f32⟩
  | .hbm, ⟨82, _⟩ => ⟨S1024x64, .f32⟩
  | .hbm, ⟨83, _⟩ => ⟨S1024x64, .f32⟩
  | .hbm, ⟨84, _⟩ => ⟨S1024x64, .f32⟩
  | .hbm, ⟨85, _⟩ => ⟨S1024x64, .f32⟩
  | .hbm, ⟨86, _⟩ => ⟨S1024x2560, .f32⟩
  | .hbm, ⟨87, _⟩ => ⟨S1024x2560, .bf16⟩
  | .hbm, ⟨88, _⟩ => ⟨S1024x1024, .f32⟩
  | .hbm, ⟨89, _⟩ => ⟨S1024x1024, .f32⟩
  | .hbm, ⟨90, _⟩ => ⟨S1024x2048, .f32⟩
  | .hbm, ⟨91, _⟩ => ⟨S1024x2048, .bf16⟩
  | .hbm, ⟨92, _⟩ => ⟨S1x1024, .f32⟩
  | .hbm, ⟨93, _⟩ => ⟨S9x1024, .f32⟩
  | .hbm, ⟨94, _⟩ => ⟨S9x1x1024, .f32⟩
  | .hbm, ⟨95, _⟩ => ⟨S9x8x1024, .f32⟩
  | .hbm, ⟨96, _⟩ => ⟨S1x1024, .f32⟩
  | .hbm, ⟨97, _⟩ => ⟨S9x1024, .f32⟩
  | .hbm, ⟨98, _⟩ => ⟨S9x1x1024, .f32⟩
  | .hbm, ⟨99, _⟩ => ⟨S9x8x1024, .f32⟩
  | .hbm, ⟨100, _⟩ => ⟨S1x1024, .f32⟩
  | .hbm, ⟨101, _⟩ => ⟨S8x2304x1024, .f32⟩
  | .hbm, ⟨102, _⟩ => ⟨S8x2304x1024, .bf16⟩
  | .hbm, ⟨103, _⟩ => ⟨S8x2304x512, .bf16⟩
  | .hbm, ⟨104, _⟩ => ⟨S8x256x2304, .bf16⟩
  | .hbm, ⟨105, _⟩ => ⟨S8x2304x1024, .bf16⟩
  | .local _ .vmem, ⟨0, _⟩ => ⟨S1x768x1024, .f32⟩
  | .local _ .vmem, ⟨1, _⟩ => ⟨S1x768x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x8x1024, .f32⟩
  | .local _ .vmem, ⟨9, _⟩ => ⟨S1x8x1024, .f32⟩
  | .local _ .vmem, ⟨10, _⟩ => ⟨S1x8x1024, .f32⟩
  | .local _ .vmem, ⟨11, _⟩ => ⟨S1x8x1024, .f32⟩
  | .local _ .vmem, ⟨12, _⟩ => ⟨S1x8x1024, .f32⟩
  | .local _ .vmem, ⟨13, _⟩ => ⟨S1x8x1024, .f32⟩
  | .local _ .vmem, ⟨14, _⟩ => ⟨S1x1024, .f32⟩
  | .local _ .vmem, ⟨15, _⟩ => ⟨S1024x2560, .bf16⟩
  | .local _ .vmem, ⟨16, _⟩ => ⟨S768x128, .f32⟩
  | .local _ .vmem, ⟨17, _⟩ => ⟨S768x128, .f32⟩
  | .local _ .vmem, ⟨18, _⟩ => ⟨S768x128, .f32⟩
  | .local _ .vmem, ⟨19, _⟩ => ⟨S768x128, .f32⟩
  | .local _ .vmem, ⟨20, _⟩ => ⟨S768x128, .f32⟩
  | .local _ .vmem, ⟨21, _⟩ => ⟨S768x128, .f32⟩
  | .local _ .vmem, ⟨22, _⟩ => ⟨S768x128, .f32⟩
  | .local _ .vmem, ⟨23, _⟩ => ⟨S768x128, .f32⟩
  | .local _ .vmem, ⟨24, _⟩ => ⟨S768x128, .f32⟩
  | .local _ .vmem, ⟨25, _⟩ => ⟨S768x128, .f32⟩
  | .local _ .vmem, ⟨26, _⟩ => ⟨S768x128, .f32⟩
  | .local _ .vmem, ⟨27, _⟩ => ⟨S768x128, .f32⟩
  | .local _ .vmem, ⟨28, _⟩ => ⟨S1x768x1024, .f32⟩
  | .local _ .vmem, ⟨29, _⟩ => ⟨S1x768x1024, .f32⟩
  | .local _ .vmem, ⟨30, _⟩ => ⟨S1x768x1024, .bf16⟩
  | .local _ .vmem, ⟨31, _⟩ => ⟨S1x768x1024, .bf16⟩
  | .local _ .vmem, ⟨32, _⟩ => ⟨S1x768x512, .bf16⟩
  | .local _ .vmem, ⟨33, _⟩ => ⟨S1x768x512, .bf16⟩
  | .local _ .vmem, ⟨34, _⟩ => ⟨S1x256x768, .bf16⟩
  | .local _ .vmem, ⟨35, _⟩ => ⟨S1x256x768, .bf16⟩
  | .local _ .vmem, ⟨36, _⟩ => ⟨S1x768x1024, .bf16⟩
  | .local _ .vmem, ⟨37, _⟩ => ⟨S1x768x1024, .bf16⟩
  | .local _ .vmem, ⟨38, _⟩ => ⟨S768x1024, .bf16⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_cst_1 : Ref sig .tc := ⟨.hbm, 10, rfl⟩
abbrev main_v1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_3 : Ref sig .tc := ⟨.hbm, 17, rfl⟩
abbrev main_v6 : Ref sig .tc := ⟨.hbm, 18, rfl⟩
abbrev main_v7 : Ref sig .tc := ⟨.hbm, 19, rfl⟩
abbrev main_cst_4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83_0 : Ref sig .tc := ⟨.hbm, 101, rfl⟩
abbrev main_v83_1 : Ref sig .tc := ⟨.hbm, 102, rfl⟩
abbrev main_v83_2 : Ref sig .tc := ⟨.hbm, 103, rfl⟩
abbrev main_v83_3 : Ref sig .tc := ⟨.hbm, 104, rfl⟩
abbrev main_v83_4 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c0_i32 : BitVec 32 := 0#32
  let v1 : BitVec 32 := Scalar.addi v0 c0_i32
  let c0_i32_0 : BitVec 32 := 0#32
  let v2 : BitVec 32 := Scalar.addi v1 c0_i32_0
  let c1_i32 : BitVec 32 := 1#32
  let v3 : BitVec 1 := Scalar.cmpi .slt v2 c1_i32
  let c8_i32 : BitVec 32 := 8#32
  let v4 : BitVec 32 := Scalar.select v3 c8_i32 arg0
  let c0_i32_1 : BitVec 32 := 0#32
  let c0_i32_2 : BitVec 32 := 0#32
  let c0_i32_3 : BitVec 32 := 0#32
  ![v4.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c1_i32 : BitVec 32 := 1#32
  let v1 : BitVec 32 := Scalar.addi v0 c1_i32
  let c0_i32 : BitVec 32 := 0#32
  let v2 : BitVec 32 := Scalar.addi v1 c0_i32
  let c1_i32_0 : BitVec 32 := 1#32
  let v3 : BitVec 1 := Scalar.cmpi .slt v2 c1_i32_0
  let c8_i32 : BitVec 32 := 8#32
  let v4 : BitVec 32 := Scalar.select v3 c8_i32 arg0
  let c0_i32_1 : BitVec 32 := 0#32
  let c0_i32_2 : BitVec 32 := 0#32
  let c0_i32_3 : BitVec 32 := 0#32
  ![v4.toNat, c0_i32_1.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c2_i32 : BitVec 32 := 2#32
  let v1 : BitVec 32 := Scalar.addi v0 c2_i32
  let c0_i32 : BitVec 32 := 0#32
  let v2 : BitVec 32 := Scalar.addi v1 c0_i32
  let c1_i32 : BitVec 32 := 1#32
  let v3 : BitVec 1 := Scalar.cmpi .slt v2 c1_i32
  let c8_i32 : BitVec 32 := 8#32
  let v4 : BitVec 32 := Scalar.select v3 c8_i32 arg0
  let c0_i32_0 : BitVec 32 := 0#32
  let c0_i32_1 : BitVec 32 := 0#32
  let c0_i32_2 : BitVec 32 := 0#32
  ![v4.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c0_i32 : BitVec 32 := 0#32
  let v1 : BitVec 32 := Scalar.addi v0 c0_i32
  let c0_i32_0 : BitVec 32 := 0#32
  let v2 : BitVec 32 := Scalar.addi v1 c0_i32_0
  let c1_i32 : BitVec 32 := 1#32
  let v3 : BitVec 1 := Scalar.cmpi .slt v2 c1_i32
  let c8_i32 : BitVec 32 := 8#32
  let v4 : BitVec 32 := Scalar.select v3 c8_i32 arg0
  let c0_i32_1 : BitVec 32 := 0#32
  let c0_i32_2 : BitVec 32 := 0#32
  let c0_i32_3 : BitVec 32 := 0#32
  ![v4.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c1_i32 : BitVec 32 := 1#32
  let v1 : BitVec 32 := Scalar.addi v0 c1_i32
  let c0_i32 : BitVec 32 := 0#32
  let v2 : BitVec 32 := Scalar.addi v1 c0_i32
  let c1_i32_0 : BitVec 32 := 1#32
  let v3 : BitVec 1 := Scalar.cmpi .slt v2 c1_i32_0
  let c8_i32 : BitVec 32 := 8#32
  let v4 : BitVec 32 := Scalar.select v3 c8_i32 arg0
  let c0_i32_1 : BitVec 32 := 0#32
  let c0_i32_2 : BitVec 32 := 0#32
  let c0_i32_3 : BitVec 32 := 0#32
  ![v4.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c2_i32 : BitVec 32 := 2#32
  let v1 : BitVec 32 := Scalar.addi v0 c2_i32
  let c0_i32 : BitVec 32 := 0#32
  let v2 : BitVec 32 := Scalar.addi v1 c0_i32
  let c1_i32 : BitVec 32 := 1#32
  let v3 : BitVec 1 := Scalar.cmpi .slt v2 c1_i32
  let c8_i32 : BitVec 32 := 8#32
  let v4 : BitVec 32 := Scalar.select v3 c8_i32 arg0
  let c0_i32_0 : BitVec 32 := 0#32
  let c0_i32_1 : BitVec 32 := 0#32
  let c0_i32_2 : BitVec 32 := 0#32
  ![v4.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2560 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S768x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S768x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S768x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S768x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S768x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S768x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x768x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x768x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x768x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x768 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x768x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference7Ideal.lean ====
abbrev S8x2304x1024 : Shape := ⟨3, ![8, 2304, 1024]⟩
abbrev S8x1024 : Shape := ⟨2, ![8, 1024]⟩
abbrev S1024 : Shape := ⟨1, ![1024]⟩
abbrev S1024x4608 : Shape := ⟨2, ![1024, 4608]⟩
abbrev S2048 : Shape := ⟨1, ![2048]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x256x1024 : Shape := ⟨3, ![8, 256, 1024]⟩
abbrev S8x256 : Shape := ⟨2, ![8, 256]⟩
abbrev S8x256x1 : Shape := ⟨3, ![8, 256, 1]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S8x256x4608 : Shape := ⟨3, ![8, 256, 4608]⟩
abbrev S8x2048x4608 : Shape := ⟨3, ![8, 2048, 4608]⟩
abbrev S8x256x256 : Shape := ⟨3, ![8, 256, 256]⟩
abbrev S8x256x4x64 : Shape := ⟨4, ![8, 256, 4, 64]⟩
abbrev S8x2048x256 : Shape := ⟨3, ![8, 2048, 256]⟩
abbrev S8x2048x4x64 : Shape := ⟨4, ![8, 2048, 4, 64]⟩
abbrev S1x2048x1x32 : Shape := ⟨4, ![1, 2048, 1, 32]⟩
abbrev S8x2048x4x32 : Shape := ⟨4, ![8, 2048, 4, 32]⟩
abbrev S8x2048x4x32x1 : Shape := ⟨5, ![8, 2048, 4, 32, 1]⟩
abbrev S8x2048x4x32x2 : Shape := ⟨5, ![8, 2048, 4, 32, 2]⟩
abbrev S8x2304x4x64 : Shape := ⟨4, ![8, 2304, 4, 64]⟩
abbrev S8x256x16x64 : Shape := ⟨4, ![8, 256, 16, 64]⟩
abbrev S8x2048x16x64 : Shape := ⟨4, ![8, 2048, 16, 64]⟩
abbrev S8x2048x16x32 : Shape := ⟨4, ![8, 2048, 16, 32]⟩
abbrev S8x2048x16x32x1 : Shape := ⟨5, ![8, 2048, 16, 32, 1]⟩
abbrev S8x2048x16x32x2 : Shape := ⟨5, ![8, 2048, 16, 32, 2]⟩
abbrev S8x2304x16x64 : Shape := ⟨4, ![8, 2304, 16, 64]⟩
abbrev S8x2304x4608 : Shape := ⟨3, ![8, 2304, 4608]⟩
abbrev S8x2304x256 : Shape := ⟨3, ![8, 2304, 256]⟩
abbrev S8x2304x4x128 : Shape := ⟨4, ![8, 2304, 4, 128]⟩
abbrev S8x2304x512 : Shape := ⟨3, ![8, 2304, 512]⟩
abbrev S8x256x2304 : Shape := ⟨3, ![8, 256, 2304]⟩

abbrev nBuf : Space → Nat
  | .hbm => 153
  | .vmem => 0
  | .smem => 0
  | _ => 0

abbrev hbmTy0_0 (i : Nat) : BufTy := match i % 128 with
  | 0 => ⟨S8x2304x1024, .f32⟩
  | 1 => ⟨S8x1024, .f32⟩
  | 2 => ⟨S8x1024, .f32⟩
  | 3 => ⟨S1024, .f32⟩
  | 4 => ⟨S1024, .f32⟩
  | 5 => ⟨S1024, .f32⟩
  | 6 => ⟨S1024x4608, .f32⟩
  | 7 => ⟨S2048, .f32⟩
  | 8 => ⟨S2048, .f32⟩
  | 9 => ⟨S8x2048x1024, .f32⟩
  | 10 => ⟨S8x2048x1024, .f32⟩
  | 11 => ⟨S_, .f32⟩
  | 12 => ⟨S8x2048, .f32⟩
  | 13 => ⟨S8x2048x1, .f32⟩
  | 14 => ⟨S_, .f32⟩
  | 15 => ⟨S8x2048x1, .f32⟩
  | 16 => ⟨S8x2048x1, .f32⟩
  | 17 => ⟨S_, .f32⟩
  | 18 => ⟨S8x2048x1, .f32⟩
  | 19 => ⟨S8x2048x1, .f32⟩
  | 20 => ⟨S8x2048x1, .f32⟩
  | 21 => ⟨S8x2048x1024, .f32⟩
  | 22 => ⟨S8x2048x1024, .f32⟩
  | 23 => ⟨S1x1x1024, .f32⟩
  | 24 => ⟨S8x2048x1024, .f32⟩
  | 25 => ⟨S8x2048x1024, .f32⟩
  | 26 => ⟨S8x1x1024, .f32⟩
  | 27 => ⟨S8x1x1024, .f32⟩
  | 28 => ⟨S_, .f32⟩
  | 29 => ⟨S8x1x1024, .f32⟩
  | 30 => ⟨S8x1x1024, .f32⟩
  | 31 => ⟨S8x2048x1024, .f32⟩
  | 32 => ⟨S8x2048x1024, .f32⟩
  | 33 => ⟨S8x2048x1024, .f32⟩
  | 34 => ⟨S8x2048x1024, .f32⟩
  | 35 => ⟨S8x256x1024, .f32⟩
  | 36 => ⟨S8x256x1024, .f32⟩
  | 37 => ⟨S_, .f32⟩
  | 38 => ⟨S8x256, .f32⟩
  | 39 => ⟨S8x256x1, .f32⟩
  | 40 => ⟨S_, .f32⟩
  | 41 => ⟨S8x256x1, .f32⟩
  | 42 => ⟨S8x256x1, .f32⟩
  | 43 => ⟨S_, .f32⟩
  | 44 => ⟨S8x256x1, .f32⟩
  | 45 => ⟨S8x256x1, .f32⟩
  | 46 => ⟨S8x256x1, .f32⟩
  | 47 => ⟨S8x256x1024, .f32⟩
  | 48 => ⟨S8x256x1024, .f32⟩
  | 49 => ⟨S1x1x1024, .f32⟩
  | 50 => ⟨S8x256x1024, .f32⟩
  | 51 => ⟨S8x256x1024, .f32⟩
  | 52 => ⟨S_, .f32⟩
  | 53 => ⟨S1024, .f32⟩
  | 54 => ⟨S1024, .f32⟩
  | 55 => ⟨S1x1x1024, .f32⟩
  | 56 => ⟨S8x256x1024, .f32⟩
  | 57 => ⟨S8x256x1024, .f32⟩
  | 58 => ⟨S1x1x1024, .f32⟩
  | 59 => ⟨S8x256x1024, .f32⟩
  | 60 => ⟨S8x256x1024, .f32⟩
  | 61 => ⟨S16, .f32⟩
  | 62 => ⟨S_, .f32⟩
  | 63 => ⟨S16, .f32⟩
  | 64 => ⟨S16, .f32⟩
  | 65 => ⟨S_, .f32⟩
  | 66 => ⟨S16, .f32⟩
  | 67 => ⟨S16, .f32⟩
  | 68 => ⟨S16, .f32⟩
  | 69 => ⟨S_, .f32⟩
  | 70 => ⟨S16, .f32⟩
  | 71 => ⟨S16, .f32⟩
  | 72 => ⟨S_, .f32⟩
  | 73 => ⟨S16, .f32⟩
  | 74 => ⟨S16, .f32⟩
  | 75 => ⟨S2048x1, .f32⟩
  | 76 => ⟨S1x16, .f32⟩
  | 77 => ⟨S2048x16, .f32⟩
  | 78 => ⟨S2048x16, .f32⟩
  | 79 => ⟨S2048x16, .f32⟩
  | 80 => ⟨S2048x1, .f32⟩
  | 81 => ⟨S1x16, .f32⟩
  | 82 => ⟨S2048x16, .f32⟩
  | 83 => ⟨S2048x16, .f32⟩
  | 84 => ⟨S2048x16, .f32⟩
  | 85 => ⟨S2048x32, .f32⟩
  | 86 => ⟨S2048x32, .f32⟩
  | 87 => ⟨S2048x32, .f32⟩
  | 88 => ⟨S8x256x4608, .f32⟩
  | 89 => ⟨S8x2048x4608, .f32⟩
  | 90 => ⟨S8x256x256, .f32⟩
  | 91 => ⟨S8x256x4x64, .f32⟩
  | 92 => ⟨S8x2048x256, .f32⟩
  | 93 => ⟨S8x2048x4x64, .f32⟩
  | 94 => ⟨S1x2048x1x32, .f32⟩
  | 95 => ⟨S1x2048x1x32, .f32⟩
  | 96 => ⟨S8x2048x4x32, .f32⟩
  | 97 => ⟨S8x2048x4x32, .f32⟩
  | 98 => ⟨S8x2048x4x32, .f32⟩
  | 99 => ⟨S8x2048x4x32, .f32⟩
  | 100 => ⟨S8x2048x4x32, .f32⟩
  | 101 => ⟨S8x2048x4x32, .f32⟩
  | 102 => ⟨S8x2048x4x32, .f32⟩
  | 103 => ⟨S8x2048x4x32, .f32⟩
  | 104 => ⟨S8x2048x4x32, .f32⟩
  | 105 => ⟨S8x2048x4x32, .f32⟩
  | 106 => ⟨S8x2048x4x32, .f32⟩
  | 107 => ⟨S8x2048x4x32, .f32⟩
  | 108 => ⟨S8x2048x4x32x1, .f32⟩
  | 109 => ⟨S8x2048x4x32x1, .f32⟩
  | 110 => ⟨S8x2048x4x32x2, .f32⟩
  | 111 => ⟨S8x2048x4x64, .f32⟩
  | 112 => ⟨S8x2304x4x64, .f32⟩
  | 113 => ⟨S8x256x1024, .f32⟩
  | 114 => ⟨S8x256x16x64, .f32⟩
  | 115 => ⟨S8x2048x1024, .f32⟩
  | 116 => ⟨S8x2048x16x64, .f32⟩
  | 117 => ⟨S1x2048x1x32, .f32⟩
  | 118 => ⟨S1x2048x1x32, .f32⟩
  | 119 => ⟨S8x2048x16x32, .f32⟩
  | 120 => ⟨S8x2048x16x32, .f32⟩
  | 121 => ⟨S8x2048x16x32, .f32⟩
  | 122 => ⟨S8x2048x16x32, .f32⟩
  | 123 => ⟨S8x2048x16x32, .f32⟩
  | 124 => ⟨S8x2048x16x32, .f32⟩
  | 125 => ⟨S8x2048x16x32, .f32⟩
  | 126 => ⟨S8x2048x16x32, .f32⟩
  | 127 => ⟨S8x2048x16x32, .f32⟩
  | _ => ⟨S8x2304x1024, .f32⟩

abbrev hbmTy0_1 (i : Nat) : BufTy := match i % 128 with
  | 0 => ⟨S8x2048x16x32, .f32⟩
  | 1 => ⟨S8x2048x16x32, .f32⟩
  | 2 => ⟨S8x2048x16x32, .f32⟩
  | 3 => ⟨S8x2048x16x32x1, .f32⟩
  | 4 => ⟨S8x2048x16x32x1, .f32⟩
  | 5 => ⟨S8x2048x16x32x2, .f32⟩
  | 6 => ⟨S8x2048x16x64, .f32⟩
  | 7 => ⟨S8x2304x16x64, .f32⟩
  | 8 => ⟨S8x2304x4608, .f32⟩
  | 9 => ⟨S8x2304x256, .f32⟩
  | 10 => ⟨S8x2304x4x64, .f32⟩
  | 11 => ⟨S8x2304x4x128, .f32⟩
  | 12 => ⟨S8x2304x512, .f32⟩
  | 13 => ⟨S8x2304x256, .f32⟩
  | 14 => ⟨S8x256x2304, .f32⟩
  | 15 => ⟨S8x2304x1024, .f32⟩
  | 16 => ⟨S_, .f32⟩
  | 17 => ⟨S8x2304x1024, .f32⟩
  | 18 => ⟨S8x2304x1024, .f32⟩
  | 19 => ⟨S8x2304x1024, .f32⟩
  | 20 => ⟨S8x2304x1024, .f32⟩
  | 21 => ⟨S8x2304x1024, .bf16⟩
  | 22 => ⟨S8x2304x512, .bf16⟩
  | 23 => ⟨S8x256x2304, .bf16⟩
  | 24 => ⟨S8x2304x1024, .bf16⟩
  | _ => ⟨S8x2304x1024, .f32⟩

abbrev hbmTy (i : Nat) : BufTy := match i / 128 with
  | 0 => hbmTy0_0 i
  | 1 => hbmTy0_1 i
  | _ => ⟨S8x2304x1024, .f32⟩

abbrev bufTy : (tb : Table) → Fin (tcTables nBuf tb) → BufTy
  | .hbm, ⟨i, _⟩ => hbmTy i
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_v5 : Ref sig .tc := ⟨.hbm, 16, rfl⟩
abbrev main_cst_3 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_cst_13 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩

abbrev nD : Nat := 1
abbrev τ : Topo := Topo.v7x

variable {F : FTy → Type} [FloatOps F]
-- ==== Proof.Body.lean ====
/-
  The recurrence kernel's body on any staging buffers, over any float values: at the first point the carried state is
  zeroed, at the later ones it is what the point before left. What the body leaves in its two results' buffers and in
  the carried state is found by the run.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic

@[expose] public section

set_option maxRecDepth 16384
set_option maxHeartbeats 8000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

abbrev 𝒱₀ : Variants := Variants.none

/-- At the first point: the carried state is found at anything and zeroed. The two results' blocks and the state left are the run's finds. -/
def run0 (c : Dev nD) (i : grid0.Coords) (M1 : Memref sig .tc .vmem S1024x1024 .f32) (h1 : M1.IsWhole) (M2 : Memref sig .tc .vmem S8x1024 .f32) (h2 : M2.IsWhole) (M3 : Memref sig .tc .vmem S8x1024 .f32) (h3 : M3.IsWhole) (M4 : Memref sig .tc .vmem S8x1024 .f32) (h4 : M4.IsWhole) (M5 : Memref sig .tc .vmem S4x1024 .f32) (h5 : M5.IsWhole) (M6 : Memref sig .tc .vmem S1x1024 .f32) (h6 : M6.IsWhole) (M7 : Memref sig .tc .vmem S8x128x256 .bf16) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S1024x1024 .f32) (h11 : M11.IsWhole) (M12 : Memref sig .tc .vmem S1024x1024 .f32) (h12 : M12.IsWhole) (M13 : Memref sig .tc .vmem S8x1024 .f32) (h13 : M13.IsWhole) (M14 : Memref sig .tc .vmem S1048x1024 .f32) (h14 : M14.IsWhole) (M15 : Memref sig .tc .vmem S1024x1024 .f32) (h15 : M15.IsWhole) (M16 : Memref sig .tc .vmem S1024x1024 .f32) (h16 : M16.IsWhole)
    (x1 : Vec F S1024x1024 .f32) (x2 : Vec F S8x1024 .f32) (x3 : Vec F S8x1024 .f32) (x4 : Vec F S8x1024 .f32) (x5 : Vec F S4x1024 .f32) (x6 : Vec F S1x1024 .f32) (x7 : Vec F S8x128x256 .bf16) (x8 : Vec F S1x1024 .f32) (x9 : Vec F S1x1024 .f32) (x10 : Vec F S1x1024 .f32)
    (hc : Scalar.cmpi .ne (Scalar.extui (Scalar.cmpi .eq (BitVec.ofNat 32 (i 0).val) 0#32)) 0#32 = 1#1) :
    Σ' (Y1 : Vec F S1024x1024 .f32) (Y2 : Vec F S1024x1024 .f32), { Y3 : Vec F S8x1024 .f32 //
      ∀ (E : Set ℕ) (K : PUnit → sProp 𝕄),
        iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ (∃ d, owns (c : Thread nD τ) M11 fullShare d) ∗ (∃ d, owns (c : Thread nD τ) M12 fullShare d) ∗ (∃ d, owns (c : Thread nD τ) M13 fullShare d) ∗ (∃ d, owns (c : Thread nD τ) M14 fullShare d) ∗ (∃ d, owns (c : Thread nD τ) M15 fullShare d) ∗ (∃ d, owns (c : Thread nD τ) M16 fullShare d)
            ∗ (iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare Y1 ∗ owns (c : Thread nD τ) M12 fullShare Y2 ∗ owns (c : Thread nD τ) M13 fullShare Y3 ∗ (∃ d, owns (c : Thread nD τ) M14 fullShare d) ∗ (∃ d, owns (c : Thread nD τ) M15 fullShare d) ∗ (∃ d, owns (c : Thread nD τ) M16 fullShare d)) -∗ K ⟨⟩))
          ⊢ wp frame (wpE (defs₀ (F := F)) 𝒱₀ c none) E (cc0_rglru_fwd i M1 h1 M2 h2 M3 h3 M4 h4 M5 h5 M6 h6 M7 h7 M8 h8 M9 h9 M10 h10 M11 h11 M12 h12 M13 h13 M14 h14 M15 h15 M16 h16) K } := by
  refine ⟨?_, ?_, ?_, fun E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10
    sl_unfold [cc0_rglru_fwd]
    sl_exec_parts! (disch := exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    isplitl [H14]
    · iexists _; iexists _; isplitr; swap; · iexact H14
      ipureintro; rfl
    isplitl [H15]
    · iexists _; iexists _; isplitr; swap; · iexact H15
      ipureintro; rfl
    iexists _; iexists _; isplitr; swap; · iexact H16
    ipureintro; rfl

/-- At a later point: the carried state is found at `x13`. The two results' blocks and the state left are the run's finds. -/
def runS (c : Dev nD) (i : grid0.Coords) (M1 : Memref sig .tc .vmem S1024x1024 .f32) (h1 : M1.IsWhole) (M2 : Memref sig .tc .vmem S8x1024 .f32) (h2 : M2.IsWhole) (M3 : Memref sig .tc .vmem S8x1024 .f32) (h3 : M3.IsWhole) (M4 : Memref sig .tc .vmem S8x1024 .f32) (h4 : M4.IsWhole) (M5 : Memref sig .tc .vmem S4x1024 .f32) (h5 : M5.IsWhole) (M6 : Memref sig .tc .vmem S1x1024 .f32) (h6 : M6.IsWhole) (M7 : Memref sig .tc .vmem S8x128x256 .bf16) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S1024x1024 .f32) (h11 : M11.IsWhole) (M12 : Memref sig .tc .vmem S1024x1024 .f32) (h12 : M12.IsWhole) (M13 : Memref sig .tc .vmem S8x1024 .f32) (h13 : M13.IsWhole) (M14 : Memref sig .tc .vmem S1048x1024 .f32) (h14 : M14.IsWhole) (M15 : Memref sig .tc .vmem S1024x1024 .f32) (h15 : M15.IsWhole) (M16 : Memref sig .tc .vmem S1024x1024 .f32) (h16 : M16.IsWhole)
    (x1 : Vec F S1024x1024 .f32) (x2 : Vec F S8x1024 .f32) (x3 : Vec F S8x1024 .f32) (x4 : Vec F S8x1024 .f32) (x5 : Vec F S4x1024 .f32) (x6 : Vec F S1x1024 .f32) (x7 : Vec F S8x128x256 .bf16) (x8 : Vec F S1x1024 .f32) (x9 : Vec F S1x1024 .f32) (x10 : Vec F S1x1024 .f32) (x13 : Vec F S8x1024 .f32)
    (hc : ¬ Scalar.cmpi .ne (Scalar.extui (Scalar.cmpi .eq (BitVec.ofNat 32 (i 0).val) 0#32)) 0#32 = 1#1) :
    Σ' (Y1 : Vec F S1024x1024 .f32) (Y2 : Vec F S1024x1024 .f32), { Y3 : Vec F S8x1024 .f32 //
      ∀ (E : Set ℕ) (K : PUnit → sProp 𝕄),
        iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ (∃ d, owns (c : Thread nD τ) M11 fullShare d) ∗ (∃ d, owns (c : Thread nD τ) M12 fullShare d) ∗ owns (c : Thread nD τ) M13 fullShare x13 ∗ (∃ d, owns (c : Thread nD τ) M14 fullShare d) ∗ (∃ d, owns (c : Thread nD τ) M15 fullShare d) ∗ (∃ d, owns (c : Thread nD τ) M16 fullShare d)
            ∗ (iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare Y1 ∗ owns (c : Thread nD τ) M12 fullShare Y2 ∗ owns (c : Thread nD τ) M13 fullShare Y3 ∗ (∃ d, owns (c : Thread nD τ) M14 fullShare d) ∗ (∃ d, owns (c : Thread nD τ) M15 fullShare d) ∗ (∃ d, owns (c : Thread nD τ) M16 fullShare d)) -∗ K ⟨⟩))
          ⊢ wp frame (wpE (defs₀ (F := F)) 𝒱₀ c none) E (cc0_rglru_fwd i M1 h1 M2 h2 M3 h3 M4 h4 M5 h5 M6 h6 M7 h7 M8 h8 M9 h9 M10 h10 M11 h11 M12 h12 M13 h13 M14 h14 M15 h15 M16 h16) K } := by
  refine ⟨?_, ?_, ?_, fun E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%d14, %f14, -, H14⟩, ⟨%d15, %f15, -, H15⟩, ⟨%d16, %f16, -, H16⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h13.eq_unread hf13
    sl_unfold [cc0_rglru_fwd]
    sl_exec_parts! (disch := exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    isplitl [H14]
    · iexists _; iexists _; isplitr; swap; · iexact H14
      ipureintro; rfl
    isplitl [H15]
    · iexists _; iexists _; isplitr; swap; · iexact H15
      ipureintro; rfl
    iexists _; iexists _; isplitr; swap; · iexact H16
    ipureintro; rfl

end Cert.KernelIdeal.Body

end
-- ==== Proof.Contents.lean ====
/-
  What one point of the recurrence kernel computes, read off its run: the padded tile, the convolved tile, each
  token's decay and input, and the states.
-/
module

public import proofs.«01_k».proof.Proof.Body
public import Idealize.ShloMosaic.Lib.WholeRead
public import Idealize.ShloMosaic.Lib.Pipeline.ValueKit
public import Idealize.ShloMosaic.Lib.Pointwise
public import proofs.«01_k».proof.Proof.Gen.KernelIdeal.Skeleton
public import proofs.«01_k».proof.Proof.Gen.KernelIdeal.Loops
public import Idealize.ShloMosaic.Lib.Tactic

@[expose] public section

set_option maxRecDepth 16384
set_option maxHeartbeats 2000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

/-- The tile with the token before it and the two after it, eight rows (one per sequence) a token. -/
def xpad (i : grid0.Coords) (x1 : Vec F S1024x1024 .f32) (x2 x3 x4 : Vec F S8x1024 .f32) : Vec F S1048x1024 .f32 := fun y =>
  if h0 : (y 0 : ℕ) < 8 then k0_pay3 i x2 (ix2 ⟨y 0, h0⟩ (y 1))
  else if h1 : (y 0 : ℕ) < 1032 then k0_pay4 x1 (ix2 ⟨y 0 - 8, by omega⟩ (y 1))
  else if h2 : (y 0 : ℕ) < 1040 then k0_pay5 i x3 (ix2 ⟨y 0 - 1032, by omega⟩ (y 1))
  else k0_pay7 (k0_pay6 i x4) (ix2 ⟨y 0 - 1040, by have := (y 0).isLt; simp at this; omega⟩ (y 1))

/-- The padded tile from token `o` on. -/
def tap (X : Vec F S1048x1024 .f32) (o : Fin 4) : Vec F S1024x1024 .f32 := fun y => X (ix2 ⟨8 * o + y 0, by have := (y 0).isLt; simp at this; omega⟩ (y 1))

/-- One row of the convolution's weights. -/
def wrow (x : Vec F S4x1024 .f32) (o : Fin 4) : Vec F S1x1024 .f32 := fun y => x (ix2 o (y 1))

/-- The convolved tile. -/
def conv (i : grid0.Coords) (x1 : Vec F S1024x1024 .f32) (x2 x3 x4 : Vec F S8x1024 .f32) (x5 : Vec F S4x1024 .f32) (x6 : Vec F S1x1024 .f32) : Vec F S1024x1024 .f32 :=
  k0_pay8 x6 (tap (xpad i x1 x2 x3 x4) 0) (wrow x5 0) (tap (xpad i x1 x2 x3 x4) 1) (wrow x5 1) (tap (xpad i x1 x2 x3 x4) 2) (wrow x5 2) (tap (xpad i x1 x2 x3 x4) 3) (wrow x5 3)

/-- A head's columns of the convolved tile. -/
def hu (u : Vec F S1024x1024 .f32) (k : Fin 8) : Vec F S1024x128 .f32 := fun y => u (ix2 (y 0) ⟨128 * k + y 1, by have := (y 1).isLt; simp at this; omega⟩)
/-- A head's two gate matrices. -/
def hw (w : Vec F S8x128x256 .bf16) (k : Fin 8) : Vec F S1x128x256 .bf16 := fun y => w (ix3 k (y 1) (y 2))
/-- A head's columns of a row vector. -/
def hr (x : Vec F S1x1024 .f32) (k : Fin 8) : Vec F S1x128 .f32 := fun y => x (ix2 (y 0) ⟨128 * k + y 1, by have := (y 1).isLt; simp at this; omega⟩)

/-- A head's decays. -/
def headA (u : Vec F S1024x1024 .f32) (w : Vec F S8x128x256 .bf16) (ba la : Vec F S1x1024 .f32) (k : Fin 8) : Vec F S1024x128 .f32 :=
  k0_pay70 (k0_pay66 (hu u k) (hw w k)) (hr la k) (hr ba k)
/-- A head's inputs to the recurrence. -/
def headB (u : Vec F S1024x1024 .f32) (w : Vec F S8x128x256 .bf16) (bx ba la : Vec F S1x1024 .f32) (k : Fin 8) : Vec F S1024x128 .f32 :=
  k0_pay71 (k0_pay65 (hu u k)) (k0_pay66 (hu u k) (hw w k)) (k0_pay67 (hu u k) (hw w k) (hr bx k)) (hr la k) (hr ba k)

/-- The tile whose columns `128 k …` are head `k`'s. -/
def heads (H : Fin 8 → Vec F S1024x128 .f32) : Vec F S1024x1024 .f32 := fun y =>
  H ⟨y 1 / 128, by have := (y 1).isLt; simp at this; omega⟩ (ix2 (y 0) ⟨y 1 % 128, Nat.mod_lt _ (by decide)⟩)

theorem heads_at (H : Fin 8 → Vec F S1024x128 .f32) (k : Fin 8) (x : S1024x128.Idx) (y : S1024x1024.Idx) (h0 : (y 0 : ℕ) = x 0) (h1 : (y 1 : ℕ) = 128 * k + x 1) :
    H k x = heads H y := by
  have hx : (x 1 : ℕ) < 128 := (x 1).isLt
  unfold heads
  have e1 : (⟨y 1 / 128, by have := (y 1).isLt; simp at this; omega⟩ : Fin 8) = k := Fin.ext (by show (y 1 : ℕ) / 128 = k; omega)
  rw [e1]
  congr 1
  blk_ext

/-- The four stores of the padded tile. -/
abbrev xpadL (i : grid0.Coords) (x1 : Vec F S1024x1024 .f32) (x2 x3 x4 : Vec F S8x1024 .f32) : List (View.Piece (Elt F) S1048x1024 .f32) :=
    [⟨Rect.unit (s := S1048x1024) ![1040, 0] S8x1024.size inb_S1048x1024_S8x1024_1040_0, k0_pay7 (k0_pay6 i x4)⟩,
      ⟨Rect.unit (s := S1048x1024) ![1032, 0] S8x1024.size inb_S1048x1024_S8x1024_1032_0, k0_pay5 i x3⟩,
      ⟨Rect.unit (s := S1048x1024) ![8, 0] S1024x1024.size inb_S1048x1024_S1024x1024_8_0, k0_pay4 x1⟩,
      ⟨Rect.unit (s := S1048x1024) ![0, 0] S8x1024.size inb_S1048x1024_S8x1024_0_0, k0_pay3 i x2⟩]

theorem xpad_0 (i : grid0.Coords) (x1 : Vec F S1024x1024 .f32) (x2 x3 x4 : Vec F S8x1024 .f32) (x : S8x1024.Idx) (y : S1048x1024.Idx)
    (h0 : (y 0 : ℕ) = 1040 + x 0) (h1 : (y 1 : ℕ) = 0 + x 1) : k0_pay7 (k0_pay6 i x4) x = xpad i x1 x2 x3 x4 y := by
  have hx : (x 0 : ℕ) < 8 := (x 0).isLt
  unfold xpad
  rw [dif_neg (by omega), dif_neg (by omega), dif_neg (by omega)]
  congr 1
  blk_ext

theorem xpad_1 (i : grid0.Coords) (x1 : Vec F S1024x1024 .f32) (x2 x3 x4 : Vec F S8x1024 .f32) (x : S8x1024.Idx) (y : S1048x1024.Idx)
    (h0 : (y 0 : ℕ) = 1032 + x 0) (h1 : (y 1 : ℕ) = 0 + x 1) : k0_pay5 i x3 x = xpad i x1 x2 x3 x4 y := by
  have hx : (x 0 : ℕ) < 8 := (x 0).isLt
  unfold xpad
  rw [dif_neg (by omega), dif_neg (by omega), dif_pos (by omega)]
  congr 1
  blk_ext

theorem xpad_2 (i : grid0.Coords) (x1 : Vec F S1024x1024 .f32) (x2 x3 x4 : Vec F S8x1024 .f32) (x : S1024x1024.Idx) (y : S1048x1024.Idx)
    (h0 : (y 0 : ℕ) = 8 + x 0) (h1 : (y 1 : ℕ) = 0 + x 1) : k0_pay4 x1 x = xpad i x1 x2 x3 x4 y := by
  have hx : (x 0 : ℕ) < 1024 := (x 0).isLt
  unfold xpad
  rw [dif_neg (by omega), dif_pos (by omega)]
  congr 1
  blk_ext

theorem xpad_3 (i : grid0.Coords) (x1 : Vec F S1024x1024 .f32) (x2 x3 x4 : Vec F S8x1024 .f32) (x : S8x1024.Idx) (y : S1048x1024.Idx)
    (h0 : (y 0 : ℕ) = 0 + x 0) (h1 : (y 1 : ℕ) = 0 + x 1) : k0_pay3 i x2 x = xpad i x1 x2 x3 x4 y := by
  have hx : (x 0 : ℕ) < 8 := (x 0).isLt
  unfold xpad
  rw [dif_pos (by omega)]
  congr 1
  blk_ext

theorem xpad_canon (i : grid0.Coords) (x1 : Vec F S1024x1024 .f32) (x2 x3 x4 : Vec F S8x1024 .f32) :
    View.canon (xpadL i x1 x2 x3 x4) = xpad i x1 x2 x3 x4 := by
  funext y
  refine View.canon_apply_of_pieces (xpad i x1 x2 x3 x4) _ ?_ y ?_
  · intro p hp x
    simp only [xpadL, List.mem_cons, List.not_mem_nil, _root_.or_false] at hp
    rcases hp with rfl | rfl | rfl | rfl
    · exact xpad_0 i x1 x2 x3 x4 x _ (ValueKit.rect_emb_unit_val _ _ inb_S1048x1024_S8x1024_1040_0 x 0) (ValueKit.rect_emb_unit_val _ _ inb_S1048x1024_S8x1024_1040_0 x 1)
    · exact xpad_1 i x1 x2 x3 x4 x _ (ValueKit.rect_emb_unit_val _ _ inb_S1048x1024_S8x1024_1032_0 x 0) (ValueKit.rect_emb_unit_val _ _ inb_S1048x1024_S8x1024_1032_0 x 1)
    · exact xpad_2 i x1 x2 x3 x4 x _ (ValueKit.rect_emb_unit_val _ _ inb_S1048x1024_S1024x1024_8_0 x 0) (ValueKit.rect_emb_unit_val _ _ inb_S1048x1024_S1024x1024_8_0 x 1)
    · exact xpad_3 i x1 x2 x3 x4 x _ (ValueKit.rect_emb_unit_val _ _ inb_S1048x1024_S8x1024_0_0 x 0) (ValueKit.rect_emb_unit_val _ _ inb_S1048x1024_S8x1024_0_0 x 1)
  · have h0 : (y 0 : ℕ) < 1048 := (y 0).isLt
    have h1 : (y 1 : ℕ) < 1024 := (y 1).isLt
    simp only [xpadL, List.mem_cons, List.not_mem_nil, _root_.or_false, exists_eq_or_imp, exists_eq_left, Rect.mem_set_unit]
    have key : (1040 ≤ (y 0 : ℕ) ∨ (1032 ≤ (y 0 : ℕ) ∧ (y 0 : ℕ) < 1040)) ∨ ((8 ≤ (y 0 : ℕ) ∧ (y 0 : ℕ) < 1032) ∨ (y 0 : ℕ) < 8) := by omega
    rcases key with (h | h) | (h | h)
    · exact .inl fun | 0 => ⟨h, h0⟩ | 1 => ⟨Nat.zero_le _, h1⟩
    · exact .inr (.inl fun | 0 => ⟨h.1, h.2⟩ | 1 => ⟨Nat.zero_le _, h1⟩)
    · exact .inr (.inr (.inl fun | 0 => ⟨h.1, h.2⟩ | 1 => ⟨Nat.zero_le _, h1⟩))
    · exact .inr (.inr (.inr fun | 0 => ⟨Nat.zero_le _, h⟩ | 1 => ⟨Nat.zero_le _, h1⟩))

/-- A load of 1024 rows of the padded tile. -/
theorem tap_read (v : View sig .tc .vmem S1048x1024 .f32) (i : grid0.Coords) (x1 : Vec F S1024x1024 .f32) (x2 x3 x4 : Vec F S8x1024 .f32) (o : Fin 4) (n : ℕ) (hn : n = 8 * o)
    (inb : ∀ a, ![n, 0] a + S1024x1024.size a ≤ S1048x1024.size a) :
    v.readCov (xpadL i x1 x2 x3 x4) (Rect.unit (s := S1048x1024) ![n, 0] S1024x1024.size inb).toLoadRect = tap (xpad i x1 x2 x3 x4) o := by
  subst hn
  rw [View.readCov_eq_canon', xpad_canon]
  funext y
  unfold tap
  blk_ext [Rect.idx_unit_val]

theorem wrow_read (M : Memref sig .tc .vmem S4x1024 .f32) (h : M.IsWhole) (x : Vec F S4x1024 .f32) (o : Fin 4) (n : ℕ) (hn : n = o)
    (inb : ∀ a, ![n, 0] a + S1x1024.size a ≤ S4x1024.size a) :
    View.readAt (Elt F) M.view (Rect.unit (s := S4x1024) ![n, 0] S1x1024.size inb).toLoadRect (h.unread x) = wrow x o := by
  subst hn
  funext y
  rw [h.readAt_unread]
  unfold wrow
  blk_ext [Rect.idx_unit_val]

theorem row_read (M : Memref sig .tc .vmem S1x1024 .f32) (h : M.IsWhole) (x : Vec F S1x1024 .f32)
    (inb : ∀ a, ![0, 0] a + S1x1024.size a ≤ S1x1024.size a) :
    View.readAt (Elt F) M.view (Rect.unit (s := S1x1024) ![0, 0] S1x1024.size inb).toLoadRect (h.unread x) = x := by
  funext y
  rw [h.readAt_unread]
  blk_ext [Rect.idx_unit_val]

theorem hu_read (v : View sig .tc .vmem S1024x1024 .f32) (u : Vec F S1024x1024 .f32) (k : Fin 8) (n : ℕ) (hn : n = 128 * k)
    (inb : ∀ a, ![0, n] a + S1024x128.size a ≤ S1024x1024.size a) (inb0) :
    v.readCov [⟨Rect.unit (s := S1024x1024) ![0, 0] S1024x1024.size inb0, u⟩] (Rect.unit (s := S1024x1024) ![0, n] S1024x128.size inb).toLoadRect = hu u k := by
  subst hn
  rw [View.readCov_eq_canon', View.canon_unit_zero (by funext a; fin_cases a <;> rfl)]
  funext y
  unfold hu
  blk_ext [Rect.idx_unit_val]

theorem hw_read (M : Memref sig .tc .vmem S8x128x256 .bf16) (h : M.IsWhole) (x : Vec F S8x128x256 .bf16) (k : Fin 8) (n : ℕ) (hn : n = k)
    (inb : ∀ a, ![n, 0, 0] a + S1x128x256.size a ≤ S8x128x256.size a) :
    View.readAt (Elt F) M.view (Rect.unit (s := S8x128x256) ![n, 0, 0] S1x128x256.size inb).toLoadRect (h.unread x) = hw x k := by
  subst hn
  funext y
  rw [h.readAt_unread]
  unfold hw
  blk_ext [Rect.idx_unit_val]

theorem hr_read (M : Memref sig .tc .vmem S1x1024 .f32) (h : M.IsWhole) (x : Vec F S1x1024 .f32) (k : Fin 8) (n : ℕ) (hn : n = 128 * k)
    (inb : ∀ a, ![0, n] a + S1x128.size a ≤ S1x1024.size a) :
    View.readAt (Elt F) M.view (Rect.unit (s := S1x1024) ![0, n] S1x128.size inb).toLoadRect (h.unread x) = hr x k := by
  subst hn
  funext y
  rw [h.readAt_unread]
  unfold hr
  blk_ext [Rect.idx_unit_val]

/-- The eight stores of a tile, a head's columns each. -/
abbrev headsL (H : Fin 8 → Vec F S1024x128 .f32) : List (View.Piece (Elt F) S1024x1024 .f32) :=
  [⟨Rect.unit (s := S1024x1024) ![0, 896] S1024x128.size inb_S1024x1024_S1024x128_0_896, H 7⟩,
   ⟨Rect.unit (s := S1024x1024) ![0, 768] S1024x128.size inb_S1024x1024_S1024x128_0_768, H 6⟩,
   ⟨Rect.unit (s := S1024x1024) ![0, 640] S1024x128.size inb_S1024x1024_S1024x128_0_640, H 5⟩,
   ⟨Rect.unit (s := S1024x1024) ![0, 512] S1024x128.size inb_S1024x1024_S1024x128_0_512, H 4⟩,
   ⟨Rect.unit (s := S1024x1024) ![0, 384] S1024x128.size inb_S1024x1024_S1024x128_0_384, H 3⟩,
   ⟨Rect.unit (s := S1024x1024) ![0, 256] S1024x128.size inb_S1024x1024_S1024x128_0_256, H 2⟩,
   ⟨Rect.unit (s := S1024x1024) ![0, 128] S1024x128.size inb_S1024x1024_S1024x128_0_128, H 1⟩,
   ⟨Rect.unit (s := S1024x1024) ![0, 0] S1024x128.size inb_S1024x1024_S1024x128_0_0, H 0⟩]

theorem heads_canon (H : Fin 8 → Vec F S1024x128 .f32) : View.canon (headsL H) = heads H := by
  funext y
  refine View.canon_apply_of_pieces (heads H) _ ?_ y (View.cover_of_tiled _ ![1024, 128] (by rfl) y)
  intro p hp x
  simp only [headsL, List.mem_cons, List.not_mem_nil, _root_.or_false] at hp
  rcases hp with rfl | rfl | rfl | rfl | rfl | rfl | rfl | rfl
  · exact heads_at H 7 x _ ((ValueKit.rect_emb_unit_val _ _ inb_S1024x1024_S1024x128_0_896 x 0).trans (Nat.zero_add _)) (ValueKit.rect_emb_unit_val _ _ inb_S1024x1024_S1024x128_0_896 x 1)
  · exact heads_at H 6 x _ ((ValueKit.rect_emb_unit_val _ _ inb_S1024x1024_S1024x128_0_768 x 0).trans (Nat.zero_add _)) (ValueKit.rect_emb_unit_val _ _ inb_S1024x1024_S1024x128_0_768 x 1)
  · exact heads_at H 5 x _ ((ValueKit.rect_emb_unit_val _ _ inb_S1024x1024_S1024x128_0_640 x 0).trans (Nat.zero_add _)) (ValueKit.rect_emb_unit_val _ _ inb_S1024x1024_S1024x128_0_640 x 1)
  · exact heads_at H 4 x _ ((ValueKit.rect_emb_unit_val _ _ inb_S1024x1024_S1024x128_0_512 x 0).trans (Nat.zero_add _)) (ValueKit.rect_emb_unit_val _ _ inb_S1024x1024_S1024x128_0_512 x 1)
  · exact heads_at H 3 x _ ((ValueKit.rect_emb_unit_val _ _ inb_S1024x1024_S1024x128_0_384 x 0).trans (Nat.zero_add _)) (ValueKit.rect_emb_unit_val _ _ inb_S1024x1024_S1024x128_0_384 x 1)
  · exact heads_at H 2 x _ ((ValueKit.rect_emb_unit_val _ _ inb_S1024x1024_S1024x128_0_256 x 0).trans (Nat.zero_add _)) (ValueKit.rect_emb_unit_val _ _ inb_S1024x1024_S1024x128_0_256 x 1)
  · exact heads_at H 1 x _ ((ValueKit.rect_emb_unit_val _ _ inb_S1024x1024_S1024x128_0_128 x 0).trans (Nat.zero_add _)) (ValueKit.rect_emb_unit_val _ _ inb_S1024x1024_S1024x128_0_128 x 1)
  · exact heads_at H 0 x _ ((ValueKit.rect_emb_unit_val _ _ inb_S1024x1024_S1024x128_0_0 x 0).trans (Nat.zero_add _)) (ValueKit.rect_emb_unit_val _ _ inb_S1024x1024_S1024x128_0_0 x 1)

/-- The rows of token `k` of a tile. -/
def rowsOf (A : Vec F S1024x1024 .f32) (k : ℕ) : Vec F S8x1024 .f32 := fun x => A (ix2 ⟨(8 * k + x 0) % 1024, Nat.mod_lt _ (by decide)⟩ (x 1))

/-- The state after `k` of a tile's tokens. -/
def hAt (A B : Vec F S1024x1024 .f32) (h : Vec F S8x1024 .f32) : ℕ → Vec F S8x1024 .f32
  | 0 => h
  | k + 1 => k0_pay72 (hAt A B h k) (rowsOf A k) (rowsOf B k)

/-- The states of a tile. -/
def hAll (A B : Vec F S1024x1024 .f32) (h : Vec F S8x1024 .f32) : Vec F S1024x1024 .f32 := fun y =>
  hAt A B h (y 0 / 8 + 1) (ix2 ⟨y 0 % 8, Nat.mod_lt _ (by decide)⟩ (y 1))

/-- The inputs' buffer after `k` tokens: the states of those, and the inputs of the others. -/
def bAt (A B : Vec F S1024x1024 .f32) (h : Vec F S8x1024 .f32) (k : ℕ) : Vec F S1024x1024 .f32 := fun y =>
  if (y 0 : ℕ) < 8 * k then hAll A B h y else B y

theorem trips_eq : Scf.trips (0#32) (Scalar.addi 0#32 128#32) 1#32 = 128 := by decide +kernel

theorem tripR_eq (𝒱 : Variants) (c : Dev nD) (bd : Option 𝒱.V) (i : grid0.Coords) (M1 : Memref sig .tc .vmem S1024x1024 .f32) (h1 : M1.IsWhole) (M2 : Memref sig .tc .vmem S8x1024 .f32) (h2 : M2.IsWhole) (M3 : Memref sig .tc .vmem S8x1024 .f32) (h3 : M3.IsWhole) (M4 : Memref sig .tc .vmem S8x1024 .f32) (h4 : M4.IsWhole) (M5 : Memref sig .tc .vmem S4x1024 .f32) (h5 : M5.IsWhole) (M6 : Memref sig .tc .vmem S1x1024 .f32) (h6 : M6.IsWhole) (M7 : Memref sig .tc .vmem S8x128x256 .bf16) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S1024x1024 .f32) (h11 : M11.IsWhole) (M12 : Memref sig .tc .vmem S1024x1024 .f32) (h12 : M12.IsWhole) (M13 : Memref sig .tc .vmem S8x1024 .f32) (h13 : M13.IsWhole) (M14 : Memref sig .tc .vmem S1048x1024 .f32) (h14 : M14.IsWhole) (M15 : Memref sig .tc .vmem S1024x1024 .f32) (h15 : M15.IsWhole) (M16 : Memref sig .tc .vmem S1024x1024 .f32) (h16 : M16.IsWhole)
    (v375 : FVec F S1024x128 .f32) (v379 : FVec F S1024x256 .f32) (v385 : FVec F S1024x128 .f32) (X) (k) (acc) (f) :
    tripR_k0_t1 (F := F) 𝒱 c bd i M1 h1 M2 h2 M3 h3 M4 h4 M5 h5 M6 h6 M7 h7 M8 h8 M9 h9 M10 h10 M11 h11 M12 h12 M13 h13 M14 h14 M15 h15 M16 h16 v375 v379 v385 X k acc f
      = k0_pay72 acc (View.readAt (Elt F) M15.view (Rect.unit (s := S1024x1024) (k0_off1 k) S8x1024.size (k0_off1_inb k)).toLoadRect X)
          (View.readAt (Elt F) M16.view (Rect.unit (s := S1024x1024) (k0_off1 k) S8x1024.size (k0_off1_inb k)).toLoadRect f) := by
  unfold tripR_k0_t1 trip_k0_t1; rfl

theorem tripL_eq (𝒱 : Variants) (c : Dev nD) (bd : Option 𝒱.V) (i : grid0.Coords) (M1 : Memref sig .tc .vmem S1024x1024 .f32) (h1 : M1.IsWhole) (M2 : Memref sig .tc .vmem S8x1024 .f32) (h2 : M2.IsWhole) (M3 : Memref sig .tc .vmem S8x1024 .f32) (h3 : M3.IsWhole) (M4 : Memref sig .tc .vmem S8x1024 .f32) (h4 : M4.IsWhole) (M5 : Memref sig .tc .vmem S4x1024 .f32) (h5 : M5.IsWhole) (M6 : Memref sig .tc .vmem S1x1024 .f32) (h6 : M6.IsWhole) (M7 : Memref sig .tc .vmem S8x128x256 .bf16) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S1024x1024 .f32) (h11 : M11.IsWhole) (M12 : Memref sig .tc .vmem S1024x1024 .f32) (h12 : M12.IsWhole) (M13 : Memref sig .tc .vmem S8x1024 .f32) (h13 : M13.IsWhole) (M14 : Memref sig .tc .vmem S1048x1024 .f32) (h14 : M14.IsWhole) (M15 : Memref sig .tc .vmem S1024x1024 .f32) (h15 : M15.IsWhole) (M16 : Memref sig .tc .vmem S1024x1024 .f32) (h16 : M16.IsWhole)
    (v375 : FVec F S1024x128 .f32) (v379 : FVec F S1024x256 .f32) (v385 : FVec F S1024x128 .f32) (X) (k) (acc) (f) :
    tripL_k0_t1 (F := F) 𝒱 c bd i M1 h1 M2 h2 M3 h3 M4 h4 M5 h5 M6 h6 M7 h7 M8 h8 M9 h9 M10 h10 M11 h11 M12 h12 M13 h13 M14 h14 M15 h15 M16 h16 v375 v379 v385 X k acc f
      = [⟨Rect.unit (s := S1024x1024) (k0_off1 k) S8x1024.size (k0_off1_inb k), k0_pay73 acc (View.readAt (Elt F) M15.view (Rect.unit (s := S1024x1024) (k0_off1 k) S8x1024.size (k0_off1_inb k)).toLoadRect X)
          (View.readAt (Elt F) M16.view (Rect.unit (s := S1024x1024) (k0_off1 k) S8x1024.size (k0_off1_inb k)).toLoadRect f)⟩] := by
  unfold tripL_k0_t1 trip_k0_t1; rfl

theorem trip_lt (k : Fin k0_t1_loop.trips) : k.val < 128 := Nat.lt_of_lt_of_le k.isLt k0_t1_abs.2.1

theorem row_load (v : View sig .tc .vmem S1024x1024 .f32) (f) (A : Vec F S1024x1024 .f32) (hA : v.read (Elt F) f = A) (k : Fin k0_t1_loop.trips) :
    View.readAt (Elt F) v (Rect.unit (s := S1024x1024) (k0_off1 k) S8x1024.size (k0_off1_inb k)).toLoadRect f = rowsOf A k.val := by
  have hk := trip_lt k
  subst hA
  funext x
  rw [View.readAt_apply]
  unfold rowsOf
  have hx : (x 0 : ℕ) < 8 := (x 0).isLt
  have e := k0_off1_eq k
  blk_ext [Rect.idx_unit_val, e]

theorem bAt_row (A B : Vec F S1024x1024 .f32) (h : Vec F S8x1024 .f32) (k : ℕ) (hk : k < 128) : rowsOf (bAt A B h k) k = rowsOf B k := by
  funext x
  have hx : (x 0 : ℕ) < 8 := (x 0).isLt
  unfold rowsOf bAt
  exact if_neg (by show ¬ (8 * k + (x 0 : ℕ)) % 1024 < 8 * k; omega)

theorem bAt_succ (A B : Vec F S1024x1024 .f32) (h : Vec F S8x1024 .f32) (v : View sig .tc .vmem S1024x1024 .f32) (f) (k : ℕ) (hk : k < 128)
    (hf : v.read (Elt F) f = bAt A B h k) (w : Vec F S8x1024 .f32) (hw : w = hAt A B h (k + 1)) (off : Fin 2 → ℕ) (e : off = ![8 * k, 0])
    (inb : ∀ a, off a + S8x1024.size a ≤ S1024x1024.size a) :
    v.read (Elt F) (v.writes (Elt F) f [⟨Rect.unit (s := S1024x1024) off S8x1024.size inb, w⟩]) = bAt A B h (k + 1) := by
  subst e
  funext y
  have h1 : (y 1 : ℕ) < 1024 := (y 1).isLt
  by_cases hc : 8 * k ≤ (y 0 : ℕ) ∧ (y 0 : ℕ) < 8 * k + 8
  · have hy : y = (Rect.unit (s := S1024x1024) ![8 * k, 0] S8x1024.size inb).emb (ix2 ⟨y 0 - 8 * k, by omega⟩ (y 1) : S8x1024.Idx) := by
      funext a
      refine Fin.ext ?_
      rw [ValueKit.rect_emb_unit_val]
      match a with
      | 0 => exact (show (y 0 : ℕ) = 8 * k + (y 0 - 8 * k) by omega)
      | 1 => exact (Nat.zero_add _).symm
    refine (congrArg _ hy).trans ?_
    rw [View.read_writes_cons_emb]
    unfold bAt
    rw [if_pos (by omega)]
    unfold hAll
    rw [show (y 0 : ℕ) / 8 = k by omega, hw]
    congr 1
    blk_ext
  · have hn : y ∉ (Rect.unit (s := S1024x1024) ![8 * k, 0] S8x1024.size inb).set := fun hm => hc ((Rect.mem_set_unit.mp hm) 0)
    rw [View.read_writes_apply_of_forall_not_mem v f y _ (by simpa using hn), hf]
    unfold bAt
    by_cases hc' : (y 0 : ℕ) < 8 * k
    · rw [if_pos hc', if_pos (by omega)]
    · rw [if_neg hc', if_neg (by omega)]

/-- The loop: after `k` trips the carried value is the state, and the buffer holds the states written so far. -/
theorem loop_st (𝒱 : Variants) (c : Dev nD) (bd : Option 𝒱.V) (i : grid0.Coords) (M1 : Memref sig .tc .vmem S1024x1024 .f32) (h1 : M1.IsWhole) (M2 : Memref sig .tc .vmem S8x1024 .f32) (h2 : M2.IsWhole) (M3 : Memref sig .tc .vmem S8x1024 .f32) (h3 : M3.IsWhole) (M4 : Memref sig .tc .vmem S8x1024 .f32) (h4 : M4.IsWhole) (M5 : Memref sig .tc .vmem S4x1024 .f32) (h5 : M5.IsWhole) (M6 : Memref sig .tc .vmem S1x1024 .f32) (h6 : M6.IsWhole) (M7 : Memref sig .tc .vmem S8x128x256 .bf16) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S1024x1024 .f32) (h11 : M11.IsWhole) (M12 : Memref sig .tc .vmem S1024x1024 .f32) (h12 : M12.IsWhole) (M13 : Memref sig .tc .vmem S8x1024 .f32) (h13 : M13.IsWhole) (M14 : Memref sig .tc .vmem S1048x1024 .f32) (h14 : M14.IsWhole) (M15 : Memref sig .tc .vmem S1024x1024 .f32) (h15 : M15.IsWhole) (M16 : Memref sig .tc .vmem S1024x1024 .f32) (h16 : M16.IsWhole)
    (v375 : FVec F S1024x128 .f32) (v379 : FVec F S1024x256 .f32) (v385 : FVec F S1024x128 .f32) (X : BufTy.Contents (Elt F) M15.view.ty) (G : BufTy.Contents (Elt F) M16.view.ty) (init : Vec F S8x1024 .f32)
    (A B : Vec F S1024x1024 .f32) (hX : M15.view.read (Elt F) X = A) (hG : M16.view.read (Elt F) G = B) :
    ∀ k : ℕ, k ≤ 128 → (st_k0_t1 (F := F) 𝒱 c bd i M1 h1 M2 h2 M3 h3 M4 h4 M5 h5 M6 h6 M7 h7 M8 h8 M9 h9 M10 h10 M11 h11 M12 h12 M13 h13 M14 h14 M15 h15 M16 h16 v375 v379 v385 X G init k).1 = hAt A B init k
      ∧ M16.view.read (Elt F) (M16.view.writes (Elt F) G (st_k0_t1 (F := F) 𝒱 c bd i M1 h1 M2 h2 M3 h3 M4 h4 M5 h5 M6 h6 M7 h7 M8 h8 M9 h9 M10 h10 M11 h11 M12 h12 M13 h13 M14 h14 M15 h15 M16 h16 v375 v379 v385 X G init k).2) = bAt A B init k
  | 0, _ => by
    refine ⟨st_k0_t1_zero .., ?_⟩
    rw [show (st_k0_t1 (F := F) 𝒱 c bd i M1 h1 M2 h2 M3 h3 M4 h4 M5 h5 M6 h6 M7 h7 M8 h8 M9 h9 M10 h10 M11 h11 M12 h12 M13 h13 M14 h14 M15 h15 M16 h16 v375 v379 v385 X G init 0).2 = [] from rfl, View.writes_nil, hG]
    funext y
    exact (if_neg (by omega)).symm
  | k + 1, hk => by
    obtain ⟨i1, i2⟩ := loop_st 𝒱 c bd i M1 h1 M2 h2 M3 h3 M4 h4 M5 h5 M6 h6 M7 h7 M8 h8 M9 h9 M10 h10 M11 h11 M12 h12 M13 h13 M14 h14 M15 h15 M16 h16 v375 v379 v385 X G init A B hX hG k (by omega)
    have hlt : k < k0_t1_loop.trips := by
      have : k0_t1_loop.trips = 128 := trips_eq
      omega
    have hs := st_k0_t1_succ (F := F) 𝒱 c bd i M1 h1 M2 h2 M3 h3 M4 h4 M5 h5 M6 h6 M7 h7 M8 h8 M9 h9 M10 h10 M11 h11 M12 h12 M13 h13 M14 h14 M15 h15 M16 h16 v375 v379 v385 X G init ⟨k, hlt⟩
    have hA := row_load M15.view X A hX ⟨k, hlt⟩
    have hB := row_load M16.view _ _ i2 ⟨k, hlt⟩
    rw [bAt_row A B init k (by omega)] at hB
    have hR := (tripR_eq 𝒱 c bd i M1 h1 M2 h2 M3 h3 M4 h4 M5 h5 M6 h6 M7 h7 M8 h8 M9 h9 M10 h10 M11 h11 M12 h12 M13 h13 M14 h14 M15 h15 M16 h16 v375 v379 v385 X ⟨k, hlt⟩ (st_k0_t1 (F := F) 𝒱 c bd i M1 h1 M2 h2 M3 h3 M4 h4 M5 h5 M6 h6 M7 h7 M8 h8 M9 h9 M10 h10 M11 h11 M12 h12 M13 h13 M14 h14 M15 h15 M16 h16 v375 v379 v385 X G init k).1 (M16.view.writes (Elt F) G (st_k0_t1 (F := F) 𝒱 c bd i M1 h1 M2 h2 M3 h3 M4 h4 M5 h5 M6 h6 M7 h7 M8 h8 M9 h9 M10 h10 M11 h11 M12 h12 M13 h13 M14 h14 M15 h15 M16 h16 v375 v379 v385 X G init k).2))
    have hL := (tripL_eq 𝒱 c bd i M1 h1 M2 h2 M3 h3 M4 h4 M5 h5 M6 h6 M7 h7 M8 h8 M9 h9 M10 h10 M11 h11 M12 h12 M13 h13 M14 h14 M15 h15 M16 h16 v375 v379 v385 X ⟨k, hlt⟩ (st_k0_t1 (F := F) 𝒱 c bd i M1 h1 M2 h2 M3 h3 M4 h4 M5 h5 M6 h6 M7 h7 M8 h8 M9 h9 M10 h10 M11 h11 M12 h12 M13 h13 M14 h14 M15 h15 M16 h16 v375 v379 v385 X G init k).1 (M16.view.writes (Elt F) G (st_k0_t1 (F := F) 𝒱 c bd i M1 h1 M2 h2 M3 h3 M4 h4 M5 h5 M6 h6 M7 h7 M8 h8 M9 h9 M10 h10 M11 h11 M12 h12 M13 h13 M14 h14 M15 h15 M16 h16 v375 v379 v385 X G init k).2))
    rw [hA, hB] at hR hL
    rw [hs]
    dsimp only
    refine ⟨hR.trans (by rw [i1]; rfl), ?_⟩
    rw [View.writes_append, hL]
    refine bAt_succ A B init M16.view _ k (by omega) i2 _ ?_ _ (k0_off1_eq ⟨k, hlt⟩) _
    rw [i1]
    funext x
    pointwise [k0_pay73]
    rfl

end Cert.KernelIdeal.Body

end
-- ==== Proof.Point.lean ====
/-
  What the run of the recurrence kernel's body leaves at a point: the convolved tile, the states, the state carried on.
-/
module

public import proofs.«01_k».proof.Proof.Contents
public import Idealize.ShloMosaic.Lib.Pipeline.ValueKit
public import Idealize.ShloMosaic.Lib.Pointwise
public import proofs.«01_k».proof.Proof.Gen.KernelIdeal.Skeleton
public import proofs.«01_k».proof.Proof.Gen.KernelIdeal.Loops
public import Idealize.ShloMosaic.Lib.Tactic

@[expose] public section

set_option maxRecDepth 16384
set_option maxHeartbeats 2000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

theorem state_read (M : Memref sig .tc .vmem S8x1024 .f32) (h : M.IsWhole) (x : Vec F S8x1024 .f32) :
    View.readAt (Elt F) M.view (Rect.unit (s := S8x1024) ![0, 0] S8x1024.size inb_S8x1024_S8x1024_0_0).toLoadRect (h.unread x) = x := by
  funext y
  rw [h.readAt_unread]
  blk_ext [Rect.idx_unit_val]

theorem run0_init (c : Dev nD) (M : Memref sig .tc .vmem S8x1024 .f32) : run0.sl.v419 (F := F) c M = k0_pay2 := by
  unfold run0.sl.v419
  unfold run0.sl.H13_1
  rw [View.readCov_eq_canon', View.canon_unit_zero (by funext a; fin_cases a <;> rfl)]
  funext y
  blk_ext [Rect.idx_unit_val]

theorem block_read (M : Memref sig .tc .vmem S1024x1024 .f32) (h : M.IsWhole) (x : Vec F S1024x1024 .f32) :
    View.readAt (Elt F) M.view (Rect.unit (s := S1024x1024) ![0, 0] S1024x1024.size inb_S1024x1024_S1024x1024_0_0).toLoadRect (h.unread x) = x := by
  funext y
  rw [h.readAt_unread]
  blk_ext [Rect.idx_unit_val]

theorem pay1_eq (x : Vec F S8x1024 .f32) : k0_pay1 x = x := by
  funext y
  pointwise [k0_pay1]

theorem whole_idx (y : S1024x1024.Idx) :
    (Rect.unit (s := S1024x1024) ![0, 0] S1024x1024.size inb_S1024x1024_S1024x1024_0_0).toLoadRect.idx y = y := by
  blk_ext [Rect.idx_unit_val]

theorem run0_u (c : Dev nD) (i : grid0.Coords) (M1 : Memref sig .tc .vmem S1024x1024 .f32) (h1 : M1.IsWhole) (M2 : Memref sig .tc .vmem S8x1024 .f32) (h2 : M2.IsWhole) (M3 : Memref sig .tc .vmem S8x1024 .f32) (h3 : M3.IsWhole) (M4 : Memref sig .tc .vmem S8x1024 .f32) (h4 : M4.IsWhole) (M5 : Memref sig .tc .vmem S4x1024 .f32) (h5 : M5.IsWhole) (M6 : Memref sig .tc .vmem S1x1024 .f32) (h6 : M6.IsWhole) (M7 : Memref sig .tc .vmem S8x128x256 .bf16) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S1024x1024 .f32) (h11 : M11.IsWhole) (M12 : Memref sig .tc .vmem S1024x1024 .f32) (h12 : M12.IsWhole) (M13 : Memref sig .tc .vmem S8x1024 .f32) (h13 : M13.IsWhole) (M14 : Memref sig .tc .vmem S1048x1024 .f32) (h14 : M14.IsWhole) (M15 : Memref sig .tc .vmem S1024x1024 .f32) (h15 : M15.IsWhole) (M16 : Memref sig .tc .vmem S1024x1024 .f32) (h16 : M16.IsWhole)
    (x1 : Vec F S1024x1024 .f32) (x2 : Vec F S8x1024 .f32) (x3 : Vec F S8x1024 .f32) (x4 : Vec F S8x1024 .f32) (x5 : Vec F S4x1024 .f32) (x6 : Vec F S1x1024 .f32) (x7 : Vec F S8x128x256 .bf16) (x8 : Vec F S1x1024 .f32) (x9 : Vec F S1x1024 .f32) (x10 : Vec F S1x1024 .f32) :
    run0.sl.H12_1 (F := F) c i M1 h1 M2 h2 M3 h3 M4 h4 M5 h5 M6 h6 M14 x1 x2 x3 x4 x5 x6 = [⟨Rect.unit (s := S1024x1024) ![0, 0] S1024x1024.size inb_S1024x1024_S1024x1024_0_0, conv i x1 x2 x3 x4 x5 x6⟩] := by
  have e : run0.sl.H12_1 (F := F) c i M1 h1 M2 h2 M3 h3 M4 h4 M5 h5 M6 h6 M14 x1 x2 x3 x4 x5 x6 = [⟨Rect.unit (s := S1024x1024) ![0, 0] S1024x1024.size inb_S1024x1024_S1024x1024_0_0,
      k0_pay8 (View.readAt (Elt F) M6.view (Rect.unit (s := S1x1024) ![0, 0] S1x1024.size inb_S1x1024_S1x1024_0_0).toLoadRect (h6.unread x6))
        (M14.view.readCov (xpadL i (View.readAt (Elt F) M1.view (Rect.unit (s := S1024x1024) ![0, 0] S1024x1024.size inb_S1024x1024_S1024x1024_0_0).toLoadRect (h1.unread x1)) (View.readAt (Elt F) M2.view (Rect.unit (s := S8x1024) ![0, 0] S8x1024.size inb_S8x1024_S8x1024_0_0).toLoadRect (h2.unread x2)) (View.readAt (Elt F) M3.view (Rect.unit (s := S8x1024) ![0, 0] S8x1024.size inb_S8x1024_S8x1024_0_0).toLoadRect (h3.unread x3)) (View.readAt (Elt F) M4.view (Rect.unit (s := S8x1024) ![0, 0] S8x1024.size inb_S8x1024_S8x1024_0_0).toLoadRect (h4.unread x4))) (Rect.unit (s := S1048x1024) ![0, 0] S1024x1024.size inb_S1048x1024_S1024x1024_0_0).toLoadRect)
        (View.readAt (Elt F) M5.view (Rect.unit (s := S4x1024) ![0, 0] S1x1024.size inb_S4x1024_S1x1024_0_0).toLoadRect (h5.unread x5))
        (M14.view.readCov (xpadL i (View.readAt (Elt F) M1.view (Rect.unit (s := S1024x1024) ![0, 0] S1024x1024.size inb_S1024x1024_S1024x1024_0_0).toLoadRect (h1.unread x1)) (View.readAt (Elt F) M2.view (Rect.unit (s := S8x1024) ![0, 0] S8x1024.size inb_S8x1024_S8x1024_0_0).toLoadRect (h2.unread x2)) (View.readAt (Elt F) M3.view (Rect.unit (s := S8x1024) ![0, 0] S8x1024.size inb_S8x1024_S8x1024_0_0).toLoadRect (h3.unread x3)) (View.readAt (Elt F) M4.view (Rect.unit (s := S8x1024) ![0, 0] S8x1024.size inb_S8x1024_S8x1024_0_0).toLoadRect (h4.unread x4))) (Rect.unit (s := S1048x1024) ![8, 0] S1024x1024.size inb_S1048x1024_S1024x1024_8_0).toLoadRect)
        (View.readAt (Elt F) M5.view (Rect.unit (s := S4x1024) ![1, 0] S1x1024.size inb_S4x1024_S1x1024_1_0).toLoadRect (h5.unread x5))
        (M14.view.readCov (xpadL i (View.readAt (Elt F) M1.view (Rect.unit (s := S1024x1024) ![0, 0] S1024x1024.size inb_S1024x1024_S1024x1024_0_0).toLoadRect (h1.unread x1)) (View.readAt (Elt F) M2.view (Rect.unit (s := S8x1024) ![0, 0] S8x1024.size inb_S8x1024_S8x1024_0_0).toLoadRect (h2.unread x2)) (View.readAt (Elt F) M3.view (Rect.unit (s := S8x1024) ![0, 0] S8x1024.size inb_S8x1024_S8x1024_0_0).toLoadRect (h3.unread x3)) (View.readAt (Elt F) M4.view (Rect.unit (s := S8x1024) ![0, 0] S8x1024.size inb_S8x1024_S8x1024_0_0).toLoadRect (h4.unread x4))) (Rect.unit (s := S1048x1024) ![16, 0] S1024x1024.size inb_S1048x1024_S1024x1024_16_0).toLoadRect)
        (View.readAt (Elt F) M5.view (Rect.unit (s := S4x1024) ![2, 0] S1x1024.size inb_S4x1024_S1x1024_2_0).toLoadRect (h5.unread x5))
        (M14.view.readCov (xpadL i (View.readAt (Elt F) M1.view (Rect.unit (s := S1024x1024) ![0, 0] S1024x1024.size inb_S1024x1024_S1024x1024_0_0).toLoadRect (h1.unread x1)) (View.readAt (Elt F) M2.view (Rect.unit (s := S8x1024) ![0, 0] S8x1024.size inb_S8x1024_S8x1024_0_0).toLoadRect (h2.unread x2)) (View.readAt (Elt F) M3.view (Rect.unit (s := S8x1024) ![0, 0] S8x1024.size inb_S8x1024_S8x1024_0_0).toLoadRect (h3.unread x3)) (View.readAt (Elt F) M4.view (Rect.unit (s := S8x1024) ![0, 0] S8x1024.size inb_S8x1024_S8x1024_0_0).toLoadRect (h4.unread x4))) (Rect.unit (s := S1048x1024) ![24, 0] S1024x1024.size inb_S1048x1024_S1024x1024_24_0).toLoadRect)
        (View.readAt (Elt F) M5.view (Rect.unit (s := S4x1024) ![3, 0] S1x1024.size inb_S4x1024_S1x1024_3_0).toLoadRect (h5.unread x5))⟩] := by
    unfold run0.sl.H12_1 run0.sl.v37 run0.sl.v43 run0.sl.v48 run0.sl.v53 run0.sl.H14_4 run0.sl.H14_3 run0.sl.r
    rfl
  rw [e, block_read M1 h1 x1, state_read M2 h2 x2, state_read M3 h3 x3, state_read M4 h4 x4, row_read M6 h6 x6, tap_read M14.view i x1 x2 x3 x4 0 0 rfl, wrow_read M5 h5 x5 0 0 rfl, tap_read M14.view i x1 x2 x3 x4 1 8 rfl, wrow_read M5 h5 x5 1 1 rfl, tap_read M14.view i x1 x2 x3 x4 2 16 rfl, wrow_read M5 h5 x5 2 2 rfl, tap_read M14.view i x1 x2 x3 x4 3 24 rfl, wrow_read M5 h5 x5 3 3 rfl]
  rfl

theorem run0_a (c : Dev nD) (i : grid0.Coords) (M1 : Memref sig .tc .vmem S1024x1024 .f32) (h1 : M1.IsWhole) (M2 : Memref sig .tc .vmem S8x1024 .f32) (h2 : M2.IsWhole) (M3 : Memref sig .tc .vmem S8x1024 .f32) (h3 : M3.IsWhole) (M4 : Memref sig .tc .vmem S8x1024 .f32) (h4 : M4.IsWhole) (M5 : Memref sig .tc .vmem S4x1024 .f32) (h5 : M5.IsWhole) (M6 : Memref sig .tc .vmem S1x1024 .f32) (h6 : M6.IsWhole) (M7 : Memref sig .tc .vmem S8x128x256 .bf16) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S1024x1024 .f32) (h11 : M11.IsWhole) (M12 : Memref sig .tc .vmem S1024x1024 .f32) (h12 : M12.IsWhole) (M13 : Memref sig .tc .vmem S8x1024 .f32) (h13 : M13.IsWhole) (M14 : Memref sig .tc .vmem S1048x1024 .f32) (h14 : M14.IsWhole) (M15 : Memref sig .tc .vmem S1024x1024 .f32) (h15 : M15.IsWhole) (M16 : Memref sig .tc .vmem S1024x1024 .f32) (h16 : M16.IsWhole)
    (x1 : Vec F S1024x1024 .f32) (x2 : Vec F S8x1024 .f32) (x3 : Vec F S8x1024 .f32) (x4 : Vec F S8x1024 .f32) (x5 : Vec F S4x1024 .f32) (x6 : Vec F S1x1024 .f32) (x7 : Vec F S8x128x256 .bf16) (x8 : Vec F S1x1024 .f32) (x9 : Vec F S1x1024 .f32) (x10 : Vec F S1x1024 .f32) :
    run0.sl.H15_8 (F := F) c i M1 h1 M2 h2 M3 h3 M4 h4 M5 h5 M6 h6 M7 h7 M9 h9 M10 h10 M12 M14 x1 x2 x3 x4 x5 x6 x7 x9 x10 = headsL (headA (conv i x1 x2 x3 x4 x5 x6) x7 x9 x10) := by
  have e : run0.sl.H15_8 (F := F) c i M1 h1 M2 h2 M3 h3 M4 h4 M5 h5 M6 h6 M7 h7 M9 h9 M10 h10 M12 M14 x1 x2 x3 x4 x5 x6 x7 x9 x10 = headsL (fun k => match k with
    | 0 => k0_pay70 (k0_pay66 (M12.view.readCov (run0.sl.H12_1 (F := F) c i M1 h1 M2 h2 M3 h3 M4 h4 M5 h5 M6 h6 M14 x1 x2 x3 x4 x5 x6) (Rect.unit (s := S1024x1024) ![0, 0] S1024x128.size inb_S1024x1024_S1024x128_0_0).toLoadRect) (View.readAt (Elt F) M7.view (Rect.unit (s := S8x128x256) ![0, 0, 0] S1x128x256.size inb_S8x128x256_S1x128x256_0_0_0).toLoadRect (h7.unread x7))) (View.readAt (Elt F) M10.view (Rect.unit (s := S1x1024) ![0, 0] S1x128.size inb_S1x1024_S1x128_0_0).toLoadRect (h10.unread x10)) (View.readAt (Elt F) M9.view (Rect.unit (s := S1x1024) ![0, 0] S1x128.size inb_S1x1024_S1x128_0_0).toLoadRect (h9.unread x9))
    | 1 => k0_pay70 (k0_pay66 (M12.view.readCov (run0.sl.H12_1 (F := F) c i M1 h1 M2 h2 M3 h3 M4 h4 M5 h5 M6 h6 M14 x1 x2 x3 x4 x5 x6) (Rect.unit (s := S1024x1024) ![0, 128] S1024x128.size inb_S1024x1024_S1024x128_0_128).toLoadRect) (View.readAt (Elt F) M7.view (Rect.unit (s := S8x128x256) ![1, 0, 0] S1x128x256.size inb_S8x128x256_S1x128x256_1_0_0).toLoadRect (h7.unread x7))) (View.readAt (Elt F) M10.view (Rect.unit (s := S1x1024) ![0, 128] S1x128.size inb_S1x1024_S1x128_0_128).toLoadRect (h10.unread x10)) (View.readAt (Elt F) M9.view (Rect.unit (s := S1x1024) ![0, 128] S1x128.size inb_S1x1024_S1x128_0_128).toLoadRect (h9.unread x9))
    | 2 => k0_pay70 (k0_pay66 (M12.view.readCov (run0.sl.H12_1 (F := F) c i M1 h1 M2 h2 M3 h3 M4 h4 M5 h5 M6 h6 M14 x1 x2 x3 x4 x5 x6) (Rect.unit (s := S1024x1024) ![0, 256] S1024x128.size inb_S1024x1024_S1024x128_0_256).toLoadRect) (View.readAt (Elt F) M7.view (Rect.unit (s := S8x128x256) ![2, 0, 0] S1x128x256.size inb_S8x128x256_S1x128x256_2_0_0).toLoadRect (h7.unread x7))) (View.readAt (Elt F) M10.view (Rect.unit (s := S1x1024) ![0, 256] S1x128.size inb_S1x1024_S1x128_0_256).toLoadRect (h10.unread x10)) (View.readAt (Elt F) M9.view (Rect.unit (s := S1x1024) ![0, 256] S1x128.size inb_S1x1024_S1x128_0_256).toLoadRect (h9.unread x9))
    | 3 => k0_pay70 (k0_pay66 (M12.view.readCov (run0.sl.H12_1 (F := F) c i M1 h1 M2 h2 M3 h3 M4 h4 M5 h5 M6 h6 M14 x1 x2 x3 x4 x5 x6) (Rect.unit (s := S1024x1024) ![0, 384] S1024x128.size inb_S1024x1024_S1024x128_0_384).toLoadRect) (View.readAt (Elt F) M7.view (Rect.unit (s := S8x128x256) ![3, 0, 0] S1x128x256.size inb_S8x128x256_S1x128x256_3_0_0).toLoadRect (h7.unread x7))) (View.readAt (Elt F) M10.view (Rect.unit (s := S1x1024) ![0, 384] S1x128.size inb_S1x1024_S1x128_0_384).toLoadRect (h10.unread x10)) (View.readAt (Elt F) M9.view (Rect.unit (s := S1x1024) ![0, 384] S1x128.size inb_S1x1024_S1x128_0_384).toLoadRect (h9.unread x9))
    | 4 => k0_pay70 (k0_pay66 (M12.view.readCov (run0.sl.H12_1 (F := F) c i M1 h1 M2 h2 M3 h3 M4 h4 M5 h5 M6 h6 M14 x1 x2 x3 x4 x5 x6) (Rect.unit (s := S1024x1024) ![0, 512] S1024x128.size inb_S1024x1024_S1024x128_0_512).toLoadRect) (View.readAt (Elt F) M7.view (Rect.unit (s := S8x128x256) ![4, 0, 0] S1x128x256.size inb_S8x128x256_S1x128x256_4_0_0).toLoadRect (h7.unread x7))) (View.readAt (Elt F) M10.view (Rect.unit (s := S1x1024) ![0, 512] S1x128.size inb_S1x1024_S1x128_0_512).toLoadRect (h10.unread x10)) (View.readAt (Elt F) M9.view (Rect.unit (s := S1x1024) ![0, 512] S1x128.size inb_S1x1024_S1x128_0_512).toLoadRect (h9.unread x9))
    | 5 => k0_pay70 (k0_pay66 (M12.view.readCov (run0.sl.H12_1 (F := F) c i M1 h1 M2 h2 M3 h3 M4 h4 M5 h5 M6 h6 M14 x1 x2 x3 x4 x5 x6) (Rect.unit (s := S1024x1024) ![0, 640] S1024x128.size inb_S1024x1024_S1024x128_0_640).toLoadRect) (View.readAt (Elt F) M7.view (Rect.unit (s := S8x128x256) ![5, 0, 0] S1x128x256.size inb_S8x128x256_S1x128x256_5_0_0).toLoadRect (h7.unread x7))) (View.readAt (Elt F) M10.view (Rect.unit (s := S1x1024) ![0, 640] S1x128.size inb_S1x1024_S1x128_0_640).toLoadRect (h10.unread x10)) (View.readAt (Elt F) M9.view (Rect.unit (s := S1x1024) ![0, 640] S1x128.size inb_S1x1024_S1x128_0_640).toLoadRect (h9.unread x9))
    | 6 => k0_pay70 (k0_pay66 (M12.view.readCov (run0.sl.H12_1 (F := F) c i M1 h1 M2 h2 M3 h3 M4 h4 M5 h5 M6 h6 M14 x1 x2 x3 x4 x5 x6) (Rect.unit (s := S1024x1024) ![0, 768] S1024x128.size inb_S1024x1024_S1024x128_0_768).toLoadRect) (View.readAt (Elt F) M7.view (Rect.unit (s := S8x128x256) ![6, 0, 0] S1x128x256.size inb_S8x128x256_S1x128x256_6_0_0).toLoadRect (h7.unread x7))) (View.readAt (Elt F) M10.view (Rect.unit (s := S1x1024) ![0, 768] S1x128.size inb_S1x1024_S1x128_0_768).toLoadRect (h10.unread x10)) (View.readAt (Elt F) M9.view (Rect.unit (s := S1x1024) ![0, 768] S1x128.size inb_S1x1024_S1x128_0_768).toLoadRect (h9.unread x9))
    | 7 => k0_pay70 (k0_pay66 (M12.view.readCov (run0.sl.H12_1 (F := F) c i M1 h1 M2 h2 M3 h3 M4 h4 M5 h5 M6 h6 M14 x1 x2 x3 x4 x5 x6) (Rect.unit (s := S1024x1024) ![0, 896] S1024x128.size inb_S1024x1024_S1024x128_0_896).toLoadRect) (View.readAt (Elt F) M7.view (Rect.unit (s := S8x128x256) ![7, 0, 0] S1x128x256.size inb_S8x128x256_S1x128x256_7_0_0).toLoadRect (h7.unread x7))) (View.readAt (Elt F) M10.view (Rect.unit (s := S1x1024) ![0, 896] S1x128.size inb_S1x1024_S1x128_0_896).toLoadRect (h10.unread x10)) (View.readAt (Elt F) M9.view (Rect.unit (s := S1x1024) ![0, 896] S1x128.size inb_S1x1024_S1x128_0_896).toLoadRect (h9.unread x9))) := rfl
  rw [e, run0_u c i M1 h1 M2 h2 M3 h3 M4 h4 M5 h5 M6 h6 M7 h7 M8 h8 M9 h9 M10 h10 M11 h11 M12 h12 M13 h13 M14 h14 M15 h15 M16 h16 x1 x2 x3 x4 x5 x6 x7 x8 x9 x10]
  refine congrArg headsL (funext fun k => ?_)
  match k with
  | 0 => dsimp only; rw [hu_read M12.view _ 0 0 rfl, hw_read M7 h7 x7 0 0 rfl, hr_read M10 h10 x10 0 0 rfl, hr_read M9 h9 x9 0 0 rfl]; rfl
  | 1 => dsimp only; rw [hu_read M12.view _ 1 128 rfl, hw_read M7 h7 x7 1 1 rfl, hr_read M10 h10 x10 1 128 rfl, hr_read M9 h9 x9 1 128 rfl]; rfl
  | 2 => dsimp only; rw [hu_read M12.view _ 2 256 rfl, hw_read M7 h7 x7 2 2 rfl, hr_read M10 h10 x10 2 256 rfl, hr_read M9 h9 x9 2 256 rfl]; rfl
  | 3 => dsimp only; rw [hu_read M12.view _ 3 384 rfl, hw_read M7 h7 x7 3 3 rfl, hr_read M10 h10 x10 3 384 rfl, hr_read M9 h9 x9 3 384 rfl]; rfl
  | 4 => dsimp only; rw [hu_read M12.view _ 4 512 rfl, hw_read M7 h7 x7 4 4 rfl, hr_read M10 h10 x10 4 512 rfl, hr_read M9 h9 x9 4 512 rfl]; rfl
  | 5 => dsimp only; rw [hu_read M12.view _ 5 640 rfl, hw_read M7 h7 x7 5 5 rfl, hr_read M10 h10 x10 5 640 rfl, hr_read M9 h9 x9 5 640 rfl]; rfl
  | 6 => dsimp only; rw [hu_read M12.view _ 6 768 rfl, hw_read M7 h7 x7 6 6 rfl, hr_read M10 h10 x10 6 768 rfl, hr_read M9 h9 x9 6 768 rfl]; rfl
  | 7 => dsimp only; rw [hu_read M12.view _ 7 896 rfl, hw_read M7 h7 x7 7 7 rfl, hr_read M10 h10 x10 7 896 rfl, hr_read M9 h9 x9 7 896 rfl]; rfl

theorem run0_b (c : Dev nD) (i : grid0.Coords) (M1 : Memref sig .tc .vmem S1024x1024 .f32) (h1 : M1.IsWhole) (M2 : Memref sig .tc .vmem S8x1024 .f32) (h2 : M2.IsWhole) (M3 : Memref sig .tc .vmem S8x1024 .f32) (h3 : M3.IsWhole) (M4 : Memref sig .tc .vmem S8x1024 .f32) (h4 : M4.IsWhole) (M5 : Memref sig .tc .vmem S4x1024 .f32) (h5 : M5.IsWhole) (M6 : Memref sig .tc .vmem S1x1024 .f32) (h6 : M6.IsWhole) (M7 : Memref sig .tc .vmem S8x128x256 .bf16) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S1024x1024 .f32) (h11 : M11.IsWhole) (M12 : Memref sig .tc .vmem S1024x1024 .f32) (h12 : M12.IsWhole) (M13 : Memref sig .tc .vmem S8x1024 .f32) (h13 : M13.IsWhole) (M14 : Memref sig .tc .vmem S1048x1024 .f32) (h14 : M14.IsWhole) (M15 : Memref sig .tc .vmem S1024x1024 .f32) (h15 : M15.IsWhole) (M16 : Memref sig .tc .vmem S1024x1024 .f32) (h16 : M16.IsWhole)
    (x1 : Vec F S1024x1024 .f32) (x2 : Vec F S8x1024 .f32) (x3 : Vec F S8x1024 .f32) (x4 : Vec F S8x1024 .f32) (x5 : Vec F S4x1024 .f32) (x6 : Vec F S1x1024 .f32) (x7 : Vec F S8x128x256 .bf16) (x8 : Vec F S1x1024 .f32) (x9 : Vec F S1x1024 .f32) (x10 : Vec F S1x1024 .f32) :
    run0.sl.H16_8 (F := F) c i M1 h1 M2 h2 M3 h3 M4 h4 M5 h5 M6 h6 M7 h7 M8 h8 M9 h9 M10 h10 M12 M14 x1 x2 x3 x4 x5 x6 x7 x8 x9 x10 = headsL (headB (conv i x1 x2 x3 x4 x5 x6) x7 x8 x9 x10) := by
  have e : run0.sl.H16_8 (F := F) c i M1 h1 M2 h2 M3 h3 M4 h4 M5 h5 M6 h6 M7 h7 M8 h8 M9 h9 M10 h10 M12 M14 x1 x2 x3 x4 x5 x6 x7 x8 x9 x10 = headsL (fun k => match k with
    | 0 => k0_pay71 (k0_pay65 (M12.view.readCov (run0.sl.H12_1 (F := F) c i M1 h1 M2 h2 M3 h3 M4 h4 M5 h5 M6 h6 M14 x1 x2 x3 x4 x5 x6) (Rect.unit (s := S1024x1024) ![0, 0] S1024x128.size inb_S1024x1024_S1024x128_0_0).toLoadRect)) (k0_pay66 (M12.view.readCov (run0.sl.H12_1 (F := F) c i M1 h1 M2 h2 M3 h3 M4 h4 M5 h5 M6 h6 M14 x1 x2 x3 x4 x5 x6) (Rect.unit (s := S1024x1024) ![0, 0] S1024x128.size inb_S1024x1024_S1024x128_0_0).toLoadRect) (View.readAt (Elt F) M7.view (Rect.unit (s := S8x128x256) ![0, 0, 0] S1x128x256.size inb_S8x128x256_S1x128x256_0_0_0).toLoadRect (h7.unread x7))) (k0_pay67 (M12.view.readCov (run0.sl.H12_1 (F := F) c i M1 h1 M2 h2 M3 h3 M4 h4 M5 h5 M6 h6 M14 x1 x2 x3 x4 x5 x6) (Rect.unit (s := S1024x1024) ![0, 0] S1024x128.size inb_S1024x1024_S1024x128_0_0).toLoadRect) (View.readAt (Elt F) M7.view (Rect.unit (s := S8x128x256) ![0, 0, 0] S1x128x256.size inb_S8x128x256_S1x128x256_0_0_0).toLoadRect (h7.unread x7)) (View.readAt (Elt F) M8.view (Rect.unit (s := S1x1024) ![0, 0] S1x128.size inb_S1x1024_S1x128_0_0).toLoadRect (h8.unread x8))) (View.readAt (Elt F) M10.view (Rect.unit (s := S1x1024) ![0, 0] S1x128.size inb_S1x1024_S1x128_0_0).toLoadRect (h10.unread x10)) (View.readAt (Elt F) M9.view (Rect.unit (s := S1x1024) ![0, 0] S1x128.size inb_S1x1024_S1x128_0_0).toLoadRect (h9.unread x9))
    | 1 => k0_pay71 (k0_pay65 (M12.view.readCov (run0.sl.H12_1 (F := F) c i M1 h1 M2 h2 M3 h3 M4 h4 M5 h5 M6 h6 M14 x1 x2 x3 x4 x5 x6) (Rect.unit (s := S1024x1024) ![0, 128] S1024x128.size inb_S1024x1024_S1024x128_0_128).toLoadRect)) (k0_pay66 (M12.view.readCov (run0.sl.H12_1 (F := F) c i M1 h1 M2 h2 M3 h3 M4 h4 M5 h5 M6 h6 M14 x1 x2 x3 x4 x5 x6) (Rect.unit (s := S1024x1024) ![0, 128] S1024x128.size inb_S1024x1024_S1024x128_0_128).toLoadRect) (View.readAt (Elt F) M7.view (Rect.unit (s := S8x128x256) ![1, 0, 0] S1x128x256.size inb_S8x128x256_S1x128x256_1_0_0).toLoadRect (h7.unread x7))) (k0_pay67 (M12.view.readCov (run0.sl.H12_1 (F := F) c i M1 h1 M2 h2 M3 h3 M4 h4 M5 h5 M6 h6 M14 x1 x2 x3 x4 x5 x6) (Rect.unit (s := S1024x1024) ![0, 128] S1024x128.size inb_S1024x1024_S1024x128_0_128).toLoadRect) (View.readAt (Elt F) M7.view (Rect.unit (s := S8x128x256) ![1, 0, 0] S1x128x256.size inb_S8x128x256_S1x128x256_1_0_0).toLoadRect (h7.unread x7)) (View.readAt (Elt F) M8.view (Rect.unit (s := S1x1024) ![0, 128] S1x128.size inb_S1x1024_S1x128_0_128).toLoadRect (h8.unread x8))) (View.readAt (Elt F) M10.view (Rect.unit (s := S1x1024) ![0, 128] S1x128.size inb_S1x1024_S1x128_0_128).toLoadRect (h10.unread x10)) (View.readAt (Elt F) M9.view (Rect.unit (s := S1x1024) ![0, 128] S1x128.size inb_S1x1024_S1x128_0_128).toLoadRect (h9.unread x9))
    | 2 => k0_pay71 (k0_pay65 (M12.view.readCov (run0.sl.H12_1 (F := F) c i M1 h1 M2 h2 M3 h3 M4 h4 M5 h5 M6 h6 M14 x1 x2 x3 x4 x5 x6) (Rect.unit (s := S1024x1024) ![0, 256] S1024x128.size inb_S1024x1024_S1024x128_0_256).toLoadRect)) (k0_pay66 (M12.view.readCov (run0.sl.H12_1 (F := F) c i M1 h1 M2 h2 M3 h3 M4 h4 M5 h5 M6 h6 M14 x1 x2 x3 x4 x5 x6) (Rect.unit (s := S1024x1024) ![0, 256] S1024x128.size inb_S1024x1024_S1024x128_0_256).toLoadRect) (View.readAt (Elt F) M7.view (Rect.unit (s := S8x128x256) ![2, 0, 0] S1x128x256.size inb_S8x128x256_S1x128x256_2_0_0).toLoadRect (h7.unread x7))) (k0_pay67 (M12.view.readCov (run0.sl.H12_1 (F := F) c i M1 h1 M2 h2 M3 h3 M4 h4 M5 h5 M6 h6 M14 x1 x2 x3 x4 x5 x6) (Rect.unit (s := S1024x1024) ![0, 256] S1024x128.size inb_S1024x1024_S1024x128_0_256).toLoadRect) (View.readAt (Elt F) M7.view (Rect.unit (s := S8x128x256) ![2, 0, 0] S1x128x256.size inb_S8x128x256_S1x128x256_2_0_0).toLoadRect (h7.unread x7)) (View.readAt (Elt F) M8.view (Rect.unit (s := S1x1024) ![0, 256] S1x128.size inb_S1x1024_S1x128_0_256).toLoadRect (h8.unread x8))) (View.readAt (Elt F) M10.view (Rect.unit (s := S1x1024) ![0, 256] S1x128.size inb_S1x1024_S1x128_0_256).toLoadRect (h10.unread x10)) (View.readAt (Elt F) M9.view (Rect.unit (s := S1x1024) ![0, 256] S1x128.size inb_S1x1024_S1x128_0_256).toLoadRect (h9.unread x9))
    | 3 => k0_pay71 (k0_pay65 (M12.view.readCov (run0.sl.H12_1 (F := F) c i M1 h1 M2 h2 M3 h3 M4 h4 M5 h5 M6 h6 M14 x1 x2 x3 x4 x5 x6) (Rect.unit (s := S1024x1024) ![0, 384] S1024x128.size inb_S1024x1024_S1024x128_0_384).toLoadRect)) (k0_pay66 (M12.view.readCov (run0.sl.H12_1 (F := F) c i M1 h1 M2 h2 M3 h3 M4 h4 M5 h5 M6 h6 M14 x1 x2 x3 x4 x5 x6) (Rect.unit (s := S1024x1024) ![0, 384] S1024x128.size inb_S1024x1024_S1024x128_0_384).toLoadRect) (View.readAt (Elt F) M7.view (Rect.unit (s := S8x128x256) ![3, 0, 0] S1x128x256.size inb_S8x128x256_S1x128x256_3_0_0).toLoadRect (h7.unread x7))) (k0_pay67 (M12.view.readCov (run0.sl.H12_1 (F := F) c i M1 h1 M2 h2 M3 h3 M4 h4 M5 h5 M6 h6 M14 x1 x2 x3 x4 x5 x6) (Rect.unit (s := S1024x1024) ![0, 384] S1024x128.size inb_S1024x1024_S1024x128_0_384).toLoadRect) (View.readAt (Elt F) M7.view (Rect.unit (s := S8x128x256) ![3, 0, 0] S1x128x256.size inb_S8x128x256_S1x128x256_3_0_0).toLoadRect (h7.unread x7)) (View.readAt (Elt F) M8.view (Rect.unit (s := S1x1024) ![0, 384] S1x128.size inb_S1x1024_S1x128_0_384).toLoadRect (h8.unread x8))) (View.readAt (Elt F) M10.view (Rect.unit (s := S1x1024) ![0, 384] S1x128.size inb_S1x1024_S1x128_0_384).toLoadRect (h10.unread x10)) (View.readAt (Elt F) M9.view (Rect.unit (s := S1x1024) ![0, 384] S1x128.size inb_S1x1024_S1x128_0_384).toLoadRect (h9.unread x9))
    | 4 => k0_pay71 (k0_pay65 (M12.view.readCov (run0.sl.H12_1 (F := F) c i M1 h1 M2 h2 M3 h3 M4 h4 M5 h5 M6 h6 M14 x1 x2 x3 x4 x5 x6) (Rect.unit (s := S1024x1024) ![0, 512] S1024x128.size inb_S1024x1024_S1024x128_0_512).toLoadRect)) (k0_pay66 (M12.view.readCov (run0.sl.H12_1 (F := F) c i M1 h1 M2 h2 M3 h3 M4 h4 M5 h5 M6 h6 M14 x1 x2 x3 x4 x5 x6) (Rect.unit (s := S1024x1024) ![0, 512] S1024x128.size inb_S1024x1024_S1024x128_0_512).toLoadRect) (View.readAt (Elt F) M7.view (Rect.unit (s := S8x128x256) ![4, 0, 0] S1x128x256.size inb_S8x128x256_S1x128x256_4_0_0).toLoadRect (h7.unread x7))) (k0_pay67 (M12.view.readCov (run0.sl.H12_1 (F := F) c i M1 h1 M2 h2 M3 h3 M4 h4 M5 h5 M6 h6 M14 x1 x2 x3 x4 x5 x6) (Rect.unit (s := S1024x1024) ![0, 512] S1024x128.size inb_S1024x1024_S1024x128_0_512).toLoadRect) (View.readAt (Elt F) M7.view (Rect.unit (s := S8x128x256) ![4, 0, 0] S1x128x256.size inb_S8x128x256_S1x128x256_4_0_0).toLoadRect (h7.unread x7)) (View.readAt (Elt F) M8.view (Rect.unit (s := S1x1024) ![0, 512] S1x128.size inb_S1x1024_S1x128_0_512).toLoadRect (h8.unread x8))) (View.readAt (Elt F) M10.view (Rect.unit (s := S1x1024) ![0, 512] S1x128.size inb_S1x1024_S1x128_0_512).toLoadRect (h10.unread x10)) (View.readAt (Elt F) M9.view (Rect.unit (s := S1x1024) ![0, 512] S1x128.size inb_S1x1024_S1x128_0_512).toLoadRect (h9.unread x9))
    | 5 => k0_pay71 (k0_pay65 (M12.view.readCov (run0.sl.H12_1 (F := F) c i M1 h1 M2 h2 M3 h3 M4 h4 M5 h5 M6 h6 M14 x1 x2 x3 x4 x5 x6) (Rect.unit (s := S1024x1024) ![0, 640] S1024x128.size inb_S1024x1024_S1024x128_0_640).toLoadRect)) (k0_pay66 (M12.view.readCov (run0.sl.H12_1 (F := F) c i M1 h1 M2 h2 M3 h3 M4 h4 M5 h5 M6 h6 M14 x1 x2 x3 x4 x5 x6) (Rect.unit (s := S1024x1024) ![0, 640] S1024x128.size inb_S1024x1024_S1024x128_0_640).toLoadRect) (View.readAt (Elt F) M7.view (Rect.unit (s := S8x128x256) ![5, 0, 0] S1x128x256.size inb_S8x128x256_S1x128x256_5_0_0).toLoadRect (h7.unread x7))) (k0_pay67 (M12.view.readCov (run0.sl.H12_1 (F := F) c i M1 h1 M2 h2 M3 h3 M4 h4 M5 h5 M6 h6 M14 x1 x2 x3 x4 x5 x6) (Rect.unit (s := S1024x1024) ![0, 640] S1024x128.size inb_S1024x1024_S1024x128_0_640).toLoadRect) (View.readAt (Elt F) M7.view (Rect.unit (s := S8x128x256) ![5, 0, 0] S1x128x256.size inb_S8x128x256_S1x128x256_5_0_0).toLoadRect (h7.unread x7)) (View.readAt (Elt F) M8.view (Rect.unit (s := S1x1024) ![0, 640] S1x128.size inb_S1x1024_S1x128_0_640).toLoadRect (h8.unread x8))) (View.readAt (Elt F) M10.view (Rect.unit (s := S1x1024) ![0, 640] S1x128.size inb_S1x1024_S1x128_0_640).toLoadRect (h10.unread x10)) (View.readAt (Elt F) M9.view (Rect.unit (s := S1x1024) ![0, 640] S1x128.size inb_S1x1024_S1x128_0_640).toLoadRect (h9.unread x9))
    | 6 => k0_pay71 (k0_pay65 (M12.view.readCov (run0.sl.H12_1 (F := F) c i M1 h1 M2 h2 M3 h3 M4 h4 M5 h5 M6 h6 M14 x1 x2 x3 x4 x5 x6) (Rect.unit (s := S1024x1024) ![0, 768] S1024x128.size inb_S1024x1024_S1024x128_0_768).toLoadRect)) (k0_pay66 (M12.view.readCov (run0.sl.H12_1 (F := F) c i M1 h1 M2 h2 M3 h3 M4 h4 M5 h5 M6 h6 M14 x1 x2 x3 x4 x5 x6) (Rect.unit (s := S1024x1024) ![0, 768] S1024x128.size inb_S1024x1024_S1024x128_0_768).toLoadRect) (View.readAt (Elt F) M7.view (Rect.unit (s := S8x128x256) ![6, 0, 0] S1x128x256.size inb_S8x128x256_S1x128x256_6_0_0).toLoadRect (h7.unread x7))) (k0_pay67 (M12.view.readCov (run0.sl.H12_1 (F := F) c i M1 h1 M2 h2 M3 h3 M4 h4 M5 h5 M6 h6 M14 x1 x2 x3 x4 x5 x6) (Rect.unit (s := S1024x1024) ![0, 768] S1024x128.size inb_S1024x1024_S1024x128_0_768).toLoadRect) (View.readAt (Elt F) M7.view (Rect.unit (s := S8x128x256) ![6, 0, 0] S1x128x256.size inb_S8x128x256_S1x128x256_6_0_0).toLoadRect (h7.unread x7)) (View.readAt (Elt F) M8.view (Rect.unit (s := S1x1024) ![0, 768] S1x128.size inb_S1x1024_S1x128_0_768).toLoadRect (h8.unread x8))) (View.readAt (Elt F) M10.view (Rect.unit (s := S1x1024) ![0, 768] S1x128.size inb_S1x1024_S1x128_0_768).toLoadRect (h10.unread x10)) (View.readAt (Elt F) M9.view (Rect.unit (s := S1x1024) ![0, 768] S1x128.size inb_S1x1024_S1x128_0_768).toLoadRect (h9.unread x9))
    | 7 => k0_pay71 (k0_pay65 (M12.view.readCov (run0.sl.H12_1 (F := F) c i M1 h1 M2 h2 M3 h3 M4 h4 M5 h5 M6 h6 M14 x1 x2 x3 x4 x5 x6) (Rect.unit (s := S1024x1024) ![0, 896] S1024x128.size inb_S1024x1024_S1024x128_0_896).toLoadRect)) (k0_pay66 (M12.view.readCov (run0.sl.H12_1 (F := F) c i M1 h1 M2 h2 M3 h3 M4 h4 M5 h5 M6 h6 M14 x1 x2 x3 x4 x5 x6) (Rect.unit (s := S1024x1024) ![0, 896] S1024x128.size inb_S1024x1024_S1024x128_0_896).toLoadRect) (View.readAt (Elt F) M7.view (Rect.unit (s := S8x128x256) ![7, 0, 0] S1x128x256.size inb_S8x128x256_S1x128x256_7_0_0).toLoadRect (h7.unread x7))) (k0_pay67 (M12.view.readCov (run0.sl.H12_1 (F := F) c i M1 h1 M2 h2 M3 h3 M4 h4 M5 h5 M6 h6 M14 x1 x2 x3 x4 x5 x6) (Rect.unit (s := S1024x1024) ![0, 896] S1024x128.size inb_S1024x1024_S1024x128_0_896).toLoadRect) (View.readAt (Elt F) M7.view (Rect.unit (s := S8x128x256) ![7, 0, 0] S1x128x256.size inb_S8x128x256_S1x128x256_7_0_0).toLoadRect (h7.unread x7)) (View.readAt (Elt F) M8.view (Rect.unit (s := S1x1024) ![0, 896] S1x128.size inb_S1x1024_S1x128_0_896).toLoadRect (h8.unread x8))) (View.readAt (Elt F) M10.view (Rect.unit (s := S1x1024) ![0, 896] S1x128.size inb_S1x1024_S1x128_0_896).toLoadRect (h10.unread x10)) (View.readAt (Elt F) M9.view (Rect.unit (s := S1x1024) ![0, 896] S1x128.size inb_S1x1024_S1x128_0_896).toLoadRect (h9.unread x9))) := rfl
  rw [e, run0_u c i M1 h1 M2 h2 M3 h3 M4 h4 M5 h5 M6 h6 M7 h7 M8 h8 M9 h9 M10 h10 M11 h11 M12 h12 M13 h13 M14 h14 M15 h15 M16 h16 x1 x2 x3 x4 x5 x6 x7 x8 x9 x10]
  refine congrArg headsL (funext fun k => ?_)
  match k with
  | 0 => dsimp only; rw [hu_read M12.view _ 0 0 rfl, hw_read M7 h7 x7 0 0 rfl, hr_read M10 h10 x10 0 0 rfl, hr_read M9 h9 x9 0 0 rfl, hr_read M8 h8 x8 0 0 rfl]; rfl
  | 1 => dsimp only; rw [hu_read M12.view _ 1 128 rfl, hw_read M7 h7 x7 1 1 rfl, hr_read M10 h10 x10 1 128 rfl, hr_read M9 h9 x9 1 128 rfl, hr_read M8 h8 x8 1 128 rfl]; rfl
  | 2 => dsimp only; rw [hu_read M12.view _ 2 256 rfl, hw_read M7 h7 x7 2 2 rfl, hr_read M10 h10 x10 2 256 rfl, hr_read M9 h9 x9 2 256 rfl, hr_read M8 h8 x8 2 256 rfl]; rfl
  | 3 => dsimp only; rw [hu_read M12.view _ 3 384 rfl, hw_read M7 h7 x7 3 3 rfl, hr_read M10 h10 x10 3 384 rfl, hr_read M9 h9 x9 3 384 rfl, hr_read M8 h8 x8 3 384 rfl]; rfl
  | 4 => dsimp only; rw [hu_read M12.view _ 4 512 rfl, hw_read M7 h7 x7 4 4 rfl, hr_read M10 h10 x10 4 512 rfl, hr_read M9 h9 x9 4 512 rfl, hr_read M8 h8 x8 4 512 rfl]; rfl
  | 5 => dsimp only; rw [hu_read M12.view _ 5 640 rfl, hw_read M7 h7 x7 5 5 rfl, hr_read M10 h10 x10 5 640 rfl, hr_read M9 h9 x9 5 640 rfl, hr_read M8 h8 x8 5 640 rfl]; rfl
  | 6 => dsimp only; rw [hu_read M12.view _ 6 768 rfl, hw_read M7 h7 x7 6 6 rfl, hr_read M10 h10 x10 6 768 rfl, hr_read M9 h9 x9 6 768 rfl, hr_read M8 h8 x8 6 768 rfl]; rfl
  | 7 => dsimp only; rw [hu_read M12.view _ 7 896 rfl, hw_read M7 h7 x7 7 7 rfl, hr_read M10 h10 x10 7 896 rfl, hr_read M9 h9 x9 7 896 rfl, hr_read M8 h8 x8 7 896 rfl]; rfl

theorem run0_2 (c : Dev nD) (i : grid0.Coords) (M1 : Memref sig .tc .vmem S1024x1024 .f32) (h1 : M1.IsWhole) (M2 : Memref sig .tc .vmem S8x1024 .f32) (h2 : M2.IsWhole) (M3 : Memref sig .tc .vmem S8x1024 .f32) (h3 : M3.IsWhole) (M4 : Memref sig .tc .vmem S8x1024 .f32) (h4 : M4.IsWhole) (M5 : Memref sig .tc .vmem S4x1024 .f32) (h5 : M5.IsWhole) (M6 : Memref sig .tc .vmem S1x1024 .f32) (h6 : M6.IsWhole) (M7 : Memref sig .tc .vmem S8x128x256 .bf16) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S1024x1024 .f32) (h11 : M11.IsWhole) (M12 : Memref sig .tc .vmem S1024x1024 .f32) (h12 : M12.IsWhole) (M13 : Memref sig .tc .vmem S8x1024 .f32) (h13 : M13.IsWhole) (M14 : Memref sig .tc .vmem S1048x1024 .f32) (h14 : M14.IsWhole) (M15 : Memref sig .tc .vmem S1024x1024 .f32) (h15 : M15.IsWhole) (M16 : Memref sig .tc .vmem S1024x1024 .f32) (h16 : M16.IsWhole)
    (x1 : Vec F S1024x1024 .f32) (x2 : Vec F S8x1024 .f32) (x3 : Vec F S8x1024 .f32) (x4 : Vec F S8x1024 .f32) (x5 : Vec F S4x1024 .f32) (x6 : Vec F S1x1024 .f32) (x7 : Vec F S8x128x256 .bf16) (x8 : Vec F S1x1024 .f32) (x9 : Vec F S1x1024 .f32) (x10 : Vec F S1x1024 .f32) (hc : Scalar.cmpi .ne (Scalar.extui (Scalar.cmpi .eq (BitVec.ofNat 32 (i 0).val) 0#32)) 0#32 = 1#1) :
    (run0 (F := F) c i M1 h1 M2 h2 M3 h3 M4 h4 M5 h5 M6 h6 M7 h7 M8 h8 M9 h9 M10 h10 M11 h11 M12 h12 M13 h13 M14 h14 M15 h15 M16 h16 x1 x2 x3 x4 x5 x6 x7 x8 x9 x10 hc).2.1 = conv i x1 x2 x3 x4 x5 x6 := by
  unfold run0
  dsimp only
  rw [run0_u c i M1 h1 M2 h2 M3 h3 M4 h4 M5 h5 M6 h6 M7 h7 M8 h8 M9 h9 M10 h10 M11 h11 M12 h12 M13 h13 M14 h14 M15 h15 M16 h16 x1 x2 x3 x4 x5 x6 x7 x8 x9 x10, View.read_writes_junk_eq_canon, View.canon_unit_zero (by funext a; fin_cases a <;> rfl)]

theorem run0_1 (c : Dev nD) (i : grid0.Coords) (M1 : Memref sig .tc .vmem S1024x1024 .f32) (h1 : M1.IsWhole) (M2 : Memref sig .tc .vmem S8x1024 .f32) (h2 : M2.IsWhole) (M3 : Memref sig .tc .vmem S8x1024 .f32) (h3 : M3.IsWhole) (M4 : Memref sig .tc .vmem S8x1024 .f32) (h4 : M4.IsWhole) (M5 : Memref sig .tc .vmem S4x1024 .f32) (h5 : M5.IsWhole) (M6 : Memref sig .tc .vmem S1x1024 .f32) (h6 : M6.IsWhole) (M7 : Memref sig .tc .vmem S8x128x256 .bf16) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S1024x1024 .f32) (h11 : M11.IsWhole) (M12 : Memref sig .tc .vmem S1024x1024 .f32) (h12 : M12.IsWhole) (M13 : Memref sig .tc .vmem S8x1024 .f32) (h13 : M13.IsWhole) (M14 : Memref sig .tc .vmem S1048x1024 .f32) (h14 : M14.IsWhole) (M15 : Memref sig .tc .vmem S1024x1024 .f32) (h15 : M15.IsWhole) (M16 : Memref sig .tc .vmem S1024x1024 .f32) (h16 : M16.IsWhole)
    (x1 : Vec F S1024x1024 .f32) (x2 : Vec F S8x1024 .f32) (x3 : Vec F S8x1024 .f32) (x4 : Vec F S8x1024 .f32) (x5 : Vec F S4x1024 .f32) (x6 : Vec F S1x1024 .f32) (x7 : Vec F S8x128x256 .bf16) (x8 : Vec F S1x1024 .f32) (x9 : Vec F S1x1024 .f32) (x10 : Vec F S1x1024 .f32) (hc : Scalar.cmpi .ne (Scalar.extui (Scalar.cmpi .eq (BitVec.ofNat 32 (i 0).val) 0#32)) 0#32 = 1#1) :
    (run0 (F := F) c i M1 h1 M2 h2 M3 h3 M4 h4 M5 h5 M6 h6 M7 h7 M8 h8 M9 h9 M10 h10 M11 h11 M12 h12 M13 h13 M14 h14 M15 h15 M16 h16 x1 x2 x3 x4 x5 x6 x7 x8 x9 x10 hc).1
      = hAll (heads (headA (conv i x1 x2 x3 x4 x5 x6) x7 x9 x10)) (heads (headB (conv i x1 x2 x3 x4 x5 x6) x7 x8 x9 x10)) (k0_pay2 (F := F)) := by
  unfold run0
  dsimp only
  unfold run0.sl.H11_1
  rw [View.read_writes_junk_eq_canon, View.canon_unit_zero (by funext a; fin_cases a <;> rfl)]
  unfold run0.sl.v425
  rw [run0_a c i M1 h1 M2 h2 M3 h3 M4 h4 M5 h5 M6 h6 M7 h7 M8 h8 M9 h9 M10 h10 M11 h11 M12 h12 M13 h13 M14 h14 M15 h15 M16 h16 x1 x2 x3 x4 x5 x6 x7 x8 x9 x10, run0_b c i M1 h1 M2 h2 M3 h3 M4 h4 M5 h5 M6 h6 M7 h7 M8 h8 M9 h9 M10 h10 M11 h11 M12 h12 M13 h13 M14 h14 M15 h15 M16 h16 x1 x2 x3 x4 x5 x6 x7 x8 x9 x10, trips_eq, View.writes_append, run0_init c M13]
  funext y
  rw [View.readAt_apply]
  refine (congrFun (loop_st 𝒱₀ c none i M1 h1 M2 h2 M3 h3 M4 h4 M5 h5 M6 h6 M7 h7 M8 h8 M9 h9 M10 h10 M11 h11 M12 h12 M13 h13 M14 h14 M15 h15 M16 h16 _ _ _ _ _ _ (heads (headA (conv i x1 x2 x3 x4 x5 x6) x7 x9 x10)) (heads (headB (conv i x1 x2 x3 x4 x5 x6) x7 x8 x9 x10))
    ((View.read_writes_junk_eq_canon _ _).trans (heads_canon _)) ((View.read_writes_junk_eq_canon _ _).trans (heads_canon _)) 128 le_rfl).2 _).trans ?_
  refine (congrArg _ (whole_idx y)).trans ?_
  unfold bAt
  exact if_pos (y 0).isLt

theorem run0_3 (c : Dev nD) (i : grid0.Coords) (M1 : Memref sig .tc .vmem S1024x1024 .f32) (h1 : M1.IsWhole) (M2 : Memref sig .tc .vmem S8x1024 .f32) (h2 : M2.IsWhole) (M3 : Memref sig .tc .vmem S8x1024 .f32) (h3 : M3.IsWhole) (M4 : Memref sig .tc .vmem S8x1024 .f32) (h4 : M4.IsWhole) (M5 : Memref sig .tc .vmem S4x1024 .f32) (h5 : M5.IsWhole) (M6 : Memref sig .tc .vmem S1x1024 .f32) (h6 : M6.IsWhole) (M7 : Memref sig .tc .vmem S8x128x256 .bf16) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S1024x1024 .f32) (h11 : M11.IsWhole) (M12 : Memref sig .tc .vmem S1024x1024 .f32) (h12 : M12.IsWhole) (M13 : Memref sig .tc .vmem S8x1024 .f32) (h13 : M13.IsWhole) (M14 : Memref sig .tc .vmem S1048x1024 .f32) (h14 : M14.IsWhole) (M15 : Memref sig .tc .vmem S1024x1024 .f32) (h15 : M15.IsWhole) (M16 : Memref sig .tc .vmem S1024x1024 .f32) (h16 : M16.IsWhole)
    (x1 : Vec F S1024x1024 .f32) (x2 : Vec F S8x1024 .f32) (x3 : Vec F S8x1024 .f32) (x4 : Vec F S8x1024 .f32) (x5 : Vec F S4x1024 .f32) (x6 : Vec F S1x1024 .f32) (x7 : Vec F S8x128x256 .bf16) (x8 : Vec F S1x1024 .f32) (x9 : Vec F S1x1024 .f32) (x10 : Vec F S1x1024 .f32) (hc : Scalar.cmpi .ne (Scalar.extui (Scalar.cmpi .eq (BitVec.ofNat 32 (i 0).val) 0#32)) 0#32 = 1#1) :
    (run0 (F := F) c i M1 h1 M2 h2 M3 h3 M4 h4 M5 h5 M6 h6 M7 h7 M8 h8 M9 h9 M10 h10 M11 h11 M12 h12 M13 h13 M14 h14 M15 h15 M16 h16 x1 x2 x3 x4 x5 x6 x7 x8 x9 x10 hc).2.2.1
      = hAt (heads (headA (conv i x1 x2 x3 x4 x5 x6) x7 x9 x10)) (heads (headB (conv i x1 x2 x3 x4 x5 x6) x7 x8 x9 x10)) (k0_pay2 (F := F)) 128 := by
  unfold run0
  dsimp only
  unfold run0.sl.H13_1
  rw [View.read_writes_junk_eq_canon, View.canon_cons_unit_zero (by funext a; fin_cases a <;> rfl)]
  unfold run0.sl.r_29
  rw [run0_a c i M1 h1 M2 h2 M3 h3 M4 h4 M5 h5 M6 h6 M7 h7 M8 h8 M9 h9 M10 h10 M11 h11 M12 h12 M13 h13 M14 h14 M15 h15 M16 h16 x1 x2 x3 x4 x5 x6 x7 x8 x9 x10, run0_b c i M1 h1 M2 h2 M3 h3 M4 h4 M5 h5 M6 h6 M7 h7 M8 h8 M9 h9 M10 h10 M11 h11 M12 h12 M13 h13 M14 h14 M15 h15 M16 h16 x1 x2 x3 x4 x5 x6 x7 x8 x9 x10, trips_eq, run0_init c M13]
  rw [pay1_eq]
  exact (loop_st 𝒱₀ c none i M1 h1 M2 h2 M3 h3 M4 h4 M5 h5 M6 h6 M7 h7 M8 h8 M9 h9 M10 h10 M11 h11 M12 h12 M13 h13 M14 h14 M15 h15 M16 h16 _ _ _ _ _ _ (heads (headA (conv i x1 x2 x3 x4 x5 x6) x7 x9 x10)) (heads (headB (conv i x1 x2 x3 x4 x5 x6) x7 x8 x9 x10))
    ((View.read_writes_junk_eq_canon _ _).trans (heads_canon _)) ((View.read_writes_junk_eq_canon _ _).trans (heads_canon _)) 128 le_rfl).1

theorem runS_u (c : Dev nD) (i : grid0.Coords) (M1 : Memref sig .tc .vmem S1024x1024 .f32) (h1 : M1.IsWhole) (M2 : Memref sig .tc .vmem S8x1024 .f32) (h2 : M2.IsWhole) (M3 : Memref sig .tc .vmem S8x1024 .f32) (h3 : M3.IsWhole) (M4 : Memref sig .tc .vmem S8x1024 .f32) (h4 : M4.IsWhole) (M5 : Memref sig .tc .vmem S4x1024 .f32) (h5 : M5.IsWhole) (M6 : Memref sig .tc .vmem S1x1024 .f32) (h6 : M6.IsWhole) (M7 : Memref sig .tc .vmem S8x128x256 .bf16) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S1024x1024 .f32) (h11 : M11.IsWhole) (M12 : Memref sig .tc .vmem S1024x1024 .f32) (h12 : M12.IsWhole) (M13 : Memref sig .tc .vmem S8x1024 .f32) (h13 : M13.IsWhole) (M14 : Memref sig .tc .vmem S1048x1024 .f32) (h14 : M14.IsWhole) (M15 : Memref sig .tc .vmem S1024x1024 .f32) (h15 : M15.IsWhole) (M16 : Memref sig .tc .vmem S1024x1024 .f32) (h16 : M16.IsWhole)
    (x1 : Vec F S1024x1024 .f32) (x2 : Vec F S8x1024 .f32) (x3 : Vec F S8x1024 .f32) (x4 : Vec F S8x1024 .f32) (x5 : Vec F S4x1024 .f32) (x6 : Vec F S1x1024 .f32) (x7 : Vec F S8x128x256 .bf16) (x8 : Vec F S1x1024 .f32) (x9 : Vec F S1x1024 .f32) (x10 : Vec F S1x1024 .f32) :
    runS.sl.H12_1 (F := F) c i M1 h1 M2 h2 M3 h3 M4 h4 M5 h5 M6 h6 M14 x1 x2 x3 x4 x5 x6 = [⟨Rect.unit (s := S1024x1024) ![0, 0] S1024x1024.size inb_S1024x1024_S1024x1024_0_0, conv i x1 x2 x3 x4 x5 x6⟩] := by
  have e : runS.sl.H12_1 (F := F) c i M1 h1 M2 h2 M3 h3 M4 h4 M5 h5 M6 h6 M14 x1 x2 x3 x4 x5 x6 = [⟨Rect.unit (s := S1024x1024) ![0, 0] S1024x1024.size inb_S1024x1024_S1024x1024_0_0,
      k0_pay8 (View.readAt (Elt F) M6.view (Rect.unit (s := S1x1024) ![0, 0] S1x1024.size inb_S1x1024_S1x1024_0_0).toLoadRect (h6.unread x6))
        (M14.view.readCov (xpadL i (View.readAt (Elt F) M1.view (Rect.unit (s := S1024x1024) ![0, 0] S1024x1024.size inb_S1024x1024_S1024x1024_0_0).toLoadRect (h1.unread x1)) (View.readAt (Elt F) M2.view (Rect.unit (s := S8x1024) ![0, 0] S8x1024.size inb_S8x1024_S8x1024_0_0).toLoadRect (h2.unread x2)) (View.readAt (Elt F) M3.view (Rect.unit (s := S8x1024) ![0, 0] S8x1024.size inb_S8x1024_S8x1024_0_0).toLoadRect (h3.unread x3)) (View.readAt (Elt F) M4.view (Rect.unit (s := S8x1024) ![0, 0] S8x1024.size inb_S8x1024_S8x1024_0_0).toLoadRect (h4.unread x4))) (Rect.unit (s := S1048x1024) ![0, 0] S1024x1024.size inb_S1048x1024_S1024x1024_0_0).toLoadRect)
        (View.readAt (Elt F) M5.view (Rect.unit (s := S4x1024) ![0, 0] S1x1024.size inb_S4x1024_S1x1024_0_0).toLoadRect (h5.unread x5))
        (M14.view.readCov (xpadL i (View.readAt (Elt F) M1.view (Rect.unit (s := S1024x1024) ![0, 0] S1024x1024.size inb_S1024x1024_S1024x1024_0_0).toLoadRect (h1.unread x1)) (View.readAt (Elt F) M2.view (Rect.unit (s := S8x1024) ![0, 0] S8x1024.size inb_S8x1024_S8x1024_0_0).toLoadRect (h2.unread x2)) (View.readAt (Elt F) M3.view (Rect.unit (s := S8x1024) ![0, 0] S8x1024.size inb_S8x1024_S8x1024_0_0).toLoadRect (h3.unread x3)) (View.readAt (Elt F) M4.view (Rect.unit (s := S8x1024) ![0, 0] S8x1024.size inb_S8x1024_S8x1024_0_0).toLoadRect (h4.unread x4))) (Rect.unit (s := S1048x1024) ![8, 0] S1024x1024.size inb_S1048x1024_S1024x1024_8_0).toLoadRect)
        (View.readAt (Elt F) M5.view (Rect.unit (s := S4x1024) ![1, 0] S1x1024.size inb_S4x1024_S1x1024_1_0).toLoadRect (h5.unread x5))
        (M14.view.readCov (xpadL i (View.readAt (Elt F) M1.view (Rect.unit (s := S1024x1024) ![0, 0] S1024x1024.size inb_S1024x1024_S1024x1024_0_0).toLoadRect (h1.unread x1)) (View.readAt (Elt F) M2.view (Rect.unit (s := S8x1024) ![0, 0] S8x1024.size inb_S8x1024_S8x1024_0_0).toLoadRect (h2.unread x2)) (View.readAt (Elt F) M3.view (Rect.unit (s := S8x1024) ![0, 0] S8x1024.size inb_S8x1024_S8x1024_0_0).toLoadRect (h3.unread x3)) (View.readAt (Elt F) M4.view (Rect.unit (s := S8x1024) ![0, 0] S8x1024.size inb_S8x1024_S8x1024_0_0).toLoadRect (h4.unread x4))) (Rect.unit (s := S1048x1024) ![16, 0] S1024x1024.size inb_S1048x1024_S1024x1024_16_0).toLoadRect)
        (View.readAt (Elt F) M5.view (Rect.unit (s := S4x1024) ![2, 0] S1x1024.size inb_S4x1024_S1x1024_2_0).toLoadRect (h5.unread x5))
        (M14.view.readCov (xpadL i (View.readAt (Elt F) M1.view (Rect.unit (s := S1024x1024) ![0, 0] S1024x1024.size inb_S1024x1024_S1024x1024_0_0).toLoadRect (h1.unread x1)) (View.readAt (Elt F) M2.view (Rect.unit (s := S8x1024) ![0, 0] S8x1024.size inb_S8x1024_S8x1024_0_0).toLoadRect (h2.unread x2)) (View.readAt (Elt F) M3.view (Rect.unit (s := S8x1024) ![0, 0] S8x1024.size inb_S8x1024_S8x1024_0_0).toLoadRect (h3.unread x3)) (View.readAt (Elt F) M4.view (Rect.unit (s := S8x1024) ![0, 0] S8x1024.size inb_S8x1024_S8x1024_0_0).toLoadRect (h4.unread x4))) (Rect.unit (s := S1048x1024) ![24, 0] S1024x1024.size inb_S1048x1024_S1024x1024_24_0).toLoadRect)
        (View.readAt (Elt F) M5.view (Rect.unit (s := S4x1024) ![3, 0] S1x1024.size inb_S4x1024_S1x1024_3_0).toLoadRect (h5.unread x5))⟩] := by
    unfold runS.sl.H12_1 runS.sl.v37 runS.sl.v43 runS.sl.v48 runS.sl.v53 runS.sl.H14_4 runS.sl.H14_3 runS.sl.r
    rfl
  rw [e, block_read M1 h1 x1, state_read M2 h2 x2, state_read M3 h3 x3, state_read M4 h4 x4, row_read M6 h6 x6, tap_read M14.view i x1 x2 x3 x4 0 0 rfl, wrow_read M5 h5 x5 0 0 rfl, tap_read M14.view i x1 x2 x3 x4 1 8 rfl, wrow_read M5 h5 x5 1 1 rfl, tap_read M14.view i x1 x2 x3 x4 2 16 rfl, wrow_read M5 h5 x5 2 2 rfl, tap_read M14.view i x1 x2 x3 x4 3 24 rfl, wrow_read M5 h5 x5 3 3 rfl]
  rfl

theorem runS_a (c : Dev nD) (i : grid0.Coords) (M1 : Memref sig .tc .vmem S1024x1024 .f32) (h1 : M1.IsWhole) (M2 : Memref sig .tc .vmem S8x1024 .f32) (h2 : M2.IsWhole) (M3 : Memref sig .tc .vmem S8x1024 .f32) (h3 : M3.IsWhole) (M4 : Memref sig .tc .vmem S8x1024 .f32) (h4 : M4.IsWhole) (M5 : Memref sig .tc .vmem S4x1024 .f32) (h5 : M5.IsWhole) (M6 : Memref sig .tc .vmem S1x1024 .f32) (h6 : M6.IsWhole) (M7 : Memref sig .tc .vmem S8x128x256 .bf16) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S1024x1024 .f32) (h11 : M11.IsWhole) (M12 : Memref sig .tc .vmem S1024x1024 .f32) (h12 : M12.IsWhole) (M13 : Memref sig .tc .vmem S8x1024 .f32) (h13 : M13.IsWhole) (M14 : Memref sig .tc .vmem S1048x1024 .f32) (h14 : M14.IsWhole) (M15 : Memref sig .tc .vmem S1024x1024 .f32) (h15 : M15.IsWhole) (M16 : Memref sig .tc .vmem S1024x1024 .f32) (h16 : M16.IsWhole)
    (x1 : Vec F S1024x1024 .f32) (x2 : Vec F S8x1024 .f32) (x3 : Vec F S8x1024 .f32) (x4 : Vec F S8x1024 .f32) (x5 : Vec F S4x1024 .f32) (x6 : Vec F S1x1024 .f32) (x7 : Vec F S8x128x256 .bf16) (x8 : Vec F S1x1024 .f32) (x9 : Vec F S1x1024 .f32) (x10 : Vec F S1x1024 .f32) :
    runS.sl.H15_8 (F := F) c i M1 h1 M2 h2 M3 h3 M4 h4 M5 h5 M6 h6 M7 h7 M9 h9 M10 h10 M12 M14 x1 x2 x3 x4 x5 x6 x7 x9 x10 = headsL (headA (conv i x1 x2 x3 x4 x5 x6) x7 x9 x10) := by
  have e : runS.sl.H15_8 (F := F) c i M1 h1 M2 h2 M3 h3 M4 h4 M5 h5 M6 h6 M7 h7 M9 h9 M10 h10 M12 M14 x1 x2 x3 x4 x5 x6 x7 x9 x10 = headsL (fun k => match k with
    | 0 => k0_pay70 (k0_pay66 (M12.view.readCov (runS.sl.H12_1 (F := F) c i M1 h1 M2 h2 M3 h3 M4 h4 M5 h5 M6 h6 M14 x1 x2 x3 x4 x5 x6) (Rect.unit (s := S1024x1024) ![0, 0] S1024x128.size inb_S1024x1024_S1024x128_0_0).toLoadRect) (View.readAt (Elt F) M7.view (Rect.unit (s := S8x128x256) ![0, 0, 0] S1x128x256.size inb_S8x128x256_S1x128x256_0_0_0).toLoadRect (h7.unread x7))) (View.readAt (Elt F) M10.view (Rect.unit (s := S1x1024) ![0, 0] S1x128.size inb_S1x1024_S1x128_0_0).toLoadRect (h10.unread x10)) (View.readAt (Elt F) M9.view (Rect.unit (s := S1x1024) ![0, 0] S1x128.size inb_S1x1024_S1x128_0_0).toLoadRect (h9.unread x9))
    | 1 => k0_pay70 (k0_pay66 (M12.view.readCov (runS.sl.H12_1 (F := F) c i M1 h1 M2 h2 M3 h3 M4 h4 M5 h5 M6 h6 M14 x1 x2 x3 x4 x5 x6) (Rect.unit (s := S1024x1024) ![0, 128] S1024x128.size inb_S1024x1024_S1024x128_0_128).toLoadRect) (View.readAt (Elt F) M7.view (Rect.unit (s := S8x128x256) ![1, 0, 0] S1x128x256.size inb_S8x128x256_S1x128x256_1_0_0).toLoadRect (h7.unread x7))) (View.readAt (Elt F) M10.view (Rect.unit (s := S1x1024) ![0, 128] S1x128.size inb_S1x1024_S1x128_0_128).toLoadRect (h10.unread x10)) (View.readAt (Elt F) M9.view (Rect.unit (s := S1x1024) ![0, 128] S1x128.size inb_S1x1024_S1x128_0_128).toLoadRect (h9.unread x9))
    | 2 => k0_pay70 (k0_pay66 (M12.view.readCov (runS.sl.H12_1 (F := F) c i M1 h1 M2 h2 M3 h3 M4 h4 M5 h5 M6 h6 M14 x1 x2 x3 x4 x5 x6) (Rect.unit (s := S1024x1024) ![0, 256] S1024x128.size inb_S1024x1024_S1024x128_0_256).toLoadRect) (View.readAt (Elt F) M7.view (Rect.unit (s := S8x128x256) ![2, 0, 0] S1x128x256.size inb_S8x128x256_S1x128x256_2_0_0).toLoadRect (h7.unread x7))) (View.readAt (Elt F) M10.view (Rect.unit (s := S1x1024) ![0, 256] S1x128.size inb_S1x1024_S1x128_0_256).toLoadRect (h10.unread x10)) (View.readAt (Elt F) M9.view (Rect.unit (s := S1x1024) ![0, 256] S1x128.size inb_S1x1024_S1x128_0_256).toLoadRect (h9.unread x9))
    | 3 => k0_pay70 (k0_pay66 (M12.view.readCov (runS.sl.H12_1 (F := F) c i M1 h1 M2 h2 M3 h3 M4 h4 M5 h5 M6 h6 M14 x1 x2 x3 x4 x5 x6) (Rect.unit (s := S1024x1024) ![0, 384] S1024x128.size inb_S1024x1024_S1024x128_0_384).toLoadRect) (View.readAt (Elt F) M7.view (Rect.unit (s := S8x128x256) ![3, 0, 0] S1x128x256.size inb_S8x128x256_S1x128x256_3_0_0).toLoadRect (h7.unread x7))) (View.readAt (Elt F) M10.view (Rect.unit (s := S1x1024) ![0, 384] S1x128.size inb_S1x1024_S1x128_0_384).toLoadRect (h10.unread x10)) (View.readAt (Elt F) M9.view (Rect.unit (s := S1x1024) ![0, 384] S1x128.size inb_S1x1024_S1x128_0_384).toLoadRect (h9.unread x9))
    | 4 => k0_pay70 (k0_pay66 (M12.view.readCov (runS.sl.H12_1 (F := F) c i M1 h1 M2 h2 M3 h3 M4 h4 M5 h5 M6 h6 M14 x1 x2 x3 x4 x5 x6) (Rect.unit (s := S1024x1024) ![0, 512] S1024x128.size inb_S1024x1024_S1024x128_0_512).toLoadRect) (View.readAt (Elt F) M7.view (Rect.unit (s := S8x128x256) ![4, 0, 0] S1x128x256.size inb_S8x128x256_S1x128x256_4_0_0).toLoadRect (h7.unread x7))) (View.readAt (Elt F) M10.view (Rect.unit (s := S1x1024) ![0, 512] S1x128.size inb_S1x1024_S1x128_0_512).toLoadRect (h10.unread x10)) (View.readAt (Elt F) M9.view (Rect.unit (s := S1x1024) ![0, 512] S1x128.size inb_S1x1024_S1x128_0_512).toLoadRect (h9.unread x9))
    | 5 => k0_pay70 (k0_pay66 (M12.view.readCov (runS.sl.H12_1 (F := F) c i M1 h1 M2 h2 M3 h3 M4 h4 M5 h5 M6 h6 M14 x1 x2 x3 x4 x5 x6) (Rect.unit (s := S1024x1024) ![0, 640] S1024x128.size inb_S1024x1024_S1024x128_0_640).toLoadRect) (View.readAt (Elt F) M7.view (Rect.unit (s := S8x128x256) ![5, 0, 0] S1x128x256.size inb_S8x128x256_S1x128x256_5_0_0).toLoadRect (h7.unread x7))) (View.readAt (Elt F) M10.view (Rect.unit (s := S1x1024) ![0, 640] S1x128.size inb_S1x1024_S1x128_0_640).toLoadRect (h10.unread x10)) (View.readAt (Elt F) M9.view (Rect.unit (s := S1x1024) ![0, 640] S1x128.size inb_S1x1024_S1x128_0_640).toLoadRect (h9.unread x9))
    | 6 => k0_pay70 (k0_pay66 (M12.view.readCov (runS.sl.H12_1 (F := F) c i M1 h1 M2 h2 M3 h3 M4 h4 M5 h5 M6 h6 M14 x1 x2 x3 x4 x5 x6) (Rect.unit (s := S1024x1024) ![0, 768] S1024x128.size inb_S1024x1024_S1024x128_0_768).toLoadRect) (View.readAt (Elt F) M7.view (Rect.unit (s := S8x128x256) ![6, 0, 0] S1x128x256.size inb_S8x128x256_S1x128x256_6_0_0).toLoadRect (h7.unread x7))) (View.readAt (Elt F) M10.view (Rect.unit (s := S1x1024) ![0, 768] S1x128.size inb_S1x1024_S1x128_0_768).toLoadRect (h10.unread x10)) (View.readAt (Elt F) M9.view (Rect.unit (s := S1x1024) ![0, 768] S1x128.size inb_S1x1024_S1x128_0_768).toLoadRect (h9.unread x9))
    | 7 => k0_pay70 (k0_pay66 (M12.view.readCov (runS.sl.H12_1 (F := F) c i M1 h1 M2 h2 M3 h3 M4 h4 M5 h5 M6 h6 M14 x1 x2 x3 x4 x5 x6) (Rect.unit (s := S1024x1024) ![0, 896] S1024x128.size inb_S1024x1024_S1024x128_0_896).toLoadRect) (View.readAt (Elt F) M7.view (Rect.unit (s := S8x128x256) ![7, 0, 0] S1x128x256.size inb_S8x128x256_S1x128x256_7_0_0).toLoadRect (h7.unread x7))) (View.readAt (Elt F) M10.view (Rect.unit (s := S1x1024) ![0, 896] S1x128.size inb_S1x1024_S1x128_0_896).toLoadRect (h10.unread x10)) (View.readAt (Elt F) M9.view (Rect.unit (s := S1x1024) ![0, 896] S1x128.size inb_S1x1024_S1x128_0_896).toLoadRect (h9.unread x9))) := rfl
  rw [e, runS_u c i M1 h1 M2 h2 M3 h3 M4 h4 M5 h5 M6 h6 M7 h7 M8 h8 M9 h9 M10 h10 M11 h11 M12 h12 M13 h13 M14 h14 M15 h15 M16 h16 x1 x2 x3 x4 x5 x6 x7 x8 x9 x10]
  refine congrArg headsL (funext fun k => ?_)
  match k with
  | 0 => dsimp only; rw [hu_read M12.view _ 0 0 rfl, hw_read M7 h7 x7 0 0 rfl, hr_read M10 h10 x10 0 0 rfl, hr_read M9 h9 x9 0 0 rfl]; rfl
  | 1 => dsimp only; rw [hu_read M12.view _ 1 128 rfl, hw_read M7 h7 x7 1 1 rfl, hr_read M10 h10 x10 1 128 rfl, hr_read M9 h9 x9 1 128 rfl]; rfl
  | 2 => dsimp only; rw [hu_read M12.view _ 2 256 rfl, hw_read M7 h7 x7 2 2 rfl, hr_read M10 h10 x10 2 256 rfl, hr_read M9 h9 x9 2 256 rfl]; rfl
  | 3 => dsimp only; rw [hu_read M12.view _ 3 384 rfl, hw_read M7 h7 x7 3 3 rfl, hr_read M10 h10 x10 3 384 rfl, hr_read M9 h9 x9 3 384 rfl]; rfl
  | 4 => dsimp only; rw [hu_read M12.view _ 4 512 rfl, hw_read M7 h7 x7 4 4 rfl, hr_read M10 h10 x10 4 512 rfl, hr_read M9 h9 x9 4 512 rfl]; rfl
  | 5 => dsimp only; rw [hu_read M12.view _ 5 640 rfl, hw_read M7 h7 x7 5 5 rfl, hr_read M10 h10 x10 5 640 rfl, hr_read M9 h9 x9 5 640 rfl]; rfl
  | 6 => dsimp only; rw [hu_read M12.view _ 6 768 rfl, hw_read M7 h7 x7 6 6 rfl, hr_read M10 h10 x10 6 768 rfl, hr_read M9 h9 x9 6 768 rfl]; rfl
  | 7 => dsimp only; rw [hu_read M12.view _ 7 896 rfl, hw_read M7 h7 x7 7 7 rfl, hr_read M10 h10 x10 7 896 rfl, hr_read M9 h9 x9 7 896 rfl]; rfl

theorem runS_b (c : Dev nD) (i : grid0.Coords) (M1 : Memref sig .tc .vmem S1024x1024 .f32) (h1 : M1.IsWhole) (M2 : Memref sig .tc .vmem S8x1024 .f32) (h2 : M2.IsWhole) (M3 : Memref sig .tc .vmem S8x1024 .f32) (h3 : M3.IsWhole) (M4 : Memref sig .tc .vmem S8x1024 .f32) (h4 : M4.IsWhole) (M5 : Memref sig .tc .vmem S4x1024 .f32) (h5 : M5.IsWhole) (M6 : Memref sig .tc .vmem S1x1024 .f32) (h6 : M6.IsWhole) (M7 : Memref sig .tc .vmem S8x128x256 .bf16) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S1024x1024 .f32) (h11 : M11.IsWhole) (M12 : Memref sig .tc .vmem S1024x1024 .f32) (h12 : M12.IsWhole) (M13 : Memref sig .tc .vmem S8x1024 .f32) (h13 : M13.IsWhole) (M14 : Memref sig .tc .vmem S1048x1024 .f32) (h14 : M14.IsWhole) (M15 : Memref sig .tc .vmem S1024x1024 .f32) (h15 : M15.IsWhole) (M16 : Memref sig .tc .vmem S1024x1024 .f32) (h16 : M16.IsWhole)
    (x1 : Vec F S1024x1024 .f32) (x2 : Vec F S8x1024 .f32) (x3 : Vec F S8x1024 .f32) (x4 : Vec F S8x1024 .f32) (x5 : Vec F S4x1024 .f32) (x6 : Vec F S1x1024 .f32) (x7 : Vec F S8x128x256 .bf16) (x8 : Vec F S1x1024 .f32) (x9 : Vec F S1x1024 .f32) (x10 : Vec F S1x1024 .f32) :
    runS.sl.H16_8 (F := F) c i M1 h1 M2 h2 M3 h3 M4 h4 M5 h5 M6 h6 M7 h7 M8 h8 M9 h9 M10 h10 M12 M14 x1 x2 x3 x4 x5 x6 x7 x8 x9 x10 = headsL (headB (conv i x1 x2 x3 x4 x5 x6) x7 x8 x9 x10) := by
  have e : runS.sl.H16_8 (F := F) c i M1 h1 M2 h2 M3 h3 M4 h4 M5 h5 M6 h6 M7 h7 M8 h8 M9 h9 M10 h10 M12 M14 x1 x2 x3 x4 x5 x6 x7 x8 x9 x10 = headsL (fun k => match k with
    | 0 => k0_pay71 (k0_pay65 (M12.view.readCov (runS.sl.H12_1 (F := F) c i M1 h1 M2 h2 M3 h3 M4 h4 M5 h5 M6 h6 M14 x1 x2 x3 x4 x5 x6) (Rect.unit (s := S1024x1024) ![0, 0] S1024x128.size inb_S1024x1024_S1024x128_0_0).toLoadRect)) (k0_pay66 (M12.view.readCov (runS.sl.H12_1 (F := F) c i M1 h1 M2 h2 M3 h3 M4 h4 M5 h5 M6 h6 M14 x1 x2 x3 x4 x5 x6) (Rect.unit (s := S1024x1024) ![0, 0] S1024x128.size inb_S1024x1024_S1024x128_0_0).toLoadRect) (View.readAt (Elt F) M7.view (Rect.unit (s := S8x128x256) ![0, 0, 0] S1x128x256.size inb_S8x128x256_S1x128x256_0_0_0).toLoadRect (h7.unread x7))) (k0_pay67 (M12.view.readCov (runS.sl.H12_1 (F := F) c i M1 h1 M2 h2 M3 h3 M4 h4 M5 h5 M6 h6 M14 x1 x2 x3 x4 x5 x6) (Rect.unit (s := S1024x1024) ![0, 0] S1024x128.size inb_S1024x1024_S1024x128_0_0).toLoadRect) (View.readAt (Elt F) M7.view (Rect.unit (s := S8x128x256) ![0, 0, 0] S1x128x256.size inb_S8x128x256_S1x128x256_0_0_0).toLoadRect (h7.unread x7)) (View.readAt (Elt F) M8.view (Rect.unit (s := S1x1024) ![0, 0] S1x128.size inb_S1x1024_S1x128_0_0).toLoadRect (h8.unread x8))) (View.readAt (Elt F) M10.view (Rect.unit (s := S1x1024) ![0, 0] S1x128.size inb_S1x1024_S1x128_0_0).toLoadRect (h10.unread x10)) (View.readAt (Elt F) M9.view (Rect.unit (s := S1x1024) ![0, 0] S1x128.size inb_S1x1024_S1x128_0_0).toLoadRect (h9.unread x9))
    | 1 => k0_pay71 (k0_pay65 (M12.view.readCov (runS.sl.H12_1 (F := F) c i M1 h1 M2 h2 M3 h3 M4 h4 M5 h5 M6 h6 M14 x1 x2 x3 x4 x5 x6) (Rect.unit (s := S1024x1024) ![0, 128] S1024x128.size inb_S1024x1024_S1024x128_0_128).toLoadRect)) (k0_pay66 (M12.view.readCov (runS.sl.H12_1 (F := F) c i M1 h1 M2 h2 M3 h3 M4 h4 M5 h5 M6 h6 M14 x1 x2 x3 x4 x5 x6) (Rect.unit (s := S1024x1024) ![0, 128] S1024x128.size inb_S1024x1024_S1024x128_0_128).toLoadRect) (View.readAt (Elt F) M7.view (Rect.unit (s := S8x128x256) ![1, 0, 0] S1x128x256.size inb_S8x128x256_S1x128x256_1_0_0).toLoadRect (h7.unread x7))) (k0_pay67 (M12.view.readCov (runS.sl.H12_1 (F := F) c i M1 h1 M2 h2 M3 h3 M4 h4 M5 h5 M6 h6 M14 x1 x2 x3 x4 x5 x6) (Rect.unit (s := S1024x1024) ![0, 128] S1024x128.size inb_S1024x1024_S1024x128_0_128).toLoadRect) (View.readAt (Elt F) M7.view (Rect.unit (s := S8x128x256) ![1, 0, 0] S1x128x256.size inb_S8x128x256_S1x128x256_1_0_0).toLoadRect (h7.unread x7)) (View.readAt (Elt F) M8.view (Rect.unit (s := S1x1024) ![0, 128] S1x128.size inb_S1x1024_S1x128_0_128).toLoadRect (h8.unread x8))) (View.readAt (Elt F) M10.view (Rect.unit (s := S1x1024) ![0, 128] S1x128.size inb_S1x1024_S1x128_0_128).toLoadRect (h10.unread x10)) (View.readAt (Elt F) M9.view (Rect.unit (s := S1x1024) ![0, 128] S1x128.size inb_S1x1024_S1x128_0_128).toLoadRect (h9.unread x9))
    | 2 => k0_pay71 (k0_pay65 (M12.view.readCov (runS.sl.H12_1 (F := F) c i M1 h1 M2 h2 M3 h3 M4 h4 M5 h5 M6 h6 M14 x1 x2 x3 x4 x5 x6) (Rect.unit (s := S1024x1024) ![0, 256] S1024x128.size inb_S1024x1024_S1024x128_0_256).toLoadRect)) (k0_pay66 (M12.view.readCov (runS.sl.H12_1 (F := F) c i M1 h1 M2 h2 M3 h3 M4 h4 M5 h5 M6 h6 M14 x1 x2 x3 x4 x5 x6) (Rect.unit (s := S1024x1024) ![0, 256] S1024x128.size inb_S1024x1024_S1024x128_0_256).toLoadRect) (View.readAt (Elt F) M7.view (Rect.unit (s := S8x128x256) ![2, 0, 0] S1x128x256.size inb_S8x128x256_S1x128x256_2_0_0).toLoadRect (h7.unread x7))) (k0_pay67 (M12.view.readCov (runS.sl.H12_1 (F := F) c i M1 h1 M2 h2 M3 h3 M4 h4 M5 h5 M6 h6 M14 x1 x2 x3 x4 x5 x6) (Rect.unit (s := S1024x1024) ![0, 256] S1024x128.size inb_S1024x1024_S1024x128_0_256).toLoadRect) (View.readAt (Elt F) M7.view (Rect.unit (s := S8x128x256) ![2, 0, 0] S1x128x256.size inb_S8x128x256_S1x128x256_2_0_0).toLoadRect (h7.unread x7)) (View.readAt (Elt F) M8.view (Rect.unit (s := S1x1024) ![0, 256] S1x128.size inb_S1x1024_S1x128_0_256).toLoadRect (h8.unread x8))) (View.readAt (Elt F) M10.view (Rect.unit (s := S1x1024) ![0, 256] S1x128.size inb_S1x1024_S1x128_0_256).toLoadRect (h10.unread x10)) (View.readAt (Elt F) M9.view (Rect.unit (s := S1x1024) ![0, 256] S1x128.size inb_S1x1024_S1x128_0_256).toLoadRect (h9.unread x9))
    | 3 => k0_pay71 (k0_pay65 (M12.view.readCov (runS.sl.H12_1 (F := F) c i M1 h1 M2 h2 M3 h3 M4 h4 M5 h5 M6 h6 M14 x1 x2 x3 x4 x5 x6) (Rect.unit (s := S1024x1024) ![0, 384] S1024x128.size inb_S1024x1024_S1024x128_0_384).toLoadRect)) (k0_pay66 (M12.view.readCov (runS.sl.H12_1 (F := F) c i M1 h1 M2 h2 M3 h3 M4 h4 M5 h5 M6 h6 M14 x1 x2 x3 x4 x5 x6) (Rect.unit (s := S1024x1024) ![0, 384] S1024x128.size inb_S1024x1024_S1024x128_0_384).toLoadRect) (View.readAt (Elt F) M7.view (Rect.unit (s := S8x128x256) ![3, 0, 0] S1x128x256.size inb_S8x128x256_S1x128x256_3_0_0).toLoadRect (h7.unread x7))) (k0_pay67 (M12.view.readCov (runS.sl.H12_1 (F := F) c i M1 h1 M2 h2 M3 h3 M4 h4 M5 h5 M6 h6 M14 x1 x2 x3 x4 x5 x6) (Rect.unit (s := S1024x1024) ![0, 384] S1024x128.size inb_S1024x1024_S1024x128_0_384).toLoadRect) (View.readAt (Elt F) M7.view (Rect.unit (s := S8x128x256) ![3, 0, 0] S1x128x256.size inb_S8x128x256_S1x128x256_3_0_0).toLoadRect (h7.unread x7)) (View.readAt (Elt F) M8.view (Rect.unit (s := S1x1024) ![0, 384] S1x128.size inb_S1x1024_S1x128_0_384).toLoadRect (h8.unread x8))) (View.readAt (Elt F) M10.view (Rect.unit (s := S1x1024) ![0, 384] S1x128.size inb_S1x1024_S1x128_0_384).toLoadRect (h10.unread x10)) (View.readAt (Elt F) M9.view (Rect.unit (s := S1x1024) ![0, 384] S1x128.size inb_S1x1024_S1x128_0_384).toLoadRect (h9.unread x9))
    | 4 => k0_pay71 (k0_pay65 (M12.view.readCov (runS.sl.H12_1 (F := F) c i M1 h1 M2 h2 M3 h3 M4 h4 M5 h5 M6 h6 M14 x1 x2 x3 x4 x5 x6) (Rect.unit (s := S1024x1024) ![0, 512] S1024x128.size inb_S1024x1024_S1024x128_0_512).toLoadRect)) (k0_pay66 (M12.view.readCov (runS.sl.H12_1 (F := F) c i M1 h1 M2 h2 M3 h3 M4 h4 M5 h5 M6 h6 M14 x1 x2 x3 x4 x5 x6) (Rect.unit (s := S1024x1024) ![0, 512] S1024x128.size inb_S1024x1024_S1024x128_0_512).toLoadRect) (View.readAt (Elt F) M7.view (Rect.unit (s := S8x128x256) ![4, 0, 0] S1x128x256.size inb_S8x128x256_S1x128x256_4_0_0).toLoadRect (h7.unread x7))) (k0_pay67 (M12.view.readCov (runS.sl.H12_1 (F := F) c i M1 h1 M2 h2 M3 h3 M4 h4 M5 h5 M6 h6 M14 x1 x2 x3 x4 x5 x6) (Rect.unit (s := S1024x1024) ![0, 512] S1024x128.size inb_S1024x1024_S1024x128_0_512).toLoadRect) (View.readAt (Elt F) M7.view (Rect.unit (s := S8x128x256) ![4, 0, 0] S1x128x256.size inb_S8x128x256_S1x128x256_4_0_0).toLoadRect (h7.unread x7)) (View.readAt (Elt F) M8.view (Rect.unit (s := S1x1024) ![0, 512] S1x128.size inb_S1x1024_S1x128_0_512).toLoadRect (h8.unread x8))) (View.readAt (Elt F) M10.view (Rect.unit (s := S1x1024) ![0, 512] S1x128.size inb_S1x1024_S1x128_0_512).toLoadRect (h10.unread x10)) (View.readAt (Elt F) M9.view (Rect.unit (s := S1x1024) ![0, 512] S1x128.size inb_S1x1024_S1x128_0_512).toLoadRect (h9.unread x9))
    | 5 => k0_pay71 (k0_pay65 (M12.view.readCov (runS.sl.H12_1 (F := F) c i M1 h1 M2 h2 M3 h3 M4 h4 M5 h5 M6 h6 M14 x1 x2 x3 x4 x5 x6) (Rect.unit (s := S1024x1024) ![0, 640] S1024x128.size inb_S1024x1024_S1024x128_0_640).toLoadRect)) (k0_pay66 (M12.view.readCov (runS.sl.H12_1 (F := F) c i M1 h1 M2 h2 M3 h3 M4 h4 M5 h5 M6 h6 M14 x1 x2 x3 x4 x5 x6) (Rect.unit (s := S1024x1024) ![0, 640] S1024x128.size inb_S1024x1024_S1024x128_0_640).toLoadRect) (View.readAt (Elt F) M7.view (Rect.unit (s := S8x128x256) ![5, 0, 0] S1x128x256.size inb_S8x128x256_S1x128x256_5_0_0).toLoadRect (h7.unread x7))) (k0_pay67 (M12.view.readCov (runS.sl.H12_1 (F := F) c i M1 h1 M2 h2 M3 h3 M4 h4 M5 h5 M6 h6 M14 x1 x2 x3 x4 x5 x6) (Rect.unit (s := S1024x1024) ![0, 640] S1024x128.size inb_S1024x1024_S1024x128_0_640).toLoadRect) (View.readAt (Elt F) M7.view (Rect.unit (s := S8x128x256) ![5, 0, 0] S1x128x256.size inb_S8x128x256_S1x128x256_5_0_0).toLoadRect (h7.unread x7)) (View.readAt (Elt F) M8.view (Rect.unit (s := S1x1024) ![0, 640] S1x128.size inb_S1x1024_S1x128_0_640).toLoadRect (h8.unread x8))) (View.readAt (Elt F) M10.view (Rect.unit (s := S1x1024) ![0, 640] S1x128.size inb_S1x1024_S1x128_0_640).toLoadRect (h10.unread x10)) (View.readAt (Elt F) M9.view (Rect.unit (s := S1x1024) ![0, 640] S1x128.size inb_S1x1024_S1x128_0_640).toLoadRect (h9.unread x9))
    | 6 => k0_pay71 (k0_pay65 (M12.view.readCov (runS.sl.H12_1 (F := F) c i M1 h1 M2 h2 M3 h3 M4 h4 M5 h5 M6 h6 M14 x1 x2 x3 x4 x5 x6) (Rect.unit (s := S1024x1024) ![0, 768] S1024x128.size inb_S1024x1024_S1024x128_0_768).toLoadRect)) (k0_pay66 (M12.view.readCov (runS.sl.H12_1 (F := F) c i M1 h1 M2 h2 M3 h3 M4 h4 M5 h5 M6 h6 M14 x1 x2 x3 x4 x5 x6) (Rect.unit (s := S1024x1024) ![0, 768] S1024x128.size inb_S1024x1024_S1024x128_0_768).toLoadRect) (View.readAt (Elt F) M7.view (Rect.unit (s := S8x128x256) ![6, 0, 0] S1x128x256.size inb_S8x128x256_S1x128x256_6_0_0).toLoadRect (h7.unread x7))) (k0_pay67 (M12.view.readCov (runS.sl.H12_1 (F := F) c i M1 h1 M2 h2 M3 h3 M4 h4 M5 h5 M6 h6 M14 x1 x2 x3 x4 x5 x6) (Rect.unit (s := S1024x1024) ![0, 768] S1024x128.size inb_S1024x1024_S1024x128_0_768).toLoadRect) (View.readAt (Elt F) M7.view (Rect.unit (s := S8x128x256) ![6, 0, 0] S1x128x256.size inb_S8x128x256_S1x128x256_6_0_0).toLoadRect (h7.unread x7)) (View.readAt (Elt F) M8.view (Rect.unit (s := S1x1024) ![0, 768] S1x128.size inb_S1x1024_S1x128_0_768).toLoadRect (h8.unread x8))) (View.readAt (Elt F) M10.view (Rect.unit (s := S1x1024) ![0, 768] S1x128.size inb_S1x1024_S1x128_0_768).toLoadRect (h10.unread x10)) (View.readAt (Elt F) M9.view (Rect.unit (s := S1x1024) ![0, 768] S1x128.size inb_S1x1024_S1x128_0_768).toLoadRect (h9.unread x9))
    | 7 => k0_pay71 (k0_pay65 (M12.view.readCov (runS.sl.H12_1 (F := F) c i M1 h1 M2 h2 M3 h3 M4 h4 M5 h5 M6 h6 M14 x1 x2 x3 x4 x5 x6) (Rect.unit (s := S1024x1024) ![0, 896] S1024x128.size inb_S1024x1024_S1024x128_0_896).toLoadRect)) (k0_pay66 (M12.view.readCov (runS.sl.H12_1 (F := F) c i M1 h1 M2 h2 M3 h3 M4 h4 M5 h5 M6 h6 M14 x1 x2 x3 x4 x5 x6) (Rect.unit (s := S1024x1024) ![0, 896] S1024x128.size inb_S1024x1024_S1024x128_0_896).toLoadRect) (View.readAt (Elt F) M7.view (Rect.unit (s := S8x128x256) ![7, 0, 0] S1x128x256.size inb_S8x128x256_S1x128x256_7_0_0).toLoadRect (h7.unread x7))) (k0_pay67 (M12.view.readCov (runS.sl.H12_1 (F := F) c i M1 h1 M2 h2 M3 h3 M4 h4 M5 h5 M6 h6 M14 x1 x2 x3 x4 x5 x6) (Rect.unit (s := S1024x1024) ![0, 896] S1024x128.size inb_S1024x1024_S1024x128_0_896).toLoadRect) (View.readAt (Elt F) M7.view (Rect.unit (s := S8x128x256) ![7, 0, 0] S1x128x256.size inb_S8x128x256_S1x128x256_7_0_0).toLoadRect (h7.unread x7)) (View.readAt (Elt F) M8.view (Rect.unit (s := S1x1024) ![0, 896] S1x128.size inb_S1x1024_S1x128_0_896).toLoadRect (h8.unread x8))) (View.readAt (Elt F) M10.view (Rect.unit (s := S1x1024) ![0, 896] S1x128.size inb_S1x1024_S1x128_0_896).toLoadRect (h10.unread x10)) (View.readAt (Elt F) M9.view (Rect.unit (s := S1x1024) ![0, 896] S1x128.size inb_S1x1024_S1x128_0_896).toLoadRect (h9.unread x9))) := rfl
  rw [e, runS_u c i M1 h1 M2 h2 M3 h3 M4 h4 M5 h5 M6 h6 M7 h7 M8 h8 M9 h9 M10 h10 M11 h11 M12 h12 M13 h13 M14 h14 M15 h15 M16 h16 x1 x2 x3 x4 x5 x6 x7 x8 x9 x10]
  refine congrArg headsL (funext fun k => ?_)
  match k with
  | 0 => dsimp only; rw [hu_read M12.view _ 0 0 rfl, hw_read M7 h7 x7 0 0 rfl, hr_read M10 h10 x10 0 0 rfl, hr_read M9 h9 x9 0 0 rfl, hr_read M8 h8 x8 0 0 rfl]; rfl
  | 1 => dsimp only; rw [hu_read M12.view _ 1 128 rfl, hw_read M7 h7 x7 1 1 rfl, hr_read M10 h10 x10 1 128 rfl, hr_read M9 h9 x9 1 128 rfl, hr_read M8 h8 x8 1 128 rfl]; rfl
  | 2 => dsimp only; rw [hu_read M12.view _ 2 256 rfl, hw_read M7 h7 x7 2 2 rfl, hr_read M10 h10 x10 2 256 rfl, hr_read M9 h9 x9 2 256 rfl, hr_read M8 h8 x8 2 256 rfl]; rfl
  | 3 => dsimp only; rw [hu_read M12.view _ 3 384 rfl, hw_read M7 h7 x7 3 3 rfl, hr_read M10 h10 x10 3 384 rfl, hr_read M9 h9 x9 3 384 rfl, hr_read M8 h8 x8 3 384 rfl]; rfl
  | 4 => dsimp only; rw [hu_read M12.view _ 4 512 rfl, hw_read M7 h7 x7 4 4 rfl, hr_read M10 h10 x10 4 512 rfl, hr_read M9 h9 x9 4 512 rfl, hr_read M8 h8 x8 4 512 rfl]; rfl
  | 5 => dsimp only; rw [hu_read M12.view _ 5 640 rfl, hw_read M7 h7 x7 5 5 rfl, hr_read M10 h10 x10 5 640 rfl, hr_read M9 h9 x9 5 640 rfl, hr_read M8 h8 x8 5 640 rfl]; rfl
  | 6 => dsimp only; rw [hu_read M12.view _ 6 768 rfl, hw_read M7 h7 x7 6 6 rfl, hr_read M10 h10 x10 6 768 rfl, hr_read M9 h9 x9 6 768 rfl, hr_read M8 h8 x8 6 768 rfl]; rfl
  | 7 => dsimp only; rw [hu_read M12.view _ 7 896 rfl, hw_read M7 h7 x7 7 7 rfl, hr_read M10 h10 x10 7 896 rfl, hr_read M9 h9 x9 7 896 rfl, hr_read M8 h8 x8 7 896 rfl]; rfl

theorem runS_2 (c : Dev nD) (i : grid0.Coords) (M1 : Memref sig .tc .vmem S1024x1024 .f32) (h1 : M1.IsWhole) (M2 : Memref sig .tc .vmem S8x1024 .f32) (h2 : M2.IsWhole) (M3 : Memref sig .tc .vmem S8x1024 .f32) (h3 : M3.IsWhole) (M4 : Memref sig .tc .vmem S8x1024 .f32) (h4 : M4.IsWhole) (M5 : Memref sig .tc .vmem S4x1024 .f32) (h5 : M5.IsWhole) (M6 : Memref sig .tc .vmem S1x1024 .f32) (h6 : M6.IsWhole) (M7 : Memref sig .tc .vmem S8x128x256 .bf16) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S1024x1024 .f32) (h11 : M11.IsWhole) (M12 : Memref sig .tc .vmem S1024x1024 .f32) (h12 : M12.IsWhole) (M13 : Memref sig .tc .vmem S8x1024 .f32) (h13 : M13.IsWhole) (M14 : Memref sig .tc .vmem S1048x1024 .f32) (h14 : M14.IsWhole) (M15 : Memref sig .tc .vmem S1024x1024 .f32) (h15 : M15.IsWhole) (M16 : Memref sig .tc .vmem S1024x1024 .f32) (h16 : M16.IsWhole)
    (x1 : Vec F S1024x1024 .f32) (x2 : Vec F S8x1024 .f32) (x3 : Vec F S8x1024 .f32) (x4 : Vec F S8x1024 .f32) (x5 : Vec F S4x1024 .f32) (x6 : Vec F S1x1024 .f32) (x7 : Vec F S8x128x256 .bf16) (x8 : Vec F S1x1024 .f32) (x9 : Vec F S1x1024 .f32) (x10 : Vec F S1x1024 .f32) (x13 : Vec F S8x1024 .f32) (hc : ¬ Scalar.cmpi .ne (Scalar.extui (Scalar.cmpi .eq (BitVec.ofNat 32 (i 0).val) 0#32)) 0#32 = 1#1) :
    (runS (F := F) c i M1 h1 M2 h2 M3 h3 M4 h4 M5 h5 M6 h6 M7 h7 M8 h8 M9 h9 M10 h10 M11 h11 M12 h12 M13 h13 M14 h14 M15 h15 M16 h16 x1 x2 x3 x4 x5 x6 x7 x8 x9 x10 x13 hc).2.1 = conv i x1 x2 x3 x4 x5 x6 := by
  unfold runS
  dsimp only
  rw [runS_u c i M1 h1 M2 h2 M3 h3 M4 h4 M5 h5 M6 h6 M7 h7 M8 h8 M9 h9 M10 h10 M11 h11 M12 h12 M13 h13 M14 h14 M15 h15 M16 h16 x1 x2 x3 x4 x5 x6 x7 x8 x9 x10, View.read_writes_junk_eq_canon, View.canon_unit_zero (by funext a; fin_cases a <;> rfl)]

theorem runS_1 (c : Dev nD) (i : grid0.Coords) (M1 : Memref sig .tc .vmem S1024x1024 .f32) (h1 : M1.IsWhole) (M2 : Memref sig .tc .vmem S8x1024 .f32) (h2 : M2.IsWhole) (M3 : Memref sig .tc .vmem S8x1024 .f32) (h3 : M3.IsWhole) (M4 : Memref sig .tc .vmem S8x1024 .f32) (h4 : M4.IsWhole) (M5 : Memref sig .tc .vmem S4x1024 .f32) (h5 : M5.IsWhole) (M6 : Memref sig .tc .vmem S1x1024 .f32) (h6 : M6.IsWhole) (M7 : Memref sig .tc .vmem S8x128x256 .bf16) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S1024x1024 .f32) (h11 : M11.IsWhole) (M12 : Memref sig .tc .vmem S1024x1024 .f32) (h12 : M12.IsWhole) (M13 : Memref sig .tc .vmem S8x1024 .f32) (h13 : M13.IsWhole) (M14 : Memref sig .tc .vmem S1048x1024 .f32) (h14 : M14.IsWhole) (M15 : Memref sig .tc .vmem S1024x1024 .f32) (h15 : M15.IsWhole) (M16 : Memref sig .tc .vmem S1024x1024 .f32) (h16 : M16.IsWhole)
    (x1 : Vec F S1024x1024 .f32) (x2 : Vec F S8x1024 .f32) (x3 : Vec F S8x1024 .f32) (x4 : Vec F S8x1024 .f32) (x5 : Vec F S4x1024 .f32) (x6 : Vec F S1x1024 .f32) (x7 : Vec F S8x128x256 .bf16) (x8 : Vec F S1x1024 .f32) (x9 : Vec F S1x1024 .f32) (x10 : Vec F S1x1024 .f32) (x13 : Vec F S8x1024 .f32) (hc : ¬ Scalar.cmpi .ne (Scalar.extui (Scalar.cmpi .eq (BitVec.ofNat 32 (i 0).val) 0#32)) 0#32 = 1#1) :
    (runS (F := F) c i M1 h1 M2 h2 M3 h3 M4 h4 M5 h5 M6 h6 M7 h7 M8 h8 M9 h9 M10 h10 M11 h11 M12 h12 M13 h13 M14 h14 M15 h15 M16 h16 x1 x2 x3 x4 x5 x6 x7 x8 x9 x10 x13 hc).1
      = hAll (heads (headA (conv i x1 x2 x3 x4 x5 x6) x7 x9 x10)) (heads (headB (conv i x1 x2 x3 x4 x5 x6) x7 x8 x9 x10)) x13 := by
  unfold runS
  dsimp only
  unfold runS.sl.H11_1
  rw [View.read_writes_junk_eq_canon, View.canon_unit_zero (by funext a; fin_cases a <;> rfl)]
  unfold runS.sl.v425
  rw [runS_a c i M1 h1 M2 h2 M3 h3 M4 h4 M5 h5 M6 h6 M7 h7 M8 h8 M9 h9 M10 h10 M11 h11 M12 h12 M13 h13 M14 h14 M15 h15 M16 h16 x1 x2 x3 x4 x5 x6 x7 x8 x9 x10, runS_b c i M1 h1 M2 h2 M3 h3 M4 h4 M5 h5 M6 h6 M7 h7 M8 h8 M9 h9 M10 h10 M11 h11 M12 h12 M13 h13 M14 h14 M15 h15 M16 h16 x1 x2 x3 x4 x5 x6 x7 x8 x9 x10, trips_eq, View.writes_append, state_read M13 h13 x13]
  funext y
  rw [View.readAt_apply]
  refine (congrFun (loop_st 𝒱₀ c none i M1 h1 M2 h2 M3 h3 M4 h4 M5 h5 M6 h6 M7 h7 M8 h8 M9 h9 M10 h10 M11 h11 M12 h12 M13 h13 M14 h14 M15 h15 M16 h16 _ _ _ _ _ _ (heads (headA (conv i x1 x2 x3 x4 x5 x6) x7 x9 x10)) (heads (headB (conv i x1 x2 x3 x4 x5 x6) x7 x8 x9 x10))
    ((View.read_writes_junk_eq_canon _ _).trans (heads_canon _)) ((View.read_writes_junk_eq_canon _ _).trans (heads_canon _)) 128 le_rfl).2 _).trans ?_
  refine (congrArg _ (whole_idx y)).trans ?_
  unfold bAt
  exact if_pos (y 0).isLt

theorem runS_3 (c : Dev nD) (i : grid0.Coords) (M1 : Memref sig .tc .vmem S1024x1024 .f32) (h1 : M1.IsWhole) (M2 : Memref sig .tc .vmem S8x1024 .f32) (h2 : M2.IsWhole) (M3 : Memref sig .tc .vmem S8x1024 .f32) (h3 : M3.IsWhole) (M4 : Memref sig .tc .vmem S8x1024 .f32) (h4 : M4.IsWhole) (M5 : Memref sig .tc .vmem S4x1024 .f32) (h5 : M5.IsWhole) (M6 : Memref sig .tc .vmem S1x1024 .f32) (h6 : M6.IsWhole) (M7 : Memref sig .tc .vmem S8x128x256 .bf16) (h7 : M7.IsWhole) (M8 : Memref sig .tc .vmem S1x1024 .f32) (h8 : M8.IsWhole) (M9 : Memref sig .tc .vmem S1x1024 .f32) (h9 : M9.IsWhole) (M10 : Memref sig .tc .vmem S1x1024 .f32) (h10 : M10.IsWhole) (M11 : Memref sig .tc .vmem S1024x1024 .f32) (h11 : M11.IsWhole) (M12 : Memref sig .tc .vmem S1024x1024 .f32) (h12 : M12.IsWhole) (M13 : Memref sig .tc .vmem S8x1024 .f32) (h13 : M13.IsWhole) (M14 : Memref sig .tc .vmem S1048x1024 .f32) (h14 : M14.IsWhole) (M15 : Memref sig .tc .vmem S1024x1024 .f32) (h15 : M15.IsWhole) (M16 : Memref sig .tc .vmem S1024x1024 .f32) (h16 : M16.IsWhole)
    (x1 : Vec F S1024x1024 .f32) (x2 : Vec F S8x1024 .f32) (x3 : Vec F S8x1024 .f32) (x4 : Vec F S8x1024 .f32) (x5 : Vec F S4x1024 .f32) (x6 : Vec F S1x1024 .f32) (x7 : Vec F S8x128x256 .bf16) (x8 : Vec F S1x1024 .f32) (x9 : Vec F S1x1024 .f32) (x10 : Vec F S1x1024 .f32) (x13 : Vec F S8x1024 .f32) (hc : ¬ Scalar.cmpi .ne (Scalar.extui (Scalar.cmpi .eq (BitVec.ofNat 32 (i 0).val) 0#32)) 0#32 = 1#1) :
    (runS (F := F) c i M1 h1 M2 h2 M3 h3 M4 h4 M5 h5 M6 h6 M7 h7 M8 h8 M9 h9 M10 h10 M11 h11 M12 h12 M13 h13 M14 h14 M15 h15 M16 h16 x1 x2 x3 x4 x5 x6 x7 x8 x9 x10 x13 hc).2.2.1
      = hAt (heads (headA (conv i x1 x2 x3 x4 x5 x6) x7 x9 x10)) (heads (headB (conv i x1 x2 x3 x4 x5 x6) x7 x8 x9 x10)) x13 128 := by
  unfold runS
  dsimp only
  unfold runS.sl.H13_1
  rw [View.read_writes_junk_eq_canon, View.canon_cons_unit_zero (by funext a; fin_cases a <;> rfl)]
  unfold runS.sl.r_29
  rw [runS_a c i M1 h1 M2 h2 M3 h3 M4 h4 M5 h5 M6 h6 M7 h7 M8 h8 M9 h9 M10 h10 M11 h11 M12 h12 M13 h13 M14 h14 M15 h15 M16 h16 x1 x2 x3 x4 x5 x6 x7 x8 x9 x10, runS_b c i M1 h1 M2 h2 M3 h3 M4 h4 M5 h5 M6 h6 M7 h7 M8 h8 M9 h9 M10 h10 M11 h11 M12 h12 M13 h13 M14 h14 M15 h15 M16 h16 x1 x2 x3 x4 x5 x6 x7 x8 x9 x10, trips_eq, state_read M13 h13 x13]
  rw [pay1_eq]
  exact (loop_st 𝒱₀ c none i M1 h1 M2 h2 M3 h3 M4 h4 M5 h5 M6 h6 M7 h7 M8 h8 M9 h9 M10 h10 M11 h11 M12 h12 M13 h13 M14 h14 M15 h15 M16 h16 _ _ _ _ _ _ (heads (headA (conv i x1 x2 x3 x4 x5 x6) x7 x9 x10)) (heads (headB (conv i x1 x2 x3 x4 x5 x6) x7 x8 x9 x10))
    ((View.read_writes_junk_eq_canon _ _).trans (heads_canon _)) ((View.read_writes_junk_eq_canon _ _).trans (heads_canon _)) 128 le_rfl).1

end Cert.KernelIdeal.Body

end
-- ==== Proof.Run.lean ====
/-
  The recurrence kernel's run over any float values: the carried state by recursion over the grid's points, the
  pipeline's proof data, the body obligation, and the run of the whole program.
-/
module

public import proofs.«01_k».proof.Proof.Body

@[expose] public section

set_option maxRecDepth 16384
set_option maxHeartbeats 4000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] run0 runS

abbrev sc0 : Memref sig .tc .vmem S8x1024 .f32 := Memref.whole cc0_scratch0
abbrev sc1 : Memref sig .tc .vmem S1048x1024 .f32 := Memref.whole cc0_scratch1
abbrev sc2 : Memref sig .tc .vmem S1024x1024 .f32 := Memref.whole cc0_scratch2
abbrev sc3 : Memref sig .tc .vmem S1024x1024 .f32 := Memref.whole cc0_scratch3

/-- The first point's condition, as the kernel computes it. -/
abbrev first (t : Fin cfg0.N) : Prop :=
  Scalar.cmpi .ne (Scalar.extui (Scalar.cmpi .eq (BitVec.ofNat 32 ((grid0.coords t) 0).val) 0#32)) 0#32 = 1#1

/-- The body at point `t`, the first one. -/
abbrev at0 (c : Dev nD) (t : Fin cfg0.N) (hc : first t) := run0 (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) sc0 (Memref.isWhole_whole _) sc1 (Memref.isWhole_whole _) sc2 (Memref.isWhole_whole _) sc3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) hc

/-- The body at point `t`, a later one, the carried state at `h`. -/
abbrev atS (c : Dev nD) (t : Fin cfg0.N) (h : Vec F S8x1024 .f32) (hc : ¬ first t) := runS (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) sc0 (Memref.isWhole_whole _) sc1 (Memref.isWhole_whole _) sc2 (Memref.isWhole_whole _) sc3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) h hc

/-- What the body leaves at point `t` in the scan's block, in the convolution's block, and in the carried state. -/
def outs (c : Dev nD) (t : Fin cfg0.N) (h : Vec F S8x1024 .f32) :
    Vec F S1024x1024 .f32 × Vec F S1024x1024 .f32 × Vec F S8x1024 .f32 :=
  if hc : first t then ((at0 m c t hc).1, (at0 m c t hc).2.1, (at0 m c t hc).2.2.1)
  else ((atS m c t h hc).1, (atS m c t h hc).2.1, (atS m c t h hc).2.2.1)

theorem outs0_1 (c : Dev nD) (t : Fin cfg0.N) (h) (hc : first t) : (outs m c t h).1 = (at0 m c t hc).1 := by unfold outs; rw [dif_pos hc]
theorem outs0_2 (c : Dev nD) (t : Fin cfg0.N) (h) (hc : first t) : (outs m c t h).2.1 = (at0 m c t hc).2.1 := by unfold outs; rw [dif_pos hc]
theorem outs0_3 (c : Dev nD) (t : Fin cfg0.N) (h) (hc : first t) : (outs m c t h).2.2 = (at0 m c t hc).2.2.1 := by unfold outs; rw [dif_pos hc]
theorem outsS_1 (c : Dev nD) (t : Fin cfg0.N) (h) (hc : ¬ first t) : (outs m c t h).1 = (atS m c t h hc).1 := by unfold outs; rw [dif_neg hc]
theorem outsS_2 (c : Dev nD) (t : Fin cfg0.N) (h) (hc : ¬ first t) : (outs m c t h).2.1 = (atS m c t h hc).2.1 := by unfold outs; rw [dif_neg hc]
theorem outsS_3 (c : Dev nD) (t : Fin cfg0.N) (h) (hc : ¬ first t) : (outs m c t h).2.2 = (atS m c t h hc).2.2.1 := by unfold outs; rw [dif_neg hc]

/-- The carried state before point `n`. -/
def state (c : Dev nD) : ℕ → Vec F S8x1024 .f32
  | 0 => k0_pay2
  | n + 1 => if hn : n < cfg0.N then (outs m c ⟨n, hn⟩ (state c n)).2.2 else state c n

theorem state_succ (c : Dev nD) (t : Fin cfg0.N) : state m c (t.val + 1) = (outs m c t (state m c t.val)).2.2 := by
  rw [state]; exact dif_pos t.isLt

theorem first_iff : ∀ t : Fin cfg0.N, first t ↔ t.val = 0 :=
  (by decide +kernel : ∀ t : Fin grid0.N, Scalar.cmpi .ne (Scalar.extui (Scalar.cmpi .eq (BitVec.ofNat 32 ((grid0.coords t) 0).val) 0#32)) 0#32 = 1#1 ↔ t.val = 0)

/-- The invariant between points: the carried state at `state`, the other scratch buffers at anything. -/
def inv (c : Dev nD) (t : Fin (cfg0.N + 1)) : sProp 𝕄 :=
  iprop(((∃ d, ⌜t.val ≠ 0 → d = state m c t.val⌝ ∗ owns (c : Thread nD τ) sc0 fullShare d)
    ∗ (∃ d, owns (c : Thread nD τ) sc1 fullShare d) ∗ (∃ d, owns (c : Thread nD τ) sc2 fullShare d)
    ∗ (∃ d, owns (c : Thread nD τ) sc3 fullShare d)) ∗ (∃ r, prngReg c r))

theorem PhiA_eq (c : Dev nD) : (Pipeline.ΦA spec0 c : sProp 𝕄)
    = iprop(((∃ d, owns (c : Thread nD τ) sc0 fullShare d)
    ∗ (∃ d, owns (c : Thread nD τ) sc1 fullShare d) ∗ (∃ d, owns (c : Thread nD τ) sc2 fullShare d)
    ∗ (∃ d, owns (c : Thread nD τ) sc3 fullShare d)) ∗ (∃ r, prngReg c r)) := by
  unfold Pipeline.ΦA; rw [scopedRest0_eq]; simp only [sc0, sc1, sc2, sc3, owns_whole]; try rfl

/-- The proof data: each input's buffer at its block, the results' at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outs m c t (state m c t.val)).1
    | ⟨11, _⟩ => (outs m c t (state m c t.val)).2.1
    | ⟨_ + 12, h⟩ => absurd h (Nat.not_lt.2 (Nat.le_add_left _ _))
  Φ t := inv m c t
  q w := Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outs m c t (state m c t.val)).1 := by dsimp only [dats]
theorem after0_11 (c : Dev nD) (t : Fin cfg0.N) : (dats m 0 c).after 11 t = (outs m c t (state m c t.val)).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7, before0_8, before0_9]
  rw [show (dats m 0 c).Φ t.succ = inv m c t.succ from rfl, show (dats m 0 c).Φ t.castSucc = inv m c t.castSucc from rfl,
    show (dats m 0 c).owesAt () t.succ = (dats m 0 c).owesAt () t.castSucc from rfl, after0_0, after0_1, after0_2, after0_3, after0_4, after0_5, after0_6, after0_7, after0_8, after0_9, after0_10, after0_11]
  unfold inv
  rw [show (t.succ : Fin (cfg0.N + 1)).val = t.val + 1 from rfl, show (t.castSucc : Fin (cfg0.N + 1)).val = t.val from rfl, state_succ]
  iintro ⟨⟨⟨⟨%s, %hs, HS0⟩, HS1, HS2, HS3⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  by_cases hc : first t
  · rw [outs0_1 m c t _ hc, outs0_2 m c t _ hc, outs0_3 m c t _ hc]
    iapply ((at0 m c t hc).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexists _; iexact HS0
    isplitl [HS1]; · iexact HS1
    isplitl [HS2]; · iexact HS2
    isplitl [HS3]; · iexact HS3
    iintro ⟨H0, H1, H2, H3, H4, H5, H6, H7, H8, H9, H10, H11, HS0, HS1, HS2, HS3⟩
    isplitl [HS0 HS1 HS2 HS3 HP]
    · isplitl [HS0 HS1 HS2 HS3]
      · isplitl [HS0]
        · iexists _; isplitr; swap; · iexact HS0
          ipureintro; exact fun _ => rfl
        isplitl [HS1]; · iexact HS1
        isplitl [HS2]; · iexact HS2
        iexact HS3
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · obtain rfl := hs fun h0 => hc ((first_iff t).2 h0)
    rw [outsS_1 m c t _ hc, outsS_2 m c t _ hc, outsS_3 m c t _ hc]
    iapply ((atS m c t (state m c t.val) hc).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexact HS0
    isplitl [HS1]; · iexact HS1
    isplitl [HS2]; · iexact HS2
    isplitl [HS3]; · iexact HS3
    iintro ⟨H0, H1, H2, H3, H4, H5, H6, H7, H8, H9, H10, H11, HS0, HS1, HS2, HS3⟩
    isplitl [HS0 HS1 HS2 HS3 HP]
    · isplitl [HS0 HS1 HS2 HS3]
      · isplitl [HS0]
        · iexists _; isplitr; swap; · iexact HS0
          ipureintro; exact fun _ => rfl
        isplitl [HS1]; · iexact HS1
        isplitl [HS2]; · iexact HS2
        iexact HS3
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem hin (c : Dev nD) : (Pipeline.ΦA spec0 c : sProp 𝕄) ⊢ inv m c 0 := by
  rw [PhiA_eq]; unfold inv
  iintro ⟨⟨⟨%d, H0⟩, H1, H2, H3⟩, HP⟩
  isplitl [H0 H1 H2 H3]
  · isplitl [H0]
    · iexists d; isplitr; swap; · iexact H0
      ipureintro; exact fun h => absurd rfl h
    isplitl [H1]; · iexact H1
    isplitl [H2]; · iexact H2
    iexact H3
  iexact HP

theorem hout (c : Dev nD) : inv m c (Fin.last cfg0.N) ⊢ (Pipeline.ΦA spec0 c : sProp 𝕄) := by
  rw [PhiA_eq]; unfold inv
  iintro ⟨⟨⟨%d, %hd, H0⟩, H1, H2, H3⟩, HP⟩
  isplitl [H0 H1 H2 H3]
  · isplitl [H0]; · iexists d; iexact H0
    isplitl [H1]; · iexact H1
    isplitl [H2]; · iexact H2
    iexact H3
  iexact HP

set_option backward.isDefEq.respectTransparency.types false in
/-- The run of the whole program: it ends, its arrays as the pipeline leaves them, every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := fun _ _ => rfl)
    (hin := fun c => hin m c) (hout := fun c => hout m c) (hQ' := fun _ h => h)

end Cert.KernelIdeal.Body

end
-- ==== Proof.Scalar.lean ====
/-
  The identities over the extended reals by which the kernel's gates and coefficients are the reference's: the
  logistic function through the hyperbolic tangent, the exponent of the decay, and the input's multiplier.
-/
module

public import Idealize.ShloMosaic.Lib.Pointwise
public import Idealize.ShloMosaic.Lib.IdealHost

@[expose] public section

noncomputable section

namespace Cert.Scalar

open Idealize.ShloMosaic

theorem half : Ideal.ofBits .f32 0x3F000000#32 = ((1 / 2 : ℝ) : EReal) := by
  simp [Ideal.ofBits, Ideal.ieee, -EReal.coe_mul]; norm_num
theorem minus_four : Ideal.ofBits .f32 0xC0800000#32 = ((-4 : ℝ) : EReal) := by
  simp [Ideal.ofBits, Ideal.ieee, -EReal.coe_mul, -EReal.coe_neg]; norm_num
theorem minus_eight : Ideal.ofBits .f32 0xC1000000#32 = ((-8 : ℝ) : EReal) := by
  simp [Ideal.ofBits, Ideal.ieee, -EReal.coe_mul, -EReal.coe_neg]; norm_num
theorem two : Ideal.ofBits .f32 0x40000000#32 = ((2 : ℝ) : EReal) := by
  simp [Ideal.ofBits, Ideal.ieee, -EReal.coe_mul]; norm_num
theorem bot : Ideal.ofBits .f32 0xFF800000#32 = ⊥ := by
  simp [Ideal.ofBits, Ideal.ieee]

/-- The hyperbolic tangent by the exponential of twice its argument. -/
theorem real_tanh (x : ℝ) : Real.tanh x = (1 - Real.exp (-(2 * x))) / (1 + Real.exp (-(2 * x))) := by
  rw [Real.tanh_eq_sinh_div_cosh, Real.sinh_eq, Real.cosh_eq]
  have e : Real.exp (-(2 * x)) = Real.exp (-x) * Real.exp (-x) := by rw [← Real.exp_add]; congr 1; ring
  have h : Real.exp x * Real.exp (-x) = 1 := by rw [← Real.exp_add]; simp
  have p := Real.exp_pos x
  have q := Real.exp_pos (-x)
  rw [e]
  rw [div_div_div_cancel_right₀ (by norm_num), div_eq_div_iff (by positivity) (by positivity)]
  ring_nf
  nlinarith [h, sq_nonneg (Real.exp (-x))]

theorem half_mul_bot : ((1 / 2 : ℝ) : EReal) * ⊥ = ⊥ := EReal.coe_mul_bot_of_pos (by norm_num)
theorem half_mul_top : ((1 / 2 : ℝ) : EReal) * ⊤ = ⊤ := EReal.coe_mul_top_of_pos (by norm_num)

theorem one_div_real (x : ℝ) (h : x ≠ 0) : Ideal.div 1 (x : EReal) = ((x⁻¹ : ℝ) : EReal) := by
  unfold Ideal.div
  rw [if_neg (by exact_mod_cast h), one_mul, EReal.coe_inv]

/-- A gate is a real. -/
theorem tanh_real (y : EReal) : ∃ r : ℝ, Ideal.tanh y = r := by
  induction y using EReal.rec with
  | bot => exact ⟨-1, by simp⟩
  | top => exact ⟨1, by simp⟩
  | coe r => exact ⟨Real.tanh r, by simp⟩

theorem gate_eq (y : EReal) :
    ((1 / 2 : ℝ) : EReal) * Ideal.tanh (((1 / 2 : ℝ) : EReal) * y) + ((1 / 2 : ℝ) : EReal) = Ideal.div 1 (1 + Ideal.exp (-y)) := by
  induction y using EReal.rec with
  | bot =>
    rw [half_mul_bot]
    simp only [Ideal.tanh_bot, EReal.neg_bot, Ideal.exp_top]
    rw [show (1 : EReal) + ⊤ = ⊤ from EReal.coe_add_top 1]
    unfold Ideal.div
    rw [if_neg (by simp), EReal.inv_top, mul_zero]
    rw [show (-1 : EReal) = ((-1 : ℝ) : EReal) by simp, ← EReal.coe_mul, ← EReal.coe_add]
    norm_num
  | top =>
    rw [half_mul_top]
    simp only [Ideal.tanh_top, EReal.neg_top, Ideal.exp_bot]
    rw [add_zero, show (1 : EReal) = ((1 : ℝ) : EReal) by simp, ← EReal.coe_mul, ← EReal.coe_add, show ((1 : ℝ) : EReal) = 1 by simp, show Ideal.div 1 1 = Ideal.div 1 ((1 : ℝ) : EReal) by simp, one_div_real 1 one_ne_zero]
    norm_num
  | coe r =>
    rw [← EReal.coe_mul, Ideal.tanh_coe, ← EReal.coe_neg, Ideal.exp_coe, show (1 : EReal) + ((Real.exp (-r) : ℝ) : EReal) = ((1 + Real.exp (-r) : ℝ) : EReal) by simp,
      one_div_real _ (by positivity), ← EReal.coe_mul, ← EReal.coe_add]
    congr 1
    rw [real_tanh]
    rw [show -(2 * (1 / 2 * r)) = -r by ring]
    have := Real.exp_pos (-r)
    field_simp
    ring

/-- The exponent of the decay, when the softplus of the parameter is a real. -/
theorem decay_eq (s : ℝ) (y : EReal) :
    (((-4 : ℝ) : EReal) * (s : EReal)) + (((-4 : ℝ) : EReal) * (s : EReal)) * Ideal.tanh (((1 / 2 : ℝ) : EReal) * y)
      = ((-8 : ℝ) : EReal) * Ideal.div 1 (1 + Ideal.exp (-y)) * (s : EReal) := by
  rw [← gate_eq]
  obtain ⟨r, hr⟩ := tanh_real (((1 / 2 : ℝ) : EReal) * y)
  rw [hr]
  simp only [← EReal.coe_mul, ← EReal.coe_add]
  congr 1
  ring

theorem decay_real (s : ℝ) (y : EReal) : ∃ l : ℝ,
    (((-4 : ℝ) : EReal) * (s : EReal)) + (((-4 : ℝ) : EReal) * (s : EReal)) * Ideal.tanh (((1 / 2 : ℝ) : EReal) * y) = l := by
  obtain ⟨r, hr⟩ := tanh_real (((1 / 2 : ℝ) : EReal) * y)
  exact ⟨-4 * s + -4 * s * r, by rw [hr]; simp only [← EReal.coe_mul, ← EReal.coe_add]⟩

/-- The input's multiplier at a real exponent. -/
theorem mult_eq (l : ℝ) :
    (0 - Ideal.tanh (l : EReal)) * (1 + Ideal.exp (l : EReal) * Ideal.exp (l : EReal))
      = -(Ideal.exp (((2 : ℝ) : EReal) * (l : EReal)) - 1) := by
  rw [← EReal.coe_mul, Ideal.tanh_coe, Ideal.exp_coe, Ideal.exp_coe, ← EReal.coe_mul, zero_sub, ← EReal.coe_neg,
    show (1 : EReal) = ((1 : ℝ) : EReal) by simp, ← EReal.coe_add, ← EReal.coe_mul, ← EReal.coe_sub, ← EReal.coe_neg]
  congr 1
  rw [real_tanh, ← Real.exp_add, show l + l = 2 * l by ring, Real.exp_neg]
  have := Real.exp_pos (2 * l)
  field_simp
  ring

/-- A positive real distributes over a finite sum of extended reals. -/
theorem mul_sum {ι : Type} (r : ℝ) (hr : 0 ≤ r) (s : Finset ι) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha, EReal.left_distrib_of_nonneg_of_ne_top (by exact_mod_cast hr) (EReal.coe_ne_top r), ih]

/-- The gates' argument: weights and bias halved, the product's operands in the other order. -/
theorem arg_eq {n : ℕ} (u w : Fin n → EReal) (b : EReal) :
    (0 + ∑ k, u k * (((1 / 2 : ℝ) : EReal) * w k)) + ((1 / 2 : ℝ) : EReal) * b
      = ((1 / 2 : ℝ) : EReal) * ((0 + ∑ k, w k * u k) + b) := by
  rw [zero_add, zero_add, EReal.left_distrib_of_nonneg_of_ne_top (by exact_mod_cast (by norm_num : (0 : ℝ) ≤ 1 / 2)) (EReal.coe_ne_top _),
    mul_sum _ (by norm_num)]
  congr 1
  exact Finset.sum_congr rfl fun k _ => by rw [mul_left_comm, mul_comm (u k)]

/-- The softplus as both programs compute it, at `x`: `max x 0 + log1p (exp (-|x - 0|))`. -/
def softplus (x : EReal) : EReal := max x 0 + Ideal.log (1 + Ideal.exp (-(max (x - 0) (-(x - 0)))))

theorem log_pos (r : ℝ) (h : 0 < r) : Ideal.log (r : EReal) = (Real.log r : EReal) := by
  rw [Ideal.log_coe]
  exact if_neg (not_le.2 h)

theorem softplus_real (x : EReal) (h : x ≠ ⊤) : ∃ s : ℝ, softplus x = s := by
  unfold softplus
  rw [sub_zero]
  induction x using EReal.rec with
  | bot =>
    refine ⟨0, ?_⟩
    rw [EReal.neg_bot, max_eq_right (bot_le : (⊥ : EReal) ≤ ⊤), EReal.neg_top, Ideal.exp_bot, add_zero, show (1 : EReal) = ((1 : ℝ) : EReal) by simp,
      log_pos 1 one_pos, max_eq_right (bot_le : (⊥ : EReal) ≤ 0)]
    simp
  | top => exact absurd rfl h
  | coe r =>
    have e : max (r : EReal) (-(r : EReal)) = ((max r (-r) : ℝ) : EReal) := by
      rw [← EReal.coe_neg]; exact (EReal.coe_strictMono.monotone.map_max).symm
    refine ⟨max r 0 + Real.log (1 + Real.exp (-(max r (-r)))), ?_⟩
    rw [e, ← EReal.coe_neg, Ideal.exp_coe, show (1 : EReal) + ((Real.exp (-(max r (-r))) : ℝ) : EReal) = ((1 + Real.exp (-(max r (-r))) : ℝ) : EReal) by simp,
      show max (r : EReal) 0 = ((max r 0 : ℝ) : EReal) from (EReal.coe_strictMono.monotone.map_max (a := r) (b := 0)).symm]
    rw [log_pos _ (by have := Real.exp_pos (-(max r (-r))); linarith), ← EReal.coe_add]

end Cert.Scalar

end
-- ==== Proof.Blocks.lean ====
/-
  The kernel's input blocks at coordinates, over the extended reals: row `r` of the block of point `t` is token
  `128 t + r / 8` of batch `r % 8`; the host halves the gates' weights and biases.
-/
module

public import proofs.«01_k».proof.Proof.Point
public import proofs.«01_k».proof.Proof.Run
public import proofs.«01_k».proof.Proof.Scalar
public import Idealize.ShloMosaic.Lib.Pointwise
public import Idealize.ShloMosaic.Lib.Claim
public import Idealize.ShloMosaic.Lib.Pipeline.ValueKit

@[expose] public section

set_option maxRecDepth 16384
set_option maxHeartbeats 2000000

noncomputable section

namespace Cert.KernelIdeal.Body

open Cert.KernelIdeal Cert.KernelIdeal.Gen
open Idealize.ShloMosaic Idealize.ShloMosaic.TcCoe Idealize.ShloMosaic.Tactic

variable (m : (ℓ : Loc nD τ sig) → Buf (Elt Ideal) ℓ)

theorem idx : ∀ t : Fin cfg0.N, win0_0.index t = ![t.val, 0] ∧ win0_1.index t = ![128 * t.val - 1, 0]
    ∧ win0_2.index t = ![min (128 * t.val + 128) 2303, 0] ∧ win0_3.index t = ![min (128 * t.val + 129) 2303, 0]
    ∧ win0_4.index t = ![0, 0] ∧ win0_5.index t = ![0, 0] ∧ win0_6.index t = ![0, 0, 0] ∧ win0_7.index t = ![0, 0]
    ∧ win0_8.index t = ![0, 0] ∧ win0_9.index t = ![0, 0] ∧ win0_10.index t = ![t.val, 0] ∧ win0_11.index t = ![t.val, 0]
    ∧ ((grid0.coords t) 0).val = t.val ∧ t.val < 18 :=
  (by decide +kernel : ∀ t : Fin grid0.N, _)

abbrev argP (c : Dev nD) : FVec Ideal S8x2304x2048 .f32 := m ((c : Thread nD τ).loc main_arg0)
abbrev argCw (c : Dev nD) : FVec Ideal S4x1024 .f32 := m ((c : Thread nD τ).loc main_arg1)
abbrev argCb (c : Dev nD) : FVec Ideal S1024 .f32 := m ((c : Thread nD τ).loc main_arg2)
abbrev argWx (c : Dev nD) : FVec Ideal S8x128x128 .f32 := m ((c : Thread nD τ).loc main_arg3)
abbrev argBx (c : Dev nD) : FVec Ideal S1024 .f32 := m ((c : Thread nD τ).loc main_arg4)
abbrev argWa (c : Dev nD) : FVec Ideal S8x128x128 .f32 := m ((c : Thread nD τ).loc main_arg5)
abbrev argBa (c : Dev nD) : FVec Ideal S1024 .f32 := m ((c : Thread nD τ).loc main_arg6)
abbrev argLam (c : Dev nD) : FVec Ideal S1024 .f32 := m ((c : Thread nD τ).loc main_arg7)

/-- The zero vector the softplus compares with, and the softplus as the host computes it. -/
abbrev zv : FVec Ideal S1024 .f32 := broadcastInDim S1024 ![] bcast_S_S1024 (constant S_ .f32 0x00000000#32)
abbrev spv (x : FVec Ideal S1024 .f32) : FVec Ideal S1024 .f32 :=
  select (cmpf .une (subf x zv) (subf x zv)) (addf x zv)
    (addf (maximumf x zv) (Host.log1p (Host.exp (Host.negf (Host.absf (subf x zv))))))

theorem spv_at (x : FVec Ideal S1024 .f32) (k : Fin 1024) : spv x (ix1 k) = Cert.Scalar.softplus (x (ix1 k)) := by
  unfold Cert.Scalar.softplus
  pointwise [spv, zv]
  simp [Ideal.cmp]
  try rfl

theorem V1 (c : Dev nD) : V m c main_v1 = shapeCast S18432x2048 (transpose S2304x8x2048 [1, 0, 2] (argP m c) transposes_S8x2304x2048_S2304x8x2048_1_0_2) shapeCasts_S2304x8x2048_S18432x2048 := by
  unfold V
  simp only [hostOps0, hostOps0_1, hostOps0_2, List.flatten_cons, List.flatten_nil, List.append_nil, List.cons_append, List.nil_append]
  entry_read
  rfl

theorem V9 (c : Dev nD) : V m c main_v9 = truncf FTy.bf16 (mulf (broadcastInDim S8x128x256 ![] bcast_S_S8x128x256 (constant S_ FTy.f32 0x3F000000#32)) (concatenate S8x128x256 2 [⟨S8x128x128, argWx m c⟩, ⟨S8x128x128, argWa m c⟩] concatenates_S8x128x128_S8x128x128_S8x128x256_d2)) bitsLt_bf16_f32 := by
  unfold V
  simp only [hostOps0, hostOps0_1, hostOps0_2, List.flatten_cons, List.flatten_nil, List.append_nil, List.cons_append, List.nil_append]
  entry_read
  rfl

theorem V10 (c : Dev nD) : V m c main_v10 = shapeCast S1x1024 (argCb m c) shapeCasts_S1024_S1x1024 := by
  unfold V
  simp only [hostOps0, hostOps0_1, hostOps0_2, List.flatten_cons, List.flatten_nil, List.append_nil, List.cons_append, List.nil_append]
  entry_read
  rfl

theorem V13 (c : Dev nD) : V m c main_v13 = mulf (broadcastInDim S1x1024 ![] bcast_S_S1x1024 (constant S_ .f32 0x3F000000#32)) (shapeCast S1x1024 (argBx m c) shapeCasts_S1024_S1x1024) := by
  unfold V
  simp only [hostOps0, hostOps0_1, hostOps0_2, List.flatten_cons, List.flatten_nil, List.append_nil, List.cons_append, List.nil_append]
  entry_read
  rfl

theorem V16 (c : Dev nD) : V m c main_v16 = mulf (broadcastInDim S1x1024 ![] bcast_S_S1x1024 (constant S_ .f32 0x3F000000#32)) (shapeCast S1x1024 (argBa m c) shapeCasts_S1024_S1x1024) := by
  unfold V
  simp only [hostOps0, hostOps0_1, hostOps0_2, List.flatten_cons, List.flatten_nil, List.append_nil, List.cons_append, List.nil_append]
  entry_read
  rfl

theorem V17 (c : Dev nD) : V m c main_v17 = shapeCast S1x1024 (mulf (broadcastInDim S1024 ![] bcast_S_S1024 (constant S_ .f32 0xC0800000#32)) (spv (Host.negf (argLam m c)))) shapeCasts_S1024_S1x1024 := by
  unfold V
  simp only [hostOps0, hostOps0_1, hostOps0_2, List.flatten_cons, List.flatten_nil, List.append_nil, List.cons_append, List.nil_append]
  entry_read
  rfl

theorem v1_at (c : Dev nD) (R : Fin 18432) (C : Fin 2048) :
    V m c main_v1 (ix2 R C) = argP m c (ix3 ⟨R.val % 8, by omega⟩ ⟨R.val / 8, by omega⟩ C) := by
  rw [V1]
  pointwise []
  blk_ext []

theorem v9_x (c : Dev nD) (h : Fin 8) (i : Fin 128) (j : Fin 128) :
    V m c main_v9 (ix3 h i ⟨j.val, by omega⟩) = ((1 / 2 : ℝ) : EReal) * argWx m c (ix3 h i j) := by
  rw [V9, ← Cert.Scalar.half]
  pointwise []

theorem v9_a (c : Dev nD) (h : Fin 8) (i : Fin 128) (j : Fin 128) :
    V m c main_v9 (ix3 h i ⟨128 + j.val, by omega⟩) = ((1 / 2 : ℝ) : EReal) * argWa m c (ix3 h i j) := by
  rw [V9, ← Cert.Scalar.half]
  pointwise []

theorem v10_at (c : Dev nD) (k : Fin 1024) : V m c main_v10 (ix2 0 k) = argCb m c (ix1 k) := by
  rw [V10]
  pointwise []

theorem v13_at (c : Dev nD) (k : Fin 1024) : V m c main_v13 (ix2 0 k) = ((1 / 2 : ℝ) : EReal) * argBx m c (ix1 k) := by
  rw [V13, ← Cert.Scalar.half]
  pointwise []

theorem v16_at (c : Dev nD) (k : Fin 1024) : V m c main_v16 (ix2 0 k) = ((1 / 2 : ℝ) : EReal) * argBa m c (ix1 k) := by
  rw [V16, ← Cert.Scalar.half]
  pointwise []

theorem v17_at (c : Dev nD) (k : Fin 1024) :
    V m c main_v17 (ix2 0 k) = ((-4 : ℝ) : EReal) * Cert.Scalar.softplus (-(argLam m c (ix1 k))) := by
  rw [V17, ← Cert.Scalar.minus_four]
  unfold Cert.Scalar.softplus
  pointwise [spv, zv]
  rw [if_neg (fun h => h rfl)]
  rfl

theorem blk0 (c : Dev nD) (t : Fin cfg0.N) (r : Fin 1024) (k : Fin 1024) (h) :
    iblk m c 0 t (ix2 r k) = argP m c (ix3 ⟨r.val % 8, by omega⟩ ⟨128 * t.val + r.val / 8, h⟩ ⟨k.val, by omega⟩) := by
  blk_simp [iblk]
  refine Eq.trans (congrArg (V m c main_v1) (?_ : _ = ix2 ⟨1024 * t.val + r.val, by omega⟩ ⟨k.val, by omega⟩)) ((v1_at m c _ _).trans ?_)
  · blk_ext [idx t]
  · blk_ext []

theorem blk1 (c : Dev nD) (t : Fin cfg0.N) (b : Fin 8) (k : Fin 1024) (h) :
    iblk m c 1 t (ix2 b k) = argP m c (ix3 b ⟨128 * t.val - 1, h⟩ ⟨k.val, by omega⟩) := by
  blk_simp [iblk]
  refine Eq.trans (congrArg (V m c main_v1) (?_ : _ = ix2 ⟨8 * (128 * t.val - 1) + b.val, by omega⟩ ⟨k.val, by omega⟩)) ((v1_at m c _ _).trans ?_)
  · blk_ext [idx t]
  · blk_ext []

theorem blk2 (c : Dev nD) (t : Fin cfg0.N) (b : Fin 8) (k : Fin 1024) (h) :
    iblk m c 2 t (ix2 b k) = argP m c (ix3 b ⟨min (128 * t.val + 128) 2303, h⟩ ⟨k.val, by omega⟩) := by
  blk_simp [iblk]
  refine Eq.trans (congrArg (V m c main_v1) (?_ : _ = ix2 ⟨8 * (min (128 * t.val + 128) 2303) + b.val, by omega⟩ ⟨k.val, by omega⟩)) ((v1_at m c _ _).trans ?_)
  · blk_ext [idx t]
  · blk_ext []

theorem blk3 (c : Dev nD) (t : Fin cfg0.N) (b : Fin 8) (k : Fin 1024) (h) :
    iblk m c 3 t (ix2 b k) = argP m c (ix3 b ⟨min (128 * t.val + 129) 2303, h⟩ ⟨k.val, by omega⟩) := by
  blk_simp [iblk]
  refine Eq.trans (congrArg (V m c main_v1) (?_ : _ = ix2 ⟨8 * (min (128 * t.val + 129) 2303) + b.val, by omega⟩ ⟨k.val, by omega⟩)) ((v1_at m c _ _).trans ?_)
  · blk_ext [idx t]
  · blk_ext []

theorem blk4 (c : Dev nD) (t : Fin cfg0.N) (o : Fin 4) (k : Fin 1024) :
    iblk m c 4 t (ix2 o k) = argCw m c (ix2 o k) := by
  blk_ext [iblk, V, idx t]

theorem blk5 (c : Dev nD) (t : Fin cfg0.N) (k : Fin 1024) :
    iblk m c 5 t (ix2 0 k) = argCb m c (ix1 k) := by
  blk_simp [iblk]
  refine Eq.trans (congrArg (V m c main_v10) (?_ : _ = ix2 0 k)) (v10_at m c k)
  blk_ext [idx t]

theorem blk7 (c : Dev nD) (t : Fin cfg0.N) (k : Fin 1024) :
    iblk m c 7 t (ix2 0 k) = ((1 / 2 : ℝ) : EReal) * argBx m c (ix1 k) := by
  blk_simp [iblk]
  refine Eq.trans (congrArg (V m c main_v13) (?_ : _ = ix2 0 k)) (v13_at m c k)
  blk_ext [idx t]

theorem blk8 (c : Dev nD) (t : Fin cfg0.N) (k : Fin 1024) :
    iblk m c 8 t (ix2 0 k) = ((1 / 2 : ℝ) : EReal) * argBa m c (ix1 k) := by
  blk_simp [iblk]
  refine Eq.trans (congrArg (V m c main_v16) (?_ : _ = ix2 0 k)) (v16_at m c k)
  blk_ext [idx t]

theorem blk9 (c : Dev nD) (t : Fin cfg0.N) (k : Fin 1024) :
    iblk m c 9 t (ix2 0 k) = ((-4 : ℝ) : EReal) * Cert.Scalar.softplus (-(argLam m c (ix1 k))) := by
  blk_simp [iblk]
  refine Eq.trans (congrArg (V m c main_v17) (?_ : _ = ix2 0 k)) (v17_at m c k)
  blk_ext [idx t]

theorem blk6x (c : Dev nD) (t : Fin cfg0.N) (h : Fin 8) (i : Fin 128) (j : Fin 128) :
    iblk m c 6 t (ix3 h i ⟨j.val, by omega⟩) = ((1 / 2 : ℝ) : EReal) * argWx m c (ix3 h i j) := by
  blk_simp [iblk]
  refine Eq.trans (congrArg (V m c main_v9) (?_ : _ = ix3 h i ⟨j.val, by omega⟩)) (v9_x m c h i j)
  blk_ext [idx t]

theorem blk6a (c : Dev nD) (t : Fin cfg0.N) (h : Fin 8) (i : Fin 128) (j : Fin 128) :
    iblk m c 6 t (ix3 h i ⟨128 + j.val, by omega⟩) = ((1 / 2 : ℝ) : EReal) * argWa m c (ix3 h i j) := by
  blk_simp [iblk]
  refine Eq.trans (congrArg (V m c main_v9) (?_ : _ = ix3 h i ⟨128 + j.val, by omega⟩)) (v9_a m c h i j)
  blk_ext [idx t]

end Cert.KernelIdeal.Body

end
-- ==== Proof.Spec.lean ====
/-
  The layer's mathematics, over the extended reals: the convolved channels, the gates and coefficients, and the
  recurrence, by batch, token and channel. Tokens 0–255 are the context, 256–2303 the latents.
-/
module

public import proofs.«01_k».proof.Proof.Scalar
public import Idealize.ShloMosaic.Lib.Pointwise

@[expose] public section

noncomputable section

namespace Cert.Spec

open Idealize.ShloMosaic

/-- The arguments. -/
structure Args where
  p : FVec Ideal ⟨3, ![8, 2304, 2048]⟩ .f32
  cw : FVec Ideal ⟨2, ![4, 1024]⟩ .f32
  cb : FVec Ideal ⟨1, ![1024]⟩ .f32
  wx : FVec Ideal ⟨3, ![8, 128, 128]⟩ .f32
  bx : FVec Ideal ⟨1, ![1024]⟩ .f32
  wa : FVec Ideal ⟨3, ![8, 128, 128]⟩ .f32
  ba : FVec Ideal ⟨1, ![1024]⟩ .f32
  lam : FVec Ideal ⟨1, ![1024]⟩ .f32

/-- The token tap `k` of the convolution reads at token `n`: `n + k - 1` within `n`'s segment, zero outside it. -/
def tok (A : Args) (b : Fin 8) (n k : ℕ) (c : Fin 1024) : EReal :=
  if h : (n < 256 ∧ 1 ≤ n + k ∧ n + k < 257) ∨ (256 ≤ n ∧ 257 ≤ n + k ∧ n + k < 2305) then
    A.p (ix3 b ⟨n + k - 1, by omega⟩ ⟨c.val, by omega⟩) else 0

/-- The convolved channel. -/
def U (A : Args) (n : ℕ) (b : Fin 8) (c : Fin 1024) : EReal :=
  A.cb (ix1 c) + tok A b n 0 c * A.cw (ix2 0 c) + tok A b n 1 c * A.cw (ix2 1 c) + tok A b n 2 c * A.cw (ix2 2 c)
    + tok A b n 3 c * A.cw (ix2 3 c)

/-- A gate's argument: the channel's head of the block-diagonal product, and the bias. -/
def arg (A : Args) (w : FVec Ideal ⟨3, ![8, 128, 128]⟩ .f32) (v : FVec Ideal ⟨1, ![1024]⟩ .f32) (n : ℕ) (b : Fin 8) (c : Fin 1024) : EReal :=
  (0 + ∑ k : Fin 128, w (ix3 ⟨c.val / 128, by omega⟩ k ⟨c.val % 128, by omega⟩) * U A n b ⟨128 * (c.val / 128) + k.val, by omega⟩) + v (ix1 c)

def gate (y : EReal) : EReal := Ideal.div 1 (1 + Ideal.exp (-y))

/-- The decay's exponent. -/
def L (A : Args) (n : ℕ) (b : Fin 8) (c : Fin 1024) : EReal :=
  ((-8 : ℝ) : EReal) * gate (arg A A.wa A.ba n b c) * Cert.Scalar.softplus (-(A.lam (ix1 c)))

/-- The recurrence's two coefficients. -/
def coefA (A : Args) (n : ℕ) (b : Fin 8) (c : Fin 1024) : EReal := Ideal.exp (L A n b c)
def coefB (A : Args) (n : ℕ) (b : Fin 8) (c : Fin 1024) : EReal :=
  Ideal.sqrt (-(Ideal.exp (((2 : ℝ) : EReal) * L A n b c) - 1)) * gate (arg A A.wx A.bx n b c) * U A n b c

/-- The state after `n` tokens. -/
def h (A : Args) : ℕ → Fin 8 → Fin 1024 → EReal
  | 0, _, _ => 0
  | n + 1, b, c => coefA A n b c * h A n b c + coefB A n b c

/-- The two results: the states in time order, and the convolved channels. -/
def scan (A : Args) : FVec Ideal ⟨2, ![18432, 1024]⟩ .f32 := fun y => h A ((y 0 : ℕ) / 8 + 1) ⟨(y 0 : ℕ) % 8, Nat.mod_lt _ (by decide)⟩ (y 1)
def chan (A : Args) : FVec Ideal ⟨2, ![18432, 1024]⟩ .f32 := fun y => U A ((y 0 : ℕ) / 8) ⟨(y 0 : ℕ) % 8, Nat.mod_lt _ (by decide)⟩ (y 1)

end Cert.Spec

end
-- ==== Proof.Tokens.lean ====
/-
  What the kernel's body leaves at a point, by token: the convolved channels, the recurrence's coefficients, and the
  states from the carried one.
-/
module

public import proofs.«01_k».proof.Proof.Blocks
public import proofs.«01_k».proof.Proof.Spec

@[expose] public section

set_option maxRecDepth 16384
set_option maxHeartbeats 2000000

noncomputable section

namespace Cert.KernelIdeal.Body

open Cert.KernelIdeal Cert.KernelIdeal.Gen
open Idealize.ShloMosaic Idealize.ShloMosaic.TcCoe Idealize.ShloMosaic.Tactic

variable (m : (ℓ : Loc nD τ sig) → Buf (Elt Ideal) ℓ)

/-- The launch's arguments. -/
def args (c : Dev nD) : Cert.Spec.Args := ⟨argP m c, argCw m c, argCb m c, argWx m c, argBx m c, argWa m c, argBa m c, argLam m c⟩

theorem cond3 : ∀ t : Fin cfg0.N, Scalar.ori (Scalar.cmpi .eq (BitVec.ofNat 32 ((grid0.coords t) 0).val) 0#32) (Scalar.cmpi .eq (BitVec.ofNat 32 ((grid0.coords t) 0).val) 2#32)
    = if t.val = 0 ∨ t.val = 2 then 1#1 else 0#1 :=
  (by decide +kernel : ∀ t : Fin grid0.N, _)
theorem cond5 : ∀ t : Fin cfg0.N, Scalar.ori (Scalar.cmpi .eq (BitVec.ofNat 32 ((grid0.coords t) 0).val) 1#32) (Scalar.cmpi .eq (BitVec.ofNat 32 ((grid0.coords t) 0).val) 17#32)
    = if t.val = 1 ∨ t.val = 17 then 1#1 else 0#1 :=
  (by decide +kernel : ∀ t : Fin grid0.N, _)

theorem pay3_at (t : Fin cfg0.N) (x : Vec Ideal S8x1024 .f32) (y : S8x1024.Idx) :
    k0_pay3 (grid0.coords t) x y = if t.val = 0 ∨ t.val = 2 then 0 else x y := by
  unfold k0_pay3
  dsimp only
  rw [cond3]
  split
  · pointwise [Scalar.select]
    try rfl
  · pointwise [Scalar.select]
    try rfl
theorem pay5_at (t : Fin cfg0.N) (x : Vec Ideal S8x1024 .f32) (y : S8x1024.Idx) :
    k0_pay5 (grid0.coords t) x y = if t.val = 1 ∨ t.val = 17 then 0 else x y := by
  unfold k0_pay5
  dsimp only
  rw [cond5]
  split
  · pointwise [Scalar.select]
    try rfl
  · pointwise [Scalar.select]
    try rfl
theorem pay7_at (t : Fin cfg0.N) (x : Vec Ideal S8x1024 .f32) (y : S8x1024.Idx) :
    k0_pay7 (k0_pay6 (grid0.coords t) x) y = if t.val = 1 ∨ t.val = 17 then 0 else x y := by
  unfold k0_pay7 k0_pay6
  dsimp only
  rw [cond5]
  split
  · pointwise [Scalar.select]
    try rfl
  · pointwise [Scalar.select]
    try rfl
theorem pay4_at (x : Vec Ideal S1024x1024 .f32) (y : S1024x1024.Idx) : k0_pay4 x y = x y := by
  pointwise [k0_pay4]

theorem tok_pos (A : Cert.Spec.Args) (b : Fin 8) (n k : ℕ) (c : Fin 1024) (q : Fin 2304) (hq : q.val + 1 = n + k)
    (h : (n < 256 ∧ 1 ≤ n + k ∧ n + k < 257) ∨ (256 ≤ n ∧ 257 ≤ n + k ∧ n + k < 2305)) :
    Cert.Spec.tok A b n k c = A.p (ix3 b q ⟨c.val, by omega⟩) := by
  unfold Cert.Spec.tok
  rw [dif_pos h]
  congr 2
  apply Fin.ext
  show n + k - 1 = q.val
  omega

theorem tok_neg (A : Cert.Spec.Args) (b : Fin 8) (n k : ℕ) (c : Fin 1024)
    (h : ¬ ((n < 256 ∧ 1 ≤ n + k ∧ n + k < 257) ∨ (256 ≤ n ∧ 257 ≤ n + k ∧ n + k < 2305))) :
    Cert.Spec.tok A b n k c = 0 := by
  unfold Cert.Spec.tok
  exact dif_neg h

theorem xpad_tok (c : Dev nD) (t : Fin cfg0.N) (o : Fin 4) (r : Fin 1024) (k : Fin 1024) :
    tap (xpad (grid0.coords t) (iblk m c 0 t) (iblk m c 1 t) (iblk m c 2 t) (iblk m c 3 t)) o (ix2 r k)
      = Cert.Spec.tok (args m c) ⟨r.val % 8, by omega⟩ (128 * t.val + r.val / 8) o.val k := by
  have ht := (idx t).2.2.2.2.2.2.2.2.2.2.2.2.2
  have ho := o.isLt
  have hr := r.isLt
  unfold tap xpad
  by_cases h0 : 8 * o.val + r.val < 8
  · refine (dif_pos h0).trans ?_
    rw [pay3_at]
    split
    · rw [tok_neg]; omega
    · refine (blk1 m c t _ _ (by omega)).trans ?_
      rw [tok_pos _ _ _ _ _ ⟨128 * t.val - 1, by omega⟩ (by show 128 * t.val - 1 + 1 = _; omega) (by omega)]
      show argP m c _ = argP m c _
      blk_ext []
  · refine (dif_neg h0).trans ?_
    by_cases h1 : 8 * o.val + r.val < 1032
    · refine (dif_pos h1).trans ?_
      rw [pay4_at]
      refine (blk0 m c t _ _ (by show 128 * t.val + (8 * o.val + r.val - 8) / 8 < 2304; omega)).trans ?_
      rw [tok_pos _ _ _ _ _ ⟨128 * t.val + (8 * o.val + r.val - 8) / 8, by omega⟩ (by show 128 * t.val + (8 * o.val + r.val - 8) / 8 + 1 = _; omega) (by omega)]
      show argP m c _ = argP m c _
      blk_ext []
    · refine (dif_neg h1).trans ?_
      by_cases h2 : 8 * o.val + r.val < 1040
      · refine (dif_pos h2).trans ?_
        rw [pay5_at]
        split
        · rw [tok_neg]; omega
        · refine (blk2 m c t _ _ (by omega)).trans ?_
          rw [tok_pos _ _ _ _ _ ⟨min (128 * t.val + 128) 2303, by omega⟩ (by show min (128 * t.val + 128) 2303 + 1 = _; omega) (by omega)]
          show argP m c _ = argP m c _
          blk_ext []
      · refine (dif_neg h2).trans ?_
        rw [pay7_at]
        split
        · rw [tok_neg]; omega
        · refine (blk3 m c t _ _ (by omega)).trans ?_
          rw [tok_pos _ _ _ _ _ ⟨min (128 * t.val + 129) 2303, by omega⟩ (by show min (128 * t.val + 129) 2303 + 1 = _; omega) (by omega)]
          show argP m c _ = argP m c _
          blk_ext []

/-- The convolved tile of point `t`. -/
abbrev uT (c : Dev nD) (t : Fin cfg0.N) : Vec Ideal S1024x1024 .f32 :=
  conv (grid0.coords t) (iblk m c 0 t) (iblk m c 1 t) (iblk m c 2 t) (iblk m c 3 t) (iblk m c 4 t) (iblk m c 5 t)

theorem pay8_at (x6 : Vec Ideal S1x1024 .f32) (X0 X1 X2 X3 : Vec Ideal S1024x1024 .f32) (w0 w1 w2 w3 : Vec Ideal S1x1024 .f32) (r : Fin 1024) (k : Fin 1024) :
    k0_pay8 x6 X0 w0 X1 w1 X2 w2 X3 w3 (ix2 r k) = x6 (ix2 0 k) + X0 (ix2 r k) * w0 (ix2 0 k) + X1 (ix2 r k) * w1 (ix2 0 k)
      + X2 (ix2 r k) * w2 (ix2 0 k) + X3 (ix2 r k) * w3 (ix2 0 k) := by
  pointwise [k0_pay8]

theorem uT_at (c : Dev nD) (t : Fin cfg0.N) (r : Fin 1024) (k : Fin 1024) :
    uT m c t (ix2 r k) = Cert.Spec.U (args m c) (128 * t.val + r.val / 8) ⟨r.val % 8, by omega⟩ k := by
  unfold uT conv
  rw [pay8_at, xpad_tok, xpad_tok, xpad_tok, xpad_tok, blk5]
  unfold wrow
  have w (o : Fin 4) : iblk m c 4 t (ix2 o ((ix2 (0 : Fin 1) k : S1x1024.Idx) 1)) = argCw m c (ix2 o k) := blk4 m c t o k
  rw [w, w, w, w]
  rfl

end Cert.KernelIdeal.Body

end
-- ==== Proof.Coeffs.lean ====
/-
  The recurrence's coefficients the kernel computes head by head, by token and channel.
-/
module

public import proofs.«01_k».proof.Proof.Tokens

@[expose] public section

set_option maxRecDepth 16384
set_option maxHeartbeats 2000000

noncomputable section

namespace Cert.KernelIdeal.Body

open Cert.KernelIdeal Cert.KernelIdeal.Gen
open Idealize.ShloMosaic Idealize.ShloMosaic.TcCoe Idealize.ShloMosaic.Tactic

variable (m : (ℓ : Loc nD τ sig) → Buf (Elt Ideal) ℓ)

theorem pay66_at (v : Vec Ideal S1024x128 .f32) (w : Vec Ideal S1x128x256 .bf16) (r : Fin 1024) (j : Fin 256) :
    k0_pay66 v w (ix2 r j) = 0 + ∑ k : Fin 128, v (ix2 r k) * w (ix3 0 k j) := by
  pointwise [k0_pay66, k0_pay65]

theorem pay68_at (g : Vec Ideal S1024x256 .f32) (la ba : Vec Ideal S1x128 .f32) (r : Fin 1024) (j : Fin 128) :
    k0_pay68 g la ba (ix2 r j) = la (ix2 0 j) + la (ix2 0 j) * Ideal.tanh (g (ix2 r ⟨128 + j.val, by omega⟩) + ba (ix2 0 j)) := by
  pointwise [k0_pay68]

theorem pay70_at (g : Vec Ideal S1024x256 .f32) (la ba : Vec Ideal S1x128 .f32) (r : Fin 1024) (j : Fin 128) :
    k0_pay70 g la ba (ix2 r j) = Ideal.exp (k0_pay68 g la ba (ix2 r j)) := by
  pointwise [k0_pay70, k0_pay69]

theorem pay71_at (u : Vec Ideal S1024x128 .f32) (g : Vec Ideal S1024x256 .f32) (gx : Vec Ideal S1024x128 .f32) (la ba : Vec Ideal S1x128 .f32) (r : Fin 1024) (j : Fin 128) :
    k0_pay71 u g gx la ba (ix2 r j)
      = Ideal.sqrt ((0 - Ideal.tanh (k0_pay68 g la ba (ix2 r j))) * (1 + Ideal.exp (k0_pay68 g la ba (ix2 r j)) * Ideal.exp (k0_pay68 g la ba (ix2 r j))))
        * (((1 / 2 : ℝ) : EReal) * gx (ix2 r j) + ((1 / 2 : ℝ) : EReal)) * u (ix2 r j) := by
  rw [← Cert.Scalar.half]
  pointwise [k0_pay71, k0_pay69]

theorem pay67_at (v : Vec Ideal S1024x128 .f32) (w : Vec Ideal S1x128x256 .bf16) (bx : Vec Ideal S1x128 .f32) (r : Fin 1024) (j : Fin 128) :
    k0_pay67 v w bx (ix2 r j) = Ideal.tanh (k0_pay66 v w (ix2 r ⟨j.val, by omega⟩) + bx (ix2 0 j)) := by
  pointwise [k0_pay67]

/-- The two gates' arguments, as the kernel computes them: halved. -/
theorem argx_at (c : Dev nD) (t : Fin cfg0.N) (hd : Fin 8) (r : Fin 1024) (j : Fin 128) :
    k0_pay66 (hu (uT m c t) hd) (hw (iblk m c 6 t) hd) (ix2 r ⟨j.val, by omega⟩) + hr (iblk m c 7 t) hd (ix2 0 j)
      = ((1 / 2 : ℝ) : EReal) * Cert.Spec.arg (args m c) (argWx m c) (argBx m c) (128 * t.val + r.val / 8) ⟨r.val % 8, by omega⟩ ⟨128 * hd.val + j.val, by omega⟩ := by
  rw [pay66_at]
  unfold Cert.Spec.arg
  rw [← Cert.Scalar.arg_eq]
  refine congrArg₂ (· + ·) (congrArg (0 + ·) (Finset.sum_congr rfl fun k _ => ?_)) ?_
  · refine congrArg₂ (· * ·) ?_ ?_
    · refine (uT_at m c t r ⟨128 * hd.val + k.val, by omega⟩).trans ?_
      congr 2
      show 128 * hd.val + k.val = 128 * ((128 * hd.val + j.val) / 128) + k.val
      omega
    · refine (blk6x m c t hd k j).trans ?_
      congr 1
      show argWx m c _ = argWx m c _
      blk_ext []
  · exact blk7 m c t ⟨128 * hd.val + j.val, by omega⟩

theorem arga_at (c : Dev nD) (t : Fin cfg0.N) (hd : Fin 8) (r : Fin 1024) (j : Fin 128) :
    k0_pay66 (hu (uT m c t) hd) (hw (iblk m c 6 t) hd) (ix2 r ⟨128 + j.val, by omega⟩) + hr (iblk m c 8 t) hd (ix2 0 j)
      = ((1 / 2 : ℝ) : EReal) * Cert.Spec.arg (args m c) (argWa m c) (argBa m c) (128 * t.val + r.val / 8) ⟨r.val % 8, by omega⟩ ⟨128 * hd.val + j.val, by omega⟩ := by
  rw [pay66_at]
  unfold Cert.Spec.arg
  rw [← Cert.Scalar.arg_eq]
  refine congrArg₂ (· + ·) (congrArg (0 + ·) (Finset.sum_congr rfl fun k _ => ?_)) ?_
  · refine congrArg₂ (· * ·) ?_ ?_
    · refine (uT_at m c t r ⟨128 * hd.val + k.val, by omega⟩).trans ?_
      congr 2
      show 128 * hd.val + k.val = 128 * ((128 * hd.val + j.val) / 128) + k.val
      omega
    · refine (blk6a m c t hd k j).trans ?_
      congr 1
      show argWa m c _ = argWa m c _
      blk_ext []
  · exact blk8 m c t ⟨128 * hd.val + j.val, by omega⟩

/-- No decay parameter is -∞. -/
def LamOk (c : Dev nD) : Prop := ∀ k : Fin 1024, argLam m c (ix1 k) ≠ ⊥

theorem soft_real (c : Dev nD) (hl : LamOk m c) (k : Fin 1024) : ∃ s : ℝ, Cert.Scalar.softplus (-(argLam m c (ix1 k))) = s :=
  Cert.Scalar.softplus_real _ fun h => hl k (by simpa using h)

/-- The decay's exponent. -/
theorem log_at (c : Dev nD) (hl : LamOk m c) (t : Fin cfg0.N) (hd : Fin 8) (r : Fin 1024) (j : Fin 128) :
    k0_pay68 (k0_pay66 (hu (uT m c t) hd) (hw (iblk m c 6 t) hd)) (hr (iblk m c 9 t) hd) (hr (iblk m c 8 t) hd) (ix2 r j)
      = Cert.Spec.L (args m c) (128 * t.val + r.val / 8) ⟨r.val % 8, by omega⟩ ⟨128 * hd.val + j.val, by omega⟩ := by
  obtain ⟨s, hs⟩ := soft_real m c hl ⟨128 * hd.val + j.val, by omega⟩
  have e : hr (iblk m c 9 t) hd (ix2 0 j) = ((-4 : ℝ) : EReal) * (s : EReal) :=
    (blk9 m c t ⟨128 * hd.val + j.val, by omega⟩).trans (by rw [hs])
  rw [pay68_at, arga_at, e]
  unfold Cert.Spec.L Cert.Spec.gate
  rw [Cert.Scalar.decay_eq]
  exact congrArg (_ * ·) hs.symm

theorem L_real (c : Dev nD) (hl : LamOk m c) (n : ℕ) (b : Fin 8) (k : Fin 1024) : ∃ l : ℝ, Cert.Spec.L (args m c) n b k = l := by
  obtain ⟨s, hs⟩ := soft_real m c hl k
  obtain ⟨l, hl'⟩ := Cert.Scalar.decay_real s (Cert.Spec.arg (args m c) (argWa m c) (argBa m c) n b k)
  refine ⟨l, Eq.trans ?_ hl'⟩
  rw [Cert.Scalar.decay_eq]
  exact congrArg (_ * ·) hs

theorem headA_at (c : Dev nD) (hl : LamOk m c) (t : Fin cfg0.N) (hd : Fin 8) (r : Fin 1024) (j : Fin 128) :
    headA (uT m c t) (iblk m c 6 t) (iblk m c 8 t) (iblk m c 9 t) hd (ix2 r j)
      = Cert.Spec.coefA (args m c) (128 * t.val + r.val / 8) ⟨r.val % 8, by omega⟩ ⟨128 * hd.val + j.val, by omega⟩ := by
  unfold headA
  rw [pay70_at, log_at m c hl]
  rfl

theorem headB_at (c : Dev nD) (hl : LamOk m c) (t : Fin cfg0.N) (hd : Fin 8) (r : Fin 1024) (j : Fin 128) :
    headB (uT m c t) (iblk m c 6 t) (iblk m c 7 t) (iblk m c 8 t) (iblk m c 9 t) hd (ix2 r j)
      = Cert.Spec.coefB (args m c) (128 * t.val + r.val / 8) ⟨r.val % 8, by omega⟩ ⟨128 * hd.val + j.val, by omega⟩ := by
  unfold headB
  rw [pay71_at, log_at m c hl, pay67_at, argx_at, Cert.Scalar.gate_eq]
  obtain ⟨l, e⟩ := L_real m c hl (128 * t.val + r.val / 8) ⟨r.val % 8, by omega⟩ ⟨128 * hd.val + j.val, by omega⟩
  unfold Cert.Spec.coefB Cert.Spec.gate
  rw [e, Cert.Scalar.mult_eq]
  have u : k0_pay65 (hu (uT m c t) hd) (ix2 r j) = Cert.Spec.U (args m c) (128 * t.val + r.val / 8) ⟨r.val % 8, by omega⟩ ⟨128 * hd.val + j.val, by omega⟩ := by
    rw [← uT_at]
    pointwise [k0_pay65]
    rfl
  rw [u]
  rfl

/-- The coefficients' tiles of point `t`. -/
abbrev aT (c : Dev nD) (t : Fin cfg0.N) : Vec Ideal S1024x1024 .f32 := heads (headA (uT m c t) (iblk m c 6 t) (iblk m c 8 t) (iblk m c 9 t))
abbrev bT (c : Dev nD) (t : Fin cfg0.N) : Vec Ideal S1024x1024 .f32 := heads (headB (uT m c t) (iblk m c 6 t) (iblk m c 7 t) (iblk m c 8 t) (iblk m c 9 t))

theorem aT_at (c : Dev nD) (hl : LamOk m c) (t : Fin cfg0.N) (r : Fin 1024) (k : Fin 1024) :
    aT m c t (ix2 r k) = Cert.Spec.coefA (args m c) (128 * t.val + r.val / 8) ⟨r.val % 8, by omega⟩ k := by
  refine (headA_at m c hl t ⟨k.val / 128, by omega⟩ r ⟨k.val % 128, by omega⟩).trans ?_
  exact congrArg _ (Fin.ext (by show 128 * (k.val / 128) + k.val % 128 = k.val; omega))

theorem bT_at (c : Dev nD) (hl : LamOk m c) (t : Fin cfg0.N) (r : Fin 1024) (k : Fin 1024) :
    bT m c t (ix2 r k) = Cert.Spec.coefB (args m c) (128 * t.val + r.val / 8) ⟨r.val % 8, by omega⟩ k := by
  refine (headB_at m c hl t ⟨k.val / 128, by omega⟩ r ⟨k.val % 128, by omega⟩).trans ?_
  exact congrArg _ (Fin.ext (by show 128 * (k.val / 128) + k.val % 128 = k.val; omega))

theorem pay72_at (h a b : Vec Ideal S8x1024 .f32) (y : S8x1024.Idx) : k0_pay72 h a b y = a y * h y + b y := by
  pointwise [k0_pay72]

/-- The states within a tile, from the carried one. -/
theorem hAt_tok (c : Dev nD) (hl : LamOk m c) (t : Fin cfg0.N) (h : Vec Ideal S8x1024 .f32)
    (hh : ∀ (b : Fin 8) (k : Fin 1024), h (ix2 b k) = Cert.Spec.h (args m c) (128 * t.val) b k) :
    ∀ n : ℕ, n ≤ 128 → ∀ (b : Fin 8) (k : Fin 1024), hAt (aT m c t) (bT m c t) h n (ix2 b k) = Cert.Spec.h (args m c) (128 * t.val + n) b k
  | 0, _, b, k => hh b k
  | n + 1, hn, b, k => by
    have ih := hAt_tok c hl t h hh n (by omega) b k
    unfold hAt
    rw [pay72_at, ih]
    unfold rowsOf
    have hb := b.isLt
    refine (congrArg₂ (· + ·) (congrArg (· * _) (aT_at m c hl t _ k)) (bT_at m c hl t _ k)).trans ?_
    have e1 : (⟨((8 * n + b.val) % 1024) % 8, by omega⟩ : Fin 8) = b := Fin.ext (by show ((8 * n + b.val) % 1024) % 8 = b.val; omega)
    have e2 : 128 * t.val + (8 * n + b.val) % 1024 / 8 = 128 * t.val + n := by omega
    show Cert.Spec.coefA (args m c) (128 * t.val + (8 * n + b.val) % 1024 / 8) ⟨((8 * n + b.val) % 1024) % 8, by omega⟩ k * _
      + Cert.Spec.coefB (args m c) (128 * t.val + (8 * n + b.val) % 1024 / 8) ⟨((8 * n + b.val) % 1024) % 8, by omega⟩ k = _
    rw [e1, e2]
    rfl

end Cert.KernelIdeal.Body

end
-- ==== Proof.Results.lean ====
/-
  The kernel's two result arrays, over the extended reals: the states in time order and the convolved channels.
-/
module

public import proofs.«01_k».proof.Proof.Coeffs
public import Idealize.ShloMosaic.Lib.Pipeline.Value

@[expose] public section

set_option maxRecDepth 16384
set_option maxHeartbeats 2000000

noncomputable section

namespace Cert.KernelIdeal.Body

open Cert.KernelIdeal Cert.KernelIdeal.Gen
open Idealize.ShloMosaic Idealize.ShloMosaic.TcCoe Idealize.ShloMosaic.Tactic

variable (m : (ℓ : Loc nD τ sig) → Buf (Elt Ideal) ℓ)

theorem outs_1 (c : Dev nD) (t : Fin cfg0.N) (h : Vec Ideal S8x1024 .f32) (hf : first t → h = k0_pay2 (F := Ideal)) :
    (outs m c t h).1 = hAll (aT m c t) (bT m c t) h := by
  by_cases hc : first t
  · rw [outs0_1 m c t h hc]
    refine (run0_1 _ _ _ _ _ _ _ _ _ _ _ _ _ _ _ _ _ _ _ _ _ _ _ _ _ _ _ _ _ _ _ _ _ _ _ _ _ _ _ _ _ _ _ _ hc).trans ?_
    rw [hf hc]
  · rw [outsS_1 m c t h hc]
    exact runS_1 _ _ _ _ _ _ _ _ _ _ _ _ _ _ _ _ _ _ _ _ _ _ _ _ _ _ _ _ _ _ _ _ _ _ _ _ _ _ _ _ _ _ _ _ h hc

theorem outs_2 (c : Dev nD) (t : Fin cfg0.N) (h : Vec Ideal S8x1024 .f32) (hf : first t → h = k0_pay2 (F := Ideal)) :
    (outs m c t h).2.1 = uT m c t := by
  by_cases hc : first t
  · rw [outs0_2 m c t h hc]
    refine (run0_2 _ _ _ _ _ _ _ _ _ _ _ _ _ _ _ _ _ _ _ _ _ _ _ _ _ _ _ _ _ _ _ _ _ _ _ _ _ _ _ _ _ _ _ _ hc).trans ?_
    rfl
  · rw [outsS_2 m c t h hc]
    exact runS_2 _ _ _ _ _ _ _ _ _ _ _ _ _ _ _ _ _ _ _ _ _ _ _ _ _ _ _ _ _ _ _ _ _ _ _ _ _ _ _ _ _ _ _ _ h hc

theorem outs_3 (c : Dev nD) (t : Fin cfg0.N) (h : Vec Ideal S8x1024 .f32) (hf : first t → h = k0_pay2 (F := Ideal)) :
    (outs m c t h).2.2 = hAt (aT m c t) (bT m c t) h 128 := by
  by_cases hc : first t
  · rw [outs0_3 m c t h hc]
    refine (run0_3 _ _ _ _ _ _ _ _ _ _ _ _ _ _ _ _ _ _ _ _ _ _ _ _ _ _ _ _ _ _ _ _ _ _ _ _ _ _ _ _ _ _ _ _ hc).trans ?_
    rw [hf hc]
  · rw [outsS_3 m c t h hc]
    exact runS_3 _ _ _ _ _ _ _ _ _ _ _ _ _ _ _ _ _ _ _ _ _ _ _ _ _ _ _ _ _ _ _ _ _ _ _ _ _ _ _ _ _ _ _ _ h hc

/-- The carried state is the recurrence's. -/
theorem state_tok (c : Dev nD) (hl : LamOk m c) : ∀ n : ℕ, n ≤ 18 → ∀ (b : Fin 8) (k : Fin 1024),
    state m c n (ix2 b k) = Cert.Spec.h (args m c) (128 * n) b k
  | 0, _, b, k => by
    unfold state
    pointwise [k0_pay2]
    rfl
  | n + 1, hn, b, k => by
    have e : n < cfg0.N := by show n < grid0.N; rw [N_0]; omega
    have s := state_succ m c ⟨n, e⟩
    refine (congrFun s _).trans ?_
    rw [outs_3 m c ⟨n, e⟩ _ (fun hc => by rw [(first_iff ⟨n, e⟩).1 hc]; rfl)]
    exact hAt_tok m c hl ⟨n, e⟩ _ (fun b k => state_tok c hl n (by omega) b k) 128 le_rfl b k

theorem fin_scan (c : Dev nD) (hl : LamOk m c) : (dats m 0 c).arrAt 10 cfg0.N = Cert.Spec.scan (args m c) := by
  refine (dats m 0 c).arrAt_eq_of_covers 10 _ (by decide +kernel) fun t hf y => ?_
  blk_simp
  rw [after0_10, outs_1 m c t _ (fun hc => by rw [(first_iff t).1 hc]; rfl)]
  obtain ⟨r, k, rfl⟩ : ∃ (r : Fin 1024) (k : Fin 1024), y = (ix2 r k : S1024x1024.Idx) :=
    ⟨y 0, y 1, by funext a; fin_cases a <;> rfl⟩
  have ht : t.val < 18 := (idx t).2.2.2.2.2.2.2.2.2.2.2.2.2
  refine Eq.trans ?_ (congrArg (Cert.Spec.scan (args m c)) (?_ : (ix2 ⟨1024 * t.val + r.val, by omega⟩ k : S18432x1024.Idx) = _))
  · unfold Cert.Spec.scan
    unfold hAll
    refine (hAt_tok m c hl t _ (fun b k => state_tok m c hl t.val (by omega) b k) (r.val / 8 + 1) (by omega) ⟨r.val % 8, by omega⟩ k).trans ?_
    refine congrArg₂ (fun n b => Cert.Spec.h (args m c) n b k) ?_ (Fin.ext ?_)
    · show 128 * t.val + (r.val / 8 + 1) = (1024 * t.val + r.val) / 8 + 1
      omega
    · show r.val % 8 = (1024 * t.val + r.val) % 8
      omega
  · blk_ext [idx t]

theorem fin_chan (c : Dev nD) : (dats m 0 c).arrAt 11 cfg0.N = Cert.Spec.chan (args m c) := by
  refine (dats m 0 c).arrAt_eq_of_covers 11 _ (by decide +kernel) fun t hf y => ?_
  blk_simp
  rw [after0_11, outs_2 m c t _ (fun hc => by rw [(first_iff t).1 hc]; rfl)]
  obtain ⟨r, k, rfl⟩ : ∃ (r : Fin 1024) (k : Fin 1024), y = (ix2 r k : S1024x1024.Idx) :=
    ⟨y 0, y 1, by funext a; fin_cases a <;> rfl⟩
  have ht : t.val < 18 := (idx t).2.2.2.2.2.2.2.2.2.2.2.2.2
  refine Eq.trans ?_ (congrArg (Cert.Spec.chan (args m c)) (?_ : (ix2 ⟨1024 * t.val + r.val, by omega⟩ k : S18432x1024.Idx) = _))
  · unfold Cert.Spec.chan
    refine (uT_at m c t r k).trans ?_
    refine congrArg₂ (fun n b => Cert.Spec.U (args m c) n b k) ?_ (Fin.ext ?_)
    · show 128 * t.val + r.val / 8 = (1024 * t.val + r.val) / 8
      omega
    · show r.val % 8 = (1024 * t.val + r.val) % 8
      omega
  · blk_ext [idx t]

end Cert.KernelIdeal.Body

end
-- ==== Proof.RefRun.lean ====
/-
  The reference's run over one trip's step: at a valuation that holds a state, every value of one trip is the step's;
  one trip keeps holding, and the results are the fields of the step iterated from the initial state. This follows the
  generated module of the same statement, whose own check stops at the lemma of the carried array the trip updates (`step_4`).
-/
module

public import proofs.«01_k».proof.Proof.Gen.ReferenceIdeal.Run
public import proofs.«01_k».proof.Proof.Gen.ReferenceIdeal.Step

@[expose] public section

noncomputable section

namespace Cert.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v111_3) = s.main_v111_3
  f_4 : V0 (Proc.devRef .tc main_v111_4) = s.main_v111_4
  f_0 : V0 (Proc.devRef .tc main_v111_0) = s.main_v111_0
  f_1 : V0 (Proc.devRef .tc main_v111_1) = s.main_v111_1
  n_2 : V0 (Proc.devRef .tc main_v111_2) = constantI S_ 32 (BitVec.ofNat 32 j)

variable {V0 s j}

set_option maxRecDepth 8192 in
theorem al_0 (h : Holds V0 s j) : (constantI S_ 32 0#32 : (Proc.devRef .tc main_while0b_call3_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call3_c_0 : DevRef τ sig).ty.Contents (Elt F)) = Cert.ReferenceIdeal.Step.b1 j s := by
  unfold Cert.ReferenceIdeal.Step.b1
  rfl
set_option maxRecDepth 8192 in
theorem al_2 (h : Holds V0 s j) : (Host.dynamicSlice S1x8x1024 (V0 (Proc.devRef .tc main_v111_0)) (fun k => (((![V0 (Proc.devRef .tc main_v111_2), constantI S_ 32 0#32, constantI S_ 32 0#32] : Fin 3 → (⟨S_, .i32⟩ : BufTy).Contents (Elt F))) k (Shape.Idx.first h_S_)).toInt) sliceFits_S2304x8x1024_S1x8x1024 : (Proc.devRef .tc main_while0b_call3_v0 : DevRef τ sig).ty.Contents (Elt F)) = Cert.ReferenceIdeal.Step.b2 j s := by
  unfold Cert.ReferenceIdeal.Step.b2
  rw [← al_0 h, ← al_1 h, h.f_0, h.n_2]
  try rfl
set_option maxRecDepth 8192 in
theorem al_3 (h : Holds V0 s j) : (shapeCast S8x1024 (Host.dynamicSlice S1x8x1024 (V0 (Proc.devRef .tc main_v111_0)) (fun k => (((![V0 (Proc.devRef .tc main_v111_2), constantI S_ 32 0#32, constantI S_ 32 0#32] : Fin 3 → (⟨S_, .i32⟩ : BufTy).Contents (Elt F))) k (Shape.Idx.first h_S_)).toInt) sliceFits_S2304x8x1024_S1x8x1024) shapeCasts_S1x8x1024_S8x1024 : (Proc.devRef .tc main_while0b_v181 : DevRef τ sig).ty.Contents (Elt F)) = Cert.ReferenceIdeal.Step.b3 j s := by
  unfold Cert.ReferenceIdeal.Step.b3
  rw [← al_2 h]
  try rfl
set_option maxRecDepth 8192 in
theorem al_4 (h : Holds V0 s j) : (constantI S_ 32 0#32 : (Proc.devRef .tc main_while0b_call4_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call4_c_0 : DevRef τ sig).ty.Contents (Elt F)) = Cert.ReferenceIdeal.Step.b5 j s := by
  unfold Cert.ReferenceIdeal.Step.b5
  rfl
set_option maxRecDepth 8192 in
theorem al_6 (h : Holds V0 s j) : (Host.dynamicSlice S1x8x1024 (V0 (Proc.devRef .tc main_v111_1)) (fun k => (((![V0 (Proc.devRef .tc main_v111_2), constantI S_ 32 0#32, constantI S_ 32 0#32] : Fin 3 → (⟨S_, .i32⟩ : BufTy).Contents (Elt F))) k (Shape.Idx.first h_S_)).toInt) sliceFits_S2304x8x1024_S1x8x1024 : (Proc.devRef .tc main_while0b_call4_v0 : DevRef τ sig).ty.Contents (Elt F)) = Cert.ReferenceIdeal.Step.b6 j s := by
  unfold Cert.ReferenceIdeal.Step.b6
  rw [← al_4 h, ← al_5 h, h.f_1, h.n_2]
  try rfl
set_option maxRecDepth 8192 in
theorem al_7 (h : Holds V0 s j) : (shapeCast S8x1024 (Host.dynamicSlice S1x8x1024 (V0 (Proc.devRef .tc main_v111_1)) (fun k => (((![V0 (Proc.devRef .tc main_v111_2), constantI S_ 32 0#32, constantI S_ 32 0#32] : Fin 3 → (⟨S_, .i32⟩ : BufTy).Contents (Elt F))) k (Shape.Idx.first h_S_)).toInt) sliceFits_S2304x8x1024_S1x8x1024) shapeCasts_S1x8x1024_S8x1024 : (Proc.devRef .tc main_while0b_v182 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (mulf (shapeCast S8x1024 (Host.dynamicSlice S1x8x1024 (V0 (Proc.devRef .tc main_v111_0)) (fun k => (((![V0 (Proc.devRef .tc main_v111_2), constantI S_ 32 0#32, constantI S_ 32 0#32] : Fin 3 → (⟨S_, .i32⟩ : BufTy).Contents (Elt F))) k (Shape.Idx.first h_S_)).toInt) sliceFits_S2304x8x1024_S1x8x1024) shapeCasts_S1x8x1024_S8x1024) (V0 (Proc.devRef .tc main_v111_3)) : (Proc.devRef .tc main_while0b_v183 : DevRef τ sig).ty.Contents (Elt F)) = Cert.ReferenceIdeal.Step.b8 j s := by
  unfold Cert.ReferenceIdeal.Step.b8
  rw [← al_3 h, h.f_3]
  try rfl
set_option maxRecDepth 8192 in
theorem al_9 (h : Holds V0 s j) : (res_main_while0b_v184 V0 : (Proc.devRef .tc main_while0b_v184 : DevRef τ sig).ty.Contents (Elt F)) = Cert.ReferenceIdeal.Step.b9 j s := by
  unfold res_main_while0b_v184 Cert.ReferenceIdeal.Step.b9
  rw [← al_8 h, ← al_7 h]
  try rfl
set_option maxRecDepth 8192 in
theorem al_10 (h : Holds V0 s j) : (broadcastInDim S1x8x1024 ![1, 2] bcast_S8x1024_S1x8x1024_1_2 (res_main_while0b_v184 V0) : (Proc.devRef .tc main_while0b_call5_v0 : DevRef τ sig).ty.Contents (Elt F)) = Cert.ReferenceIdeal.Step.b10 j s := by
  unfold Cert.ReferenceIdeal.Step.b10
  rw [← al_9 h]
  try rfl
set_option maxRecDepth 8192 in
theorem al_11 (h : Holds V0 s j) : (constantI S_ 32 0#32 : (Proc.devRef .tc main_while0b_call5_c : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call5_c_0 : DevRef τ sig).ty.Contents (Elt F)) = Cert.ReferenceIdeal.Step.b12 j s := by
  unfold Cert.ReferenceIdeal.Step.b12
  rfl
set_option maxRecDepth 8192 in
theorem al_13 (h : Holds V0 s j) : (Host.dynamicUpdateSlice (V0 (Proc.devRef .tc main_v111_4)) (broadcastInDim S1x8x1024 ![1, 2] bcast_S8x1024_S1x8x1024_1_2 (res_main_while0b_v184 V0)) (fun k => (((![V0 (Proc.devRef .tc main_v111_2), constantI S_ 32 0#32, constantI S_ 32 0#32] : Fin 3 → (⟨S_, .i32⟩ : BufTy).Contents (Elt F))) k (Shape.Idx.first h_S_)).toInt) updateFits_S2304x8x1024_S1x8x1024 : (Proc.devRef .tc main_while0b_v185 : DevRef τ sig).ty.Contents (Elt F)) = Cert.ReferenceIdeal.Step.b13 j s := by
  unfold Cert.ReferenceIdeal.Step.b13
  rw [← al_10 h, ← al_11 h, ← al_12 h, h.f_4, h.n_2]
  try rfl

/-! One trip's step of the carried values is `step`, field by field; a counter steps to the next number. -/

theorem step_3 (h : Holds V0 s j) : step_main_v111_3 V0 = (step j s).main_v111_3 := by
  unfold step_main_v111_3 Cert.ReferenceIdeal.Step.step
  show id (res_main_while0b_v184 V0) = _
  rw [al_9 h]
  try rfl
theorem step_4 (h : Holds V0 s j) : step_main_v111_4 V0 = (step j s).main_v111_4 := by
  unfold step_main_v111_4 Cert.ReferenceIdeal.Step.step
  show id (Host.dynamicUpdateSlice (V0 (Proc.devRef .tc main_v111_4)) (broadcastInDim S1x8x1024 ![1, 2] bcast_S8x1024_S1x8x1024_1_2 (res_main_while0b_v184 V0)) (fun k => (((![V0 (Proc.devRef .tc main_v111_2), constantI S_ 32 0#32, constantI S_ 32 0#32] : Fin 3 → (⟨S_, .i32⟩ : BufTy).Contents (Elt F))) k (Shape.Idx.first h_S_)).toInt) updateFits_S2304x8x1024_S1x8x1024) = _
  exact al_13 h
theorem step_2 (h : Holds V0 s j) : step_main_v111_2 V0 = constantI S_ 32 (BitVec.ofNat 32 (j + 1)) := by
  unfold step_main_v111_2
  rw [h.n_2]
  funext i
  show BitVec.ofNat 32 j + 1#32 = BitVec.ofNat 32 (j + 1)
  simp only [BitVec.ofNat_add]

set_option maxRecDepth 8192 in
theorem out_main_v179_holds (h : Holds V0 s j) : out_main_v179 V0 = Cert.ReferenceIdeal.Step.R_main_v179 s := by
  unfold out_main_v179 Cert.ReferenceIdeal.Step.R_main_v179
  rw [h.f_4]
  try rfl

set_option maxRecDepth 8192 in
theorem out_main_v180_holds (h : Holds V0 s j) {x_main_arg0 : (⟨S8x2304x2048, .f32⟩ : BufTy).Contents (Elt F)} (h_main_arg0 : V0 (Proc.devRef .tc main_arg0) = x_main_arg0) {x_main_arg1 : (⟨S4x1024, .f32⟩ : BufTy).Contents (Elt F)} (h_main_arg1 : V0 (Proc.devRef .tc main_arg1) = x_main_arg1) {x_main_arg2 : (⟨S1024, .f32⟩ : BufTy).Contents (Elt F)} (h_main_arg2 : V0 (Proc.devRef .tc main_arg2) = x_main_arg2) : out_main_v180 V0 = Cert.ReferenceIdeal.Step.R_main_v180 s x_main_arg0 x_main_arg1 x_main_arg2 := by
  unfold out_main_v180 Cert.ReferenceIdeal.Step.R_main_v180
  rw [h_main_arg0, h_main_arg1, h_main_arg2]
  try rfl

/-- One trip keeps the valuation holding: `step` of the state, the same set-up values, the next number. -/
theorem holds_step (h : Holds V0 s j) : Holds (STEP V0) (step j s) (j + 1) where
  f_3 := (STEP_main_v111_3 V0).trans (step_3 h)
  f_4 := (STEP_main_v111_4 V0).trans (step_4 h)
  n_2 := (STEP_main_v111_2 V0).trans (step_2 h)
  f_0 := (STEP_main_v111_0 V0).trans h.f_0
  f_1 := (STEP_main_v111_1 V0).trans h.f_1

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 700000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 2304 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v179) = Cert.ReferenceIdeal.Step.R_main_v179 (it c 2304)
      ∧ r.2.mem ((c.tc : Thread nD τ).loc main_v180) = Cert.ReferenceIdeal.Step.R_main_v180 (it c 2304) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 2304
    ⟨(h c).1.trans (out_main_v179_holds hk), (h c).2.1.trans (out_main_v180_holds hk (iter_main_arg0 m c 2304) (iter_main_arg1 m c 2304) (iter_main_arg2 m c 2304)), (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩) (Value.run m ρ)

end Cert.RefRun

end
-- ==== Proof.RefValue.lean ====
/-
  The reference's run read as the specification: its convolved channels, coefficients and recurrence.
-/
module

public import proofs.«01_k».proof.Proof.Spec
public import proofs.«01_k».proof.Proof.Scalar
public import proofs.«01_k».proof.Proof.RefRun
public import Idealize.ShloMosaic.Lib.Pipeline.ValueKit
public import Idealize.ShloMosaic.Lib.Pipeline.Value
public import Idealize.ShloMosaic.Lib.Pointwise
public import Idealize.ShloMosaic.Lib.Claim
public import Idealize.ShloMosaic.Lib.IdealHost

@[expose] public section

set_option maxRecDepth 16384
set_option maxHeartbeats 2000000

noncomputable section

namespace Cert.RefValue

open Cert.ReferenceIdeal Cert.ReferenceIdeal.Gen Cert.ReferenceIdeal.Step
open Idealize.ShloMosaic Idealize.ShloMosaic.TcCoe Idealize.ShloMosaic.Tactic

variable (A : Cert.Spec.Args)

theorem sitofp_zero : (FloatOps.sitofp (F := Ideal) FTy.f32 0#32 : Ideal .f32) = 0 := by
  show (((0#32 : BitVec 32).toInt : ℝ) : EReal) = 0
  simp

/-! The taps of the context's rows and of the latents' rows, each in its own zero padding. -/

theorem v3_at (b : Fin 8) (n : Fin 256) (c : Fin 1024) : A_main_v3 (F := Ideal) A.p A.cw A.cb A.wx A.bx A.wa A.ba A.lam (ix3 b n c) = Cert.Spec.tok A b (n.val + 0) 0 c := by
  pointwise [A_main_v3, A_main_v2, A_main_v1, A_main_v0, K_main_call0_v0, K_main_c]
  unfold Cert.Spec.tok
  split_ifs <;> first | (exfalso; omega) | exact sitofp_zero | blk_ext []

theorem v12_at (b : Fin 8) (n : Fin 256) (c : Fin 1024) : A_main_v12 (F := Ideal) A.p A.cw A.cb A.wx A.bx A.wa A.ba A.lam (ix3 b n c) = Cert.Spec.tok A b (n.val + 0) 1 c := by
  pointwise [A_main_v12, A_main_v2, A_main_v1, A_main_v0, K_main_call0_v0, K_main_c]
  unfold Cert.Spec.tok
  split_ifs <;> first | (exfalso; omega) | exact sitofp_zero | blk_ext []

theorem v19_at (b : Fin 8) (n : Fin 256) (c : Fin 1024) : A_main_v19 (F := Ideal) A.p A.cw A.cb A.wx A.bx A.wa A.ba A.lam (ix3 b n c) = Cert.Spec.tok A b (n.val + 0) 2 c := by
  pointwise [A_main_v19, A_main_v2, A_main_v1, A_main_v0, K_main_call0_v0, K_main_c]
  unfold Cert.Spec.tok
  split_ifs <;> first | (exfalso; omega) | exact sitofp_zero | blk_ext []

theorem v26_at (b : Fin 8) (n : Fin 256) (c : Fin 1024) : A_main_v26 (F := Ideal) A.p A.cw A.cb A.wx A.bx A.wa A.ba A.lam (ix3 b n c) = Cert.Spec.tok A b (n.val + 0) 3 c := by
  pointwise [A_main_v26, A_main_v2, A_main_v1, A_main_v0, K_main_call0_v0, K_main_c]
  unfold Cert.Spec.tok
  split_ifs <;> first | (exfalso; omega) | exact sitofp_zero | blk_ext []

theorem v35_at (b : Fin 8) (n : Fin 2048) (c : Fin 1024) : A_main_v35 (F := Ideal) A.p A.cw A.cb A.wx A.bx A.wa A.ba A.lam (ix3 b n c) = Cert.Spec.tok A b (n.val + 256) 0 c := by
  pointwise [A_main_v35, A_main_v34, A_main_v33, A_main_v0, K_main_call1_v0, K_main_c_0]
  unfold Cert.Spec.tok
  split_ifs <;> first | (exfalso; omega) | exact sitofp_zero | blk_ext []

theorem v44_at (b : Fin 8) (n : Fin 2048) (c : Fin 1024) : A_main_v44 (F := Ideal) A.p A.cw A.cb A.wx A.bx A.wa A.ba A.lam (ix3 b n c) = Cert.Spec.tok A b (n.val + 256) 1 c := by
  pointwise [A_main_v44, A_main_v34, A_main_v33, A_main_v0, K_main_call1_v0, K_main_c_0]
  unfold Cert.Spec.tok
  split_ifs <;> first | (exfalso; omega) | exact sitofp_zero | blk_ext []

theorem v51_at (b : Fin 8) (n : Fin 2048) (c : Fin 1024) : A_main_v51 (F := Ideal) A.p A.cw A.cb A.wx A.bx A.wa A.ba A.lam (ix3 b n c) = Cert.Spec.tok A b (n.val + 256) 2 c := by
  pointwise [A_main_v51, A_main_v34, A_main_v33, A_main_v0, K_main_call1_v0, K_main_c_0]
  unfold Cert.Spec.tok
  split_ifs <;> first | (exfalso; omega) | exact sitofp_zero | blk_ext []

theorem v58_at (b : Fin 8) (n : Fin 2048) (c : Fin 1024) : A_main_v58 (F := Ideal) A.p A.cw A.cb A.wx A.bx A.wa A.ba A.lam (ix3 b n c) = Cert.Spec.tok A b (n.val + 256) 3 c := by
  pointwise [A_main_v58, A_main_v34, A_main_v33, A_main_v0, K_main_call1_v0, K_main_c_0]
  unfold Cert.Spec.tok
  split_ifs <;> first | (exfalso; omega) | exact sitofp_zero | blk_ext []

theorem v32_at (b : Fin 8) (n : Fin 256) (c : Fin 1024) : A_main_v32 (F := Ideal) A.p A.cw A.cb A.wx A.bx A.wa A.ba A.lam (ix3 b n c) = Cert.Spec.U A n.val b c := by
  pointwise [A_main_v32, A_main_v31, A_main_v30, A_main_v29, A_main_v28, A_main_v27, A_main_v25, A_main_v24, A_main_v23, A_main_v22, A_main_v21, A_main_v20, A_main_v18, A_main_v17, A_main_v16, A_main_v15, A_main_v14, A_main_v13, A_main_v11, A_main_v10, A_main_v9, A_main_v8, A_main_v7, A_main_v6, A_main_v5, A_main_v4, v3_at, v12_at, v19_at, v26_at]
  rfl

theorem v64_at (b : Fin 8) (n : Fin 2048) (c : Fin 1024) : A_main_v64 (F := Ideal) A.p A.cw A.cb A.wx A.bx A.wa A.ba A.lam (ix3 b n c) = Cert.Spec.U A (n.val + 256) b c := by
  pointwise [A_main_v64, A_main_v63, A_main_v62, A_main_v61, A_main_v60, A_main_v59, A_main_v57, A_main_v56, A_main_v55, A_main_v54, A_main_v53, A_main_v52, A_main_v50, A_main_v49, A_main_v48, A_main_v47, A_main_v46, A_main_v45, A_main_v43, A_main_v42, A_main_v41, A_main_v40, A_main_v39, A_main_v38, A_main_v37, A_main_v36, v35_at, v44_at, v51_at, v58_at]
  rfl

theorem v65_at (b : Fin 8) (n : Fin 2304) (c : Fin 1024) : A_main_v65 (F := Ideal) A.p A.cw A.cb A.wx A.bx A.wa A.ba A.lam (ix3 b n c) = Cert.Spec.U A n.val b c := by
  pointwise [A_main_v65]
  by_cases h : n.val < 256
  · rw [dif_pos h]
    exact v32_at A b ⟨n.val, h⟩ c
  · rw [dif_neg h]
    refine (v64_at A b ⟨n.val - 256, by omega⟩ c).trans ?_
    show Cert.Spec.U A (n.val - 256 + 256) b c = _
    rw [Nat.sub_add_cancel (by omega)]

theorem v72_at (b : Fin 8) (n : Fin 2304) (c : Fin 1024) : A_main_v72 (F := Ideal) A.p A.cw A.cb A.wx A.bx A.wa A.ba A.lam (ix3 b n c) = Cert.Spec.arg A A.wx A.bx n.val b c := by
  pointwise [A_main_v72, A_main_v71, A_main_v70, A_main_v69, A_main_v68, A_main_v67, A_main_v66, v65_at]
  unfold Cert.Spec.arg
  rw [zero_add]
  refine congrArg (· + _) (Finset.sum_congr rfl fun k _ => congrArg (_ * Cert.Spec.U A n.val b ·) (Fin.ext ?_))
  show c.val / 128 * 128 + k.val = 128 * (c.val / 128) + k.val
  omega

theorem v85_at (b : Fin 8) (n : Fin 2304) (c : Fin 1024) : A_main_v85 (F := Ideal) A.p A.cw A.cb A.wx A.bx A.wa A.ba A.lam (ix3 b n c) = Cert.Spec.arg A A.wa A.ba n.val b c := by
  pointwise [A_main_v85, A_main_v84, A_main_v83, A_main_v82, A_main_v81, A_main_v80, A_main_v79, v65_at]
  unfold Cert.Spec.arg
  rw [zero_add]
  refine congrArg (· + _) (Finset.sum_congr rfl fun k _ => congrArg (_ * Cert.Spec.U A n.val b ·) (Fin.ext ?_))
  show c.val / 128 * 128 + k.val = 128 * (c.val / 128) + k.val
  omega

theorem v95_at (c : Fin 1024) : A_main_v95 (F := Ideal) A.p A.cw A.cb A.wx A.bx A.wa A.ba A.lam (ix1 c) = Cert.Scalar.softplus (-(A.lam (ix1 c))) := by
  unfold Cert.Scalar.softplus
  pointwise [A_main_v95, A_main_call2_v11, A_main_call2_v10, A_main_call2_v9, A_main_call2_v8, A_main_call2_v7, A_main_call2_v6, A_main_call2_v4, A_main_call2_v3, A_main_call2_v1, A_main_v94, K_main_call2_v0, K_main_call2_v2, K_main_call2_v5, K_main_call2_cst]
  simp [Ideal.cmp]
  have e : FloatOps.absf (F := Ideal) (φ := FTy.f32) (-A.lam (ix1 c)) = max (-A.lam (ix1 c)) (- -A.lam (ix1 c)) := rfl
  rw [e, neg_neg]
  rfl

theorem v98_at (b : Fin 8) (n : Fin 2304) (c : Fin 1024) : A_main_v98 (F := Ideal) A.p A.cw A.cb A.wx A.bx A.wa A.ba A.lam (ix3 b n c) = Cert.Spec.L A n.val b c := by
  pointwise [A_main_v98, A_main_v97, A_main_v96, A_main_v93, K_main_v92, K_main_cst_4, A_main_v91, K_main_v90, K_main_cst_3, A_main_v89, K_main_v88, K_main_cst_2, A_main_v87, A_main_v86, v85_at, v95_at]
  rw [Cert.Scalar.minus_eight]
  rfl

theorem v104_at (b : Fin 8) (n : Fin 2304) (c : Fin 1024) : A_main_v104 (F := Ideal) A.p A.cw A.cb A.wx A.bx A.wa A.ba A.lam (ix3 b n c) = Cert.Spec.coefA A n.val b c := by
  pointwise [A_main_v104, v98_at]
  rfl

theorem v106_at (b : Fin 8) (n : Fin 2304) (c : Fin 1024) : A_main_v106 (F := Ideal) A.p A.cw A.cb A.wx A.bx A.wa A.ba A.lam (ix3 b n c) = Cert.Spec.coefB A n.val b c := by
  pointwise [A_main_v106, A_main_v105, A_main_v103, A_main_v102, A_main_v101, A_main_v100, K_main_v99, K_main_cst_5, v98_at, A_main_v78, K_main_v77, K_main_cst_1, A_main_v76, K_main_v75, K_main_cst, A_main_v74, A_main_v73, v72_at, v65_at]
  rw [Cert.Scalar.two]
  rfl

/-! The recurrence, trip by trip. -/

/-- The reference's sequence of states. -/
def iter : ℕ → State Ideal
  | 0 => init A.p A.cw A.cb A.wx A.bx A.wa A.ba A.lam
  | n + 1 => step n (iter n)

theorem iter_a : ∀ n, (iter A n).main_v111_0 = A_main_v108 A.p A.cw A.cb A.wx A.bx A.wa A.ba A.lam
  | 0 => rfl
  | n + 1 => iter_a n

theorem iter_b : ∀ n, (iter A n).main_v111_1 = A_main_v109 A.p A.cw A.cb A.wx A.bx A.wa A.ba A.lam
  | 0 => rfl
  | n + 1 => iter_b n

/-- A trip's start, read signed and clamped, is the trip's number. -/
theorem start_eq : ∀ j : Fin 2304, (min (max (BitVec.toInt (BitVec.ofNat 32 j.val)) 0) ((2304 - 1 : Nat) : Int)).toNat = j.val := by
  intro j
  have e : BitVec.toInt (BitVec.ofNat 32 j.val) = (j.val : Int) := by
    rw [BitVec.toInt_eq_toNat_of_lt] <;> simp <;> omega
  rw [e]
  omega

theorem b3_at (j : ℕ) (hj : j < 2304) (s : State Ideal) (b : Fin 8) (c : Fin 1024) :
    b3 j s (ix2 b c) = s.main_v111_0 (ix3 ⟨j, hj⟩ b c) := by
  pointwise [b3]
  unfold b2 Host.dynamicSlice
  refine congrArg s.main_v111_0 (funext fun a => Fin.ext ?_)
  match a with
  | ⟨0, _⟩ => exact (congrArg (· + 0) (start_eq ⟨j, hj⟩))
  | ⟨1, _⟩ => show 0 + _ = _; exact Nat.zero_add _
  | ⟨2, _⟩ => show 0 + _ = _; exact Nat.zero_add _

theorem b7_at (j : ℕ) (hj : j < 2304) (s : State Ideal) (b : Fin 8) (c : Fin 1024) :
    b7 j s (ix2 b c) = s.main_v111_1 (ix3 ⟨j, hj⟩ b c) := by
  pointwise [b7]
  unfold b6 Host.dynamicSlice
  refine congrArg s.main_v111_1 (funext fun a => Fin.ext ?_)
  match a with
  | ⟨0, _⟩ => exact (congrArg (· + 0) (start_eq ⟨j, hj⟩))
  | ⟨1, _⟩ => show 0 + _ = _; exact Nat.zero_add _
  | ⟨2, _⟩ => show 0 + _ = _; exact Nat.zero_add _

theorem iter_h : ∀ n, n ≤ 2304 → ∀ (b : Fin 8) (c : Fin 1024), (iter A n).main_v111_3 (ix2 b c) = Cert.Spec.h A n b c
  | 0, _, b, c => by
    show K_main_v107 (F := Ideal) (ix2 b c) = 0
    pointwise [K_main_v107, K_main_cst_6]
  | n + 1, hn, b, c => by
    show b9 n (iter A n) (ix2 b c) = _
    pointwise [b9, b8]
    rw [b3_at n (by omega), b7_at n (by omega), iter_a, iter_b, iter_h n (by omega) b c]
    pointwise [A_main_v108, A_main_v109, v104_at, v106_at]
    rfl

theorem b13_at (j : ℕ) (hj : j < 2304) (s : State Ideal) (i : Fin 2304) (b : Fin 8) (c : Fin 1024) :
    b13 j s (ix3 i b c) = if i.val = j then b9 j s (ix2 b c) else s.main_v111_4 (ix3 i b c) := by
  unfold b13
  rw [Host.dynamicUpdateSlice_eq_updateSlice _ _ _ _ ![j, 0, 0] (fun a => by
    match a with
    | ⟨0, _⟩ => exact start_eq ⟨j, hj⟩
    | ⟨1, _⟩ => rfl
    | ⟨2, _⟩ => rfl) (by
    refine ⟨rfl, fun a => ?_⟩
    match a with
    | ⟨0, _⟩ => show j + 1 ≤ 2304; omega
    | ⟨1, _⟩ => show 0 + 8 ≤ 8; omega
    | ⟨2, _⟩ => show 0 + 1024 ≤ 1024; omega)]
  pointwise [b10]
  by_cases e : i.val = j
  · rw [dif_pos (by omega), if_pos e]
  · rw [dif_neg (by omega), if_neg e]

theorem iter_y : ∀ n, n ≤ 2304 → ∀ (i : Fin 2304) (b : Fin 8) (c : Fin 1024), i.val < n →
    (iter A n).main_v111_4 (ix3 i b c) = Cert.Spec.h A (i.val + 1) b c
  | 0, _, i, b, c, h => absurd h (Nat.not_lt_zero _)
  | n + 1, hn, i, b, c, h => by
    refine (b13_at n (by omega) (iter A n) i b c).trans ?_
    by_cases e : i.val = n
    · rw [if_pos e, e]
      exact iter_h A (n + 1) hn b c
    · rw [if_neg e]
      exact iter_y n (by omega) i b c (by omega)

theorem scan_eq : R_main_v179 (iter A 2304) = Cert.Spec.scan A := by
  funext y
  pointwise [R_main_v179]
  exact iter_y A 2304 le_rfl _ _ _ (Fin.is_lt _)

theorem chan_eq : R_main_v180 (iter A 2304) A.p A.cw A.cb = Cert.Spec.chan A := by
  have e : R_main_v180 (iter A 2304) A.p A.cw A.cb
      = shapeCast _ (transpose S2304x8x1024 [1, 0, 2] (A_main_v65 (F := Ideal) A.p A.cw A.cb A.wx A.bx A.wa A.ba A.lam) transposes_S8x2304x1024_S2304x8x1024_1_0_2) shapeCasts_S2304x8x1024_S18432x1024 := rfl
  rw [e]
  funext y
  pointwise [v65_at]
  rfl

end Cert.RefValue

end
-- ==== Proof.Final.lean ====
/-
  The five claims.
-/
module

public import proofs.«01_k».proof.Defs
public import proofs.«01_k».proof.Proof.Gen.Kernel
public import proofs.«01_k».proof.Proof.Results
public import proofs.«01_k».proof.Proof.RefValue
public import Idealize.ShloMosaic.Lib.Quiescent
public import Idealize.ShloMosaic.Lib.Claim
public import Idealize.ShloMosaic.Lib.IdealHost

@[expose] public section

set_option maxRecDepth 16384
set_option maxHeartbeats 2000000

noncomputable section

namespace Cert.Final

open Idealize.ShloMosaic Idealize.ShloMosaic.TcCoe Idealize.SL.Sem Idealize.ShloMosaic.Tactic

section
open Cert.KernelIdeal Cert.KernelIdeal.Gen

/-- The kernel's run at any float type: it ends with its arguments unchanged and every counter at zero. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  θ_run_with_sems (frame_of m ρ (Cert.KernelIdeal.Body.dats m) fun _ _ => rfl) (Cert.KernelIdeal.Body.run_main m ρ)

end

/-! The two printed programs have the same text, so the same bodies: the grid point's body by `rfl`, the tables label by label. -/

theorem body_eq (t : Fin Cert.Kernel.grid0.N) (s : (w : Fin 12) → Fin (Cert.Kernel.win0 w).nbuf) :
    (Cert.Kernel.defs₀ (F := Bits)) .tc (0 : Fin 1) (t, s) = (Cert.KernelIdeal.defs₀ (F := Bits)) .tc (0 : Fin 1) (t, s) := by
  unfold Cert.Kernel.defs₀ Cert.KernelIdeal.defs₀
  simp only [Defs.onTc_tc]
  rfl

theorem bodies_eq : Cert.Kernel.defs₀ (F := Bits) = Cert.KernelIdeal.defs₀ (F := Bits) := by
  funext p l a
  match p, l, a with
  | .tc, ⟨0, _⟩, (t, s) => exact body_eq t s
  | .tc, ⟨n + 1, h⟩, _ => exact absurd h (Nat.not_lt.2 (Nat.le_add_left _ _))
  | .scScalar _, _, _ => rfl
  | .scVector _ _, _, _ => rfl

theorem defs_eq : Cert.Kernel.defs (F := Bits) = Cert.KernelIdeal.defs (F := Bits) := by
  unfold Cert.Kernel.defs Cert.KernelIdeal.defs
  rw [bodies_eq]
  rfl

theorem frame_kernel : Cert.quiescent_Kernel := by
  intro m ρ _
  rw [defs_eq]
  exact frame_any (F := Bits) m ρ

theorem frame_ideal : Cert.quiescent_KernelIdeal := fun m ρ _ => frame_any (F := Ideal) m ρ

theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

instance preFacts : Cert.Pre_lam_above_minus_inf.Facts := ⟨by decide⟩

/-- The precondition: no entry of `lam` is minus infinity. -/
theorem lam_ok (m : (ℓ : Loc Cert.KernelIdeal.nD Cert.KernelIdeal.τ Cert.KernelIdeal.sig) → Buf (Elt Ideal) ℓ)
    (hp : Cert.Pre_KernelIdeal_lam_above_minus_inf m) (c : Dev Cert.KernelIdeal.nD) : Cert.KernelIdeal.Body.LamOk m c := by
  intro k hk
  have h := congrFun (hp c) (ix1 k)
  revert h
  pointwise [Cert.Pre_lam_above_minus_inf.fn]
  intro h
  rw [Cert.Scalar.bot, show m ((c.tc : Thread _ _).loc Cert.KernelIdeal.main_arg7) (ix1 k) = (⊥ : EReal) from hk] at h
  simp at h

/-- The reference's arguments, as the specification takes them. -/
abbrev argsR (m : (ℓ : Loc Cert.ReferenceIdeal.nD Cert.ReferenceIdeal.τ Cert.ReferenceIdeal.sig) → Buf (Elt Ideal) ℓ)
    (c : Dev Cert.ReferenceIdeal.nD) : Cert.Spec.Args where
  p := m ((c.tc : Thread Cert.ReferenceIdeal.nD Cert.ReferenceIdeal.τ).loc Cert.ReferenceIdeal.main_arg0)
  cw := m ((c.tc : Thread Cert.ReferenceIdeal.nD Cert.ReferenceIdeal.τ).loc Cert.ReferenceIdeal.main_arg1)
  cb := m ((c.tc : Thread Cert.ReferenceIdeal.nD Cert.ReferenceIdeal.τ).loc Cert.ReferenceIdeal.main_arg2)
  wx := m ((c.tc : Thread Cert.ReferenceIdeal.nD Cert.ReferenceIdeal.τ).loc Cert.ReferenceIdeal.main_arg3)
  bx := m ((c.tc : Thread Cert.ReferenceIdeal.nD Cert.ReferenceIdeal.τ).loc Cert.ReferenceIdeal.main_arg4)
  wa := m ((c.tc : Thread Cert.ReferenceIdeal.nD Cert.ReferenceIdeal.τ).loc Cert.ReferenceIdeal.main_arg5)
  ba := m ((c.tc : Thread Cert.ReferenceIdeal.nD Cert.ReferenceIdeal.τ).loc Cert.ReferenceIdeal.main_arg6)
  lam := m ((c.tc : Thread Cert.ReferenceIdeal.nD Cert.ReferenceIdeal.τ).loc Cert.ReferenceIdeal.main_arg7)

theorem value : Cert.algebraic_KernelIdeal_ReferenceIdeal_pre_lam_above_minus_inf := by
  intro m g m' g' hp hagree
  refine ⟨fun c => Cert.Spec.scan (Cert.KernelIdeal.Body.args m c), fun c => Cert.Spec.chan (Cert.KernelIdeal.Body.args m c), ?_, ?_⟩
  · have hr := Cert.KernelIdeal.Body.run_main m g
    have hf := Cert.KernelIdeal.Gen.frame_of m g (Cert.KernelIdeal.Body.dats m) (fun _ _ => rfl)
      ((θ_run Cert.KernelIdeal.defs _ _).mono (fun _ h => h.1) hr)
    run_from hf & hr
    · exact ((hc₂.1 c).1 10).trans (Cert.KernelIdeal.Body.fin_scan m c (lam_ok m hp c))
    · exact ((hc₂.1 c).1 11).trans (Cert.KernelIdeal.Body.fin_chan m c)
  · have e : ∀ c, argsR m' c = Cert.KernelIdeal.Body.args m c := by
      intro c
      obtain ⟨h0, h1, h2, h3, h4, h5, h6, h7⟩ := hagree c
      unfold argsR Cert.KernelIdeal.Body.args
      congr 1
    have hr := Cert.RefRun.run_iter (F := Ideal) m' g' (fun c => Cert.RefValue.iter (argsR m' c)) (fun c => rfl) (fun c n => rfl)
    refine (θ_run _ _ _).mono (fun _ h c => ⟨(h c).1.trans ?_, (h c).2.1.trans ?_, (h c).2.2⟩) hr
    · exact (Cert.RefValue.scan_eq _).trans (congrArg Cert.Spec.scan (e c))
    · exact (Cert.RefValue.chan_eq _).trans (congrArg Cert.Spec.chan (e c))

end Cert.Final

end
-- ==== Proof.FinalProj.lean ====
/-
  The last layer's output projection with the gated residual and the final norm: the kernel's blocks against the
  reference's array, over the extended reals.
-/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.Value
public import Idealize.ShloMosaic.Lib.Pointwise
public import Idealize.ShloMosaic.Lib.Claim
public import Idealize.ShloMosaic.Lib.Quiescent
public import Idealize.ShloMosaic.Lib.IdealHost

@[expose] public section

set_option maxRecDepth 16384
set_option maxHeartbeats 2000000

noncomputable section

namespace Cert.FinalProj

open Idealize.ShloMosaic Idealize.ShloMosaic.TcCoe Idealize.SL.Sem Idealize.ShloMosaic.Tactic

/-- A row under the norm with weights `g`: each entry over the root of the row's mean square. -/
def rowNorm (x g : Fin 1024 → EReal) (n : Fin 1024) : EReal :=
  x n * Ideal.rsqrt (Ideal.div (∑ k, x k * x k) (Ideal.ofBits FTy.f32 0x44800000#32) + Ideal.ofBits FTy.f32 0x358637BD#32) * g n

/-- A row of the residual stream with a row of the mixer's output, projected and gated, added to it. -/
def rowSum (h y : Fin 1024 → EReal) (w : Fin 1024 → Fin 1024 → EReal) (g : Fin 1024 → EReal) (n : Fin 1024) : EReal :=
  h n + (∑ k, y k * w k n) * g n

section
open Cert.Reference2Ideal Cert.Reference2Ideal.Gen

/-- What the reference returns, of its arguments. -/
def REF (a0 : FVec Ideal S8x2304x1024 .bf16) (a1 : FVec Ideal S1024x1024 .f32) (a2 : FVec Ideal S8x2304x1024 .f32)
    (a3 : FVec Ideal S8x1024 .f32) (a5 : FVec Ideal S1024 .f32) : FVec Ideal S8x2048x1024 .f32 :=
  mulf (mulf (addf (extractStridedSlice S8x2048x1024 ![0, 256, 0] a2 slices_S8x2304x1024_S8x2048x1024_0_256_0) (mulf (broadcastInDim S8x2048x1024 ![0, 1, 2] bcast_S8x1x1024_S8x2048x1024_0_1_2 (broadcastInDim S8x1x1024 ![0, 2] bcast_S8x1024_S8x1x1024_0_2 a3)) (Host.dotGeneral dot_S8x2048x1024_S1024x1024_S8x2048x1024_2_0_01_1_n_n none (extf .f32 (extractStridedSlice S8x2048x1024 ![0, 256, 0] a0 slices_S8x2304x1024_S8x2048x1024_0_256_0) bitsLt_bf16_f32) a1))) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (addf (extractStridedSlice S8x2048x1024 ![0, 256, 0] a2 slices_S8x2304x1024_S8x2048x1024_0_256_0) (mulf (broadcastInDim S8x2048x1024 ![0, 1, 2] bcast_S8x1x1024_S8x2048x1024_0_1_2 (broadcastInDim S8x1x1024 ![0, 2] bcast_S8x1024_S8x1x1024_0_2 a3)) (Host.dotGeneral dot_S8x2048x1024_S1024x1024_S8x2048x1024_2_0_01_1_n_n none (extf .f32 (extractStridedSlice S8x2048x1024 ![0, 256, 0] a0 slices_S8x2304x1024_S8x2048x1024_0_256_0) bitsLt_bf16_f32) a1))) (addf (extractStridedSlice S8x2048x1024 ![0, 256, 0] a2 slices_S8x2304x1024_S8x2048x1024_0_256_0) (mulf (broadcastInDim S8x2048x1024 ![0, 1, 2] bcast_S8x1x1024_S8x2048x1024_0_1_2 (broadcastInDim S8x1x1024 ![0, 2] bcast_S8x1024_S8x1x1024_0_2 a3)) (Host.dotGeneral dot_S8x2048x1024_S1024x1024_S8x2048x1024_2_0_01_1_n_n none (extf .f32 (extractStridedSlice S8x2048x1024 ![0, 256, 0] a0 slices_S8x2304x1024_S8x2048x1024_0_256_0) bitsLt_bf16_f32) a1)))) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 a5))

theorem REF_at (a0 : FVec Ideal S8x2304x1024 .bf16) (a1 : FVec Ideal S1024x1024 .f32) (a2 : FVec Ideal S8x2304x1024 .f32)
    (a3 : FVec Ideal S8x1024 .f32) (a5 : FVec Ideal S1024 .f32) (b : Fin 8) (j : Fin 2048) (n : Fin 1024) :
    REF a0 a1 a2 a3 a5 (ix3 b j n) = rowNorm (rowSum (fun k => a2 (ix3 b ⟨256 + j.val, by omega⟩ k)) (fun k => a0 (ix3 b ⟨256 + j.val, by omega⟩ k))
      (fun k n => a1 (ix2 k n)) (fun k => a3 (ix2 b k))) (fun k => a5 (ix1 k)) n := by
  have e : rowSum (fun k => a2 (ix3 b ⟨256 + j.val, by omega⟩ k)) (fun k => a0 (ix3 b ⟨256 + j.val, by omega⟩ k))
      (fun k n => a1 (ix2 k n)) (fun k => a3 (ix2 b k))
      = fun n => a2 (ix3 b ⟨256 + j.val, by omega⟩ n) + a3 (ix2 b n) * ∑ k, a0 (ix3 b ⟨256 + j.val, by omega⟩ k) * a1 (ix2 k n) :=
    funext fun n => congrArg (a2 (ix3 b ⟨256 + j.val, by omega⟩ n) + ·) (mul_comm (G := EReal) _ _)
  rw [e]
  unfold rowNorm
  pointwise [REF]

end

section
open Cert.Kernel2Ideal Cert.Kernel2Ideal.Gen

variable (m : (ℓ : Loc nD τ sig) → Buf (Elt Ideal) ℓ)

/-- Where each window's block lies at a grid point. -/
theorem idx : ∀ t : Fin cfg0.N, win0_0.index t = ![t.val / 8, t.val % 8 + 1, 0] ∧ win0_1.index t = ![0, 0]
    ∧ win0_2.index t = ![t.val / 8, t.val % 8 + 1, 0] ∧ win0_3.index t = ![t.val / 8, 0, 0] ∧ win0_4.index t = ![0, 0]
    ∧ win0_5.index t = ![t.val / 8, t.val % 8, 0] ∧ t.val < 64 :=
  (by decide +kernel : ∀ t : Fin grid0.N, _)

/-! What the windows' arrays hold when the grid starts. -/

theorem V1 (c : Dev nD) : V m c main_v0 = (truncf .bf16 (m ((c : Thread nD τ).loc main_arg1)) bitsLt_bf16_f32 : FVec Ideal S1024x1024 .bf16) := by
  unfold V
  simp only [hostOps0, List.flatten_cons, List.flatten_nil, List.append_nil, List.cons_append, List.nil_append]
  entry_read
  rfl

theorem V3 (c : Dev nD) : V m c main_v4 = (broadcastInDim S9x8x1024 ![0, 1, 2] bcast_S9x1x1024_S9x8x1024_0_1_2
    (broadcastInDim S9x1x1024 ![0, 2] bcast_S9x1024_S9x1x1024_0_2 (concatenate S9x1024 0 [⟨S8x1024, m ((c : Thread nD τ).loc main_arg3)⟩,
      ⟨S1x1024, broadcastInDim S1x1024 ![1] bcast_S1024_S1x1024_1 (m ((c : Thread nD τ).loc main_arg4))⟩]
      concatenates_S8x1024_S1x1024_S9x1024_d0)) : FVec Ideal S9x8x1024 .f32) := by
  unfold V
  simp only [hostOps0, List.flatten_cons, List.flatten_nil, List.append_nil, List.cons_append, List.nil_append]
  entry_read
  rfl

theorem V4 (c : Dev nD) : V m c main_v5 = (shapeCast S1x1024 (m ((c : Thread nD τ).loc main_arg5)) shapeCasts_S1024_S1x1024 : FVec Ideal S1x1024 .f32) := by
  unfold V
  simp only [hostOps0, List.flatten_cons, List.flatten_nil, List.append_nil, List.cons_append, List.nil_append]
  entry_read
  rfl

theorem weight (c : Dev nD) (k n : Fin 1024) : V m c main_v0 (ix2 k n) = m ((c : Thread nD τ).loc main_arg1) (ix2 k n) := by
  rw [V1]
  pointwise []

/-- The first eight rows of the grouped gates are the batch elements' own. -/
theorem gate (c : Dev nD) (b : Fin 8) (s : Fin 8) (n : Fin 1024) (h) :
    V m c main_v4 (ix3 ⟨b.val, h⟩ s n) = m ((c : Thread nD τ).loc main_arg3) (ix2 b n) := by
  rw [V3]
  pointwise []

theorem norm (c : Dev nD) (n : Fin 1024) : V m c main_v5 (ix2 0 n) = m ((c : Thread nD τ).loc main_arg5) (ix1 n) := by
  rw [V4]
  pointwise []

theorem iblk0 (c : Dev nD) (t : Fin cfg0.N) (r : Fin 256) (k : Fin 1024) (h₀ h₁) :
    iblk m c 0 t (ix3 0 r k) = m ((c : Thread nD τ).loc main_arg0) (ix3 ⟨t.val / 8, h₀⟩ ⟨256 + (256 * (t.val % 8) + r.val), h₁⟩ k) := by
  blk_point [iblk, V, idx t]

theorem iblk1 (c : Dev nD) (t : Fin cfg0.N) (k n : Fin 1024) :
    iblk m c 1 t (ix2 k n) = m ((c : Thread nD τ).loc main_arg1) (ix2 k n) := by
  rw [← weight m c k n]
  blk_point [iblk, idx t]

theorem iblk2 (c : Dev nD) (t : Fin cfg0.N) (r : Fin 256) (k : Fin 1024) (h₀ h₁) :
    iblk m c 2 t (ix3 0 r k) = m ((c : Thread nD τ).loc main_arg2) (ix3 ⟨t.val / 8, h₀⟩ ⟨256 + (256 * (t.val % 8) + r.val), h₁⟩ k) := by
  blk_point [iblk, V, idx t]

theorem iblk3 (c : Dev nD) (t : Fin cfg0.N) (s : Fin 8) (n : Fin 1024) (h₀) :
    iblk m c 3 t (ix3 0 s n) = m ((c : Thread nD τ).loc main_arg3) (ix2 ⟨t.val / 8, h₀⟩ n) := by
  rw [← gate m c ⟨t.val / 8, h₀⟩ s n (by omega)]
  blk_point [iblk, idx t]

theorem iblk4 (c : Dev nD) (t : Fin cfg0.N) (n : Fin 1024) :
    iblk m c 4 t (ix2 0 n) = m ((c : Thread nD τ).loc main_arg5) (ix1 n) := by
  rw [← norm m c n]
  blk_point [iblk, idx t]

theorem pay_at (y : FVec Ideal S1x256x1024 .bf16) (w : FVec Ideal S1024x1024 .bf16) (h : FVec Ideal S1x256x1024 .f32)
    (g : FVec Ideal S1x8x1024 .f32) (v : FVec Ideal S1x1024 .f32) (r : Fin 256) (n : Fin 1024) :
    k0_pay1 (F := Ideal) y w h g v (ix3 0 r n) = rowNorm (rowSum (fun k => h (ix3 0 r k)) (fun k => y (ix3 0 r k)) (fun k n => w (ix2 k n))
      (fun k => g (ix3 0 ⟨r.val % 8, by omega⟩ k))) (fun k => v (ix2 0 k)) n := by
  unfold rowNorm rowSum
  pointwise [k0_pay1]

/-- What a point stores at an index of its block is what the reference has there. -/
theorem point (c : Dev nD) (t : Fin cfg0.N) (r : Fin 256) (n : Fin 1024) (h₀ h₁) :
    k0_pay1 (iblk m c 0 t) (iblk m c 1 t) (iblk m c 2 t) (iblk m c 3 t) (iblk m c 4 t) (ix3 0 r n)
      = REF (m ((c : Thread nD τ).loc main_arg0)) (m ((c : Thread nD τ).loc main_arg1)) (m ((c : Thread nD τ).loc main_arg2))
          (m ((c : Thread nD τ).loc main_arg3)) (m ((c : Thread nD τ).loc main_arg5)) (ix3 ⟨t.val / 8, h₀⟩ ⟨256 * (t.val % 8) + r.val, h₁⟩ n) := by
  refine (pay_at _ _ _ _ _ r n).trans (.trans ?_ (REF_at _ _ _ _ _ _ _ _).symm)
  have h₂ : 256 + (256 * (t.val % 8) + r.val) < 2304 := by omega
  rw [funext fun k => iblk0 m c t r k h₀ h₂, funext fun k => funext fun n => iblk1 m c t k n, funext fun k => iblk2 m c t r k h₀ h₂,
    funext fun k => iblk3 m c t ⟨r.val % 8, by omega⟩ k h₀, funext fun k => iblk4 m c t k]

/-- The array the run leaves is the reference's. -/
theorem final (c : Dev nD) : (dats m 0 c).arrAt 5 cfg0.N
    = REF (m ((c : Thread nD τ).loc main_arg0)) (m ((c : Thread nD τ).loc main_arg1)) (m ((c : Thread nD τ).loc main_arg2))
          (m ((c : Thread nD τ).loc main_arg3)) (m ((c : Thread nD τ).loc main_arg5)) := by
  refine (dats m 0 c).arrAt_eq_of_covers 5 _ (by decide +kernel) fun t hf y => ?_
  blk_simp
  rw [after0_5]
  frame_out
  idx_vars y
  obtain ⟨-, -, -, -, -, -, ht⟩ := idx t
  have e : ((View.whole main_v6).slice (win0_5.rect t)).emb (ix3 y0 y1 y2) = ix3 ⟨t.val / 8, by omega⟩ ⟨256 * (t.val % 8) + y1.val, by omega⟩ y2 := by
    blk_ext [idx t]
  obtain rfl : y0 = 0 := Subsingleton.elim _ _
  exact (point m c t y1 y2 (by omega) (by omega)).trans (congrArg _ e.symm)

end

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem value : Cert.algebraic_Kernel2Ideal_Reference2Ideal := by
  intro m g m' g' _ hagree
  refine ⟨fun c => (Cert.Kernel2Ideal.Gen.dats m 0 c).arrAt 5 Cert.Kernel2Ideal.cfg0.N, Cert.Kernel2Ideal.Value.run_blocks m g, ?_⟩
  refine (θ_run _ _ _).mono (fun _ h c => ⟨(h c).1.trans ?_, (h c).2⟩) (Cert.Reference2Ideal.Value.run (F := Ideal) m' g')
  obtain ⟨h0, h1, h2, h3, h4, h5⟩ := hagree c
  have e := final m c
  rw [← h0, ← h1, ← h2, ← h3, ← h5] at e
  exact e.symm

end Cert.FinalProj

end
-- ==== Proof.InProj.lean ====
/-
  The odd layers' input projection: the norm, its modulation and the product with the mixer's weights, the kernel's
  blocks against the reference's array, over the extended reals.
-/
module

public import proofs.«01_k».proof.Defs
public import proofs.«01_k».proof.Proof.Scalar
public import proofs.«01_k».proof.Proof.FinalProj
public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.Value
public import Idealize.ShloMosaic.Lib.Pointwise
public import Idealize.ShloMosaic.Lib.Claim
public import Idealize.ShloMosaic.Lib.Quiescent
public import Idealize.ShloMosaic.Lib.IdealHost

@[expose] public section

set_option maxRecDepth 16384
set_option maxHeartbeats 2000000

noncomputable section

namespace Cert.InProj

open Idealize.ShloMosaic Idealize.ShloMosaic.TcCoe Idealize.SL.Sem Idealize.ShloMosaic.Tactic

/-- A row under the norm with weights `g`, scaled by one plus `c` and moved by `d`. -/
def rowMod (x g c d : Fin 1024 → EReal) (n : Fin 1024) : EReal :=
  Cert.FinalProj.rowNorm x g n * (1 + c n) + d n

/-- A row times the weights. -/
def rowDot (u : Fin 1024 → EReal) (w : Fin 1024 → Fin 5120 → EReal) (n : Fin 5120) : EReal := ∑ k, u k * w k n

section
open Cert.Reference3Ideal Cert.Reference3Ideal.Gen

/-- What the reference returns, of its arguments. -/
def REF (a0 : FVec Ideal S8x2304x1024 .f32) (a1 a2 : FVec Ideal S8x1024 .f32) (a3 a4 a5 : FVec Ideal S1024 .f32)
    (a6 : FVec Ideal S1024x5120 .f32) : FVec Ideal S8x2304x5120 .f32 :=
  concatenate S8x2304x5120 2 [⟨S8x2304x2048, (mulf (broadcastInDim S8x2304x2048 ![] bcast_S_S8x2304x2048 (constant S_ .f32 0x3F000000#32)) (extractStridedSlice S8x2304x2048 ![0, 0, 0] (concatenate S8x2304x5120 1 [⟨S8x256x5120, (Host.dotGeneral dot_S8x256x1024_S1024x5120_S8x256x5120_2_0_01_1_n_n none (addf (mulf (mulf (mulf (extractStridedSlice S8x256x1024 ![0, 0, 0] a0 slices_S8x2304x1024_S8x256x1024_0_0_0) (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf (extractStridedSlice S8x256x1024 ![0, 0, 0] a0 slices_S8x2304x1024_S8x256x1024_0_0_0) (extractStridedSlice S8x256x1024 ![0, 0, 0] a0 slices_S8x2304x1024_S8x256x1024_0_0_0)) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 a5))) (broadcastInDim S8x256x1024 ![0, 1, 2] bcast_S1x1x1024_S8x256x1024_0_1_2 (broadcastInDim S1x1x1024 ![2] bcast_S1024_S1x1x1024_2 (addf (broadcastInDim S1024 ![] bcast_S_S1024 (constant S_ .f32 0x3F800000#32)) a4)))) (broadcastInDim S8x256x1024 ![0, 1, 2] bcast_S1x1x1024_S8x256x1024_0_1_2 (broadcastInDim S1x1x1024 ![2] bcast_S1024_S1x1x1024_2 a3))) a6)⟩, ⟨S8x2048x5120, (Host.dotGeneral dot_S8x2048x1024_S1024x5120_S8x2048x5120_2_0_01_1_n_n none (addf (mulf (mulf (mulf (extractStridedSlice S8x2048x1024 ![0, 256, 0] a0 slices_S8x2304x1024_S8x2048x1024_0_256_0) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (extractStridedSlice S8x2048x1024 ![0, 256, 0] a0 slices_S8x2304x1024_S8x2048x1024_0_256_0) (extractStridedSlice S8x2048x1024 ![0, 256, 0] a0 slices_S8x2304x1024_S8x2048x1024_0_256_0)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 a5))) (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 a2)))) (broadcastInDim S8x2048x1024 ![0, 1, 2] bcast_S8x1x1024_S8x2048x1024_0_1_2 (broadcastInDim S8x1x1024 ![0, 2] bcast_S8x1024_S8x1x1024_0_2 a1))) a6)⟩] concatenates_S8x256x5120_S8x2048x5120_S8x2304x5120_d1) slices_S8x2304x5120_S8x2304x2048_0_0_0))⟩, ⟨S8x2304x3072, (extractStridedSlice S8x2304x3072 ![0, 0, 2048] (concatenate S8x2304x5120 1 [⟨S8x256x5120, (Host.dotGeneral dot_S8x256x1024_S1024x5120_S8x256x5120_2_0_01_1_n_n none (addf (mulf (mulf (mulf (extractStridedSlice S8x256x1024 ![0, 0, 0] a0 slices_S8x2304x1024_S8x256x1024_0_0_0) (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf (extractStridedSlice S8x256x1024 ![0, 0, 0] a0 slices_S8x2304x1024_S8x256x1024_0_0_0) (extractStridedSlice S8x256x1024 ![0, 0, 0] a0 slices_S8x2304x1024_S8x256x1024_0_0_0)) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 a5))) (broadcastInDim S8x256x1024 ![0, 1, 2] bcast_S1x1x1024_S8x256x1024_0_1_2 (broadcastInDim S1x1x1024 ![2] bcast_S1024_S1x1x1024_2 (addf (broadcastInDim S1024 ![] bcast_S_S1024 (constant S_ .f32 0x3F800000#32)) a4)))) (broadcastInDim S8x256x1024 ![0, 1, 2] bcast_S1x1x1024_S8x256x1024_0_1_2 (broadcastInDim S1x1x1024 ![2] bcast_S1024_S1x1x1024_2 a3))) a6)⟩, ⟨S8x2048x5120, (Host.dotGeneral dot_S8x2048x1024_S1024x5120_S8x2048x5120_2_0_01_1_n_n none (addf (mulf (mulf (mulf (extractStridedSlice S8x2048x1024 ![0, 256, 0] a0 slices_S8x2304x1024_S8x2048x1024_0_256_0) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (extractStridedSlice S8x2048x1024 ![0, 256, 0] a0 slices_S8x2304x1024_S8x2048x1024_0_256_0) (extractStridedSlice S8x2048x1024 ![0, 256, 0] a0 slices_S8x2304x1024_S8x2048x1024_0_256_0)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 a5))) (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 a2)))) (broadcastInDim S8x2048x1024 ![0, 1, 2] bcast_S8x1x1024_S8x2048x1024_0_1_2 (broadcastInDim S8x1x1024 ![0, 2] bcast_S8x1024_S8x1x1024_0_2 a1))) a6)⟩] concatenates_S8x256x5120_S8x2048x5120_S8x2304x5120_d1) slices_S8x2304x5120_S8x2304x3072_0_0_2048)⟩] concatenates_S8x2304x2048_S8x2304x3072_S8x2304x5120_d2

/-- The row of modulated activations at a batch element and a position: the context rows are modulated by vectors the batch shares. -/
def row (a0 : FVec Ideal S8x2304x1024 .f32) (a1 a2 : FVec Ideal S8x1024 .f32) (a3 a4 a5 : FVec Ideal S1024 .f32)
    (b : Fin 8) (j : Fin 2304) : Fin 1024 → EReal :=
  rowMod (fun k => a0 (ix3 b j k)) (fun k => a5 (ix1 k)) (fun k => if j.val < 256 then a4 (ix1 k) else a2 (ix2 b k))
    (fun k => if j.val < 256 then a3 (ix1 k) else a1 (ix2 b k))

/-- The reference's entry: the first 2048 columns are halved. -/
def SPEC (a0 : FVec Ideal S8x2304x1024 .f32) (a1 a2 : FVec Ideal S8x1024 .f32) (a3 a4 a5 : FVec Ideal S1024 .f32)
    (a6 : FVec Ideal S1024x5120 .f32) (b : Fin 8) (j : Fin 2304) (n : Fin 5120) : EReal :=
  if n.val < 2048 then Ideal.ofBits FTy.f32 0x3F000000#32 * rowDot (row a0 a1 a2 a3 a4 a5 b j) (fun k n => a6 (ix2 k n)) n
  else rowDot (row a0 a1 a2 a3 a4 a5 b j) (fun k n => a6 (ix2 k n)) n

/-- The weights with their first 2048 columns halved. -/
def halved (w : Fin 1024 → Fin 5120 → EReal) (k : Fin 1024) (n : Fin 5120) : EReal :=
  if n.val < 2048 then w k n * Ideal.ofBits FTy.f32 0x3F000000#32 else w k n

/-- Halving columns of the weights halves those columns of the product. -/
theorem rowDot_half (u : Fin 1024 → EReal) (w : Fin 1024 → Fin 5120 → EReal) (n : Fin 5120) :
    rowDot u (halved w) n
      = if n.val < 2048 then Ideal.ofBits FTy.f32 0x3F000000#32 * rowDot u w n else rowDot u w n := by
  unfold rowDot halved
  by_cases h : n.val < 2048
  · simp only [h, if_true]
    rw [Cert.Scalar.half, Cert.Scalar.mul_sum _ (by norm_num)]
    exact Finset.sum_congr rfl fun k _ => by rw [mul_comm (w k n), mul_left_comm]
  · simp only [h, if_false]

theorem REF_at (a0 : FVec Ideal S8x2304x1024 .f32) (a1 a2 : FVec Ideal S8x1024 .f32) (a3 a4 a5 : FVec Ideal S1024 .f32)
    (a6 : FVec Ideal S1024x5120 .f32) (b : Fin 8) (j : Fin 2304) (n : Fin 5120) :
    REF a0 a1 a2 a3 a4 a5 a6 (ix3 b j n) = SPEC a0 a1 a2 a3 a4 a5 a6 b j n := by
  unfold SPEC rowDot row rowMod Cert.FinalProj.rowNorm
  pointwise [REF]
  have en : ∀ (h : ¬ n.val < 2048) (h'), (⟨2048 + (n.val - 2048), h'⟩ : Fin 5120) = n := fun h _ => Fin.ext (by show 2048 + (n.val - 2048) = n.val; omega)
  have ej : ∀ (h : ¬ j.val < 256) (h'), (⟨256 + (j.val - 256), h'⟩ : Fin 2304) = j := fun h _ => Fin.ext (by show 256 + (j.val - 256) = j.val; omega)
  by_cases hn : n.val < 2048 <;> by_cases hj : j.val < 256
  · simp only [hn, hj, dite_true, if_true]
  · simp only [hn, hj, dite_true, dite_false, if_true, if_false, ej hj]
  · simp only [hn, hj, dite_true, dite_false, if_true, if_false, en hn]
  · simp only [hn, hj, dite_false, if_false, ej hj, en hn]

/-- A row of the kernel's product is the reference's, given what the blocks hold. -/
theorem close (a0 : FVec Ideal S8x2304x1024 .f32) (a1 a2 : FVec Ideal S8x1024 .f32) (a3 a4 a5 : FVec Ideal S1024 .f32)
    (a6 : FVec Ideal S1024x5120 .f32) (b : Fin 8) (j : Fin 2304) (n : Fin 5120) {x v c d : Fin 1024 → EReal} {w : Fin 1024 → Fin 5120 → EReal}
    (hx : ∀ k, x k = a0 (ix3 b j k)) (hv : ∀ k, v k = a5 (ix1 k)) (hc : ∀ k, c k = if j.val < 256 then a4 (ix1 k) else a2 (ix2 b k))
    (hd : ∀ k, d k = if j.val < 256 then a3 (ix1 k) else a1 (ix2 b k)) (hw : ∀ k n, w k n = halved (fun k n => a6 (ix2 k n)) k n) :
    rowDot (rowMod x v c d) w n = REF a0 a1 a2 a3 a4 a5 a6 (ix3 b j n) := by
  rw [REF_at, funext hx, funext hv, funext hc, funext hd, funext fun k => funext fun n => hw k n]
  exact rowDot_half _ _ _

end

section
open Cert.Kernel3Ideal Cert.Kernel3Ideal.Gen

variable (m : (ℓ : Loc nD τ sig) → Buf (Elt Ideal) ℓ)

/-- Where each window's block lies at a grid point. -/
theorem idx : ∀ t : Fin cfg0.N, win0_0.index t = ![t.val / 3, t.val % 3, 0]
    ∧ win0_1.index t = ![if t.val % 3 = 0 then 8 else t.val / 3, 0, 0] ∧ win0_2.index t = ![t.val / 3, 0, 0] ∧ win0_3.index t = ![t.val / 3, 0, 0]
    ∧ win0_4.index t = ![if t.val % 3 = 0 then 8 else t.val / 3, 0, 0] ∧ win0_5.index t = ![t.val / 3, 0, 0] ∧ win0_6.index t = ![t.val / 3, 0, 0]
    ∧ win0_7.index t = ![0, 0] ∧ win0_8.index t = ![0, 0] ∧ win0_9.index t = ![t.val / 3, t.val % 3, 0] ∧ t.val < 24 :=
  (by decide +kernel : ∀ t : Fin grid0.N, _)

/-! What the windows' arrays hold when the grid starts. -/

theorem Vshift (c : Dev nD) : V m c main_v9 = (broadcastInDim S9x8x1024 ![0, 1, 2] bcast_S9x1x1024_S9x8x1024_0_1_2
    (broadcastInDim S9x1x1024 ![0, 2] bcast_S9x1024_S9x1x1024_0_2 (concatenate S9x1024 0 [⟨S8x1024, m ((c : Thread nD τ).loc main_arg1)⟩,
      ⟨S1x1024, broadcastInDim S1x1024 ![1] bcast_S1024_S1x1024_1 (m ((c : Thread nD τ).loc main_arg3))⟩]
      concatenates_S8x1024_S1x1024_S9x1024_d0)) : FVec Ideal S9x8x1024 .f32) := by
  unfold V
  simp only [hostOps0, List.flatten_cons, List.flatten_nil, List.append_nil, List.cons_append, List.nil_append]
  entry_read
  rfl

theorem Vscale (c : Dev nD) : V m c main_v13 = (broadcastInDim S9x8x1024 ![0, 1, 2] bcast_S9x1x1024_S9x8x1024_0_1_2
    (broadcastInDim S9x1x1024 ![0, 2] bcast_S9x1024_S9x1x1024_0_2 (concatenate S9x1024 0 [⟨S8x1024, m ((c : Thread nD τ).loc main_arg2)⟩,
      ⟨S1x1024, broadcastInDim S1x1024 ![1] bcast_S1024_S1x1024_1 (m ((c : Thread nD τ).loc main_arg4))⟩]
      concatenates_S8x1024_S1x1024_S9x1024_d0)) : FVec Ideal S9x8x1024 .f32) := by
  unfold V
  simp only [hostOps0, List.flatten_cons, List.flatten_nil, List.append_nil, List.cons_append, List.nil_append]
  entry_read
  rfl

theorem Vnorm (c : Dev nD) : V m c main_v14 = (shapeCast S1x1024 (m ((c : Thread nD τ).loc main_arg5)) shapeCasts_S1024_S1x1024 : FVec Ideal S1x1024 .f32) := by
  unfold V
  simp only [hostOps0, List.flatten_cons, List.flatten_nil, List.append_nil, List.cons_append, List.nil_append]
  entry_read
  rfl

theorem Vweight (c : Dev nD) : V m c main_v5 = (truncf .bf16 (concatenate S1024x5120 1
    [⟨S1024x2048, mulf (extractStridedSlice S1024x2048 ![0, 0] (m ((c : Thread nD τ).loc main_arg6)) slices_S1024x5120_S1024x2048_0_0)
      (broadcastInDim S1024x2048 ![] bcast_S_S1024x2048 (constant S_ .f32 0x3F000000#32))⟩,
     ⟨S1024x3072, extractStridedSlice S1024x3072 ![0, 2048] (m ((c : Thread nD τ).loc main_arg6)) slices_S1024x5120_S1024x3072_0_2048⟩]
    concatenates_S1024x2048_S1024x3072_S1024x5120_d1) bitsLt_bf16_f32 : FVec Ideal S1024x5120 .bf16) := by
  unfold V
  simp only [hostOps0, List.flatten_cons, List.flatten_nil, List.append_nil, List.cons_append, List.nil_append]
  entry_read
  rfl

/-- The grouped shifts: one row for every batch element, then the context's. -/
theorem shift_at (c : Dev nD) (g : Fin 9) (s : Fin 8) (k : Fin 1024) : V m c main_v9 (ix3 g s k)
    = if h : g.val < 8 then m ((c : Thread nD τ).loc main_arg1) (ix2 ⟨g.val, h⟩ k) else m ((c : Thread nD τ).loc main_arg3) (ix1 k) := by
  rw [Vshift]
  pointwise []

/-- The grouped scales: one row for every batch element, then the context's. -/
theorem scale_at (c : Dev nD) (g : Fin 9) (s : Fin 8) (k : Fin 1024) : V m c main_v13 (ix3 g s k)
    = if h : g.val < 8 then m ((c : Thread nD τ).loc main_arg2) (ix2 ⟨g.val, h⟩ k) else m ((c : Thread nD τ).loc main_arg4) (ix1 k) := by
  rw [Vscale]
  pointwise []

theorem norm_at (c : Dev nD) (k : Fin 1024) : V m c main_v14 (ix2 0 k) = m ((c : Thread nD τ).loc main_arg5) (ix1 k) := by
  rw [Vnorm]
  pointwise []

theorem weight_at (c : Dev nD) (k : Fin 1024) (n : Fin 5120) : V m c main_v5 (ix2 k n)
    = halved (fun k n => m ((c : Thread nD τ).loc main_arg6) (ix2 k n)) k n := by
  rw [Vweight]
  unfold halved
  pointwise []
  have en : ∀ (h : ¬ n.val < 2048) (h'), (⟨2048 + (n.val - 2048), h'⟩ : Fin 5120) = n := fun h _ => Fin.ext (by show 2048 + (n.val - 2048) = n.val; omega)
  by_cases hn : n.val < 2048
  · simp only [hn, dite_true, if_true]
  · simp only [hn, dite_false, if_false, en hn]

/-! What the body computes from its blocks: three sub-blocks of 256 rows, the same arithmetic each. -/

theorem pay0_at (x : FVec Ideal S1x256x1024 .f32) (v : FVec Ideal S1x1024 .f32) (c d : FVec Ideal S1x8x1024 .f32)
    (w : FVec Ideal S1024x5120 .bf16) (r : Fin 256) (n : Fin 5120) :
    k0_pay4 (F := Ideal) (k0_pay3 (F := Ideal) x v c d) w (ix3 0 r n)
      = rowDot (rowMod (fun k => x (ix3 0 r k)) (fun k => v (ix2 0 k)) (fun k => c (ix3 0 ⟨r.val % 8, by omega⟩ k))
          (fun k => d (ix3 0 ⟨r.val % 8, by omega⟩ k))) (fun k n => w (ix2 k n)) n := by
  unfold rowDot rowMod Cert.FinalProj.rowNorm
  pointwise [k0_pay4, k0_pay3]

theorem pay1_at (x : FVec Ideal S1x256x1024 .f32) (v : FVec Ideal S1x1024 .f32) (c d : FVec Ideal S1x8x1024 .f32)
    (w : FVec Ideal S1024x5120 .bf16) (r : Fin 256) (n : Fin 5120) :
    k0_pay7 (F := Ideal) (k0_pay6 (F := Ideal) (k0_pay5 (F := Ideal) x v c d)) w (ix3 0 r n)
      = rowDot (rowMod (fun k => x (ix3 0 r k)) (fun k => v (ix2 0 k)) (fun k => c (ix3 0 ⟨r.val % 8, by omega⟩ k))
          (fun k => d (ix3 0 ⟨r.val % 8, by omega⟩ k))) (fun k n => w (ix2 k n)) n := by
  unfold rowDot rowMod Cert.FinalProj.rowNorm
  pointwise [k0_pay7, k0_pay6, k0_pay5]

theorem pay2_at (x : FVec Ideal S1x256x1024 .f32) (v : FVec Ideal S1x1024 .f32) (c d : FVec Ideal S1x8x1024 .f32)
    (w : FVec Ideal S1024x5120 .bf16) (r : Fin 256) (n : Fin 5120) :
    k0_pay2 (F := Ideal) (k0_pay1 (F := Ideal) (k0_pay8 (F := Ideal) x v c) (k0_pay9 (F := Ideal) d)) w (ix3 0 r n)
      = rowDot (rowMod (fun k => x (ix3 0 r k)) (fun k => v (ix2 0 k)) (fun k => c (ix3 0 ⟨r.val % 8, by omega⟩ k))
          (fun k => d (ix3 0 ⟨r.val % 8, by omega⟩ k))) (fun k n => w (ix2 k n)) n := by
  unfold rowDot rowMod Cert.FinalProj.rowNorm
  pointwise [k0_pay2, k0_pay1, k0_pay8, k0_pay9]

theorem iblk0 (c : Dev nD) (t : Fin cfg0.N) (i : Fin 768) (k : Fin 1024) (h₀ h₁) :
    iblk m c 0 t (ix3 0 i k) = m ((c : Thread nD τ).loc main_arg0) (ix3 ⟨t.val / 3, h₀⟩ ⟨768 * (t.val % 3) + i.val, h₁⟩ k) := by
  blk_ext [iblk, V, idx t]

theorem ld0_at (x : Vec Ideal S1x768x1024 .f32) (r : Fin 256) (k : Fin 1024) :
    View.ld (Val := Elt Ideal) (e' := .f32) x (Rect.unit (s := S1x768x1024) ![0, 0, 0] ![1, 256, 1024] inb_S1x768x1024_S1x256x1024_0_0_0) (ix3 0 r k) = x (ix3 0 ⟨0 + r.val, by omega⟩ k) := by
  pointwise []

theorem ld1_at (x : Vec Ideal S1x768x1024 .f32) (r : Fin 256) (k : Fin 1024) :
    View.ld (Val := Elt Ideal) (e' := .f32) x (Rect.unit (s := S1x768x1024) ![0, 256, 0] ![1, 256, 1024] inb_S1x768x1024_S1x256x1024_0_256_0) (ix3 0 r k) = x (ix3 0 ⟨256 + r.val, by omega⟩ k) := by
  pointwise []

theorem ld2_at (x : Vec Ideal S1x768x1024 .f32) (r : Fin 256) (k : Fin 1024) :
    View.ld (Val := Elt Ideal) (e' := .f32) x (Rect.unit (s := S1x768x1024) ![0, 512, 0] ![1, 256, 1024] inb_S1x768x1024_S1x256x1024_0_512_0) (ix3 0 r k) = x (ix3 0 ⟨512 + r.val, by omega⟩ k) := by
  pointwise []

theorem iblk7 (c : Dev nD) (t : Fin cfg0.N) (k : Fin 1024) : iblk m c 7 t (ix2 0 k) = m ((c : Thread nD τ).loc main_arg5) (ix1 k) := by
  rw [← norm_at m c k]
  blk_point [iblk, idx t]

theorem iblk8 (c : Dev nD) (t : Fin cfg0.N) (k : Fin 1024) (n : Fin 5120) :
    iblk m c 8 t (ix2 k n) = halved (fun k n => m ((c : Thread nD τ).loc main_arg6) (ix2 k n)) k n := by
  rw [← weight_at m c k n]
  blk_point [iblk, idx t]

theorem iblk1 (c : Dev nD) (t : Fin cfg0.N) (q : Fin 8) (k : Fin 1024) (j : ℕ) (hj : j < 256 ↔ t.val % 3 = 0) (h₀) :
    iblk m c 1 t (ix3 0 q k) = if j < 256 then m ((c : Thread nD τ).loc main_arg3) (ix1 k) else m ((c : Thread nD τ).loc main_arg1) (ix2 ⟨t.val / 3, h₀⟩ k) := by
  have e : iblk m c 1 t (ix3 0 q k) = V m c main_v9 (ix3 ⟨if t.val % 3 = 0 then 8 else t.val / 3, by split <;> omega⟩ q k) := by
    blk_ext [iblk, idx t]
  rw [e, shift_at]
  by_cases h : t.val % 3 = 0
  · simp only [h, hj.2 h, if_true]
    rfl
  · simp only [h, mt hj.1 h, if_false, h₀, dite_true]

theorem iblk4 (c : Dev nD) (t : Fin cfg0.N) (q : Fin 8) (k : Fin 1024) (j : ℕ) (hj : j < 256 ↔ t.val % 3 = 0) (h₀) :
    iblk m c 4 t (ix3 0 q k) = if j < 256 then m ((c : Thread nD τ).loc main_arg4) (ix1 k) else m ((c : Thread nD τ).loc main_arg2) (ix2 ⟨t.val / 3, h₀⟩ k) := by
  have e : iblk m c 4 t (ix3 0 q k) = V m c main_v13 (ix3 ⟨if t.val % 3 = 0 then 8 else t.val / 3, by split <;> omega⟩ q k) := by
    blk_ext [iblk, idx t]
  rw [e, scale_at]
  by_cases h : t.val % 3 = 0
  · simp only [h, hj.2 h, if_true]
    rfl
  · simp only [h, mt hj.1 h, if_false, h₀, dite_true]

theorem iblk2 (c : Dev nD) (t : Fin cfg0.N) (q : Fin 8) (k : Fin 1024) (j : ℕ) (hj : ¬ j < 256) (h₀) :
    iblk m c 2 t (ix3 0 q k) = if j < 256 then m ((c : Thread nD τ).loc main_arg3) (ix1 k) else m ((c : Thread nD τ).loc main_arg1) (ix2 ⟨t.val / 3, h₀⟩ k) := by
  have e : iblk m c 2 t (ix3 0 q k) = V m c main_v9 (ix3 ⟨t.val / 3, by omega⟩ q k) := by
    blk_ext [iblk, idx t]
  rw [e, shift_at]
  simp only [hj, if_false, h₀, dite_true]

theorem iblk3 (c : Dev nD) (t : Fin cfg0.N) (q : Fin 8) (k : Fin 1024) (j : ℕ) (hj : ¬ j < 256) (h₀) :
    iblk m c 3 t (ix3 0 q k) = if j < 256 then m ((c : Thread nD τ).loc main_arg3) (ix1 k) else m ((c : Thread nD τ).loc main_arg1) (ix2 ⟨t.val / 3, h₀⟩ k) := by
  have e : iblk m c 3 t (ix3 0 q k) = V m c main_v9 (ix3 ⟨t.val / 3, by omega⟩ q k) := by
    blk_ext [iblk, idx t]
  rw [e, shift_at]
  simp only [hj, if_false, h₀, dite_true]

theorem iblk5 (c : Dev nD) (t : Fin cfg0.N) (q : Fin 8) (k : Fin 1024) (j : ℕ) (hj : ¬ j < 256) (h₀) :
    iblk m c 5 t (ix3 0 q k) = if j < 256 then m ((c : Thread nD τ).loc main_arg4) (ix1 k) else m ((c : Thread nD τ).loc main_arg2) (ix2 ⟨t.val / 3, h₀⟩ k) := by
  have e : iblk m c 5 t (ix3 0 q k) = V m c main_v13 (ix3 ⟨t.val / 3, by omega⟩ q k) := by
    blk_ext [iblk, idx t]
  rw [e, scale_at]
  simp only [hj, if_false, h₀, dite_true]

theorem iblk6 (c : Dev nD) (t : Fin cfg0.N) (q : Fin 8) (k : Fin 1024) (j : ℕ) (hj : ¬ j < 256) (h₀) :
    iblk m c 6 t (ix3 0 q k) = if j < 256 then m ((c : Thread nD τ).loc main_arg4) (ix1 k) else m ((c : Thread nD τ).loc main_arg2) (ix2 ⟨t.val / 3, h₀⟩ k) := by
  have e : iblk m c 6 t (ix3 0 q k) = V m c main_v13 (ix3 ⟨t.val / 3, by omega⟩ q k) := by
    blk_ext [iblk, idx t]
  rw [e, scale_at]
  simp only [hj, if_false, h₀, dite_true]

theorem final (c : Dev nD) : (dats m 0 c).arrAt 9 cfg0.N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 9 _ (by decide +kernel) fun t hf y => ?_
  blk_simp
  rw [after0_9]
  unfold outsAt0
  frame_out
  simp only [View.readCov_cons_toLoadRect]
  idx_vars y
  canon_tiles x h
  all_goals idx_vars x
  all_goals obtain rfl : y0 = 0 := Subsingleton.elim _ _
  all_goals obtain rfl : x0 = 0 := Subsingleton.elim _ _
  all_goals obtain rfl : y2 = x2 := Fin.ext h2
  all_goals have ht : t.val < 24 := (idx t).2.2.2.2.2.2.2.2.2.2
  case piece0 =>
    have hl : 768 * (t.val % 3) + (512 + x1.val) < 2304 := by omega
    have e : ((View.whole main_v15).slice (win0_9.rect t)).emb (ix3 0 y1 y2)
        = ix3 ⟨t.val / 3, by omega⟩ ⟨768 * (t.val % 3) + (512 + x1.val), hl⟩ y2 := by
      blk_ext [idx t]
    refine (pay2_at _ _ _ _ _ _ _).trans ((close _ _ _ _ _ _ _ _ _ _ (fun k => ?_) (iblk7 m c t) (fun k => ?_) (fun k => ?_) (iblk8 m c t)).trans
      (congrArg _ e.symm))
    · exact (ld2_at _ _ _).trans (iblk0 m c t ⟨512 + x1.val, by omega⟩ k _ _)
    · exact iblk6 m c t _ k _ (by show ¬ 768 * (t.val % 3) + (512 + x1.val) < 256; omega) _
    · exact iblk3 m c t _ k _ (by show ¬ 768 * (t.val % 3) + (512 + x1.val) < 256; omega) _
  case piece1 =>
    have hl : 768 * (t.val % 3) + (256 + x1.val) < 2304 := by omega
    have e : ((View.whole main_v15).slice (win0_9.rect t)).emb (ix3 0 y1 y2)
        = ix3 ⟨t.val / 3, by omega⟩ ⟨768 * (t.val % 3) + (256 + x1.val), hl⟩ y2 := by
      blk_ext [idx t]
    refine (pay1_at _ _ _ _ _ _ _).trans ((close _ _ _ _ _ _ _ _ _ _ (fun k => ?_) (iblk7 m c t) (fun k => ?_) (fun k => ?_) (iblk8 m c t)).trans
      (congrArg _ e.symm))
    · exact (ld1_at _ _ _).trans (iblk0 m c t ⟨256 + x1.val, by omega⟩ k _ _)
    · exact iblk5 m c t _ k _ (by show ¬ 768 * (t.val % 3) + (256 + x1.val) < 256; omega) _
    · exact iblk2 m c t _ k _ (by show ¬ 768 * (t.val % 3) + (256 + x1.val) < 256; omega) _
  case piece2 =>
    have hl : 768 * (t.val % 3) + (0 + x1.val) < 2304 := by omega
    have e : ((View.whole main_v15).slice (win0_9.rect t)).emb (ix3 0 y1 y2)
        = ix3 ⟨t.val / 3, by omega⟩ ⟨768 * (t.val % 3) + (0 + x1.val), hl⟩ y2 := by
      blk_ext [idx t]
    refine (pay0_at _ _ _ _ _ _ _).trans ((close _ _ _ _ _ _ _ _ _ _ (fun k => ?_) (iblk7 m c t) (fun k => ?_) (fun k => ?_) (iblk8 m c t)).trans
      (congrArg _ e.symm))
    · exact (ld0_at _ _ _).trans (iblk0 m c t ⟨0 + x1.val, by omega⟩ k _ _)
    · exact iblk4 m c t _ k _ (by show 768 * (t.val % 3) + (0 + x1.val) < 256 ↔ _; omega) _
    · exact iblk1 m c t _ k _ (by show 768 * (t.val % 3) + (0 + x1.val) < 256 ↔ _; omega) _

end

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem value : Cert.algebraic_Kernel3Ideal_Reference3Ideal := by
  intro m g m' g' _ hagree
  refine ⟨fun c => (Cert.Kernel3Ideal.Gen.dats m 0 c).arrAt 9 Cert.Kernel3Ideal.cfg0.N, Cert.Kernel3Ideal.Value.run_blocks m g, ?_⟩
  refine (θ_run _ _ _).mono (fun _ h c => ⟨(h c).1.trans ?_, (h c).2⟩) (Cert.Reference3Ideal.Value.run (F := Ideal) m' g')
  obtain ⟨h0, h1, h2, h3, h4, h5, h6⟩ := hagree c
  have e := final m c
  rw [← h0, ← h1, ← h2, ← h3, ← h4, ← h5, ← h6] at e
  exact e.symm

end Cert.InProj

end
-- ==== Proof.EvenOut.lean ====
/-
  An even layer's output projection with the gated residual: the two mixers' outputs against the upper and the lower half of
  the weights.
  The kernel's blocks against the reference's array, over the extended reals.
-/
module

public import proofs.«01_k».proof.Defs
public import proofs.«01_k».proof.Proof.FinalProj
public import proofs.«01_k».proof.Proof.Gen.Kernel4.Frame
public import proofs.«01_k».proof.Proof.Gen.Kernel4Ideal.Value
public import proofs.«01_k».proof.Proof.Gen.Reference4Ideal.Run

@[expose] public section

set_option maxRecDepth 16384
set_option maxHeartbeats 2000000

noncomputable section

namespace Cert.EvenOut

open Idealize.ShloMosaic Idealize.ShloMosaic.TcCoe Idealize.SL.Sem Idealize.ShloMosaic.Tactic Cert.FinalProj

/-- A row of the residual stream with the rows of two mixers, each projected by its half of the weights, gated and added. -/
def rowSum2 (h y z : Fin 1024 → EReal) (w v : Fin 1024 → Fin 1024 → EReal) (g : Fin 1024 → EReal) (n : Fin 1024) : EReal :=
  h n + ((∑ k, y k * w k n) + ∑ k, z k * v k n) * g n

/-- A sum over both halves of 2048 positions. -/
theorem sum_halves (f : Fin 2048 → EReal) :
    ∑ k, f k = (∑ k : Fin 1024, f ⟨k.val, by omega⟩) + ∑ k : Fin 1024, f ⟨1024 + k.val, by omega⟩ :=
  Fin.sum_univ_add (M := EReal) (a := 1024) (b := 1024) f

section
open Cert.Reference4Ideal Cert.Reference4Ideal.Gen

/-- What the reference returns, of its arguments. -/
def REF (a0 : FVec Ideal S8x2304x1024 .bf16) (a1 : FVec Ideal S8x2304x1024 .bf16) (a2 : FVec Ideal S2048x1024 .f32) (a3 : FVec Ideal S8x2304x1024 .f32) (a4 : FVec Ideal S8x1024 .f32) (a5 : FVec Ideal S1024 .f32) : FVec Ideal S8x2304x1024 .f32 :=
  concatenate S8x2304x1024 1 [⟨S8x256x1024, (addf (extractStridedSlice S8x256x1024 ![0, 0, 0] a3 slices_S8x2304x1024_S8x256x1024_0_0_0) (mulf (broadcastInDim S8x256x1024 ![0, 1, 2] bcast_S1x1x1024_S8x256x1024_0_1_2 (broadcastInDim S1x1x1024 ![2] bcast_S1024_S1x1x1024_2 a5)) (Host.dotGeneral dot_S8x256x2048_S2048x1024_S8x256x1024_2_0_01_1_n_n none (extractStridedSlice S8x256x2048 ![0, 0, 0] (extf .f32 (concatenate S8x2304x2048 2 [⟨S8x2304x1024, a0⟩, ⟨S8x2304x1024, a1⟩] concatenates_S8x2304x1024_S8x2304x1024_S8x2304x2048_d2) bitsLt_bf16_f32) slices_S8x2304x2048_S8x256x2048_0_0_0) a2)))⟩, ⟨S8x2048x1024, (addf (extractStridedSlice S8x2048x1024 ![0, 256, 0] a3 slices_S8x2304x1024_S8x2048x1024_0_256_0) (mulf (broadcastInDim S8x2048x1024 ![0, 1, 2] bcast_S8x1x1024_S8x2048x1024_0_1_2 (broadcastInDim S8x1x1024 ![0, 2] bcast_S8x1024_S8x1x1024_0_2 a4)) (Host.dotGeneral dot_S8x2048x2048_S2048x1024_S8x2048x1024_2_0_01_1_n_n none (extractStridedSlice S8x2048x2048 ![0, 256, 0] (extf .f32 (concatenate S8x2304x2048 2 [⟨S8x2304x1024, a0⟩, ⟨S8x2304x1024, a1⟩] concatenates_S8x2304x1024_S8x2304x1024_S8x2304x2048_d2) bitsLt_bf16_f32) slices_S8x2304x2048_S8x2048x2048_0_256_0) a2)))⟩] concatenates_S8x256x1024_S8x2048x1024_S8x2304x1024_d1

theorem REF_at (a0 : FVec Ideal S8x2304x1024 .bf16) (a1 : FVec Ideal S8x2304x1024 .bf16) (a2 : FVec Ideal S2048x1024 .f32) (a3 : FVec Ideal S8x2304x1024 .f32) (a4 : FVec Ideal S8x1024 .f32) (a5 : FVec Ideal S1024 .f32) (b : Fin 8) (j : Fin 2304) (n : Fin 1024) :
    REF a0 a1 a2 a3 a4 a5 (ix3 b j n) = rowSum2 (fun k => a3 (ix3 b j k)) (fun k => a0 (ix3 b j k)) (fun k => a1 (ix3 b j k)) (fun k n => a2 (ix2 ⟨k.val, by omega⟩ n))
      (fun k n => a2 (ix2 ⟨1024 + k.val, by omega⟩ n)) (fun k => if j.val < 256 then a5 (ix1 k) else a4 (ix2 b k)) n := by
  have e : REF a0 a1 a2 a3 a4 a5 (ix3 b j n) = a3 (ix3 b j n) + (if j.val < 256 then a5 (ix1 n) else a4 (ix2 b n)) * ∑ k : Fin 2048,
      (if hk : k.val < 1024 then a0 (ix3 b j ⟨k.val, hk⟩) else a1 (ix3 b j ⟨k.val - 1024, by omega⟩)) * a2 (ix2 k n) := by
    pointwise [REF]
    have ej : ∀ (h : ¬ j.val < 256) (h'), (⟨256 + (j.val - 256), h'⟩ : Fin 2304) = j := fun h _ => Fin.ext (by show 256 + (j.val - 256) = j.val; omega)
    by_cases hj : j.val < 256
    · simp only [hj, dite_true, if_true]
    · simp only [hj, dite_false, if_false, ej hj]
  rw [e, sum_halves]
  refine congrArg (a3 (ix3 b j n) + ·) ((mul_comm (G := EReal) _ _).trans (congrArg (· * _) (congrArg₂ (· + ·) ?_ ?_)))
  · exact Finset.sum_congr rfl fun k _ => by simp only [k.isLt, dite_true]
  · exact Finset.sum_congr rfl fun k _ => by
      simp only [show ¬ 1024 + k.val < 1024 by omega, dite_false, Nat.add_sub_cancel_left]

/-- A row of the kernel's result is the reference's, given what the blocks hold. -/
theorem close (a0 : FVec Ideal S8x2304x1024 .bf16) (a1 : FVec Ideal S8x2304x1024 .bf16) (a2 : FVec Ideal S2048x1024 .f32) (a3 : FVec Ideal S8x2304x1024 .f32) (a4 : FVec Ideal S8x1024 .f32) (a5 : FVec Ideal S1024 .f32) (b : Fin 8) (j : Fin 2304) (n : Fin 1024) {x y z g : Fin 1024 → EReal} {w v : Fin 1024 → Fin 1024 → EReal}
    (hx : ∀ k, x k = a3 (ix3 b j k)) (hy : ∀ k, y k = a0 (ix3 b j k)) (hz : ∀ k, z k = a1 (ix3 b j k)) (hw : ∀ k n, w k n = a2 (ix2 ⟨k.val, by omega⟩ n))
    (hv : ∀ k n, v k n = a2 (ix2 ⟨1024 + k.val, by omega⟩ n))
    (hg : ∀ k, g k = if j.val < 256 then a5 (ix1 k) else a4 (ix2 b k)) :
    rowSum2 x y z w v g n = REF a0 a1 a2 a3 a4 a5 (ix3 b j n) := by
  rw [REF_at, funext hx, funext hy, funext hz, funext hg, funext fun k => funext fun n => hw k n, funext fun k => funext fun n => hv k n]

end

section
open Cert.Kernel4Ideal Cert.Kernel4Ideal.Gen

variable (m : (ℓ : Loc nD τ sig) → Buf (Elt Ideal) ℓ)

/-- Where each window's block lies at a grid point. -/
theorem idx : ∀ t : Fin cfg0.N, win0_0.index t = ![t.val / 3, t.val % 3, 0] ∧ win0_1.index t = ![t.val / 3, t.val % 3, 0] ∧ win0_2.index t = ![0, 0]
    ∧ win0_3.index t = ![t.val / 3, t.val % 3, 0] ∧ win0_4.index t = ![if t.val % 3 = 0 then 8 else t.val / 3, 0, 0]
    ∧ win0_5.index t = ![t.val / 3, 0, 0] ∧ win0_6.index t = ![t.val / 3, 0, 0] ∧ win0_7.index t = ![t.val / 3, t.val % 3, 0] ∧ t.val < 24 :=
  (by decide +kernel : ∀ t : Fin grid0.N, _)

/-! What the windows' arrays hold when the grid starts. -/

theorem Vweight (c : Dev nD) : V m c main_v0 = (truncf .bf16 (m ((c : Thread nD τ).loc main_arg2)) bitsLt_bf16_f32 : FVec Ideal S2048x1024 .bf16) := by
  unfold V
  simp only [hostOps0, List.flatten_cons, List.flatten_nil, List.append_nil, List.cons_append, List.nil_append]
  entry_read
  rfl

theorem Vgate (c : Dev nD) : V m c main_v4 = (broadcastInDim S9x8x1024 ![0, 1, 2] bcast_S9x1x1024_S9x8x1024_0_1_2
    (broadcastInDim S9x1x1024 ![0, 2] bcast_S9x1024_S9x1x1024_0_2 (concatenate S9x1024 0 [⟨S8x1024, m ((c : Thread nD τ).loc main_arg4)⟩,
      ⟨S1x1024, broadcastInDim S1x1024 ![1] bcast_S1024_S1x1024_1 (m ((c : Thread nD τ).loc main_arg5))⟩]
      concatenates_S8x1024_S1x1024_S9x1024_d0)) : FVec Ideal S9x8x1024 .f32) := by
  unfold V
  simp only [hostOps0, List.flatten_cons, List.flatten_nil, List.append_nil, List.cons_append, List.nil_append]
  entry_read
  rfl

theorem weight_at (c : Dev nD) (k : Fin 2048) (n : Fin 1024) : V m c main_v0 (ix2 k n) = m ((c : Thread nD τ).loc main_arg2) (ix2 k n) := by
  rw [Vweight]
  pointwise []

/-- The grouped gates: one row for every batch element, then the context's. -/
theorem gate_at (c : Dev nD) (g : Fin 9) (s : Fin 8) (k : Fin 1024) : V m c main_v4 (ix3 g s k)
    = if h : g.val < 8 then m ((c : Thread nD τ).loc main_arg4) (ix2 ⟨g.val, h⟩ k) else m ((c : Thread nD τ).loc main_arg5) (ix1 k) := by
  rw [Vgate]
  pointwise []

/-! What the body computes from its blocks: three sub-blocks of 256 rows, the same arithmetic each. -/

theorem pay0_at (y z : FVec Ideal S1x768x1024 .bf16) (w v : FVec Ideal S1024x1024 .bf16) (h : FVec Ideal S1x256x1024 .f32) (g : FVec Ideal S1x8x1024 .f32) (r : Fin 256) (n : Fin 1024) :
    k0_pay4 (F := Ideal) y w z v h g (ix3 0 r n) = rowSum2 (fun k => h (ix3 0 r k)) (fun k => y (ix3 0 ⟨0 + r.val, by omega⟩ k)) (fun k => z (ix3 0 ⟨0 + r.val, by omega⟩ k)) (fun k n => w (ix2 k n)) (fun k n => v (ix2 k n)) (fun k => g (ix3 0 ⟨r.val % 8, by omega⟩ k)) n := by
  unfold rowSum2
  pointwise [k0_pay4, k0_pay3]

theorem pay1_at (y z : FVec Ideal S1x768x1024 .bf16) (w v : FVec Ideal S1024x1024 .bf16) (h : FVec Ideal S1x256x1024 .f32) (g : FVec Ideal S1x8x1024 .f32) (r : Fin 256) (n : Fin 1024) :
    k0_pay1 (F := Ideal) (k0_pay5 (F := Ideal) y w z v) (k0_pay6 (F := Ideal) h) g (ix3 0 r n) = rowSum2 (fun k => h (ix3 0 r k)) (fun k => y (ix3 0 ⟨256 + r.val, by omega⟩ k)) (fun k => z (ix3 0 ⟨256 + r.val, by omega⟩ k)) (fun k n => w (ix2 k n)) (fun k n => v (ix2 k n)) (fun k => g (ix3 0 ⟨r.val % 8, by omega⟩ k)) n := by
  unfold rowSum2
  pointwise [k0_pay1, k0_pay5, k0_pay6, k0_pay3]

theorem pay2_at (y z : FVec Ideal S1x768x1024 .bf16) (w v : FVec Ideal S1024x1024 .bf16) (h : FVec Ideal S1x256x1024 .f32) (g : FVec Ideal S1x8x1024 .f32) (r : Fin 256) (n : Fin 1024) :
    k0_pay2 (F := Ideal) (k0_pay3 (F := Ideal) y w z v) h g (ix3 0 r n) = rowSum2 (fun k => h (ix3 0 r k)) (fun k => y (ix3 0 ⟨512 + r.val, by omega⟩ k)) (fun k => z (ix3 0 ⟨512 + r.val, by omega⟩ k)) (fun k n => w (ix2 k n)) (fun k n => v (ix2 k n)) (fun k => g (ix3 0 ⟨r.val % 8, by omega⟩ k)) n := by
  unfold rowSum2
  pointwise [k0_pay2, k0_pay3]

theorem ld0_at (x : Vec Ideal S1x768x1024 .f32) (r : Fin 256) (k : Fin 1024) :
    View.ld (Val := Elt Ideal) (e' := .f32) x (Rect.unit (s := S1x768x1024) ![0, 0, 0] ![1, 256, 1024] inb_S1x768x1024_S1x256x1024_0_0_0) (ix3 0 r k) = x (ix3 0 ⟨0 + r.val, by omega⟩ k) := by
  pointwise []

theorem ld1_at (x : Vec Ideal S1x768x1024 .f32) (r : Fin 256) (k : Fin 1024) :
    View.ld (Val := Elt Ideal) (e' := .f32) x (Rect.unit (s := S1x768x1024) ![0, 256, 0] ![1, 256, 1024] inb_S1x768x1024_S1x256x1024_0_256_0) (ix3 0 r k) = x (ix3 0 ⟨256 + r.val, by omega⟩ k) := by
  pointwise []

theorem ld2_at (x : Vec Ideal S1x768x1024 .f32) (r : Fin 256) (k : Fin 1024) :
    View.ld (Val := Elt Ideal) (e' := .f32) x (Rect.unit (s := S1x768x1024) ![0, 512, 0] ![1, 256, 1024] inb_S1x768x1024_S1x256x1024_0_512_0) (ix3 0 r k) = x (ix3 0 ⟨512 + r.val, by omega⟩ k) := by
  pointwise []

theorem ldw0_at (x : Vec Ideal S2048x1024 .bf16) (k n : Fin 1024) :
    View.ld (Val := Elt Ideal) (e' := .bf16) x (Rect.unit (s := S2048x1024) ![0, 0] ![1024, 1024] inb_S2048x1024_S1024x1024_0_0) (ix2 k n) = x (ix2 ⟨k.val, by omega⟩ n) := by
  pointwise []

theorem ldw1_at (x : Vec Ideal S2048x1024 .bf16) (k n : Fin 1024) :
    View.ld (Val := Elt Ideal) (e' := .bf16) x (Rect.unit (s := S2048x1024) ![1024, 0] ![1024, 1024] inb_S2048x1024_S1024x1024_1024_0) (ix2 k n) = x (ix2 ⟨1024 + k.val, by omega⟩ n) := by
  pointwise []

theorem iblk0 (c : Dev nD) (t : Fin cfg0.N) (i : Fin 768) (k : Fin 1024) (h₀ h₁) :
    iblk m c 0 t (ix3 0 i k) = m ((c : Thread nD τ).loc main_arg0) (ix3 ⟨t.val / 3, h₀⟩ ⟨768 * (t.val % 3) + i.val, h₁⟩ k) := by
  blk_ext [iblk, V, idx t]

theorem iblk1 (c : Dev nD) (t : Fin cfg0.N) (i : Fin 768) (k : Fin 1024) (h₀ h₁) :
    iblk m c 1 t (ix3 0 i k) = m ((c : Thread nD τ).loc main_arg1) (ix3 ⟨t.val / 3, h₀⟩ ⟨768 * (t.val % 3) + i.val, h₁⟩ k) := by
  blk_ext [iblk, V, idx t]

theorem iblk3 (c : Dev nD) (t : Fin cfg0.N) (i : Fin 768) (k : Fin 1024) (h₀ h₁) :
    iblk m c 3 t (ix3 0 i k) = m ((c : Thread nD τ).loc main_arg3) (ix3 ⟨t.val / 3, h₀⟩ ⟨768 * (t.val % 3) + i.val, h₁⟩ k) := by
  blk_ext [iblk, V, idx t]

theorem iblk2 (c : Dev nD) (t : Fin cfg0.N) (k : Fin 2048) (n : Fin 1024) :
    iblk m c 2 t (ix2 k n) = m ((c : Thread nD τ).loc main_arg2) (ix2 k n) := by
  rw [← weight_at m c k n]
  blk_point [iblk, idx t]

theorem iblk4 (c : Dev nD) (t : Fin cfg0.N) (q : Fin 8) (k : Fin 1024) (j : ℕ) (hj : j < 256 ↔ t.val % 3 = 0) (h₀) :
    iblk m c 4 t (ix3 0 q k) = if j < 256 then m ((c : Thread nD τ).loc main_arg5) (ix1 k) else m ((c : Thread nD τ).loc main_arg4) (ix2 ⟨t.val / 3, h₀⟩ k) := by
  have e : iblk m c 4 t (ix3 0 q k) = V m c main_v4 (ix3 ⟨if t.val % 3 = 0 then 8 else t.val / 3, by split <;> omega⟩ q k) := by
    blk_ext [iblk, idx t]
  rw [e, gate_at]
  by_cases h : t.val % 3 = 0
  · simp only [h, hj.2 h, if_true]
    rfl
  · simp only [h, mt hj.1 h, if_false, h₀, dite_true]

theorem iblk5 (c : Dev nD) (t : Fin cfg0.N) (q : Fin 8) (k : Fin 1024) (j : ℕ) (hj : ¬ j < 256) (h₀) :
    iblk m c 5 t (ix3 0 q k) = if j < 256 then m ((c : Thread nD τ).loc main_arg5) (ix1 k) else m ((c : Thread nD τ).loc main_arg4) (ix2 ⟨t.val / 3, h₀⟩ k) := by
  have e : iblk m c 5 t (ix3 0 q k) = V m c main_v4 (ix3 ⟨t.val / 3, by omega⟩ q k) := by
    blk_ext [iblk, idx t]
  rw [e, gate_at]
  simp only [hj, if_false, h₀, dite_true]

theorem iblk6 (c : Dev nD) (t : Fin cfg0.N) (q : Fin 8) (k : Fin 1024) (j : ℕ) (hj : ¬ j < 256) (h₀) :
    iblk m c 6 t (ix3 0 q k) = if j < 256 then m ((c : Thread nD τ).loc main_arg5) (ix1 k) else m ((c : Thread nD τ).loc main_arg4) (ix2 ⟨t.val / 3, h₀⟩ k) := by
  have e : iblk m c 6 t (ix3 0 q k) = V m c main_v4 (ix3 ⟨t.val / 3, by omega⟩ q k) := by
    blk_ext [iblk, idx t]
  rw [e, gate_at]
  simp only [hj, if_false, h₀, dite_true]

theorem final (c : Dev nD) : (dats m 0 c).arrAt 7 cfg0.N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  frame_out
  idx_vars y
  canon_tiles x h
  all_goals idx_vars x
  all_goals obtain rfl : y0 = 0 := Subsingleton.elim _ _
  all_goals obtain rfl : x0 = 0 := Subsingleton.elim _ _
  all_goals obtain rfl : y2 = x2 := Fin.ext h2
  all_goals have ht : t.val < 24 := (idx t).2.2.2.2.2.2.2.2
  case piece0 =>
    have hl : 768 * (t.val % 3) + (512 + x1.val) < 2304 := by omega
    have e : ((View.whole main_v5).slice (win0_7.rect t)).emb (ix3 0 y1 y2)
        = ix3 ⟨t.val / 3, by omega⟩ ⟨768 * (t.val % 3) + (512 + x1.val), hl⟩ y2 := by
      blk_ext [idx t]
    refine (pay2_at _ _ _ _ _ _ _ _).trans ((close _ _ _ _ _ _ _ _ _ (fun k => ?_) (fun k => iblk0 m c t _ k _ _) (fun k => iblk1 m c t _ k _ _)
      (fun k n => ?_) (fun k n => ?_) (fun k => ?_)).trans (congrArg _ e.symm))
    · exact (ld2_at _ _ _).trans (iblk3 m c t ⟨512 + x1.val, by omega⟩ k _ _)
    · exact (ldw0_at _ _ _).trans (iblk2 m c t _ n)
    · exact (ldw1_at _ _ _).trans (iblk2 m c t _ n)
    · exact iblk6 m c t _ k _ (by show ¬ 768 * (t.val % 3) + (512 + x1.val) < 256; omega) _
  case piece1 =>
    have hl : 768 * (t.val % 3) + (256 + x1.val) < 2304 := by omega
    have e : ((View.whole main_v5).slice (win0_7.rect t)).emb (ix3 0 y1 y2)
        = ix3 ⟨t.val / 3, by omega⟩ ⟨768 * (t.val % 3) + (256 + x1.val), hl⟩ y2 := by
      blk_ext [idx t]
    refine (pay1_at _ _ _ _ _ _ _ _).trans ((close _ _ _ _ _ _ _ _ _ (fun k => ?_) (fun k => iblk0 m c t _ k _ _) (fun k => iblk1 m c t _ k _ _)
      (fun k n => ?_) (fun k n => ?_) (fun k => ?_)).trans (congrArg _ e.symm))
    · exact (ld1_at _ _ _).trans (iblk3 m c t ⟨256 + x1.val, by omega⟩ k _ _)
    · exact (ldw0_at _ _ _).trans (iblk2 m c t _ n)
    · exact (ldw1_at _ _ _).trans (iblk2 m c t _ n)
    · exact iblk5 m c t _ k _ (by show ¬ 768 * (t.val % 3) + (256 + x1.val) < 256; omega) _
  case piece2 =>
    have hl : 768 * (t.val % 3) + (0 + x1.val) < 2304 := by omega
    have e : ((View.whole main_v5).slice (win0_7.rect t)).emb (ix3 0 y1 y2)
        = ix3 ⟨t.val / 3, by omega⟩ ⟨768 * (t.val % 3) + (0 + x1.val), hl⟩ y2 := by
      blk_ext [idx t]
    refine (pay0_at _ _ _ _ _ _ _ _).trans ((close _ _ _ _ _ _ _ _ _ (fun k => ?_) (fun k => iblk0 m c t _ k _ _) (fun k => iblk1 m c t _ k _ _)
      (fun k n => ?_) (fun k n => ?_) (fun k => ?_)).trans (congrArg _ e.symm))
    · exact (ld0_at _ _ _).trans (iblk3 m c t ⟨0 + x1.val, by omega⟩ k _ _)
    · exact (ldw0_at _ _ _).trans (iblk2 m c t _ n)
    · exact (ldw1_at _ _ _).trans (iblk2 m c t _ n)
    · exact iblk4 m c t _ k _ (by show 768 * (t.val % 3) + (0 + x1.val) < 256 ↔ _; omega) _

end

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem value : Cert.algebraic_Kernel4Ideal_Reference4Ideal := by
  intro m g m' g' _ hagree
  refine ⟨fun c => (Cert.Kernel4Ideal.Gen.dats m 0 c).arrAt 7 Cert.Kernel4Ideal.cfg0.N, Cert.Kernel4Ideal.Value.run_blocks m g, ?_⟩
  refine (θ_run _ _ _).mono (fun _ h c => ⟨(h c).1.trans ?_, (h c).2⟩) (Cert.Reference4Ideal.Value.run (F := Ideal) m' g')
  obtain ⟨h0, h1, h2, h3, h4, h5⟩ := hagree c
  have e := final m c
  rw [← h0, ← h1, ← h2, ← h3, ← h4, ← h5] at e
  exact e.symm

end Cert.EvenOut

end
-- ==== Proof.TimeProj.lean ====
/-
  An even layer's projection of the RG-LRU's input and of its gate, the tokens in time order: the kernel's blocks against
  the reference's array, over the extended reals.
-/
module

public import proofs.«01_k».proof.Defs
public import proofs.«01_k».proof.Proof.FinalProj
public import proofs.«01_k».proof.Proof.Gen.Kernel5.Frame
public import proofs.«01_k».proof.Proof.Gen.Kernel5Ideal.Value
public import proofs.«01_k».proof.Proof.Gen.Reference5Ideal.Run

@[expose] public section

set_option maxRecDepth 16384
set_option maxHeartbeats 2000000

noncomputable section

namespace Cert.TimeProj

open Idealize.ShloMosaic Idealize.ShloMosaic.TcCoe Idealize.SL.Sem Idealize.ShloMosaic.Tactic

/-- A row times the weights. -/
def rowDot (u : Fin 1024 → EReal) (w : Fin 1024 → Fin 2048 → EReal) (n : Fin 2048) : EReal := ∑ k, u k * w k n

section
open Cert.Reference5Ideal Cert.Reference5Ideal.Gen

/-- What the reference returns, of its arguments. -/
def REF (a0 : FVec Ideal S8x2304x1024 .bf16) (a1 : FVec Ideal S1024x4608 .f32) : FVec Ideal S18432x2048 .f32 :=
  shapeCast _ (transpose S2304x8x2048 [1, 0, 2] (concatenate S8x2304x2048 2 [⟨S8x2304x1024, (extractStridedSlice S8x2304x1024 ![0, 0, 0] (Host.dotGeneral dot_S8x2304x1024_S1024x4608_S8x2304x4608_2_0_01_1_n_n none (extf .f32 a0 bitsLt_bf16_f32) a1) slices_S8x2304x4608_S8x2304x1024_0_0_0)⟩, ⟨S8x2304x1024, (extractStridedSlice S8x2304x1024 ![0, 0, 1536] (Host.dotGeneral dot_S8x2304x1024_S1024x4608_S8x2304x4608_2_0_01_1_n_n none (extf .f32 a0 bitsLt_bf16_f32) a1) slices_S8x2304x4608_S8x2304x1024_0_0_1536)⟩] concatenates_S8x2304x1024_S8x2304x1024_S8x2304x2048_d2) transposes_S8x2304x2048_S2304x8x2048_1_0_2) shapeCasts_S2304x8x2048_S18432x2048

/-- The weights of the RG-LRU's input, then those of its gate. -/
def picked (a1 : FVec Ideal S1024x4608 .f32) (k : Fin 1024) (n : Fin 2048) : EReal :=
  if h : n.val < 1024 then a1 (ix2 k ⟨n.val, by omega⟩) else a1 (ix2 k ⟨1536 + (n.val - 1024), by omega⟩)

theorem REF_at (a0 : FVec Ideal S8x2304x1024 .bf16) (a1 : FVec Ideal S1024x4608 .f32) (i : Fin 18432) (n : Fin 2048) :
    REF a0 a1 (ix2 i n) = rowDot (fun k => a0 (ix3 ⟨i.val % 8, by omega⟩ ⟨i.val / 8, by omega⟩ k)) (picked a1) n := by
  unfold rowDot picked
  pointwise [REF]
  by_cases hn : n.val < 1024
  · simp only [hn, dite_true]
  · simp only [hn, dite_false]

end

section
open Cert.Kernel5Ideal Cert.Kernel5Ideal.Gen

variable (m : (ℓ : Loc nD τ sig) → Buf (Elt Ideal) ℓ)

/-- Where each window's block lies at a grid point. -/
theorem idx : ∀ t : Fin cfg0.N, win0_0.index t = ![t.val, 0] ∧ win0_1.index t = ![0, 0] ∧ win0_2.index t = ![t.val, 0] ∧ t.val < 18 :=
  (by decide +kernel : ∀ t : Fin grid0.N, _)

/-! What the windows' arrays hold when the grid starts. -/

theorem Vtokens (c : Dev nD) : V m c main_v16 = (shapeCast S18432x1024 (transpose S2304x8x1024 [1, 0, 2] (m ((c : Thread nD τ).loc main_arg0))
    transposes_S8x2304x1024_S2304x8x1024_1_0_2) shapeCasts_S2304x8x1024_S18432x1024 : FVec Ideal S18432x1024 .bf16) := by
  unfold V
  simp only [hostOps0, List.flatten_cons, List.flatten_nil, List.append_nil, List.cons_append, List.nil_append]
  entry_read
  rfl

theorem Vweight (c : Dev nD) : V m c main_v14 = (truncf .bf16 (concatenate S1024x2048 1
    [⟨S1024x1024, extractStridedSlice S1024x1024 ![0, 0] (m ((c : Thread nD τ).loc main_arg1)) slices_S1024x4608_S1024x1024_0_0⟩,
     ⟨S1024x1024, extractStridedSlice S1024x1024 ![0, 1536] (m ((c : Thread nD τ).loc main_arg1)) slices_S1024x4608_S1024x1024_0_1536⟩]
    concatenates_S1024x1024_S1024x1024_S1024x2048_d1) bitsLt_bf16_f32 : FVec Ideal S1024x2048 .bf16) := by
  unfold V
  simp only [hostOps0, List.flatten_cons, List.flatten_nil, List.append_nil, List.cons_append, List.nil_append]
  entry_read
  rfl

theorem tokens_at (c : Dev nD) (i : Fin 18432) (k : Fin 1024) : V m c main_v16 (ix2 i k)
    = m ((c : Thread nD τ).loc main_arg0) (ix3 ⟨i.val % 8, by omega⟩ ⟨i.val / 8, by omega⟩ k) := by
  rw [Vtokens]
  pointwise []

theorem weight_at (c : Dev nD) (k : Fin 1024) (n : Fin 2048) : V m c main_v14 (ix2 k n) = picked (m ((c : Thread nD τ).loc main_arg1)) k n := by
  rw [Vweight]
  unfold picked
  pointwise []

theorem iblk0 (c : Dev nD) (t : Fin cfg0.N) (r k : Fin 1024) (h) :
    iblk m c 0 t (ix2 r k) = V m c main_v16 (ix2 ⟨1024 * t.val + r.val, h⟩ k) := by
  blk_ext [iblk, idx t]

theorem iblk1 (c : Dev nD) (t : Fin cfg0.N) (k : Fin 1024) (n : Fin 2048) :
    iblk m c 1 t (ix2 k n) = picked (m ((c : Thread nD τ).loc main_arg1)) k n := by
  rw [← weight_at m c k n]
  blk_point [iblk, idx t]

theorem pay_at (u : FVec Ideal S1024x1024 .bf16) (w : FVec Ideal S1024x2048 .bf16) (r : Fin 1024) (n : Fin 2048) :
    k0_pay1 (F := Ideal) u w (ix2 r n) = rowDot (fun k => u (ix2 r k)) (fun k n => w (ix2 k n)) n := by
  unfold rowDot
  pointwise [k0_pay1]

/-- What a point stores at an index of its block is what the reference has there. -/
theorem point (c : Dev nD) (t : Fin cfg0.N) (r : Fin 1024) (n : Fin 2048) (h) :
    k0_pay1 (iblk m c 0 t) (iblk m c 1 t) (ix2 r n)
      = REF (m ((c : Thread nD τ).loc main_arg0)) (m ((c : Thread nD τ).loc main_arg1)) (ix2 ⟨1024 * t.val + r.val, h⟩ n) := by
  refine (pay_at _ _ r n).trans (.trans ?_ (REF_at _ _ _ _).symm)
  rw [funext fun k => (iblk0 m c t r k h).trans (tokens_at m c _ k), funext fun k => funext fun n => iblk1 m c t k n]

/-- The array the run leaves is the reference's. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  have ht : t.val < 18 := (idx t).2.2.2
  have e : ((View.whole main_v17).slice (win0_2.rect t)).emb (ix2 y0 y1) = ix2 ⟨1024 * t.val + y0.val, by omega⟩ y1 := by
    blk_ext [idx t]
  exact (point m c t y0 y1 (by omega)).trans (congrArg _ e.symm)

end

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

theorem value : Cert.algebraic_Kernel5Ideal_Reference5Ideal := by
  intro m g m' g' _ hagree
  refine ⟨fun c => (Cert.Kernel5Ideal.Gen.dats m 0 c).arrAt 2 Cert.Kernel5Ideal.cfg0.N, Cert.Kernel5Ideal.Value.run_blocks m g, ?_⟩
  refine (θ_run _ _ _).mono (fun _ h c => ⟨(h c).1.trans ?_, (h c).2⟩) (Cert.Reference5Ideal.Value.run (F := Ideal) m' g')
  obtain ⟨h0, h1⟩ := hagree c
  have e := final m c
  rw [← h0, ← h1] at e
  exact e.symm

end Cert.TimeProj

end
-- ==== Proof.OddOut.lean ====
/-
  An odd layer's output projection with the gated residual, where the layer is not the last.
  The kernel's blocks against the reference's array, over the extended reals.
-/
module

public import proofs.«01_k».proof.Defs
public import proofs.«01_k».proof.Proof.FinalProj
public import proofs.«01_k».proof.Proof.Gen.Kernel6.Frame
public import proofs.«01_k».proof.Proof.Gen.Kernel6Ideal.Value
public import proofs.«01_k».proof.Proof.Gen.Reference6Ideal.Run

@[expose] public section

set_option maxRecDepth 16384
set_option maxHeartbeats 2000000

noncomputable section

namespace Cert.OddOut

open Idealize.ShloMosaic Idealize.ShloMosaic.TcCoe Idealize.SL.Sem Idealize.ShloMosaic.Tactic Cert.FinalProj

section
open Cert.Reference6Ideal Cert.Reference6Ideal.Gen

/-- What the reference returns, of its arguments. -/
def REF (a0 : FVec Ideal S8x2304x1024 .bf16) (a1 : FVec Ideal S1024x1024 .f32) (a2 : FVec Ideal S8x2304x1024 .f32) (a3 : FVec Ideal S8x1024 .f32) (a4 : FVec Ideal S1024 .f32) : FVec Ideal S8x2304x1024 .f32 :=
  concatenate S8x2304x1024 1 [⟨S8x256x1024, (addf (extractStridedSlice S8x256x1024 ![0, 0, 0] a2 slices_S8x2304x1024_S8x256x1024_0_0_0) (mulf (broadcastInDim S8x256x1024 ![0, 1, 2] bcast_S1x1x1024_S8x256x1024_0_1_2 (broadcastInDim S1x1x1024 ![2] bcast_S1024_S1x1x1024_2 a4)) (Host.dotGeneral dot_S8x256x1024_S1024x1024_S8x256x1024_2_0_01_1_n_n none (extf .f32 (extractStridedSlice S8x256x1024 ![0, 0, 0] a0 slices_S8x2304x1024_S8x256x1024_0_0_0) bitsLt_bf16_f32) a1)))⟩, ⟨S8x2048x1024, (addf (extractStridedSlice S8x2048x1024 ![0, 256, 0] a2 slices_S8x2304x1024_S8x2048x1024_0_256_0) (mulf (broadcastInDim S8x2048x1024 ![0, 1, 2] bcast_S8x1x1024_S8x2048x1024_0_1_2 (broadcastInDim S8x1x1024 ![0, 2] bcast_S8x1024_S8x1x1024_0_2 a3)) (Host.dotGeneral dot_S8x2048x1024_S1024x1024_S8x2048x1024_2_0_01_1_n_n none (extf .f32 (extractStridedSlice S8x2048x1024 ![0, 256, 0] a0 slices_S8x2304x1024_S8x2048x1024_0_256_0) bitsLt_bf16_f32) a1)))⟩] concatenates_S8x256x1024_S8x2048x1024_S8x2304x1024_d1

theorem REF_at (a0 : FVec Ideal S8x2304x1024 .bf16) (a1 : FVec Ideal S1024x1024 .f32) (a2 : FVec Ideal S8x2304x1024 .f32) (a3 : FVec Ideal S8x1024 .f32) (a4 : FVec Ideal S1024 .f32) (b : Fin 8) (j : Fin 2304) (n : Fin 1024) :
    REF a0 a1 a2 a3 a4 (ix3 b j n) = rowSum (fun k => a2 (ix3 b j k)) (fun k => a0 (ix3 b j k)) (fun k n => a1 (ix2 k n)) (fun k => if j.val < 256 then a4 (ix1 k) else a3 (ix2 b k)) n := by
  have e : REF a0 a1 a2 a3 a4 (ix3 b j n) = a2 (ix3 b j n) + (if j.val < 256 then a4 (ix1 n) else a3 (ix2 b n)) * ∑ k : Fin 1024, a0 (ix3 b j k) * a1 (ix2 k n) := by
    pointwise [REF]
    have ej : ∀ (h : ¬ j.val < 256) (h'), (⟨256 + (j.val - 256), h'⟩ : Fin 2304) = j := fun h _ => Fin.ext (by show 256 + (j.val - 256) = j.val; omega)
    by_cases hj : j.val < 256
    · simp only [hj, dite_true, if_true]
    · simp only [hj, dite_false, if_false, ej hj]
  exact e.trans (congrArg (a2 (ix3 b j n) + ·) (mul_comm (G := EReal) _ _))

/-- A row of the kernel's result is the reference's, given what the blocks hold. -/
theorem close (a0 : FVec Ideal S8x2304x1024 .bf16) (a1 : FVec Ideal S1024x1024 .f32) (a2 : FVec Ideal S8x2304x1024 .f32) (a3 : FVec Ideal S8x1024 .f32) (a4 : FVec Ideal S1024 .f32) (b : Fin 8) (j : Fin 2304) (n : Fin 1024) {x y g : Fin 1024 → EReal} {w : Fin 1024 → Fin 1024 → EReal}
    (hx : ∀ k, x k = a2 (ix3 b j k)) (hy : ∀ k, y k = a0 (ix3 b j k)) (hw : ∀ k n, w k n = a1 (ix2 k n))
    (hg : ∀ k, g k = if j.val < 256 then a4 (ix1 k) else a3 (ix2 b k)) :
    rowSum x y w g n = REF a0 a1 a2 a3 a4 (ix3 b j n) := by
  rw [REF_at, funext hx, funext hy, funext hg, funext fun k => funext fun n => hw k n]

end

section
open Cert.Kernel6Ideal Cert.Kernel6Ideal.Gen

variable (m : (ℓ : Loc nD τ sig) → Buf (Elt Ideal) ℓ)

/-- Where each window's block lies at a grid point. -/
theorem idx : ∀ t : Fin cfg0.N, win0_0.index t = ![t.val / 3, t.val % 3, 0] ∧ win0_1.index t = ![0, 0]
    ∧ win0_2.index t = ![t.val / 3, t.val % 3, 0] ∧ win0_3.index t = ![if t.val % 3 = 0 then 8 else t.val / 3, 0, 0]
    ∧ win0_4.index t = ![t.val / 3, 0, 0] ∧ win0_5.index t = ![t.val / 3, 0, 0] ∧ win0_6.index t = ![t.val / 3, t.val % 3, 0] ∧ t.val < 24 :=
  (by decide +kernel : ∀ t : Fin grid0.N, _)

/-! What the windows' arrays hold when the grid starts. -/

theorem Vweight (c : Dev nD) : V m c main_v0 = (truncf .bf16 (m ((c : Thread nD τ).loc main_arg1)) bitsLt_bf16_f32 : FVec Ideal S1024x1024 .bf16) := by
  unfold V
  simp only [hostOps0, List.flatten_cons, List.flatten_nil, List.append_nil, List.cons_append, List.nil_append]
  entry_read
  rfl

theorem Vgate (c : Dev nD) : V m c main_v4 = (broadcastInDim S9x8x1024 ![0, 1, 2] bcast_S9x1x1024_S9x8x1024_0_1_2
    (broadcastInDim S9x1x1024 ![0, 2] bcast_S9x1024_S9x1x1024_0_2 (concatenate S9x1024 0 [⟨S8x1024, m ((c : Thread nD τ).loc main_arg3)⟩,
      ⟨S1x1024, broadcastInDim S1x1024 ![1] bcast_S1024_S1x1024_1 (m ((c : Thread nD τ).loc main_arg4))⟩]
      concatenates_S8x1024_S1x1024_S9x1024_d0)) : FVec Ideal S9x8x1024 .f32) := by
  unfold V
  simp only [hostOps0, List.flatten_cons, List.flatten_nil, List.append_nil, List.cons_append, List.nil_append]
  entry_read
  rfl

theorem weight_at (c : Dev nD) (k : Fin 1024) (n : Fin 1024) : V m c main_v0 (ix2 k n) = m ((c : Thread nD τ).loc main_arg1) (ix2 k n) := by
  rw [Vweight]
  pointwise []

/-- The grouped gates: one row for every batch element, then the context's. -/
theorem gate_at (c : Dev nD) (g : Fin 9) (s : Fin 8) (k : Fin 1024) : V m c main_v4 (ix3 g s k)
    = if h : g.val < 8 then m ((c : Thread nD τ).loc main_arg3) (ix2 ⟨g.val, h⟩ k) else m ((c : Thread nD τ).loc main_arg4) (ix1 k) := by
  rw [Vgate]
  pointwise []

/-! What the body computes from its blocks: three sub-blocks of 256 rows, the same arithmetic each. -/

theorem pay0_at (y : FVec Ideal S1x768x1024 .bf16) (w : FVec Ideal S1024x1024 .bf16) (h : FVec Ideal S1x256x1024 .f32) (g : FVec Ideal S1x8x1024 .f32) (r : Fin 256) (n : Fin 1024) :
    k0_pay3 (F := Ideal) y w h g (ix3 0 r n) = rowSum (fun k => h (ix3 0 r k)) (fun k => y (ix3 0 ⟨0 + r.val, by omega⟩ k)) (fun k n => w (ix2 k n)) (fun k => g (ix3 0 ⟨r.val % 8, by omega⟩ k)) n := by
  unfold rowSum
  pointwise [k0_pay3, k0_pay2]

theorem pay1_at (y : FVec Ideal S1x768x1024 .bf16) (w : FVec Ideal S1024x1024 .bf16) (h : FVec Ideal S1x256x1024 .f32) (g : FVec Ideal S1x8x1024 .f32) (r : Fin 256) (n : Fin 1024) :
    k0_pay4 (F := Ideal) y w h g (ix3 0 r n) = rowSum (fun k => h (ix3 0 r k)) (fun k => y (ix3 0 ⟨256 + r.val, by omega⟩ k)) (fun k n => w (ix2 k n)) (fun k => g (ix3 0 ⟨r.val % 8, by omega⟩ k)) n := by
  unfold rowSum
  pointwise [k0_pay4, k0_pay2]

theorem pay2_at (y : FVec Ideal S1x768x1024 .bf16) (w : FVec Ideal S1024x1024 .bf16) (h : FVec Ideal S1x256x1024 .f32) (g : FVec Ideal S1x8x1024 .f32) (r : Fin 256) (n : Fin 1024) :
    k0_pay1 (F := Ideal) (k0_pay2 (F := Ideal) y w) h g (ix3 0 r n) = rowSum (fun k => h (ix3 0 r k)) (fun k => y (ix3 0 ⟨512 + r.val, by omega⟩ k)) (fun k n => w (ix2 k n)) (fun k => g (ix3 0 ⟨r.val % 8, by omega⟩ k)) n := by
  unfold rowSum
  pointwise [k0_pay1, k0_pay2]

theorem ld0_at (x : Vec Ideal S1x768x1024 .f32) (r : Fin 256) (k : Fin 1024) :
    View.ld (Val := Elt Ideal) (e' := .f32) x (Rect.unit (s := S1x768x1024) ![0, 0, 0] ![1, 256, 1024] inb_S1x768x1024_S1x256x1024_0_0_0) (ix3 0 r k) = x (ix3 0 ⟨0 + r.val, by omega⟩ k) := by
  pointwise []

theorem ld1_at (x : Vec Ideal S1x768x1024 .f32) (r : Fin 256) (k : Fin 1024) :
    View.ld (Val := Elt Ideal) (e' := .f32) x (Rect.unit (s := S1x768x1024) ![0, 256, 0] ![1, 256, 1024] inb_S1x768x1024_S1x256x1024_0_256_0) (ix3 0 r k) = x (ix3 0 ⟨256 + r.val, by omega⟩ k) := by
  pointwise []

theorem ld2_at (x : Vec Ideal S1x768x1024 .f32) (r : Fin 256) (k : Fin 1024) :
    View.ld (Val := Elt Ideal) (e' := .f32) x (Rect.unit (s := S1x768x1024) ![0, 512, 0] ![1, 256, 1024] inb_S1x768x1024_S1x256x1024_0_512_0) (ix3 0 r k) = x (ix3 0 ⟨512 + r.val, by omega⟩ k) := by
  pointwise []

theorem iblk0 (c : Dev nD) (t : Fin cfg0.N) (i : Fin 768) (k : Fin 1024) (h₀ h₁) :
    iblk m c 0 t (ix3 0 i k) = m ((c : Thread nD τ).loc main_arg0) (ix3 ⟨t.val / 3, h₀⟩ ⟨768 * (t.val % 3) + i.val, h₁⟩ k) := by
  blk_ext [iblk, V, idx t]

theorem iblk2 (c : Dev nD) (t : Fin cfg0.N) (i : Fin 768) (k : Fin 1024) (h₀ h₁) :
    iblk m c 2 t (ix3 0 i k) = m ((c : Thread nD τ).loc main_arg2) (ix3 ⟨t.val / 3, h₀⟩ ⟨768 * (t.val % 3) + i.val, h₁⟩ k) := by
  blk_ext [iblk, V, idx t]

theorem iblk1 (c : Dev nD) (t : Fin cfg0.N) (k : Fin 1024) (n : Fin 1024) :
    iblk m c 1 t (ix2 k n) = m ((c : Thread nD τ).loc main_arg1) (ix2 k n) := by
  rw [← weight_at m c k n]
  blk_point [iblk, idx t]

theorem iblk3 (c : Dev nD) (t : Fin cfg0.N) (q : Fin 8) (k : Fin 1024) (j : ℕ) (hj : j < 256 ↔ t.val % 3 = 0) (h₀) :
    iblk m c 3 t (ix3 0 q k) = if j < 256 then m ((c : Thread nD τ).loc main_arg4) (ix1 k) else m ((c : Thread nD τ).loc main_arg3) (ix2 ⟨t.val / 3, h₀⟩ k) := by
  have e : iblk m c 3 t (ix3 0 q k) = V m c main_v4 (ix3 ⟨if t.val % 3 = 0 then 8 else t.val / 3, by split <;> omega⟩ q k) := by
    blk_ext [iblk, idx t]
  rw [e, gate_at]
  by_cases h : t.val % 3 = 0
  · simp only [h, hj.2 h, if_true]
    rfl
  · simp only [h, mt hj.1 h, if_false, h₀, dite_true]

theorem iblk4 (c : Dev nD) (t : Fin cfg0.N) (q : Fin 8) (k : Fin 1024) (j : ℕ) (hj : ¬ j < 256) (h₀) :
    iblk m c 4 t (ix3 0 q k) = if j < 256 then m ((c : Thread nD τ).loc main_arg4) (ix1 k) else m ((c : Thread nD τ).loc main_arg3) (ix2 ⟨t.val / 3, h₀⟩ k) := by
  have e : iblk m c 4 t (ix3 0 q k) = V m c main_v4 (ix3 ⟨t.val / 3, by omega⟩ q k) := by
    blk_ext [iblk, idx t]
  rw [e, gate_at]
  simp only [hj, if_false, h₀, dite_true]

theorem iblk5 (c : Dev nD) (t : Fin cfg0.N) (q : Fin 8) (k : Fin 1024) (j : ℕ) (hj : ¬ j < 256) (h₀) :
    iblk m c 5 t (ix3 0 q k) = if j < 256 then m ((c : Thread nD τ).loc main_arg4) (ix1 k) else m ((c : Thread nD τ).loc main_arg3) (ix2 ⟨t.val / 3, h₀⟩ k) := by
  have e : iblk m c 5 t (ix3 0 q k) = V m c main_v4 (ix3 ⟨t.val / 3, by omega⟩ q k) := by
    blk_ext [iblk, idx t]
  rw [e, gate_at]
  simp only [hj, if_false, h₀, dite_true]

theorem final (c : Dev nD) : (dats m 0 c).arrAt 6 cfg0.N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  idx_vars y
  canon_tiles x h
  all_goals idx_vars x
  all_goals obtain rfl : y0 = 0 := Subsingleton.elim _ _
  all_goals obtain rfl : x0 = 0 := Subsingleton.elim _ _
  all_goals obtain rfl : y2 = x2 := Fin.ext h2
  all_goals have ht : t.val < 24 := (idx t).2.2.2.2.2.2.2
  case piece0 =>
    have hl : 768 * (t.val % 3) + (512 + x1.val) < 2304 := by omega
    have e : ((View.whole main_v5).slice (win0_6.rect t)).emb (ix3 0 y1 y2)
        = ix3 ⟨t.val / 3, by omega⟩ ⟨768 * (t.val % 3) + (512 + x1.val), hl⟩ y2 := by
      blk_ext [idx t]
    refine (pay2_at _ _ _ _ _ _).trans ((close _ _ _ _ _ _ _ _ (fun k => ?_) (fun k => iblk0 m c t _ k _ _) (iblk1 m c t) (fun k => ?_)).trans
      (congrArg _ e.symm))
    · exact (ld2_at _ _ _).trans (iblk2 m c t ⟨512 + x1.val, by omega⟩ k _ _)
    · exact iblk5 m c t _ k _ (by show ¬ 768 * (t.val % 3) + (512 + x1.val) < 256; omega) _
  case piece1 =>
    have hl : 768 * (t.val % 3) + (256 + x1.val) < 2304 := by omega
    have e : ((View.whole main_v5).slice (win0_6.rect t)).emb (ix3 0 y1 y2)
        = ix3 ⟨t.val / 3, by omega⟩ ⟨768 * (t.val % 3) + (256 + x1.val), hl⟩ y2 := by
      blk_ext [idx t]
    refine (pay1_at _ _ _ _ _ _).trans ((close _ _ _ _ _ _ _ _ (fun k => ?_) (fun k => iblk0 m c t _ k _ _) (iblk1 m c t) (fun k => ?_)).trans
      (congrArg _ e.symm))
    · exact (ld1_at _ _ _).trans (iblk2 m c t ⟨256 + x1.val, by omega⟩ k _ _)
    · exact iblk4 m c t _ k _ (by show ¬ 768 * (t.val % 3) + (256 + x1.val) < 256; omega) _
  case piece2 =>
    have hl : 768 * (t.val % 3) + (0 + x1.val) < 2304 := by omega
    have e : ((View.whole main_v5).slice (win0_6.rect t)).emb (ix3 0 y1 y2)
        = ix3 ⟨t.val / 3, by omega⟩ ⟨768 * (t.val % 3) + (0 + x1.val), hl⟩ y2 := by
      blk_ext [idx t]
    refine (pay0_at _ _ _ _ _ _).trans ((close _ _ _ _ _ _ _ _ (fun k => ?_) (fun k => iblk0 m c t _ k _ _) (iblk1 m c t) (fun k => ?_)).trans
      (congrArg _ e.symm))
    · exact (ld0_at _ _ _).trans (iblk2 m c t ⟨0 + x1.val, by omega⟩ k _ _)
    · exact iblk3 m c t _ k _ (by show 768 * (t.val % 3) + (0 + x1.val) < 256 ↔ _; omega) _

end

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

theorem value : Cert.algebraic_Kernel6Ideal_Reference6Ideal := by
  intro m g m' g' _ hagree
  refine ⟨fun c => (Cert.Kernel6Ideal.Gen.dats m 0 c).arrAt 6 Cert.Kernel6Ideal.cfg0.N, Cert.Kernel6Ideal.Value.run_blocks m g, ?_⟩
  refine (θ_run _ _ _).mono (fun _ h c => ⟨(h c).1.trans ?_, (h c).2⟩) (Cert.Reference6Ideal.Value.run (F := Ideal) m' g')
  obtain ⟨h0, h1, h2, h3, h4⟩ := hagree c
  have e := final m c
  rw [← h0, ← h1, ← h2, ← h3, ← h4] at e
  exact e.symm

end Cert.OddOut

end
-- ==== Proof.EvenBody.lean ====
/-
  The body of the even layers' input projection, run over any float values: what its stores leave in its results' blocks.
-/
module

public import proofs.«01_k».proof.Proof.Gen.Kernel7Ideal.Frame.Runs

@[expose] public section

set_option maxRecDepth 16384

noncomputable section

namespace Cert.Kernel7Ideal.EvenIn

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

set_option maxHeartbeats 4000000 in
/-- The pieces the body leaves in each result and in its scratch buffer, last first, with the run that finds them: from whole
    buffers, the inputs' at given contents, the body ends with the inputs as they were and the pieces written. -/
def run (c : Dev nD) (i : grid0.Coords)
    (b0 : Memref sig .tc .vmem S1x768x1024 .f32) (w0 : b0.IsWhole)    (b1 : Memref sig .tc .vmem S1x8x1024 .f32) (w1 : b1.IsWhole)
    (b2 : Memref sig .tc .vmem S1x8x1024 .f32) (w2 : b2.IsWhole)    (b3 : Memref sig .tc .vmem S1x8x1024 .f32) (w3 : b3.IsWhole)
    (b4 : Memref sig .tc .vmem S1x8x1024 .f32) (w4 : b4.IsWhole)    (b5 : Memref sig .tc .vmem S1x8x1024 .f32) (w5 : b5.IsWhole)
    (b6 : Memref sig .tc .vmem S1x8x1024 .f32) (w6 : b6.IsWhole)    (b7 : Memref sig .tc .vmem S1x1024 .f32) (w7 : b7.IsWhole)
    (b8 : Memref sig .tc .vmem S1024x2560 .bf16) (w8 : b8.IsWhole)    (b9 : Memref sig .tc .vmem S768x128 .f32) (w9 : b9.IsWhole)
    (b10 : Memref sig .tc .vmem S768x128 .f32) (w10 : b10.IsWhole)    (b11 : Memref sig .tc .vmem S768x128 .f32) (w11 : b11.IsWhole)
    (b12 : Memref sig .tc .vmem S768x128 .f32) (w12 : b12.IsWhole)    (b13 : Memref sig .tc .vmem S768x128 .f32) (w13 : b13.IsWhole)
    (b14 : Memref sig .tc .vmem S768x128 .f32) (w14 : b14.IsWhole)    (b15 : Memref sig .tc .vmem S1x768x1024 .f32) (w15 : b15.IsWhole)
    (b16 : Memref sig .tc .vmem S1x768x1024 .bf16) (w16 : b16.IsWhole)    (b17 : Memref sig .tc .vmem S1x768x512 .bf16) (w17 : b17.IsWhole)
    (b18 : Memref sig .tc .vmem S1x256x768 .bf16) (w18 : b18.IsWhole)    (b19 : Memref sig .tc .vmem S1x768x1024 .bf16) (w19 : b19.IsWhole)
    (b20 : Memref sig .tc .vmem S768x1024 .bf16) (w20 : b20.IsWhole)
    (x0 : Vec F S1x768x1024 .f32) (x1 : Vec F S1x8x1024 .f32) (x2 : Vec F S1x8x1024 .f32) (x3 : Vec F S1x8x1024 .f32) (x4 : Vec F S1x8x1024 .f32)
    (x5 : Vec F S1x8x1024 .f32) (x6 : Vec F S1x8x1024 .f32) (x7 : Vec F S1x1024 .f32) (x8 : Vec F S1024x2560 .bf16) (x9 : Vec F S768x128 .f32)
    (x10 : Vec F S768x128 .f32) (x11 : Vec F S768x128 .f32) (x12 : Vec F S768x128 .f32) (x13 : Vec F S768x128 .f32) (x14 : Vec F S768x128 .f32) :
    Σ' (L15 : List (View.Piece (Elt F) S1x768x1024 .f32)), Σ' (L16 : List (View.Piece (Elt F) S1x768x1024 .bf16)), Σ' (L17 : List (View.Piece (Elt F) S1x768x512 .bf16)), Σ' (L18 : List (View.Piece (Elt F) S1x256x768 .bf16)), Σ' (L19 : List (View.Piece (Elt F) S1x768x1024 .bf16)),
    { L20 : List (View.Piece (Elt F) S768x1024 .bf16) // ∀ (E : Set ℕ) (K : PUnit → sProp (MT nD τ sig Unit (Elt F) ℕ (UR sig nD τ) ℕ)),
      iprop(owns (c : Thread nD τ) b0 fullShare x0 ∗ owns (c : Thread nD τ) b1 fullShare x1 ∗ owns (c : Thread nD τ) b2 fullShare x2 ∗ owns (c : Thread nD τ) b3 fullShare x3 ∗ owns (c : Thread nD τ) b4 fullShare x4 ∗ owns (c : Thread nD τ) b5 fullShare x5 ∗ owns (c : Thread nD τ) b6 fullShare x6 ∗ owns (c : Thread nD τ) b7 fullShare x7 ∗ owns (c : Thread nD τ) b8 fullShare x8 ∗ owns (c : Thread nD τ) b9 fullShare x9 ∗ owns (c : Thread nD τ) b10 fullShare x10 ∗ owns (c : Thread nD τ) b11 fullShare x11 ∗ owns (c : Thread nD τ) b12 fullShare x12 ∗ owns (c : Thread nD τ) b13 fullShare x13 ∗ owns (c : Thread nD τ) b14 fullShare x14
        ∗ (∃ d, owns (c : Thread nD τ) b15 fullShare d) ∗ (∃ d, owns (c : Thread nD τ) b16 fullShare d) ∗ (∃ d, owns (c : Thread nD τ) b17 fullShare d) ∗ (∃ d, owns (c : Thread nD τ) b18 fullShare d) ∗ (∃ d, owns (c : Thread nD τ) b19 fullShare d) ∗ (∃ d, owns (c : Thread nD τ) b20 fullShare d)
        ∗ (iprop(owns (c : Thread nD τ) b0 fullShare x0 ∗ owns (c : Thread nD τ) b1 fullShare x1 ∗ owns (c : Thread nD τ) b2 fullShare x2 ∗ owns (c : Thread nD τ) b3 fullShare x3 ∗ owns (c : Thread nD τ) b4 fullShare x4 ∗ owns (c : Thread nD τ) b5 fullShare x5 ∗ owns (c : Thread nD τ) b6 fullShare x6 ∗ owns (c : Thread nD τ) b7 fullShare x7 ∗ owns (c : Thread nD τ) b8 fullShare x8 ∗ owns (c : Thread nD τ) b9 fullShare x9 ∗ owns (c : Thread nD τ) b10 fullShare x10 ∗ owns (c : Thread nD τ) b11 fullShare x11 ∗ owns (c : Thread nD τ) b12 fullShare x12 ∗ owns (c : Thread nD τ) b13 fullShare x13 ∗ owns (c : Thread nD τ) b14 fullShare x14
          ∗ (∃ f, b15.view.loc (c : Thread nD τ) ↦[b15.view.set]{fullShare} b15.view.writes (Elt F) f L15)
          ∗ (∃ f, b16.view.loc (c : Thread nD τ) ↦[b16.view.set]{fullShare} b16.view.writes (Elt F) f L16)
          ∗ (∃ f, b17.view.loc (c : Thread nD τ) ↦[b17.view.set]{fullShare} b17.view.writes (Elt F) f L17)
          ∗ (∃ f, b18.view.loc (c : Thread nD τ) ↦[b18.view.set]{fullShare} b18.view.writes (Elt F) f L18)
          ∗ (∃ f, b19.view.loc (c : Thread nD τ) ↦[b19.view.set]{fullShare} b19.view.writes (Elt F) f L19)
          ∗ (∃ f, b20.view.loc (c : Thread nD τ) ↦[b20.view.set]{fullShare} b20.view.writes (Elt F) f L20)) -∗ K ⟨⟩))
      ⊢ wp frame (wpE (defs₀ (F := F)) Variants.none c none) E (cc0_inproj i b0 w0 b1 w1 b2 w2 b3 w3 b4 w4 b5 w5 b6 w6 b7 w7 b8 w8 b9 w9 b10 w10 b11 w11 b12 w12 b13 w13 b14 w14 b15 w15 b16 w16 b17 w17 b18 w18 b19 w19 b20 w20) K } := by
  refine ⟨?_, ?_, ?_, ?_, ?_, ?_, fun E K => ?run⟩
  case run =>
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := w0.eq_unread e0
    obtain rfl := w1.eq_unread e1
    obtain rfl := w2.eq_unread e2
    obtain rfl := w3.eq_unread e3
    obtain rfl := w4.eq_unread e4
    obtain rfl := w5.eq_unread e5
    obtain rfl := w6.eq_unread e6
    obtain rfl := w7.eq_unread e7
    obtain rfl := w8.eq_unread e8
    obtain rfl := w9.eq_unread e9
    obtain rfl := w10.eq_unread e10
    obtain rfl := w11.eq_unread e11
    obtain rfl := w12.eq_unread e12
    obtain rfl := w13.eq_unread e13
    obtain rfl := w14.eq_unread e14
    simp only [cc0_inproj_eq_skeleton]
    unfold cc0_inproj_skel
    simp only [k0_part1_eq_skeleton, k0_part2_eq_skeleton, k0_part3_eq_skeleton, k0_part4_eq_skeleton, k0_part5_eq_skeleton, k0_part6_eq_skeleton, k0_part7_eq_skeleton, k0_part8_eq_skeleton]
    sl_exec
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]
    · iexists _; isplitr; · ipureintro; exact w7.read_unread _
      iexact H7
    isplitl [H8]
    · iexists _; isplitr; · ipureintro; exact w8.read_unread _
      iexact H8
    isplitl [H9]
    · iexists _; isplitr; · ipureintro; exact w9.read_unread _
      iexact H9
    isplitl [H10]
    · iexists _; isplitr; · ipureintro; exact w10.read_unread _
      iexact H10
    isplitl [H11]
    · iexists _; isplitr; · ipureintro; exact w11.read_unread _
      iexact H11
    isplitl [H12]
    · iexists _; isplitr; · ipureintro; exact w12.read_unread _
      iexact H12
    isplitl [H13]
    · iexists _; isplitr; · ipureintro; exact w13.read_unread _
      iexact H13
    isplitl [H14]
    · iexists _; isplitr; · ipureintro; exact w14.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H20

end Cert.Kernel7Ideal.EvenIn

end
-- ==== Proof.EvenRun.lean ====
/-
  The run of the even layers' input projection over any float values: what its results' blocks hold at each grid point, the
  pipeline's proof data, the body's obligation, and the run of the whole program.
-/
module

public import proofs.«01_k».proof.Proof.EvenBody
public import Idealize.ShloMosaic.Lib.Claim

@[expose] public section

set_option maxRecDepth 16384

noncomputable section

namespace Cert.Kernel7Ideal.EvenIn

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

attribute [local irreducible] run

/-! The stores cover each result's block, whatever the buffers and their contents. -/

section

variable (c : Dev nD) (i : grid0.Coords)
  (b0 : Memref sig .tc .vmem S1x768x1024 .f32) (w0 : b0.IsWhole)  (b1 : Memref sig .tc .vmem S1x8x1024 .f32) (w1 : b1.IsWhole)
  (b2 : Memref sig .tc .vmem S1x8x1024 .f32) (w2 : b2.IsWhole)  (b3 : Memref sig .tc .vmem S1x8x1024 .f32) (w3 : b3.IsWhole)
  (b4 : Memref sig .tc .vmem S1x8x1024 .f32) (w4 : b4.IsWhole)  (b5 : Memref sig .tc .vmem S1x8x1024 .f32) (w5 : b5.IsWhole)
  (b6 : Memref sig .tc .vmem S1x8x1024 .f32) (w6 : b6.IsWhole)  (b7 : Memref sig .tc .vmem S1x1024 .f32) (w7 : b7.IsWhole)
  (b8 : Memref sig .tc .vmem S1024x2560 .bf16) (w8 : b8.IsWhole)  (b9 : Memref sig .tc .vmem S768x128 .f32) (w9 : b9.IsWhole)
  (b10 : Memref sig .tc .vmem S768x128 .f32) (w10 : b10.IsWhole)  (b11 : Memref sig .tc .vmem S768x128 .f32) (w11 : b11.IsWhole)
  (b12 : Memref sig .tc .vmem S768x128 .f32) (w12 : b12.IsWhole)  (b13 : Memref sig .tc .vmem S768x128 .f32) (w13 : b13.IsWhole)
  (b14 : Memref sig .tc .vmem S768x128 .f32) (w14 : b14.IsWhole)  (b15 : Memref sig .tc .vmem S1x768x1024 .f32) (w15 : b15.IsWhole)
  (b16 : Memref sig .tc .vmem S1x768x1024 .bf16) (w16 : b16.IsWhole)  (b17 : Memref sig .tc .vmem S1x768x512 .bf16) (w17 : b17.IsWhole)
  (b18 : Memref sig .tc .vmem S1x256x768 .bf16) (w18 : b18.IsWhole)  (b19 : Memref sig .tc .vmem S1x768x1024 .bf16) (w19 : b19.IsWhole)
  (b20 : Memref sig .tc .vmem S768x1024 .bf16) (w20 : b20.IsWhole)
  (x0 : Vec F S1x768x1024 .f32) (x1 : Vec F S1x8x1024 .f32) (x2 : Vec F S1x8x1024 .f32) (x3 : Vec F S1x8x1024 .f32) (x4 : Vec F S1x8x1024 .f32)
  (x5 : Vec F S1x8x1024 .f32) (x6 : Vec F S1x8x1024 .f32) (x7 : Vec F S1x1024 .f32) (x8 : Vec F S1024x2560 .bf16) (x9 : Vec F S768x128 .f32)
  (x10 : Vec F S768x128 .f32) (x11 : Vec F S768x128 .f32) (x12 : Vec F S768x128 .f32) (x13 : Vec F S768x128 .f32) (x14 : Vec F S768x128 .f32)

theorem cover15 (y : S1x768x1024.Idx) : ∃ pc ∈ (run c i b0 w0 b1 w1 b2 w2 b3 w3 b4 w4 b5 w5 b6 w6 b7 w7 b8 w8 b9 w9 b10 w10 b11 w11 b12 w12 b13 w13 b14 w14 b15 w15 b16 w16 b17 w17 b18 w18 b19 w19 b20 w20
    x0 x1 x2 x3 x4 x5 x6 x7 x8 x9 x10 x11 x12 x13 x14).1, y ∈ pc.1.set :=
  View.cover_of_tiledL (run c i b0 w0 b1 w1 b2 w2 b3 w3 b4 w4 b5 w5 b6 w6 b7 w7 b8 w8 b9 w9 b10 w10 b11 w11 b12 w12 b13 w13 b14 w14 b15 w15 b16 w16 b17 w17 b18 w18 b19 w19 b20 w20
    x0 x1 x2 x3 x4 x5 x6 x7 x8 x9 x10 x11 x12 x13 x14).1
    S1x768x1024.size (by sl_kernel_rfl) y

theorem cover16 (y : S1x768x1024.Idx) : ∃ pc ∈ (run c i b0 w0 b1 w1 b2 w2 b3 w3 b4 w4 b5 w5 b6 w6 b7 w7 b8 w8 b9 w9 b10 w10 b11 w11 b12 w12 b13 w13 b14 w14 b15 w15 b16 w16 b17 w17 b18 w18 b19 w19 b20 w20
    x0 x1 x2 x3 x4 x5 x6 x7 x8 x9 x10 x11 x12 x13 x14).2.1, y ∈ pc.1.set :=
  View.cover_of_tiledL (run c i b0 w0 b1 w1 b2 w2 b3 w3 b4 w4 b5 w5 b6 w6 b7 w7 b8 w8 b9 w9 b10 w10 b11 w11 b12 w12 b13 w13 b14 w14 b15 w15 b16 w16 b17 w17 b18 w18 b19 w19 b20 w20
    x0 x1 x2 x3 x4 x5 x6 x7 x8 x9 x10 x11 x12 x13 x14).2.1
    S1x768x1024.size (by sl_kernel_rfl) y

theorem cover17 (y : S1x768x512.Idx) : ∃ pc ∈ (run c i b0 w0 b1 w1 b2 w2 b3 w3 b4 w4 b5 w5 b6 w6 b7 w7 b8 w8 b9 w9 b10 w10 b11 w11 b12 w12 b13 w13 b14 w14 b15 w15 b16 w16 b17 w17 b18 w18 b19 w19 b20 w20
    x0 x1 x2 x3 x4 x5 x6 x7 x8 x9 x10 x11 x12 x13 x14).2.2.1, y ∈ pc.1.set :=
  View.cover_of_tiledL (run c i b0 w0 b1 w1 b2 w2 b3 w3 b4 w4 b5 w5 b6 w6 b7 w7 b8 w8 b9 w9 b10 w10 b11 w11 b12 w12 b13 w13 b14 w14 b15 w15 b16 w16 b17 w17 b18 w18 b19 w19 b20 w20
    x0 x1 x2 x3 x4 x5 x6 x7 x8 x9 x10 x11 x12 x13 x14).2.2.1
    S1x768x128.size (by sl_kernel_rfl) y

theorem cover18 (y : S1x256x768.Idx) : ∃ pc ∈ (run c i b0 w0 b1 w1 b2 w2 b3 w3 b4 w4 b5 w5 b6 w6 b7 w7 b8 w8 b9 w9 b10 w10 b11 w11 b12 w12 b13 w13 b14 w14 b15 w15 b16 w16 b17 w17 b18 w18 b19 w19 b20 w20
    x0 x1 x2 x3 x4 x5 x6 x7 x8 x9 x10 x11 x12 x13 x14).2.2.2.1, y ∈ pc.1.set :=
  View.cover_of_tiledL (run c i b0 w0 b1 w1 b2 w2 b3 w3 b4 w4 b5 w5 b6 w6 b7 w7 b8 w8 b9 w9 b10 w10 b11 w11 b12 w12 b13 w13 b14 w14 b15 w15 b16 w16 b17 w17 b18 w18 b19 w19 b20 w20
    x0 x1 x2 x3 x4 x5 x6 x7 x8 x9 x10 x11 x12 x13 x14).2.2.2.1
    S1x64x768.size (by sl_kernel_rfl) y

theorem cover19 (y : S1x768x1024.Idx) : ∃ pc ∈ (run c i b0 w0 b1 w1 b2 w2 b3 w3 b4 w4 b5 w5 b6 w6 b7 w7 b8 w8 b9 w9 b10 w10 b11 w11 b12 w12 b13 w13 b14 w14 b15 w15 b16 w16 b17 w17 b18 w18 b19 w19 b20 w20
    x0 x1 x2 x3 x4 x5 x6 x7 x8 x9 x10 x11 x12 x13 x14).2.2.2.2.1, y ∈ pc.1.set :=
  View.cover_of_tiledL (run c i b0 w0 b1 w1 b2 w2 b3 w3 b4 w4 b5 w5 b6 w6 b7 w7 b8 w8 b9 w9 b10 w10 b11 w11 b12 w12 b13 w13 b14 w14 b15 w15 b16 w16 b17 w17 b18 w18 b19 w19 b20 w20
    x0 x1 x2 x3 x4 x5 x6 x7 x8 x9 x10 x11 x12 x13 x14).2.2.2.2.1
    S1x768x128.size (by sl_kernel_rfl) y

end

/-- The body's run at grid point `t`, over the point's buffers and blocks. -/
abbrev at_ (c : Dev nD) (t : Fin cfg0.N) := run (F := F) c (grid0.coords t)
    (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    scM0_0 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- What the results' blocks hold after the body at point `t`. -/
def outs (c : Dev nD) (t : Fin cfg0.N) : Vec F S1x768x1024 .f32 × Vec F S1x768x1024 .bf16 × Vec F S1x768x512 .bf16 × Vec F S1x256x768 .bf16 × Vec F S1x768x1024 .bf16 :=
  (VO0_15.read (Elt F) (VO0_15.writes (Elt F) VO0_15.junk (at_ m c t).1),
   VO0_16.read (Elt F) (VO0_16.writes (Elt F) VO0_16.junk (at_ m c t).2.1),
   VO0_17.read (Elt F) (VO0_17.writes (Elt F) VO0_17.junk (at_ m c t).2.2.1),
   VO0_18.read (Elt F) (VO0_18.writes (Elt F) VO0_18.junk (at_ m c t).2.2.2.1),
   VO0_19.read (Elt F) (VO0_19.writes (Elt F) VO0_19.junk (at_ m c t).2.2.2.2.1))

/-- The proof data: each input's buffer at its block, the results' at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outs m c t).1
    | ⟨16, _⟩ => (outs m c t).2.1
    | ⟨17, _⟩ => (outs m c t).2.2.1
    | ⟨18, _⟩ => (outs m c t).2.2.2.1
    | ⟨19, _⟩ => (outs m c t).2.2.2.2
    | ⟨_ + 20, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = (outs m c t).1 := by dsimp only [dats]
theorem after16 (c : Dev nD) (t : Fin cfg0.N) : (dats m 0 c).after 16 t = (outs m c t).2.1 := by dsimp only [dats]
theorem after17 (c : Dev nD) (t : Fin cfg0.N) : (dats m 0 c).after 17 t = (outs m c t).2.2.1 := by dsimp only [dats]
theorem after18 (c : Dev nD) (t : Fin cfg0.N) : (dats m 0 c).after 18 t = (outs m c t).2.2.2.1 := by dsimp only [dats]
theorem after19 (c : Dev nD) (t : Fin cfg0.N) : (dats m 0 c).after 19 t = (outs m c t).2.2.2.2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d

set_option maxHeartbeats 4000000 in
/-- The body at any point takes the inputs' blocks to the results'. -/
theorem body_obligation (c : Dev nD) : BodyObligation (dats (F := F) m 0 c) (defs₀ (F := F)) Variants.none () Set.univ := fun t => by
  rw [bigSep_W0, bigSep_W0]
  sl_whnfR [defs₀, Defs.onTc]
  simp only [before0, before1, before2, before3, before4, before5, before6, before7, before8, before9, before10, before11, before12, before13, before14]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19]
  rw [show (dats m 0 c).Φ t.castSucc = Pipeline.ΦA spec0 c from rfl, PhiA0_eq]
  unfold outs
  dsimp only
  iintro ⟨⟨HS, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((at_ m c t).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [HS]; · iexact HS
  iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, HS⟩⟩
  isplitl [HS HP]
  · isplitl [HS]
    · iexists _; unfold owns; iexists _; isplitr
      swap; · iexact HS
      ipureintro; rfl
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · unfold owns; iexists _; isplitr
    swap; · iexact H15
    ipureintro; exact View.read_writes_of_cover _ _ _ _ _ (cover15 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover16 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover17 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover18 c _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H19
  ipureintro; exact View.read_writes_of_cover _ _ _ _ _ (cover19 c _ _ _ _ _ _ _ _ _ _ _ _ _ _ _ _ _ _ _ _ _ _ _ _ _ _ _ _ _ _ _ _ _ _ _ _ _ _ _ _ _ _ _ _ _ _ _ _ _ _ _ _ _ _ _ _ _ _)

set_option backward.isDefEq.respectTransparency.types false in
/-- The run of the whole program: it ends, its arrays as the pipeline leaves them, every counter at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end unchanged, every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel7Ideal.EvenIn

end
-- ==== Proof.EvenFrame.lean ====
/-
The even layers' input projection: both programs end with their arguments unchanged.
-/
module

public import proofs.«01_k».proof.Defs
public import proofs.«01_k».proof.Proof.Scalar
public import proofs.«01_k».proof.Proof.InProj
public import proofs.«01_k».proof.Proof.EvenRun
public import proofs.«01_k».proof.Proof.Gen.Kernel7
public import proofs.«01_k».proof.Proof.Gen.Reference7Ideal.Run
public import Idealize.ShloMosaic.Lib.Pipeline.ValueKit
public import Idealize.ShloMosaic.Lib.Pipeline.Value
public import Idealize.ShloMosaic.Lib.Pointwise
public import Idealize.ShloMosaic.Lib.Claim
public import Idealize.ShloMosaic.Lib.Quiescent
public import Idealize.ShloMosaic.Lib.IdealHost

@[expose] public section

set_option maxRecDepth 16384
set_option maxHeartbeats 2000000

noncomputable section

namespace Cert.EvenProj

open Idealize.ShloMosaic Idealize.ShloMosaic.TcCoe Idealize.SL.Sem Idealize.ShloMosaic.Tactic

/-! The two printed programs have the same text, so the same bodies: the grid point's body by `rfl`, the tables label by label. -/

theorem body_eq (t : Fin Cert.Kernel7.grid0.N) (s : (w : Fin 20) → Fin (Cert.Kernel7.win0 w).nbuf) :
    (Cert.Kernel7.defs₀ (F := Bits)) .tc (0 : Fin 1) (t, s) = (Cert.Kernel7Ideal.defs₀ (F := Bits)) .tc (0 : Fin 1) (t, s) := by
  unfold Cert.Kernel7.defs₀ Cert.Kernel7Ideal.defs₀
  simp only [Defs.onTc_tc]
  rfl

theorem bodies_eq : Cert.Kernel7.defs₀ (F := Bits) = Cert.Kernel7Ideal.defs₀ (F := Bits) := by
  funext p l a
  match p, l, a with
  | .tc, ⟨0, _⟩, (t, s) => exact body_eq t s
  | .tc, ⟨n + 1, h⟩, _ => exact absurd h (Nat.not_lt.2 (Nat.le_add_left _ _))
  | .scScalar _, _, _ => rfl
  | .scVector _ _, _, _ => rfl

theorem defs_eq : Cert.Kernel7.defs (F := Bits) = Cert.Kernel7Ideal.defs (F := Bits) := by
  unfold Cert.Kernel7.defs Cert.Kernel7Ideal.defs
  rw [bodies_eq]
  rfl

theorem frame_kernel : Cert.quiescent_Kernel7 := by
  intro m ρ _
  rw [defs_eq]
  exact Cert.Kernel7Ideal.EvenIn.frame_any (F := Bits) m ρ

theorem frame_ideal : Cert.quiescent_Kernel7Ideal := fun m ρ _ => Cert.Kernel7Ideal.EvenIn.frame_any (F := Ideal) m ρ

theorem frame_reference : Cert.quiescent_Reference7Ideal := fun m ρ _ =>
  (θ_run Cert.Reference7Ideal.defs _ _).mono (fun r h => ⟨fun c => (h c).2.2.2.2.2,
      Idealize.ShloMosaic.sem_eq_zero_of_no_sems (by decide) r.2⟩)
    (Cert.Reference7Ideal.Value.run (F := Ideal) m ρ)

end Cert.EvenProj

end
-- ==== Proof.EvenSpec.lean ====
/-
The even layers' input projection: the reference's results, entry by entry, over the extended reals.
-/
module

public import proofs.«01_k».proof.Defs
public import proofs.«01_k».proof.Proof.Scalar
public import proofs.«01_k».proof.Proof.InProj
public import proofs.«01_k».proof.Proof.Gen.Reference7Ideal.Run
public import Idealize.ShloMosaic.Lib.Pipeline.ValueKit
public import Idealize.ShloMosaic.Lib.Pipeline.Value
public import Idealize.ShloMosaic.Lib.Pointwise
public import Idealize.ShloMosaic.Lib.Claim
public import Idealize.ShloMosaic.Lib.Quiescent
public import Idealize.ShloMosaic.Lib.IdealHost

@[expose] public section

set_option maxRecDepth 16384
set_option maxHeartbeats 2000000

noncomputable section

namespace Cert.EvenProj

open Idealize.ShloMosaic Idealize.ShloMosaic.TcCoe Idealize.SL.Sem Idealize.ShloMosaic.Tactic

open Cert.Reference7Ideal Cert.Reference7Ideal.Gen

/-- The context rows after the norm and its modulation. -/
def UC (a0 : FVec Ideal S8x2304x1024 .f32) (a3 a4 a5 : FVec Ideal S1024 .f32) : FVec Ideal S8x256x1024 .f32 :=
  addf (mulf (mulf (mulf (extractStridedSlice S8x256x1024 ![0, 0, 0] a0 slices_S8x2304x1024_S8x256x1024_0_0_0) (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf (extractStridedSlice S8x256x1024 ![0, 0, 0] a0 slices_S8x2304x1024_S8x256x1024_0_0_0) (extractStridedSlice S8x256x1024 ![0, 0, 0] a0 slices_S8x2304x1024_S8x256x1024_0_0_0)) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 a5))) (broadcastInDim S8x256x1024 ![0, 1, 2] bcast_S1x1x1024_S8x256x1024_0_1_2 (broadcastInDim S1x1x1024 ![2] bcast_S1024_S1x1x1024_2 (addf (broadcastInDim S1024 ![] bcast_S_S1024 (constant S_ .f32 0x3F800000#32)) a4)))) (broadcastInDim S8x256x1024 ![0, 1, 2] bcast_S1x1x1024_S8x256x1024_0_1_2 (broadcastInDim S1x1x1024 ![2] bcast_S1024_S1x1x1024_2 a3))

/-- The latent rows after the norm and its modulation. -/
def UL (a0 : FVec Ideal S8x2304x1024 .f32) (a1 a2 : FVec Ideal S8x1024 .f32) (a5 : FVec Ideal S1024 .f32) : FVec Ideal S8x2048x1024 .f32 :=
  addf (mulf (mulf (mulf (extractStridedSlice S8x2048x1024 ![0, 256, 0] a0 slices_S8x2304x1024_S8x2048x1024_0_256_0) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (extractStridedSlice S8x2048x1024 ![0, 256, 0] a0 slices_S8x2304x1024_S8x2048x1024_0_256_0) (extractStridedSlice S8x2048x1024 ![0, 256, 0] a0 slices_S8x2304x1024_S8x2048x1024_0_256_0)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 a5))) (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 a2)))) (broadcastInDim S8x2048x1024 ![0, 1, 2] bcast_S8x1x1024_S8x2048x1024_0_1_2 (broadcastInDim S8x1x1024 ![0, 2] bcast_S8x1024_S8x1x1024_0_2 a1))

/-- The context rows' projection. -/
def PC (uc : FVec Ideal S8x256x1024 .f32) (a6 : FVec Ideal S1024x4608 .f32) : FVec Ideal S8x256x4608 .f32 :=
  Host.dotGeneral dot_S8x256x1024_S1024x4608_S8x256x4608_2_0_01_1_n_n none uc a6

/-- The latent rows' projection. -/
def PL (ul : FVec Ideal S8x2048x1024 .f32) (a6 : FVec Ideal S1024x4608 .f32) : FVec Ideal S8x2048x4608 .f32 :=
  Host.dotGeneral dot_S8x2048x1024_S1024x4608_S8x2048x4608_2_0_01_1_n_n none ul a6

/-- The angles of the rotary embedding, one for every latent position and pair of features. -/
def ANG : FVec Ideal S2048x32 .f32 :=
  concatenate S2048x32 1 [⟨S2048x16, (mulf (broadcastInDim S2048x16 ![0, 1] bcast_S2048x1_S2048x16_0_1 (broadcastInDim S2048x1 ![0] bcast_S2048_S2048x1_0 ((fun i => FloatOps.ofBits .f32 (lit0 (S2048.rowMajor i)))))) (broadcastInDim S2048x16 ![0, 1] bcast_S1x16_S2048x16_0_1 (broadcastInDim S1x16 ![1] bcast_S16_S1x16_1 (Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32)))))))⟩, ⟨S2048x16, (mulf (broadcastInDim S2048x16 ![0, 1] bcast_S2048x1_S2048x16_0_1 (broadcastInDim S2048x1 ![0] bcast_S2048_S2048x1_0 ((fun i => FloatOps.ofBits .f32 (lit1 (S2048.rowMajor i)))))) (broadcastInDim S2048x16 ![0, 1] bcast_S1x16_S2048x16_0_1 (broadcastInDim S1x16 ![1] bcast_S16_S1x16_1 (Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32)))))))⟩] concatenates_S2048x16_S2048x16_S2048x32_d1

/-- The four key heads of the latent rows, turned by the angles. -/
def ROTK (pl : FVec Ideal S8x2048x4608 .f32) (C S : FVec Ideal S2048x32 .f32) : FVec Ideal S8x2048x4x64 .f32 :=
  shapeCast _ (concatenate S8x2048x4x32x2 4 [⟨S8x2048x4x32x1, (broadcastInDim S8x2048x4x32x1 ![0, 1, 2, 3] bcast_S8x2048x4x32_S8x2048x4x32x1_0_1_2_3 (subf (mulf (Host.slice S8x2048x4x32 ![0, 0, 0, 0] ![1, 1, 1, 2] (shapeCast _ (extractStridedSlice S8x2048x256 ![0, 0, 1024] pl slices_S8x2048x4608_S8x2048x256_0_0_1024) shapeCasts_S8x2048x256_S8x2048x4x64) slicesBy_S8x2048x4x64_S8x2048x4x32_0s1_0s1_0s1_0s2) (broadcastInDim S8x2048x4x32 ![0, 1, 2, 3] bcast_S1x2048x1x32_S8x2048x4x32_0_1_2_3 (broadcastInDim S1x2048x1x32 ![1, 3] bcast_S2048x32_S1x2048x1x32_1_3 C))) (mulf (Host.slice S8x2048x4x32 ![0, 0, 0, 1] ![1, 1, 1, 2] (shapeCast _ (extractStridedSlice S8x2048x256 ![0, 0, 1024] pl slices_S8x2048x4608_S8x2048x256_0_0_1024) shapeCasts_S8x2048x256_S8x2048x4x64) slicesBy_S8x2048x4x64_S8x2048x4x32_0s1_0s1_0s1_1s2) (broadcastInDim S8x2048x4x32 ![0, 1, 2, 3] bcast_S1x2048x1x32_S8x2048x4x32_0_1_2_3 (broadcastInDim S1x2048x1x32 ![1, 3] bcast_S2048x32_S1x2048x1x32_1_3 S)))))⟩, ⟨S8x2048x4x32x1, (broadcastInDim S8x2048x4x32x1 ![0, 1, 2, 3] bcast_S8x2048x4x32_S8x2048x4x32x1_0_1_2_3 (addf (mulf (Host.slice S8x2048x4x32 ![0, 0, 0, 0] ![1, 1, 1, 2] (shapeCast _ (extractStridedSlice S8x2048x256 ![0, 0, 1024] pl slices_S8x2048x4608_S8x2048x256_0_0_1024) shapeCasts_S8x2048x256_S8x2048x4x64) slicesBy_S8x2048x4x64_S8x2048x4x32_0s1_0s1_0s1_0s2) (broadcastInDim S8x2048x4x32 ![0, 1, 2, 3] bcast_S1x2048x1x32_S8x2048x4x32_0_1_2_3 (broadcastInDim S1x2048x1x32 ![1, 3] bcast_S2048x32_S1x2048x1x32_1_3 S))) (mulf (Host.slice S8x2048x4x32 ![0, 0, 0, 1] ![1, 1, 1, 2] (shapeCast _ (extractStridedSlice S8x2048x256 ![0, 0, 1024] pl slices_S8x2048x4608_S8x2048x256_0_0_1024) shapeCasts_S8x2048x256_S8x2048x4x64) slicesBy_S8x2048x4x64_S8x2048x4x32_0s1_0s1_0s1_1s2) (broadcastInDim S8x2048x4x32 ![0, 1, 2, 3] bcast_S1x2048x1x32_S8x2048x4x32_0_1_2_3 (broadcastInDim S1x2048x1x32 ![1, 3] bcast_S2048x32_S1x2048x1x32_1_3 C)))))⟩] concatenates_S8x2048x4x32x1_S8x2048x4x32x1_S8x2048x4x32x2_d4) shapeCasts_S8x2048x4x32x2_S8x2048x4x64

/-- The sixteen query heads of the latent rows, turned by the angles. -/
def ROTQ (pl : FVec Ideal S8x2048x4608 .f32) (C S : FVec Ideal S2048x32 .f32) : FVec Ideal S8x2048x16x64 .f32 :=
  shapeCast _ (concatenate S8x2048x16x32x2 4 [⟨S8x2048x16x32x1, (broadcastInDim S8x2048x16x32x1 ![0, 1, 2, 3] bcast_S8x2048x16x32_S8x2048x16x32x1_0_1_2_3 (subf (mulf (Host.slice S8x2048x16x32 ![0, 0, 0, 0] ![1, 1, 1, 2] (shapeCast _ (extractStridedSlice S8x2048x1024 ![0, 0, 2560] pl slices_S8x2048x4608_S8x2048x1024_0_0_2560) shapeCasts_S8x2048x1024_S8x2048x16x64) slicesBy_S8x2048x16x64_S8x2048x16x32_0s1_0s1_0s1_0s2) (broadcastInDim S8x2048x16x32 ![0, 1, 2, 3] bcast_S1x2048x1x32_S8x2048x16x32_0_1_2_3 (broadcastInDim S1x2048x1x32 ![1, 3] bcast_S2048x32_S1x2048x1x32_1_3 C))) (mulf (Host.slice S8x2048x16x32 ![0, 0, 0, 1] ![1, 1, 1, 2] (shapeCast _ (extractStridedSlice S8x2048x1024 ![0, 0, 2560] pl slices_S8x2048x4608_S8x2048x1024_0_0_2560) shapeCasts_S8x2048x1024_S8x2048x16x64) slicesBy_S8x2048x16x64_S8x2048x16x32_0s1_0s1_0s1_1s2) (broadcastInDim S8x2048x16x32 ![0, 1, 2, 3] bcast_S1x2048x1x32_S8x2048x16x32_0_1_2_3 (broadcastInDim S1x2048x1x32 ![1, 3] bcast_S2048x32_S1x2048x1x32_1_3 S)))))⟩, ⟨S8x2048x16x32x1, (broadcastInDim S8x2048x16x32x1 ![0, 1, 2, 3] bcast_S8x2048x16x32_S8x2048x16x32x1_0_1_2_3 (addf (mulf (Host.slice S8x2048x16x32 ![0, 0, 0, 0] ![1, 1, 1, 2] (shapeCast _ (extractStridedSlice S8x2048x1024 ![0, 0, 2560] pl slices_S8x2048x4608_S8x2048x1024_0_0_2560) shapeCasts_S8x2048x1024_S8x2048x16x64) slicesBy_S8x2048x16x64_S8x2048x16x32_0s1_0s1_0s1_0s2) (broadcastInDim S8x2048x16x32 ![0, 1, 2, 3] bcast_S1x2048x1x32_S8x2048x16x32_0_1_2_3 (broadcastInDim S1x2048x1x32 ![1, 3] bcast_S2048x32_S1x2048x1x32_1_3 S))) (mulf (Host.slice S8x2048x16x32 ![0, 0, 0, 1] ![1, 1, 1, 2] (shapeCast _ (extractStridedSlice S8x2048x1024 ![0, 0, 2560] pl slices_S8x2048x4608_S8x2048x1024_0_0_2560) shapeCasts_S8x2048x1024_S8x2048x16x64) slicesBy_S8x2048x16x64_S8x2048x16x32_0s1_0s1_0s1_1s2) (broadcastInDim S8x2048x16x32 ![0, 1, 2, 3] bcast_S1x2048x1x32_S8x2048x16x32_0_1_2_3 (broadcastInDim S1x2048x1x32 ![1, 3] bcast_S2048x32_S1x2048x1x32_1_3 C)))))⟩] concatenates_S8x2048x16x32x1_S8x2048x16x32x1_S8x2048x16x32x2_d4) shapeCasts_S8x2048x16x32x2_S8x2048x16x64

/-- The gate. -/
def GATE (pc : FVec Ideal S8x256x4608 .f32) (pl : FVec Ideal S8x2048x4608 .f32) : FVec Ideal S8x2304x1024 .f32 :=
  extractStridedSlice S8x2304x1024 ![0, 0, 3584] (concatenate S8x2304x4608 1 [⟨S8x256x4608, pc⟩, ⟨S8x2048x4608, pl⟩] concatenates_S8x256x4608_S8x2048x4608_S8x2304x4608_d1) slices_S8x2304x4608_S8x2304x1024_0_0_3584

/-- The modulated activations. -/
def U (uc : FVec Ideal S8x256x1024 .f32) (ul : FVec Ideal S8x2048x1024 .f32) : FVec Ideal S8x2304x1024 .bf16 :=
  truncf .bf16 (concatenate S8x2304x1024 1 [⟨S8x256x1024, uc⟩, ⟨S8x2048x1024, ul⟩] concatenates_S8x256x1024_S8x2048x1024_S8x2304x1024_d1) bitsLt_bf16_f32

/-- The keys, turned, beside the values. -/
def KV (pc : FVec Ideal S8x256x4608 .f32) (pl : FVec Ideal S8x2048x4608 .f32) (rk : FVec Ideal S8x2048x4x64 .f32) : FVec Ideal S8x2304x512 .bf16 :=
  truncf .bf16 (shapeCast _ (concatenate S8x2304x4x128 3 [⟨S8x2304x4x64, (concatenate S8x2304x4x64 1 [⟨S8x256x4x64, (shapeCast _ (extractStridedSlice S8x256x256 ![0, 0, 1024] pc slices_S8x256x4608_S8x256x256_0_0_1024) shapeCasts_S8x256x256_S8x256x4x64)⟩, ⟨S8x2048x4x64, rk⟩] concatenates_S8x256x4x64_S8x2048x4x64_S8x2304x4x64_d1)⟩, ⟨S8x2304x4x64, (shapeCast _ (extractStridedSlice S8x2304x256 ![0, 0, 1280] (concatenate S8x2304x4608 1 [⟨S8x256x4608, pc⟩, ⟨S8x2048x4608, pl⟩] concatenates_S8x256x4608_S8x2048x4608_S8x2304x4608_d1) slices_S8x2304x4608_S8x2304x256_0_0_1280) shapeCasts_S8x2304x256_S8x2304x4x64)⟩] concatenates_S8x2304x4x64_S8x2304x4x64_S8x2304x4x128_d3) shapeCasts_S8x2304x4x128_S8x2304x512) bitsLt_bf16_f32

/-- The values, positions last. -/
def VT (pc : FVec Ideal S8x256x4608 .f32) (pl : FVec Ideal S8x2048x4608 .f32) : FVec Ideal S8x256x2304 .bf16 :=
  truncf .bf16 (transpose S8x256x2304 [0, 2, 1] (extractStridedSlice S8x2304x256 ![0, 0, 1280] (concatenate S8x2304x4608 1 [⟨S8x256x4608, pc⟩, ⟨S8x2048x4608, pl⟩] concatenates_S8x256x4608_S8x2048x4608_S8x2304x4608_d1) slices_S8x2304x4608_S8x2304x256_0_0_1280) transposes_S8x2304x256_S8x256x2304_0_2_1) bitsLt_bf16_f32

/-- The queries, turned, in the units of the scores. -/
def Q (pc : FVec Ideal S8x256x4608 .f32) (rq : FVec Ideal S8x2048x16x64 .f32) : FVec Ideal S8x2304x1024 .bf16 :=
  truncf .bf16 (mulf (shapeCast _ (concatenate S8x2304x16x64 1 [⟨S8x256x16x64, (shapeCast _ (extractStridedSlice S8x256x1024 ![0, 0, 2560] pc slices_S8x256x4608_S8x256x1024_0_0_2560) shapeCasts_S8x256x1024_S8x256x16x64)⟩, ⟨S8x2048x16x64, rq⟩] concatenates_S8x256x16x64_S8x2048x16x64_S8x2304x16x64_d1) shapeCasts_S8x2304x16x64_S8x2304x1024) (broadcastInDim S8x2304x1024 ![] bcast_S_S8x2304x1024 (constant S_ .f32 0x3E38AA3B#32))) bitsLt_bf16_f32

open Cert.InProj (row)

theorem UC_at (a0 : FVec Ideal S8x2304x1024 .f32) (a1 a2 : FVec Ideal S8x1024 .f32) (a3 a4 a5 : FVec Ideal S1024 .f32)
    (b : Fin 8) (j : Fin 2304) (hj : j.val < 256) (h) (k : Fin 1024) :
    UC a0 a3 a4 a5 (ix3 b ⟨j.val, h⟩ k) = row a0 a1 a2 a3 a4 a5 b j k := by
  unfold row Cert.InProj.rowMod Cert.FinalProj.rowNorm
  simp only [hj, if_true]
  pointwise [UC]

theorem UL_at (a0 : FVec Ideal S8x2304x1024 .f32) (a1 a2 : FVec Ideal S8x1024 .f32) (a3 a4 a5 : FVec Ideal S1024 .f32)
    (b : Fin 8) (j : Fin 2304) (hj : ¬ j.val < 256) (h) (k : Fin 1024) :
    UL a0 a1 a2 a5 (ix3 b ⟨j.val - 256, h⟩ k) = row a0 a1 a2 a3 a4 a5 b j k := by
  have ej : ∀ h', (⟨256 + (j.val - 256), h'⟩ : Fin 2304) = j := fun _ => Fin.ext (by show 256 + (j.val - 256) = j.val; omega)
  unfold row Cert.InProj.rowMod Cert.FinalProj.rowNorm
  simp only [hj, if_false]
  pointwise [UL]
  simp only [ej]

theorem PC_at (uc : FVec Ideal S8x256x1024 .f32) (a6 : FVec Ideal S1024x4608 .f32) (b : Fin 8) (j : Fin 256) (n : Fin 4608) :
    PC uc a6 (ix3 b j n) = ∑ k : Fin 1024, uc (ix3 b j k) * a6 (ix2 k n) := by
  pointwise [PC]

theorem PL_at (ul : FVec Ideal S8x2048x1024 .f32) (a6 : FVec Ideal S1024x4608 .f32) (b : Fin 8) (j : Fin 2048) (n : Fin 4608) :
    PL ul a6 (ix3 b j n) = ∑ k : Fin 1024, ul (ix3 b j k) * a6 (ix2 k n) := by
  pointwise [PL]

/-- The features `o`, …, `o + 63` of a row, turned in pairs by the angles with cosines `C` and sines `S`. -/
def turned (f : Fin 4608 → EReal) (C S : Fin 32 → EReal) (o : ℕ) (ho : o + 64 ≤ 4608) (d : Fin 64) : EReal :=
  if d.val % 2 < 1 then f ⟨o + 2 * (d.val / 2), by omega⟩ * C ⟨d.val / 2, by omega⟩ - f ⟨o + (1 + 2 * (d.val / 2)), by omega⟩ * S ⟨d.val / 2, by omega⟩
  else f ⟨o + 2 * (d.val / 2), by omega⟩ * S ⟨d.val / 2, by omega⟩ + f ⟨o + (1 + 2 * (d.val / 2)), by omega⟩ * C ⟨d.val / 2, by omega⟩

theorem ROTK_at (pl : FVec Ideal S8x2048x4608 .f32) (C S : FVec Ideal S2048x32 .f32) (b : Fin 8) (p : Fin 2048) (h : Fin 4) (d : Fin 64) :
    ROTK pl C S (ix4 b p h d)
      = turned (fun n => pl (ix3 b p n)) (fun i => C (ix2 p i)) (fun i => S (ix2 p i)) (1024 + h.val * 64) (by omega) d := by
  pointwise [ROTK]
  by_cases hd : d.val % 2 < 1 <;> simp only [turned, hd, dite_true, dite_false, if_true, if_false, Nat.add_assoc]

theorem ROTQ_at (pl : FVec Ideal S8x2048x4608 .f32) (C S : FVec Ideal S2048x32 .f32) (b : Fin 8) (p : Fin 2048) (h : Fin 16) (d : Fin 64) :
    ROTQ pl C S (ix4 b p h d)
      = turned (fun n => pl (ix3 b p n)) (fun i => C (ix2 p i)) (fun i => S (ix2 p i)) (2560 + h.val * 64) (by omega) d := by
  pointwise [ROTQ]
  by_cases hd : d.val % 2 < 1 <;> simp only [turned, hd, dite_true, dite_false, if_true, if_false, Nat.add_assoc]

theorem GATE_at (pc : FVec Ideal S8x256x4608 .f32) (pl : FVec Ideal S8x2048x4608 .f32) (b : Fin 8) (j : Fin 2304) (n : Fin 1024) :
    GATE pc pl (ix3 b j n) = if h : j.val < 256 then pc (ix3 b ⟨j.val, h⟩ ⟨3584 + n.val, by omega⟩)
      else pl (ix3 b ⟨j.val - 256, by omega⟩ ⟨3584 + n.val, by omega⟩) := by
  pointwise [GATE]

theorem U_at (uc : FVec Ideal S8x256x1024 .f32) (ul : FVec Ideal S8x2048x1024 .f32) (b : Fin 8) (j : Fin 2304) (n : Fin 1024) :
    U uc ul (ix3 b j n) = if h : j.val < 256 then uc (ix3 b ⟨j.val, h⟩ n) else ul (ix3 b ⟨j.val - 256, by omega⟩ n) := by
  pointwise [U]

theorem VT_at (pc : FVec Ideal S8x256x4608 .f32) (pl : FVec Ideal S8x2048x4608 .f32) (b : Fin 8) (n : Fin 256) (j : Fin 2304) :
    VT pc pl (ix3 b n j) = if h : j.val < 256 then pc (ix3 b ⟨j.val, h⟩ ⟨1280 + n.val, by omega⟩)
      else pl (ix3 b ⟨j.val - 256, by omega⟩ ⟨1280 + n.val, by omega⟩) := by
  pointwise [VT]

/-! The results of the arguments. -/

section
variable (a0 : FVec Ideal S8x2304x1024 .f32) (a1 a2 : FVec Ideal S8x1024 .f32) (a3 a4 a5 : FVec Ideal S1024 .f32) (a6 : FVec Ideal S1024x4608 .f32)

/-- The projected row at a batch element and a position. -/
def P (b : Fin 8) (j : Fin 2304) (n : Fin 4608) : EReal := ∑ k : Fin 1024, row a0 a1 a2 a3 a4 a5 b j k * a6 (ix2 k n)

def refGate : FVec Ideal S8x2304x1024 .f32 := GATE (PC (UC a0 a3 a4 a5) a6) (PL (UL a0 a1 a2 a5) a6)
def refU : FVec Ideal S8x2304x1024 .bf16 := U (UC a0 a3 a4 a5) (UL a0 a1 a2 a5)
def refKV : FVec Ideal S8x2304x512 .bf16 :=
  KV (PC (UC a0 a3 a4 a5) a6) (PL (UL a0 a1 a2 a5) a6) (ROTK (PL (UL a0 a1 a2 a5) a6) (Host.cos ANG) (Host.sin ANG))
def refVT : FVec Ideal S8x256x2304 .bf16 := VT (PC (UC a0 a3 a4 a5) a6) (PL (UL a0 a1 a2 a5) a6)
def refQ : FVec Ideal S8x2304x1024 .bf16 := Q (PC (UC a0 a3 a4 a5) a6) (ROTQ (PL (UL a0 a1 a2 a5) a6) (Host.cos ANG) (Host.sin ANG))

/-- The cosines at a position: those of the latent position it is. -/
def cosAt (j : Fin 2304) (i : Fin 32) : EReal := Host.cos ANG (ix2 (⟨j.val - 256, by omega⟩ : Fin 2048) i)
/-- The sines likewise. -/
def sinAt (j : Fin 2304) (i : Fin 32) : EReal := Host.sin ANG (ix2 (⟨j.val - 256, by omega⟩ : Fin 2048) i)

theorem PC_row (b : Fin 8) (j : Fin 2304) (hj : j.val < 256) (h) (n : Fin 4608) :
    PC (UC a0 a3 a4 a5) a6 (ix3 b ⟨j.val, h⟩ n) = P a0 a1 a2 a3 a4 a5 a6 b j n := by
  rw [PC_at]
  exact Finset.sum_congr rfl fun k _ => by rw [UC_at a0 a1 a2 a3 a4 a5 b j hj]

theorem PL_row (b : Fin 8) (j : Fin 2304) (hj : ¬ j.val < 256) (h) (n : Fin 4608) :
    PL (UL a0 a1 a2 a5) a6 (ix3 b ⟨j.val - 256, h⟩ n) = P a0 a1 a2 a3 a4 a5 a6 b j n := by
  rw [PL_at]
  exact Finset.sum_congr rfl fun k _ => by rw [UL_at a0 a1 a2 a3 a4 a5 b j hj]

theorem refGate_at (b : Fin 8) (j : Fin 2304) (n : Fin 1024) :
    refGate a0 a1 a2 a3 a4 a5 a6 (ix3 b j n) = P a0 a1 a2 a3 a4 a5 a6 b j ⟨3584 + n.val, by omega⟩ := by
  rw [refGate, GATE_at]
  split
  · exact PC_row _ _ _ _ _ _ _ _ _ ‹_› _ _
  · exact PL_row _ _ _ _ _ _ _ _ _ ‹_› _ _

theorem refU_at (b : Fin 8) (j : Fin 2304) (n : Fin 1024) :
    refU a0 a1 a2 a3 a4 a5 (ix3 b j n) = row a0 a1 a2 a3 a4 a5 b j n := by
  rw [refU, U_at]
  split
  · exact UC_at _ _ _ _ _ _ _ _ ‹_› _ _
  · exact UL_at _ _ _ _ _ _ _ _ ‹_› _ _

theorem refVT_at (b : Fin 8) (n : Fin 256) (j : Fin 2304) :
    refVT a0 a1 a2 a3 a4 a5 a6 (ix3 b n j) = P a0 a1 a2 a3 a4 a5 a6 b j ⟨1280 + n.val, by omega⟩ := by
  rw [refVT, VT_at]
  split
  · exact PC_row _ _ _ _ _ _ _ _ _ ‹_› _ _
  · exact PL_row _ _ _ _ _ _ _ _ _ ‹_› _ _

end

/-- A lane, its two neighbours and the three tables give the turned feature: the tables hold one and zeros on the
    context rows, and on the latent ones the sine meets the neighbour that completes the pair. -/
theorem rope_eq (f : Fin 4608 → EReal) (C S : Fin 32 → EReal) (o : ℕ) (ho : o + 64 ≤ 4608) (d : Fin 64) (q : Prop) [Decidable q] (n : Fin 4608)
    (hn : n.val = o + d.val) {x y z c sa sb : EReal} (hx : x = f n) (hy : d.val % 2 < 1 → ∀ h, y = f ⟨n.val + 1, h⟩)
    (hz : ¬ d.val % 2 < 1 → ∀ h, z = f ⟨n.val - 1, h⟩) (hc : c = if q then 1 else C ⟨d.val / 2, by omega⟩)
    (ha : sa = if q then 0 else if d.val % 2 < 1 then -S ⟨d.val / 2, by omega⟩ else 0)
    (hb : sb = if q then 0 else if d.val % 2 < 1 then 0 else S ⟨d.val / 2, by omega⟩) :
    x * c + y * sa + z * sb = if q then f n else turned f C S o ho d := by
  subst hx hc ha hb
  by_cases hq : q
  · simp only [hq, if_true, mul_one, mul_zero, add_zero]
  · unfold turned
    by_cases hd : d.val % 2 < 1
    · have e1 : f n = f ⟨o + 2 * (d.val / 2), by omega⟩ := congrArg f (Fin.ext (by show n.val = o + 2 * (d.val / 2); omega))
      have e2 : y = f ⟨o + (1 + 2 * (d.val / 2)), by omega⟩ :=
        (hy hd (by omega)).trans (congrArg f (Fin.ext (by show n.val + 1 = o + (1 + 2 * (d.val / 2)); omega)))
      simp only [hq, hd, if_true, if_false, mul_zero, add_zero, mul_neg, ← sub_eq_add_neg]
      rw [e1, e2]
    · have e1 : f n = f ⟨o + (1 + 2 * (d.val / 2)), by omega⟩ := congrArg f (Fin.ext (by show n.val = o + (1 + 2 * (d.val / 2)); omega))
      have e2 : z = f ⟨o + 2 * (d.val / 2), by omega⟩ :=
        (hz hd (by omega)).trans (congrArg f (Fin.ext (by show n.val - 1 = o + 2 * (d.val / 2); omega)))
      simp only [hq, hd, if_false, mul_zero, add_zero]
      rw [e1, e2, add_comm]

theorem kv_eq (m : (ℓ : Loc nD τ sig) → Buf (Elt Ideal) ℓ) (c : Dev nD) : Cert.Reference7Ideal.Value.res_main_v128 m c
    = refKV (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  unfold Cert.Reference7Ideal.Value.res_main_v128 refKV KV PC PL ROTK UC UL
  rfl

theorem q_eq (m : (ℓ : Loc nD τ sig) → Buf (Elt Ideal) ℓ) (c : Dev nD) : Cert.Reference7Ideal.Value.res_main_v130 m c
    = refQ (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  unfold Cert.Reference7Ideal.Value.res_main_v130 refQ Q PC PL ROTQ UC UL
  rfl

end Cert.EvenProj

end
-- ==== Proof.EvenTab.lean ====
/-
The even layers' input projection: what the kernel's windows hold when the grid starts, and at every grid point.
-/
module

public import proofs.«01_k».proof.Defs
public import proofs.«01_k».proof.Proof.Scalar
public import proofs.«01_k».proof.Proof.InProj
public import proofs.«01_k».proof.Proof.EvenRun
public import proofs.«01_k».proof.Proof.EvenSpec
public import proofs.«01_k».proof.Proof.Gen.Reference7Ideal.Run
public import Idealize.ShloMosaic.Lib.Pipeline.ValueKit
public import Idealize.ShloMosaic.Lib.Pipeline.Value
public import Idealize.ShloMosaic.Lib.Pointwise
public import Idealize.ShloMosaic.Lib.Claim
public import Idealize.ShloMosaic.Lib.Quiescent
public import Idealize.ShloMosaic.Lib.IdealHost

@[expose] public section

set_option maxRecDepth 16384
set_option maxHeartbeats 2000000

noncomputable section

namespace Cert.EvenProj

open Idealize.ShloMosaic Idealize.ShloMosaic.TcCoe Idealize.SL.Sem Idealize.ShloMosaic.Tactic

section
open Cert.Kernel7Ideal Cert.Kernel7Ideal.Gen

/-- The angles, as the host computes them before the call. -/
def KANG : FVec Ideal S2048x32 .f32 :=
  concatenate S2048x32 1 [⟨S2048x16, (mulf (broadcastInDim S2048x16 ![0, 1] bcast_S2048x1_S2048x16_0_1 (broadcastInDim S2048x1 ![0] bcast_S2048_S2048x1_0 ((fun i => FloatOps.ofBits .f32 (lit0 (S2048.rowMajor i)))))) (broadcastInDim S2048x16 ![0, 1] bcast_S1x16_S2048x16_0_1 (broadcastInDim S1x16 ![1] bcast_S16_S1x16_1 (Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32)))))))⟩, ⟨S2048x16, (mulf (broadcastInDim S2048x16 ![0, 1] bcast_S2048x1_S2048x16_0_1 (broadcastInDim S2048x1 ![0] bcast_S2048_S2048x1_0 ((fun i => FloatOps.ofBits .f32 (lit1 (S2048.rowMajor i)))))) (broadcastInDim S2048x16 ![0, 1] bcast_S1x16_S2048x16_0_1 (broadcastInDim S1x16 ![1] bcast_S16_S1x16_1 (Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32)))))))⟩] concatenates_S2048x16_S2048x16_S2048x32_d1

/-- Two arrays of 32 features, one on the even lanes and one on the odd ones. -/
def PAIRS (e o : FVec Ideal S2048x32 .f32) : FVec Ideal S2048x64 .f32 :=
  shapeCast S2048x64 (concatenate S2048x32x2 2 [⟨S2048x32x1, broadcastInDim S2048x32x1 ![0, 1] bcast_S2048x32_S2048x32x1_0_1 e⟩,
    ⟨S2048x32x1, broadcastInDim S2048x32x1 ![0, 1] bcast_S2048x32_S2048x32x1_0_1 o⟩] concatenates_S2048x32x1_S2048x32x1_S2048x32x2_d2) shapeCasts_S2048x32x2_S2048x64

/-- A table over all positions: the context rows hold one constant, the latent rows two halves of 64 lanes. -/
def TAB (x : BitVec 32) (a b : FVec Ideal S2048x64 .f32) : FVec Ideal S2304x128 .f32 :=
  concatenate S2304x128 0 [⟨S256x128, broadcastInDim S256x128 ![0, 1] bcast_S1x128_S256x128_0_1 (broadcastInDim S1x128 ![] bcast_S_S1x128 (constant S_ .f32 x))⟩,
    ⟨S2048x128, concatenate S2048x128 1 [⟨S2048x64, a⟩, ⟨S2048x64, b⟩] concatenates_S2048x64_S2048x64_S2048x128_d1⟩] concatenates_S256x128_S2048x128_S2304x128_d0

/-- One constant over the latent positions. -/
def FILL (x : BitVec 32) : FVec Ideal S2048x64 .f32 := broadcastInDim S2048x64 ![] bcast_S_S2048x64 (constant S_ .f32 x)

/-- Zeros over the positions and pairs of features. -/
def ZER : FVec Ideal S2048x32 .f32 := broadcastInDim S2048x32 ![] bcast_S_S2048x32 (constant S_ .f32 0x00000000#32)

theorem PAIRS_at (e o : FVec Ideal S2048x32 .f32) (p : Fin 2048) (d : Fin 64) : PAIRS e o (ix2 p d)
    = if d.val % 2 < 1 then e (ix2 p ⟨d.val / 2, by omega⟩) else o (ix2 p ⟨d.val / 2, by omega⟩) := by
  pointwise [PAIRS]
  split <;> rfl

theorem TAB_at (x : BitVec 32) (a b : FVec Ideal S2048x64 .f32) (j : Fin 2304) (l : Fin 128) : TAB x a b (ix2 j l)
    = if j.val < 256 then Ideal.ofBits FTy.f32 x else if l.val < 64 then a (ix2 ⟨j.val - 256, by omega⟩ ⟨l.val % 64, by omega⟩)
      else b (ix2 ⟨j.val - 256, by omega⟩ ⟨l.val % 64, by omega⟩) := by
  have e0 : ∀ (h : l.val < 64) (h'), (⟨l.val, h'⟩ : Fin 64) = ⟨l.val % 64, by omega⟩ := fun h _ => Fin.ext (by show l.val = l.val % 64; omega)
  have e1 : ∀ (h : ¬ l.val < 64) (h'), (⟨l.val - 64, h'⟩ : Fin 64) = ⟨l.val % 64, by omega⟩ := fun h _ => Fin.ext (by show l.val - 64 = l.val % 64; omega)
  pointwise [TAB]
  by_cases hj : j.val < 256
  · simp only [hj, dite_true, if_true]
  · by_cases hl : l.val < 64
    · simp only [hj, hl, dite_true, dite_false, if_true, if_false, e0 hl]
    · simp only [hj, hl, dite_false, if_false, e1 hl]

variable (m : (ℓ : Loc nD τ sig) → Buf (Elt Ideal) ℓ)

theorem V43 (c : Dev nD) : V m c main_v43 = TAB 0x3F800000#32 (PAIRS (Host.cos KANG) (Host.cos KANG)) (PAIRS (Host.cos KANG) (Host.cos KANG)) := by
  unfold V
  simp only [hostOps0, List.flatten_cons, List.flatten_nil, List.append_nil, List.cons_append, List.nil_append]
  entry_read
  rfl

theorem V46 (c : Dev nD) : V m c main_v46 = TAB 0x00000000#32 (PAIRS (Host.negf (Host.sin KANG)) ZER) (PAIRS (Host.negf (Host.sin KANG)) ZER) := by
  unfold V
  simp only [hostOps0, List.flatten_cons, List.flatten_nil, List.append_nil, List.cons_append, List.nil_append]
  entry_read
  rfl

theorem V49 (c : Dev nD) : V m c main_v49 = TAB 0x00000000#32 (PAIRS ZER (Host.sin KANG)) (PAIRS ZER (Host.sin KANG)) := by
  unfold V
  simp only [hostOps0, List.flatten_cons, List.flatten_nil, List.append_nil, List.cons_append, List.nil_append]
  entry_read
  rfl

theorem V52 (c : Dev nD) : V m c main_v52 = TAB 0x3F800000#32 (PAIRS (Host.cos KANG) (Host.cos KANG)) (FILL 0x3F800000#32) := by
  unfold V
  simp only [hostOps0, List.flatten_cons, List.flatten_nil, List.append_nil, List.cons_append, List.nil_append]
  entry_read
  rfl

theorem V55 (c : Dev nD) : V m c main_v55 = TAB 0x00000000#32 (PAIRS (Host.negf (Host.sin KANG)) ZER) (FILL 0x00000000#32) := by
  unfold V
  simp only [hostOps0, List.flatten_cons, List.flatten_nil, List.append_nil, List.cons_append, List.nil_append]
  entry_read
  rfl

theorem V58 (c : Dev nD) : V m c main_v58 = TAB 0x00000000#32 (PAIRS ZER (Host.sin KANG)) (FILL 0x00000000#32) := by
  unfold V
  simp only [hostOps0, List.flatten_cons, List.flatten_nil, List.append_nil, List.cons_append, List.nil_append]
  entry_read
  rfl

theorem Vshift (c : Dev nD) : V m c main_v77 = (broadcastInDim S9x8x1024 ![0, 1, 2] bcast_S9x1x1024_S9x8x1024_0_1_2
    (broadcastInDim S9x1x1024 ![0, 2] bcast_S9x1024_S9x1x1024_0_2 (concatenate S9x1024 0 [⟨S8x1024, m ((c : Thread nD τ).loc main_arg1)⟩,
      ⟨S1x1024, broadcastInDim S1x1024 ![1] bcast_S1024_S1x1024_1 (m ((c : Thread nD τ).loc main_arg3))⟩]
      concatenates_S8x1024_S1x1024_S9x1024_d0)) : FVec Ideal S9x8x1024 .f32) := by
  unfold V
  simp only [hostOps0, List.flatten_cons, List.flatten_nil, List.append_nil, List.cons_append, List.nil_append]
  entry_read
  rfl

theorem Vscale (c : Dev nD) : V m c main_v81 = (broadcastInDim S9x8x1024 ![0, 1, 2] bcast_S9x1x1024_S9x8x1024_0_1_2
    (broadcastInDim S9x1x1024 ![0, 2] bcast_S9x1024_S9x1x1024_0_2 (concatenate S9x1024 0 [⟨S8x1024, m ((c : Thread nD τ).loc main_arg2)⟩,
      ⟨S1x1024, broadcastInDim S1x1024 ![1] bcast_S1024_S1x1024_1 (m ((c : Thread nD τ).loc main_arg4))⟩]
      concatenates_S8x1024_S1x1024_S9x1024_d0)) : FVec Ideal S9x8x1024 .f32) := by
  unfold V
  simp only [hostOps0, List.flatten_cons, List.flatten_nil, List.append_nil, List.cons_append, List.nil_append]
  entry_read
  rfl

theorem Vnorm (c : Dev nD) : V m c main_v82 = (shapeCast S1x1024 (m ((c : Thread nD τ).loc main_arg5)) shapeCasts_S1024_S1x1024 : FVec Ideal S1x1024 .f32) := by
  unfold V
  simp only [hostOps0, List.flatten_cons, List.flatten_nil, List.append_nil, List.cons_append, List.nil_append]
  entry_read
  rfl

/-- The grouped shifts: one row for every batch element, then the context's. -/
theorem shift_at (c : Dev nD) (g : Fin 9) (s : Fin 8) (k : Fin 1024) : V m c main_v77 (ix3 g s k)
    = if h : g.val < 8 then m ((c : Thread nD τ).loc main_arg1) (ix2 ⟨g.val, h⟩ k) else m ((c : Thread nD τ).loc main_arg3) (ix1 k) := by
  rw [Vshift]
  pointwise []

/-- The grouped scales: one row for every batch element, then the context's. -/
theorem scale_at (c : Dev nD) (g : Fin 9) (s : Fin 8) (k : Fin 1024) : V m c main_v81 (ix3 g s k)
    = if h : g.val < 8 then m ((c : Thread nD τ).loc main_arg2) (ix2 ⟨g.val, h⟩ k) else m ((c : Thread nD τ).loc main_arg4) (ix1 k) := by
  rw [Vscale]
  pointwise []

theorem norm_at (c : Dev nD) (k : Fin 1024) : V m c main_v82 (ix2 0 k) = m ((c : Thread nD τ).loc main_arg5) (ix1 k) := by
  rw [Vnorm]
  pointwise []

set_option maxRecDepth 100000 in
theorem Vweight (c : Dev nD) : V m c main_v69 = (truncf .bf16 (concatenate S1024x2560 1
    [⟨S1024x2048, extractStridedSlice S1024x2048 ![0, 2560] (m ((c : Thread nD τ).loc main_arg6)) slices_S1024x4608_S1024x2048_0_2560⟩,
     ⟨S1024x64, extractStridedSlice S1024x64 ![0, 1024] (m ((c : Thread nD τ).loc main_arg6)) slices_S1024x4608_S1024x64_0_1024⟩,
     ⟨S1024x64, extractStridedSlice S1024x64 ![0, 1280] (m ((c : Thread nD τ).loc main_arg6)) slices_S1024x4608_S1024x64_0_1280⟩,
     ⟨S1024x64, extractStridedSlice S1024x64 ![0, 1088] (m ((c : Thread nD τ).loc main_arg6)) slices_S1024x4608_S1024x64_0_1088⟩,
     ⟨S1024x64, extractStridedSlice S1024x64 ![0, 1344] (m ((c : Thread nD τ).loc main_arg6)) slices_S1024x4608_S1024x64_0_1344⟩,
     ⟨S1024x64, extractStridedSlice S1024x64 ![0, 1152] (m ((c : Thread nD τ).loc main_arg6)) slices_S1024x4608_S1024x64_0_1152⟩,
     ⟨S1024x64, extractStridedSlice S1024x64 ![0, 1408] (m ((c : Thread nD τ).loc main_arg6)) slices_S1024x4608_S1024x64_0_1408⟩,
     ⟨S1024x64, extractStridedSlice S1024x64 ![0, 1216] (m ((c : Thread nD τ).loc main_arg6)) slices_S1024x4608_S1024x64_0_1216⟩,
     ⟨S1024x64, extractStridedSlice S1024x64 ![0, 1472] (m ((c : Thread nD τ).loc main_arg6)) slices_S1024x4608_S1024x64_0_1472⟩]
    concatenates_S1024x2048_S1024x64_S1024x64_S1024x64_S1024x64_S1024x64_S1024x64_S1024x64_S1024x64_S1024x2560_d1) bitsLt_bf16_f32 : FVec Ideal S1024x2560 .bf16) := rfl

/-- Where a column of the kernel's weights lies in the argument's: queries and gate first, then key and value heads by turns. -/
def col (n : ℕ) : ℕ :=
  if n < 2048 then 2560 + n else if (n - 2048) % 128 < 64 then 1024 + 64 * ((n - 2048) / 128) + (n - 2048) % 128
    else 1216 + 64 * ((n - 2048) / 128) + (n - 2048) % 128

theorem weight_at (c : Dev nD) (k : Fin 1024) (n : Fin 2560) (h) : V m c main_v69 (ix2 k n)
    = m ((c : Thread nD τ).loc main_arg6) (ix2 k ⟨col n.val, h⟩) := by
  rw [Vweight]
  pointwise []
  split_ifs <;> exact congrArg (fun q => m ((c : Thread nD τ).loc main_arg6) (ix2 k q)) (Fin.ext (by unfold col; dsimp only; split_ifs <;> omega))

/-- Where each window's block lies at a grid point. -/
theorem idx : ∀ t : Fin cfg0.N, win0_0.index t = ![t.val / 3, t.val % 3, 0]
    ∧ win0_1.index t = ![if t.val % 3 = 0 then 8 else t.val / 3, 0, 0] ∧ win0_2.index t = ![t.val / 3, 0, 0] ∧ win0_3.index t = ![t.val / 3, 0, 0]
    ∧ win0_4.index t = ![if t.val % 3 = 0 then 8 else t.val / 3, 0, 0] ∧ win0_5.index t = ![t.val / 3, 0, 0] ∧ win0_6.index t = ![t.val / 3, 0, 0]
    ∧ win0_7.index t = ![0, 0] ∧ win0_8.index t = ![0, 0] ∧ win0_9.index t = ![t.val % 3, 0] ∧ win0_10.index t = ![t.val % 3, 0]
    ∧ win0_11.index t = ![t.val % 3, 0] ∧ win0_12.index t = ![t.val % 3, 0] ∧ win0_13.index t = ![t.val % 3, 0] ∧ win0_14.index t = ![t.val % 3, 0]
    ∧ win0_15.index t = ![t.val / 3, t.val % 3, 0] ∧ win0_16.index t = ![t.val / 3, t.val % 3, 0] ∧ win0_17.index t = ![t.val / 3, t.val % 3, 0]
    ∧ win0_18.index t = ![t.val / 3, 0, t.val % 3] ∧ win0_19.index t = ![t.val / 3, t.val % 3, 0] ∧ t.val < 24 :=
  (by decide +kernel : ∀ t : Fin grid0.N, _)

theorem iblk0 (c : Dev nD) (t : Fin cfg0.N) (i : Fin 768) (k : Fin 1024) (h₀ h₁) :
    iblk m c 0 t (ix3 0 i k) = m ((c : Thread nD τ).loc main_arg0) (ix3 ⟨t.val / 3, h₀⟩ ⟨768 * (t.val % 3) + i.val, h₁⟩ k) := by
  blk_ext [iblk, V, idx t]

theorem ld0_at (x : Vec Ideal S1x768x1024 .f32) (r : Fin 256) (k : Fin 1024) :
    View.ld (Val := Elt Ideal) (e' := .f32) x (Rect.unit (s := S1x768x1024) ![0, 0, 0] ![1, 256, 1024] inb_S1x768x1024_S1x256x1024_0_0_0) (ix3 0 r k) = x (ix3 0 ⟨0 + r.val, by omega⟩ k) := by
  pointwise []

theorem ld1_at (x : Vec Ideal S1x768x1024 .f32) (r : Fin 256) (k : Fin 1024) :
    View.ld (Val := Elt Ideal) (e' := .f32) x (Rect.unit (s := S1x768x1024) ![0, 256, 0] ![1, 256, 1024] inb_S1x768x1024_S1x256x1024_0_256_0) (ix3 0 r k) = x (ix3 0 ⟨256 + r.val, by omega⟩ k) := by
  pointwise []

theorem ld2_at (x : Vec Ideal S1x768x1024 .f32) (r : Fin 256) (k : Fin 1024) :
    View.ld (Val := Elt Ideal) (e' := .f32) x (Rect.unit (s := S1x768x1024) ![0, 512, 0] ![1, 256, 1024] inb_S1x768x1024_S1x256x1024_0_512_0) (ix3 0 r k) = x (ix3 0 ⟨512 + r.val, by omega⟩ k) := by
  pointwise []

theorem iblk7 (c : Dev nD) (t : Fin cfg0.N) (k : Fin 1024) : iblk m c 7 t (ix2 0 k) = m ((c : Thread nD τ).loc main_arg5) (ix1 k) := by
  rw [← norm_at m c k]
  blk_point [iblk, idx t]

theorem iblk1 (c : Dev nD) (t : Fin cfg0.N) (q : Fin 8) (k : Fin 1024) (j : ℕ) (hj : j < 256 ↔ t.val % 3 = 0) (h₀) :
    iblk m c 1 t (ix3 0 q k) = if j < 256 then m ((c : Thread nD τ).loc main_arg3) (ix1 k) else m ((c : Thread nD τ).loc main_arg1) (ix2 ⟨t.val / 3, h₀⟩ k) := by
  have e : iblk m c 1 t (ix3 0 q k) = V m c main_v77 (ix3 ⟨if t.val % 3 = 0 then 8 else t.val / 3, by split <;> omega⟩ q k) := by
    blk_ext [iblk, idx t]
  rw [e, shift_at]
  by_cases h : t.val % 3 = 0
  · simp only [h, hj.2 h, if_true]
    rfl
  · simp only [h, mt hj.1 h, if_false, h₀, dite_true]

theorem iblk4 (c : Dev nD) (t : Fin cfg0.N) (q : Fin 8) (k : Fin 1024) (j : ℕ) (hj : j < 256 ↔ t.val % 3 = 0) (h₀) :
    iblk m c 4 t (ix3 0 q k) = if j < 256 then m ((c : Thread nD τ).loc main_arg4) (ix1 k) else m ((c : Thread nD τ).loc main_arg2) (ix2 ⟨t.val / 3, h₀⟩ k) := by
  have e : iblk m c 4 t (ix3 0 q k) = V m c main_v81 (ix3 ⟨if t.val % 3 = 0 then 8 else t.val / 3, by split <;> omega⟩ q k) := by
    blk_ext [iblk, idx t]
  rw [e, scale_at]
  by_cases h : t.val % 3 = 0
  · simp only [h, hj.2 h, if_true]
    rfl
  · simp only [h, mt hj.1 h, if_false, h₀, dite_true]

theorem iblk2 (c : Dev nD) (t : Fin cfg0.N) (q : Fin 8) (k : Fin 1024) (j : ℕ) (hj : ¬ j < 256) (h₀) :
    iblk m c 2 t (ix3 0 q k) = if j < 256 then m ((c : Thread nD τ).loc main_arg3) (ix1 k) else m ((c : Thread nD τ).loc main_arg1) (ix2 ⟨t.val / 3, h₀⟩ k) := by
  have e : iblk m c 2 t (ix3 0 q k) = V m c main_v77 (ix3 ⟨t.val / 3, by omega⟩ q k) := by
    blk_ext [iblk, idx t]
  rw [e, shift_at]
  simp only [hj, if_false, h₀, dite_true]

theorem iblk3 (c : Dev nD) (t : Fin cfg0.N) (q : Fin 8) (k : Fin 1024) (j : ℕ) (hj : ¬ j < 256) (h₀) :
    iblk m c 3 t (ix3 0 q k) = if j < 256 then m ((c : Thread nD τ).loc main_arg3) (ix1 k) else m ((c : Thread nD τ).loc main_arg1) (ix2 ⟨t.val / 3, h₀⟩ k) := by
  have e : iblk m c 3 t (ix3 0 q k) = V m c main_v77 (ix3 ⟨t.val / 3, by omega⟩ q k) := by
    blk_ext [iblk, idx t]
  rw [e, shift_at]
  simp only [hj, if_false, h₀, dite_true]

theorem iblk5 (c : Dev nD) (t : Fin cfg0.N) (q : Fin 8) (k : Fin 1024) (j : ℕ) (hj : ¬ j < 256) (h₀) :
    iblk m c 5 t (ix3 0 q k) = if j < 256 then m ((c : Thread nD τ).loc main_arg4) (ix1 k) else m ((c : Thread nD τ).loc main_arg2) (ix2 ⟨t.val / 3, h₀⟩ k) := by
  have e : iblk m c 5 t (ix3 0 q k) = V m c main_v81 (ix3 ⟨t.val / 3, by omega⟩ q k) := by
    blk_ext [iblk, idx t]
  rw [e, scale_at]
  simp only [hj, if_false, h₀, dite_true]

theorem iblk6 (c : Dev nD) (t : Fin cfg0.N) (q : Fin 8) (k : Fin 1024) (j : ℕ) (hj : ¬ j < 256) (h₀) :
    iblk m c 6 t (ix3 0 q k) = if j < 256 then m ((c : Thread nD τ).loc main_arg4) (ix1 k) else m ((c : Thread nD τ).loc main_arg2) (ix2 ⟨t.val / 3, h₀⟩ k) := by
  have e : iblk m c 6 t (ix3 0 q k) = V m c main_v81 (ix3 ⟨t.val / 3, by omega⟩ q k) := by
    blk_ext [iblk, idx t]
  rw [e, scale_at]
  simp only [hj, if_false, h₀, dite_true]

theorem iblk8 (c : Dev nD) (t : Fin cfg0.N) (k : Fin 1024) (n : Fin 2560) : iblk m c 8 t (ix2 k n) = V m c main_v69 (ix2 k n) := by
  blk_point [iblk, idx t]

theorem iblk9 (c : Dev nD) (t : Fin cfg0.N) (r : Fin 768) (l : Fin 128) (h) : iblk m c 9 t (ix2 r l) = V m c main_v52 (ix2 ⟨768 * (t.val % 3) + r.val, h⟩ l) := by
  blk_ext [iblk, idx t]

theorem iblk10 (c : Dev nD) (t : Fin cfg0.N) (r : Fin 768) (l : Fin 128) (h) : iblk m c 10 t (ix2 r l) = V m c main_v55 (ix2 ⟨768 * (t.val % 3) + r.val, h⟩ l) := by
  blk_ext [iblk, idx t]

theorem iblk11 (c : Dev nD) (t : Fin cfg0.N) (r : Fin 768) (l : Fin 128) (h) : iblk m c 11 t (ix2 r l) = V m c main_v58 (ix2 ⟨768 * (t.val % 3) + r.val, h⟩ l) := by
  blk_ext [iblk, idx t]

theorem iblk12 (c : Dev nD) (t : Fin cfg0.N) (r : Fin 768) (l : Fin 128) (h) : iblk m c 12 t (ix2 r l) = V m c main_v43 (ix2 ⟨768 * (t.val % 3) + r.val, h⟩ l) := by
  blk_ext [iblk, idx t]

theorem iblk13 (c : Dev nD) (t : Fin cfg0.N) (r : Fin 768) (l : Fin 128) (h) : iblk m c 13 t (ix2 r l) = V m c main_v46 (ix2 ⟨768 * (t.val % 3) + r.val, h⟩ l) := by
  blk_ext [iblk, idx t]

theorem iblk14 (c : Dev nD) (t : Fin cfg0.N) (r : Fin 768) (l : Fin 128) (h) : iblk m c 14 t (ix2 r l) = V m c main_v49 (ix2 ⟨768 * (t.val % 3) + r.val, h⟩ l) := by
  blk_ext [iblk, idx t]

end

end Cert.EvenProj

end
-- ==== Proof.EvenRows.lean ====
/-
The even layers' input projection: the rotary tables and what the body computes, entry by entry.
-/
module

public import proofs.«01_k».proof.Defs
public import proofs.«01_k».proof.Proof.Scalar
public import proofs.«01_k».proof.Proof.InProj
public import proofs.«01_k».proof.Proof.EvenTab
public import proofs.«01_k».proof.Proof.Gen.Reference7Ideal.Run
public import Idealize.ShloMosaic.Lib.Pipeline.ValueKit
public import Idealize.ShloMosaic.Lib.Pipeline.Value
public import Idealize.ShloMosaic.Lib.Pointwise
public import Idealize.ShloMosaic.Lib.Claim
public import Idealize.ShloMosaic.Lib.Quiescent
public import Idealize.ShloMosaic.Lib.IdealHost

@[expose] public section

set_option maxRecDepth 16384
set_option maxHeartbeats 2000000

noncomputable section

namespace Cert.EvenProj

open Idealize.ShloMosaic Idealize.ShloMosaic.TcCoe Idealize.SL.Sem Idealize.ShloMosaic.Tactic

open Cert.Kernel7Ideal Cert.Kernel7Ideal.Gen

/-! The rotary tables, entry by entry. -/

theorem KANG_eq : KANG = ANG := by
  have e0 : Cert.Kernel7Ideal.lit0 = Cert.Reference7Ideal.lit0 := funext (by decide +kernel)
  have e1 : Cert.Kernel7Ideal.lit1 = Cert.Reference7Ideal.lit1 := funext (by decide +kernel)
  unfold KANG ANG
  rw [e0, e1]

theorem cosPairs (p : Fin 2048) (d : Fin 64) : PAIRS (Host.cos KANG) (Host.cos KANG) (ix2 p d) = Host.cos ANG (ix2 p ⟨d.val / 2, by omega⟩) := by
  rw [PAIRS_at, KANG_eq, ite_self]

theorem evenPairs (p : Fin 2048) (d : Fin 64) : PAIRS (Host.negf (Host.sin KANG)) ZER (ix2 p d)
    = if d.val % 2 < 1 then -Host.sin ANG (ix2 p ⟨d.val / 2, by omega⟩) else 0 := by
  rw [PAIRS_at, KANG_eq]
  have e : ∀ i, ZER (ix2 p i) = 0 := fun i => by
    pointwise [ZER]
  rw [e]
  rfl

theorem oddPairs (p : Fin 2048) (d : Fin 64) : PAIRS ZER (Host.sin KANG) (ix2 p d)
    = if d.val % 2 < 1 then 0 else Host.sin ANG (ix2 p ⟨d.val / 2, by omega⟩) := by
  rw [PAIRS_at, KANG_eq]
  have e : ∀ i, ZER (ix2 p i) = 0 := fun i => by
    pointwise [ZER]
  rw [e]

theorem FILL_at (x : BitVec 32) (p : Fin 2048) (d : Fin 64) : FILL x (ix2 p d) = Ideal.ofBits FTy.f32 x := by
  pointwise [FILL]

theorem one_bits : Ideal.ofBits FTy.f32 0x3F800000#32 = 1 := by simp
theorem zero_bits : Ideal.ofBits FTy.f32 0x00000000#32 = 0 := by simp

variable (m : (ℓ : Loc nD τ sig) → Buf (Elt Ideal) ℓ)

theorem cosQ_at (c : Dev nD) (j : Fin 2304) (l : Fin 128) : V m c main_v43 (ix2 j l)
    = if j.val < 256 then 1 else cosAt j ⟨l.val % 64 / 2, by omega⟩ := by
  rw [V43, TAB_at, cosPairs, one_bits, ite_self]
  rfl

theorem evenQ_at (c : Dev nD) (j : Fin 2304) (l : Fin 128) : V m c main_v46 (ix2 j l)
    = if j.val < 256 then 0 else if l.val % 64 % 2 < 1 then -sinAt j ⟨l.val % 64 / 2, by omega⟩ else 0 := by
  rw [V46, TAB_at, evenPairs, zero_bits, ite_self]
  rfl

theorem oddQ_at (c : Dev nD) (j : Fin 2304) (l : Fin 128) : V m c main_v49 (ix2 j l)
    = if j.val < 256 then 0 else if l.val % 64 % 2 < 1 then 0 else sinAt j ⟨l.val % 64 / 2, by omega⟩ := by
  rw [V49, TAB_at, oddPairs, zero_bits, ite_self]
  rfl

theorem cosKV_at (c : Dev nD) (j : Fin 2304) (l : Fin 128) : V m c main_v52 (ix2 j l)
    = if j.val < 256 then 1 else if l.val < 64 then cosAt j ⟨l.val % 64 / 2, by omega⟩ else 1 := by
  rw [V52, TAB_at, cosPairs, FILL_at, one_bits]
  rfl

theorem evenKV_at (c : Dev nD) (j : Fin 2304) (l : Fin 128) : V m c main_v55 (ix2 j l)
    = if j.val < 256 then 0 else if l.val < 64 then if l.val % 64 % 2 < 1 then -sinAt j ⟨l.val % 64 / 2, by omega⟩ else 0 else 0 := by
  rw [V55, TAB_at, evenPairs, FILL_at, zero_bits]
  rfl

theorem oddKV_at (c : Dev nD) (j : Fin 2304) (l : Fin 128) : V m c main_v58 (ix2 j l)
    = if j.val < 256 then 0 else if l.val < 64 then if l.val % 64 % 2 < 1 then 0 else sinAt j ⟨l.val % 64 / 2, by omega⟩ else 0 := by
  rw [V58, TAB_at, oddPairs, FILL_at, zero_bits]
  rfl

/-! The activations the body stores and reads back: three sub-blocks of 256 rows, the same arithmetic each. -/

theorem back (v : View sig .tc .vmem S768x1024 .bf16) (G : Fin 768 → Fin 1024 → EReal) (A B C : FVec Ideal S256x1024 .bf16)
    (hA : ∀ (r : Fin 256) k h, A (ix2 r k) = G ⟨0 + r.val, h⟩ k) (hB : ∀ (r : Fin 256) k h, B (ix2 r k) = G ⟨256 + r.val, h⟩ k)
    (hC : ∀ (r : Fin 256) k h, C (ix2 r k) = G ⟨512 + r.val, h⟩ k) (r : Fin 768) (k : Fin 1024) :
    (v.readCov (Val := Elt Ideal) [⟨Rect.unit (s := S768x1024) ![512, 0] ![256, 1024] inb_S768x1024_S256x1024_512_0, C⟩,
        ⟨Rect.unit (s := S768x1024) ![256, 0] ![256, 1024] inb_S768x1024_S256x1024_256_0, B⟩,
        ⟨Rect.unit (s := S768x1024) ![0, 0] ![256, 1024] inb_S768x1024_S256x1024_0_0, A⟩]
      (Rect.unit (s := S768x1024) ![0, 0] ![768, 1024] inb_S768x1024_S768x1024_0_0).toLoadRect : FVec Ideal S768x1024 .bf16) (ix2 r k) = G r k := by
  rw [View.readCov_eq_canon']
  have e : (Rect.unit (s := S768x1024) ![0, 0] ![768, 1024] inb_S768x1024_S768x1024_0_0).toLoadRect.idx (ix2 r k) = ix2 r k := by
    blk_ext [Rect.idx_unit_val]
  show View.canon _ _ = _
  rw [e]
  canon_tiles x h
  all_goals idx_vars x
  all_goals obtain rfl : k = x1 := Fin.ext h1
  · exact (hC x0 k (by omega)).trans (congrArg (fun q => G q k) (Fin.ext h0.symm))
  · exact (hB x0 k (by omega)).trans (congrArg (fun q => G q k) (Fin.ext h0.symm))
  · exact (hA x0 k (by omega)).trans (congrArg (fun q => G q k) (Fin.ext ((Nat.zero_add _).trans h0.symm)))

theorem rows0_at (x : FVec Ideal S1x256x1024 .f32) (v : FVec Ideal S1x1024 .f32) (c d : FVec Ideal S1x8x1024 .f32) (r : Fin 256) (k : Fin 1024) :
    k0_pay3 (F := Ideal) x v c d (ix2 r k)
      = Cert.InProj.rowMod (fun k => x (ix3 0 r k)) (fun k => v (ix2 0 k)) (fun k => c (ix3 0 ⟨r.val % 8, by omega⟩ k))
          (fun k => d (ix3 0 ⟨r.val % 8, by omega⟩ k)) k := by
  unfold Cert.InProj.rowMod Cert.FinalProj.rowNorm
  pointwise [k0_pay3]

theorem rows1_at (x : FVec Ideal S1x256x1024 .f32) (v : FVec Ideal S1x1024 .f32) (c d : FVec Ideal S1x8x1024 .f32) (r : Fin 256) (k : Fin 1024) :
    k0_pay6 (F := Ideal) (k0_pay4 (F := Ideal) x) (k0_pay5 (F := Ideal) x) v c d (ix2 r k)
      = Cert.InProj.rowMod (fun k => x (ix3 0 r k)) (fun k => v (ix2 0 k)) (fun k => c (ix3 0 ⟨r.val % 8, by omega⟩ k))
          (fun k => d (ix3 0 ⟨r.val % 8, by omega⟩ k)) k := by
  unfold Cert.InProj.rowMod Cert.FinalProj.rowNorm
  pointwise [k0_pay6, k0_pay4, k0_pay5]

theorem rows2_at (x : FVec Ideal S1x256x1024 .f32) (v : FVec Ideal S1x1024 .f32) (c d : FVec Ideal S1x8x1024 .f32) (r : Fin 256) (k : Fin 1024) :
    k0_pay10 (F := Ideal) (k0_pay7 (F := Ideal) x) (k0_pay8 (F := Ideal) x) (k0_pay9 (F := Ideal)) v c d (ix2 r k)
      = Cert.InProj.rowMod (fun k => x (ix3 0 r k)) (fun k => v (ix2 0 k)) (fun k => c (ix3 0 ⟨r.val % 8, by omega⟩ k))
          (fun k => d (ix3 0 ⟨r.val % 8, by omega⟩ k)) k := by
  unfold Cert.InProj.rowMod Cert.FinalProj.rowNorm
  pointwise [k0_pay10, k0_pay7, k0_pay8, k0_pay9]

/-! The products, and what the body makes of a block of 128 lanes. -/

theorem gate_at (u : FVec Ideal S768x1024 .bf16) (w : FVec Ideal S1024x1024 .bf16) (r : Fin 768) (n : Fin 1024) :
    k0_pay2 (F := Ideal) u w (ix3 0 r n) = ∑ k, u (ix2 r k) * w (ix2 k n) := by
  pointwise [k0_pay2]

theorem u_at (u : FVec Ideal S768x1024 .bf16) (r : Fin 768) (n : Fin 1024) : k0_pay11 (F := Ideal) u (ix3 0 r n) = u (ix2 r n) := by
  pointwise [k0_pay11]

theorem kvProd_at (u : FVec Ideal S768x1024 .bf16) (w : FVec Ideal S1024x512 .bf16) (r : Fin 768) (n : Fin 512) :
    k0_pay12 (F := Ideal) u w (ix2 r n) = ∑ k, u (ix2 r k) * w (ix2 k n) := by
  pointwise [k0_pay12]

theorem qProd_at (u : FVec Ideal S768x1024 .bf16) (w : FVec Ideal S1024x1024 .bf16) (r : Fin 768) (n : Fin 1024) :
    k0_pay29 (F := Ideal) u w (ix2 r n) = ∑ k, u (ix2 r k) * w (ix2 k n) := by
  pointwise [k0_pay29]

/-- A lane of the block at column `o`, times `c`, with its right neighbour times `sa` and its left one times `sb`. -/
def lane {N : ℕ} (p : Fin N → EReal) (o : ℕ) (ho : o + 128 ≤ N) (l : Fin 128) (c sa sb : EReal) : EReal :=
  p ⟨o + l.val, by omega⟩ * c + p ⟨o + (l.val + 128 - 127) % 128, by omega⟩ * sa + p ⟨o + (l.val + 128 - 1) % 128, by omega⟩ * sb

theorem kv0_at (p : FVec Ideal S768x512 .f32) (c sa sb : FVec Ideal S768x128 .f32) (r : Fin 768) (l : Fin 128) :
    k0_pay17 (F := Ideal) p c sa sb (ix3 0 r l)
      = lane (fun n => p (ix2 r n)) 0 (by decide) l (c (ix2 r l)) (sa (ix2 r l)) (sb (ix2 r l)) := by
  unfold lane
  pointwise [k0_pay17, k0_pay16, k0_pay13, k0_pay14, k0_pay15]

theorem kv1_at (p : FVec Ideal S768x512 .f32) (c sa sb : FVec Ideal S768x128 .f32) (r : Fin 768) (l : Fin 128) :
    k0_pay20 (F := Ideal) p c sa sb (ix3 0 r l)
      = lane (fun n => p (ix2 r n)) 128 (by decide) l (c (ix2 r l)) (sa (ix2 r l)) (sb (ix2 r l)) := by
  unfold lane
  pointwise [k0_pay20, k0_pay19, k0_pay13, k0_pay14, k0_pay15]

theorem kv2_at (p : FVec Ideal S768x512 .f32) (c sa sb : FVec Ideal S768x128 .f32) (r : Fin 768) (l : Fin 128) :
    k0_pay24 (F := Ideal) p (k0_pay13 (F := Ideal) c) (k0_pay14 (F := Ideal) sa) (k0_pay15 (F := Ideal) sb) (ix3 0 r l)
      = lane (fun n => p (ix2 r n)) 256 (by decide) l (c (ix2 r l)) (sa (ix2 r l)) (sb (ix2 r l)) := by
  unfold lane
  pointwise [k0_pay24, k0_pay23, k0_pay13, k0_pay14, k0_pay15]

theorem kv3_at (p : FVec Ideal S768x512 .f32) (c sa sb : FVec Ideal S768x128 .f32) (r : Fin 768) (l : Fin 128) :
    k0_pay27 (F := Ideal) p (k0_pay13 (F := Ideal) c) (k0_pay14 (F := Ideal) sa) (k0_pay15 (F := Ideal) sb) (ix3 0 r l)
      = lane (fun n => p (ix2 r n)) 384 (by decide) l (c (ix2 r l)) (sa (ix2 r l)) (sb (ix2 r l)) := by
  unfold lane
  pointwise [k0_pay27, k0_pay26, k0_pay13, k0_pay14, k0_pay15]

theorem vt0_at (p : FVec Ideal S768x512 .f32) (c sa sb : FVec Ideal S768x128 .f32) (r : Fin 768) (l : Fin 64) :
    k0_pay18 (F := Ideal) p c sa sb (ix3 0 l r)
      = lane (fun n => p (ix2 r n)) 0 (by decide) ⟨64 + l.val, by omega⟩ (c (ix2 r ⟨64 + l.val, by omega⟩)) (sa (ix2 r ⟨64 + l.val, by omega⟩))
          (sb (ix2 r ⟨64 + l.val, by omega⟩)) := by
  unfold lane
  pointwise [k0_pay18, k0_pay16, k0_pay13, k0_pay14, k0_pay15]

theorem vt1_at (p : FVec Ideal S768x512 .f32) (c sa sb : FVec Ideal S768x128 .f32) (r : Fin 768) (l : Fin 64) :
    k0_pay22 (F := Ideal) (k0_pay21 (F := Ideal) p c sa sb) (ix3 0 l r)
      = lane (fun n => p (ix2 r n)) 128 (by decide) ⟨64 + l.val, by omega⟩ (c (ix2 r ⟨64 + l.val, by omega⟩)) (sa (ix2 r ⟨64 + l.val, by omega⟩))
          (sb (ix2 r ⟨64 + l.val, by omega⟩)) := by
  unfold lane
  pointwise [k0_pay22, k0_pay21, k0_pay19, k0_pay13, k0_pay14, k0_pay15]

theorem vt2_at (p : FVec Ideal S768x512 .f32) (c sa sb : FVec Ideal S768x128 .f32) (r : Fin 768) (l : Fin 64) :
    k0_pay25 (F := Ideal) p (k0_pay13 (F := Ideal) c) (k0_pay14 (F := Ideal) sa) (k0_pay15 (F := Ideal) sb) (ix3 0 l r)
      = lane (fun n => p (ix2 r n)) 256 (by decide) ⟨64 + l.val, by omega⟩ (c (ix2 r ⟨64 + l.val, by omega⟩)) (sa (ix2 r ⟨64 + l.val, by omega⟩))
          (sb (ix2 r ⟨64 + l.val, by omega⟩)) := by
  unfold lane
  pointwise [k0_pay25, k0_pay23, k0_pay13, k0_pay14, k0_pay15]

theorem vt3_at (p : FVec Ideal S768x512 .f32) (c sa sb : FVec Ideal S768x128 .f32) (r : Fin 768) (l : Fin 64) :
    k0_pay28 (F := Ideal) p (k0_pay13 (F := Ideal) c) (k0_pay14 (F := Ideal) sa) (k0_pay15 (F := Ideal) sb) (ix3 0 l r)
      = lane (fun n => p (ix2 r n)) 384 (by decide) ⟨64 + l.val, by omega⟩ (c (ix2 r ⟨64 + l.val, by omega⟩)) (sa (ix2 r ⟨64 + l.val, by omega⟩))
          (sb (ix2 r ⟨64 + l.val, by omega⟩)) := by
  unfold lane
  pointwise [k0_pay28, k0_pay26, k0_pay13, k0_pay14, k0_pay15]

theorem q0_at (u : FVec Ideal S768x1024 .bf16) (w : FVec Ideal S1024x1024 .bf16) (c sa sb : FVec Ideal S768x128 .f32) (r : Fin 768) (l : Fin 128) :
    k0_pay33 (F := Ideal) u w c sa sb (ix3 0 r l)
      = lane (fun n => k0_pay29 (F := Ideal) u w (ix2 r n)) 0 (by decide) l (c (ix2 r l)) (sa (ix2 r l)) (sb (ix2 r l)) * Ideal.ofBits FTy.f32 0x3E38AA3B#32 := by
  unfold lane
  unfold k0_pay33
  generalize k0_pay29 (F := Ideal) u w = p
  pointwise [k0_pay30, k0_pay31, k0_pay32]

theorem q1_at (u : FVec Ideal S768x1024 .bf16) (w : FVec Ideal S1024x1024 .bf16) (c sa sb : FVec Ideal S768x128 .f32) (r : Fin 768) (l : Fin 128) :
    k0_pay35 (F := Ideal) (k0_pay34 (F := Ideal) u w c sa sb) (ix3 0 r l)
      = lane (fun n => k0_pay29 (F := Ideal) u w (ix2 r n)) 128 (by decide) l (c (ix2 r l)) (sa (ix2 r l)) (sb (ix2 r l)) * Ideal.ofBits FTy.f32 0x3E38AA3B#32 := by
  unfold lane
  unfold k0_pay34
  generalize k0_pay29 (F := Ideal) u w = p
  pointwise [k0_pay35, k0_pay30, k0_pay31, k0_pay32]

theorem q2_at (u : FVec Ideal S768x1024 .bf16) (w : FVec Ideal S1024x1024 .bf16) (c sa sb : FVec Ideal S768x128 .f32) (r : Fin 768) (l : Fin 128) :
    k0_pay36 (F := Ideal) (k0_pay29 (F := Ideal) u w) (k0_pay30 (F := Ideal) c) (k0_pay31 (F := Ideal) sa) (k0_pay32 (F := Ideal) sb) (ix3 0 r l)
      = lane (fun n => k0_pay29 (F := Ideal) u w (ix2 r n)) 256 (by decide) l (c (ix2 r l)) (sa (ix2 r l)) (sb (ix2 r l)) * Ideal.ofBits FTy.f32 0x3E38AA3B#32 := by
  unfold lane
  generalize k0_pay29 (F := Ideal) u w = p
  pointwise [k0_pay36, k0_pay30, k0_pay31, k0_pay32]

theorem q3_at (u : FVec Ideal S768x1024 .bf16) (w : FVec Ideal S1024x1024 .bf16) (c sa sb : FVec Ideal S768x128 .f32) (r : Fin 768) (l : Fin 128) :
    k0_pay37 (F := Ideal) (k0_pay29 (F := Ideal) u w) (k0_pay30 (F := Ideal) c) (k0_pay31 (F := Ideal) sa) (k0_pay32 (F := Ideal) sb) (ix3 0 r l)
      = lane (fun n => k0_pay29 (F := Ideal) u w (ix2 r n)) 384 (by decide) l (c (ix2 r l)) (sa (ix2 r l)) (sb (ix2 r l)) * Ideal.ofBits FTy.f32 0x3E38AA3B#32 := by
  unfold lane
  generalize k0_pay29 (F := Ideal) u w = p
  pointwise [k0_pay37, k0_pay30, k0_pay31, k0_pay32]

theorem q4_at (u : FVec Ideal S768x1024 .bf16) (w : FVec Ideal S1024x1024 .bf16) (c sa sb : FVec Ideal S768x128 .f32) (r : Fin 768) (l : Fin 128) :
    k0_pay39 (F := Ideal) (k0_pay38 (F := Ideal) (k0_pay29 (F := Ideal) u w) (k0_pay30 (F := Ideal) c) (k0_pay31 (F := Ideal) sa) (k0_pay32 (F := Ideal) sb)) (ix3 0 r l)
      = lane (fun n => k0_pay29 (F := Ideal) u w (ix2 r n)) 512 (by decide) l (c (ix2 r l)) (sa (ix2 r l)) (sb (ix2 r l)) * Ideal.ofBits FTy.f32 0x3E38AA3B#32 := by
  unfold lane
  generalize k0_pay29 (F := Ideal) u w = p
  pointwise [k0_pay39, k0_pay38, k0_pay30, k0_pay31, k0_pay32]

theorem q5_at (u : FVec Ideal S768x1024 .bf16) (w : FVec Ideal S1024x1024 .bf16) (c sa sb : FVec Ideal S768x128 .f32) (r : Fin 768) (l : Fin 128) :
    k0_pay40 (F := Ideal) (k0_pay29 (F := Ideal) u w) (k0_pay30 (F := Ideal) c) (k0_pay31 (F := Ideal) sa) (k0_pay32 (F := Ideal) sb) (ix3 0 r l)
      = lane (fun n => k0_pay29 (F := Ideal) u w (ix2 r n)) 640 (by decide) l (c (ix2 r l)) (sa (ix2 r l)) (sb (ix2 r l)) * Ideal.ofBits FTy.f32 0x3E38AA3B#32 := by
  unfold lane
  generalize k0_pay29 (F := Ideal) u w = p
  pointwise [k0_pay40, k0_pay30, k0_pay31, k0_pay32]

theorem q6_at (u : FVec Ideal S768x1024 .bf16) (w : FVec Ideal S1024x1024 .bf16) (c sa sb : FVec Ideal S768x128 .f32) (r : Fin 768) (l : Fin 128) :
    k0_pay41 (F := Ideal) (k0_pay29 (F := Ideal) u w) (k0_pay30 (F := Ideal) c) (k0_pay31 (F := Ideal) sa) (k0_pay32 (F := Ideal) sb) (ix3 0 r l)
      = lane (fun n => k0_pay29 (F := Ideal) u w (ix2 r n)) 768 (by decide) l (c (ix2 r l)) (sa (ix2 r l)) (sb (ix2 r l)) * Ideal.ofBits FTy.f32 0x3E38AA3B#32 := by
  unfold lane
  generalize k0_pay29 (F := Ideal) u w = p
  pointwise [k0_pay41, k0_pay30, k0_pay31, k0_pay32]

theorem q7_at (u : FVec Ideal S768x1024 .bf16) (w : FVec Ideal S1024x1024 .bf16) (c sa sb : FVec Ideal S768x128 .f32) (r : Fin 768) (l : Fin 128) :
    k0_pay1 (F := Ideal) (k0_pay42 (F := Ideal) (k0_pay29 (F := Ideal) u w) (k0_pay30 (F := Ideal) c) (k0_pay31 (F := Ideal) sa) (k0_pay32 (F := Ideal) sb)) (FloatOps.ofBits FTy.f32 0x3E38AA3B#32) (ix3 0 r l)
      = lane (fun n => k0_pay29 (F := Ideal) u w (ix2 r n)) 896 (by decide) l (c (ix2 r l)) (sa (ix2 r l)) (sb (ix2 r l)) * Ideal.ofBits FTy.f32 0x3E38AA3B#32 := by
  unfold lane
  generalize k0_pay29 (F := Ideal) u w = p
  pointwise [k0_pay1, k0_pay42, k0_pay30, k0_pay31, k0_pay32]

end Cert.EvenProj

end
-- ==== Proof.EvenKV.lean ====
/-
The even layers' input projection: the reference's keys and values, entry by entry, over the extended reals.
-/
module

public import proofs.«01_k».proof.Defs
public import proofs.«01_k».proof.Proof.Scalar
public import proofs.«01_k».proof.Proof.InProj
public import proofs.«01_k».proof.Proof.EvenSpec
public import proofs.«01_k».proof.Proof.Gen.Reference7Ideal.Run
public import Idealize.ShloMosaic.Lib.Pipeline.ValueKit
public import Idealize.ShloMosaic.Lib.Pipeline.Value
public import Idealize.ShloMosaic.Lib.Pointwise
public import Idealize.ShloMosaic.Lib.Claim
public import Idealize.ShloMosaic.Lib.Quiescent
public import Idealize.ShloMosaic.Lib.IdealHost

@[expose] public section

set_option maxRecDepth 16384
set_option maxHeartbeats 2000000

noncomputable section

namespace Cert.EvenProj

open Idealize.ShloMosaic Idealize.ShloMosaic.TcCoe Idealize.SL.Sem Idealize.ShloMosaic.Tactic

open Cert.Reference7Ideal Cert.Reference7Ideal.Gen

theorem KV_at (pc : FVec Ideal S8x256x4608 .f32) (pl : FVec Ideal S8x2048x4608 .f32) (rk : FVec Ideal S8x2048x4x64 .f32) (b : Fin 8) (j : Fin 2304) (n : Fin 512) :
    KV pc pl rk (ix3 b j n) = if h : n.val % 128 < 64 then
        if h' : j.val < 256 then pc (ix3 b ⟨j.val, h'⟩ ⟨1024 + (n.val / 128 * 64 + n.val % 128), by omega⟩)
        else rk (ix4 b ⟨j.val - 256, by omega⟩ ⟨n.val / 128, by omega⟩ ⟨n.val % 128, h⟩)
      else if h' : j.val < 256 then pc (ix3 b ⟨j.val, h'⟩ ⟨1280 + (n.val / 128 * 64 + (n.val % 128 - 64)), by omega⟩)
        else pl (ix3 b ⟨j.val - 256, by omega⟩ ⟨1280 + (n.val / 128 * 64 + (n.val % 128 - 64)), by omega⟩) := by
  pointwise [KV]

section
variable (a0 : FVec Ideal S8x2304x1024 .f32) (a1 a2 : FVec Ideal S8x1024 .f32) (a3 a4 a5 : FVec Ideal S1024 .f32) (a6 : FVec Ideal S1024x4608 .f32)

theorem refKV_at (b : Fin 8) (j : Fin 2304) (n : Fin 512) : refKV a0 a1 a2 a3 a4 a5 a6 (ix3 b j n)
    = if h : n.val % 128 < 64 then
        if j.val < 256 then P a0 a1 a2 a3 a4 a5 a6 b j ⟨1024 + (n.val / 128 * 64 + n.val % 128), by omega⟩
        else turned (P a0 a1 a2 a3 a4 a5 a6 b j) (cosAt j) (sinAt j) (1024 + n.val / 128 * 64) (by omega) ⟨n.val % 128, h⟩
      else P a0 a1 a2 a3 a4 a5 a6 b j ⟨1280 + (n.val / 128 * 64 + (n.val % 128 - 64)), by omega⟩ := by
  rw [refKV, KV_at]
  by_cases h : n.val % 128 < 64 <;> by_cases hj : j.val < 256 <;> simp only [h, hj, dite_true, dite_false, if_true, if_false]
  · exact PC_row _ _ _ _ _ _ _ _ _ hj _ _
  · rw [ROTK_at]
    simp only [PL_row a0 a1 a2 a3 a4 a5 a6 b j hj]
    rfl
  · exact PC_row _ _ _ _ _ _ _ _ _ hj _ _
  · exact PL_row _ _ _ _ _ _ _ _ _ hj _ _

end

end Cert.EvenProj

end
-- ==== Proof.EvenQ.lean ====
/-
The even layers' input projection: the reference's queries, entry by entry, over the extended reals.
-/
module

public import proofs.«01_k».proof.Defs
public import proofs.«01_k».proof.Proof.Scalar
public import proofs.«01_k».proof.Proof.InProj
public import proofs.«01_k».proof.Proof.EvenSpec
public import proofs.«01_k».proof.Proof.Gen.Reference7Ideal.Run
public import Idealize.ShloMosaic.Lib.Pipeline.ValueKit
public import Idealize.ShloMosaic.Lib.Pipeline.Value
public import Idealize.ShloMosaic.Lib.Pointwise
public import Idealize.ShloMosaic.Lib.Claim
public import Idealize.ShloMosaic.Lib.Quiescent
public import Idealize.ShloMosaic.Lib.IdealHost

@[expose] public section

set_option maxRecDepth 16384
set_option maxHeartbeats 2000000

noncomputable section

namespace Cert.EvenProj

open Idealize.ShloMosaic Idealize.ShloMosaic.TcCoe Idealize.SL.Sem Idealize.ShloMosaic.Tactic

open Cert.Reference7Ideal Cert.Reference7Ideal.Gen

theorem Q_at (pc : FVec Ideal S8x256x4608 .f32) (rq : FVec Ideal S8x2048x16x64 .f32) (b : Fin 8) (j : Fin 2304) (n : Fin 1024) :
    Q pc rq (ix3 b j n) = (if h : j.val < 256 then pc (ix3 b ⟨j.val, h⟩ ⟨2560 + n.val, by omega⟩)
      else rq (ix4 b ⟨j.val - 256, by omega⟩ ⟨n.val / 64, by omega⟩ ⟨n.val % 64, by omega⟩)) * Ideal.ofBits FTy.f32 0x3E38AA3B#32 := by
  pointwise [Q]

section
variable (a0 : FVec Ideal S8x2304x1024 .f32) (a1 a2 : FVec Ideal S8x1024 .f32) (a3 a4 a5 : FVec Ideal S1024 .f32) (a6 : FVec Ideal S1024x4608 .f32)

theorem refQ_at (b : Fin 8) (j : Fin 2304) (n : Fin 1024) : refQ a0 a1 a2 a3 a4 a5 a6 (ix3 b j n)
    = (if j.val < 256 then P a0 a1 a2 a3 a4 a5 a6 b j ⟨2560 + n.val, by omega⟩
        else turned (P a0 a1 a2 a3 a4 a5 a6 b j) (cosAt j) (sinAt j) (2560 + n.val / 64 * 64) (by omega) ⟨n.val % 64, by omega⟩)
      * Ideal.ofBits FTy.f32 0x3E38AA3B#32 := by
  rw [refQ, Q_at]
  by_cases hj : j.val < 256 <;> simp only [hj, dite_true, dite_false, if_true, if_false]
  · rw [PC_row a0 a1 a2 a3 a4 a5 a6 b j hj]
  · rw [ROTQ_at]
    simp only [PL_row a0 a1 a2 a3 a4 a5 a6 b j hj]
    rfl

end

end Cert.EvenProj

end
-- ==== Proof.EvenClose.lean ====
/-
The even layers' input projection: the kernel's lanes against the reference's entries.
-/
module

public import proofs.«01_k».proof.Defs
public import proofs.«01_k».proof.Proof.Scalar
public import proofs.«01_k».proof.Proof.InProj
public import proofs.«01_k».proof.Proof.EvenRows
public import proofs.«01_k».proof.Proof.EvenKV
public import proofs.«01_k».proof.Proof.EvenQ
public import proofs.«01_k».proof.Proof.Gen.Reference7Ideal.Run
public import Idealize.ShloMosaic.Lib.Pipeline.ValueKit
public import Idealize.ShloMosaic.Lib.Pipeline.Value
public import Idealize.ShloMosaic.Lib.Pointwise
public import Idealize.ShloMosaic.Lib.Claim
public import Idealize.ShloMosaic.Lib.Quiescent
public import Idealize.ShloMosaic.Lib.IdealHost

@[expose] public section

set_option maxRecDepth 16384
set_option maxHeartbeats 2000000

noncomputable section

namespace Cert.EvenProj

open Idealize.ShloMosaic Idealize.ShloMosaic.TcCoe Idealize.SL.Sem Idealize.ShloMosaic.Tactic

open Cert.InProj (row)

/-! The lanes of the keys, values and queries against the reference's entries, given what the products and the tables hold. -/

section
variable (a0 : FVec Ideal Cert.Reference7Ideal.S8x2304x1024 .f32) (a1 a2 : FVec Ideal Cert.Reference7Ideal.S8x1024 .f32)
  (a3 a4 a5 : FVec Ideal Cert.Reference7Ideal.S1024 .f32) (a6 : FVec Ideal Cert.Reference7Ideal.S1024x4608 .f32)

theorem q_close (b : Fin 8) (j : Fin 2304) (p : Fin 1024 → EReal) (o : ℕ) (ho : o % 128 = 0) (ho' : o + 128 ≤ 1024) (l : Fin 128) {c sa sb : EReal}
    (hp : ∀ n h, p n = P a0 a1 a2 a3 a4 a5 a6 b j ⟨2560 + n.val, h⟩) (hc : c = if j.val < 256 then 1 else cosAt j ⟨l.val % 64 / 2, by omega⟩)
    (ha : sa = if j.val < 256 then 0 else if l.val % 64 % 2 < 1 then -sinAt j ⟨l.val % 64 / 2, by omega⟩ else 0)
    (hb : sb = if j.val < 256 then 0 else if l.val % 64 % 2 < 1 then 0 else sinAt j ⟨l.val % 64 / 2, by omega⟩) :
    lane p o ho' l c sa sb * Ideal.ofBits FTy.f32 0x3E38AA3B#32 = refQ a0 a1 a2 a3 a4 a5 a6 (ix3 b j ⟨o + l.val, by omega⟩) := by
  have e : (o + l.val) % 64 = l.val % 64 := by omega
  rw [refQ_at]
  refine congrArg (· * Ideal.ofBits FTy.f32 0x3E38AA3B#32) ?_
  refine rope_eq (P a0 a1 a2 a3 a4 a5 a6 b j) (cosAt j) (sinAt j) (2560 + (o + l.val) / 64 * 64) _ ⟨(o + l.val) % 64, by omega⟩ (j.val < 256)
    ⟨2560 + (o + l.val), by omega⟩ (by show 2560 + (o + l.val) = 2560 + (o + l.val) / 64 * 64 + (o + l.val) % 64; omega) (hp _ _) (fun hd h => ?_) (fun hd h => ?_) ?_ ?_ ?_
  · have hd' : (o + l.val) % 64 % 2 < 1 := hd
    exact (hp _ (by dsimp only; omega)).trans (congrArg _ (Fin.ext (by show 2560 + (o + (l.val + 128 - 127) % 128) = 2560 + (o + l.val) + 1; omega)))
  · have hd' : ¬ (o + l.val) % 64 % 2 < 1 := hd
    exact (hp _ (by dsimp only; omega)).trans (congrArg _ (Fin.ext (by show 2560 + (o + (l.val + 128 - 1) % 128) = 2560 + (o + l.val) - 1; omega)))
  · simp only [e]; exact hc
  · simp only [e]; exact ha
  · simp only [e]; exact hb

theorem kv_low (b : Fin 8) (j : Fin 2304) (p : Fin 512 → EReal) (o : ℕ) (ho : o % 128 = 0) (ho' : o + 128 ≤ 512) (l : Fin 128) (hl : l.val < 64) {c sa sb : EReal}
    (hp : ∀ n h, p n = P a0 a1 a2 a3 a4 a5 a6 b j ⟨col (2048 + n.val), h⟩)
    (hc : c = if j.val < 256 then 1 else if l.val < 64 then cosAt j ⟨l.val % 64 / 2, by omega⟩ else 1)
    (ha : sa = if j.val < 256 then 0 else if l.val < 64 then if l.val % 64 % 2 < 1 then -sinAt j ⟨l.val % 64 / 2, by omega⟩ else 0 else 0)
    (hb : sb = if j.val < 256 then 0 else if l.val < 64 then if l.val % 64 % 2 < 1 then 0 else sinAt j ⟨l.val % 64 / 2, by omega⟩ else 0) :
    lane p o ho' l c sa sb = refKV a0 a1 a2 a3 a4 a5 a6 (ix3 b j ⟨o + l.val, by omega⟩) := by
  have e : (o + l.val) % 128 = l.val % 64 := by omega
  have hlt : (o + l.val) % 128 < 64 := by omega
  rw [refKV_at, dif_pos hlt]
  simp only [hl, if_true] at hc ha hb
  refine rope_eq (P a0 a1 a2 a3 a4 a5 a6 b j) (cosAt j) (sinAt j) (1024 + (o + l.val) / 128 * 64) _ ⟨(o + l.val) % 128, hlt⟩ (j.val < 256)
    ⟨1024 + ((o + l.val) / 128 * 64 + (o + l.val) % 128), by omega⟩ (Nat.add_assoc _ _ _).symm ?_ (fun hd h => ?_) (fun hd h => ?_) ?_ ?_ ?_
  · exact (hp _ (by unfold col; dsimp only; split_ifs <;> omega)).trans (congrArg _ (Fin.ext (by unfold col; dsimp only; split_ifs <;> omega)))
  · have hd' : (o + l.val) % 128 % 2 < 1 := hd
    exact (hp _ (by unfold col; dsimp only; split_ifs <;> omega)).trans (congrArg _ (Fin.ext (by unfold col; dsimp only; split_ifs <;> omega)))
  · have hd' : ¬ (o + l.val) % 128 % 2 < 1 := hd
    exact (hp _ (by unfold col; dsimp only; split_ifs <;> omega)).trans (congrArg _ (Fin.ext (by unfold col; dsimp only; split_ifs <;> omega)))
  · simp only [e]; exact hc
  · simp only [e]; exact ha
  · simp only [e]; exact hb

theorem kv_high (b : Fin 8) (j : Fin 2304) (p : Fin 512 → EReal) (o : ℕ) (ho : o % 128 = 0) (ho' : o + 128 ≤ 512) (l : Fin 128) (hl : ¬ l.val < 64) {c sa sb : EReal}
    (hp : ∀ n h, p n = P a0 a1 a2 a3 a4 a5 a6 b j ⟨col (2048 + n.val), h⟩)
    (hc : c = if j.val < 256 then 1 else if l.val < 64 then cosAt j ⟨l.val % 64 / 2, by omega⟩ else 1)
    (ha : sa = if j.val < 256 then 0 else if l.val < 64 then if l.val % 64 % 2 < 1 then -sinAt j ⟨l.val % 64 / 2, by omega⟩ else 0 else 0)
    (hb : sb = if j.val < 256 then 0 else if l.val < 64 then if l.val % 64 % 2 < 1 then 0 else sinAt j ⟨l.val % 64 / 2, by omega⟩ else 0) (n : Fin 4608)
    (hn : n.val = 1280 + (o / 128 * 64 + (l.val - 64))) : lane p o ho' l c sa sb = P a0 a1 a2 a3 a4 a5 a6 b j n := by
  simp only [hl, if_false, ite_self] at hc ha hb
  subst hc ha hb
  unfold lane
  simp only [mul_one, mul_zero, add_zero]
  exact (hp _ (by unfold col; dsimp only; split_ifs <;> omega)).trans (congrArg _ (Fin.ext (by rw [hn]; unfold col; dsimp only; split_ifs <;> omega)))

theorem kv_close (b : Fin 8) (j : Fin 2304) (p : Fin 512 → EReal) (o : ℕ) (ho : o % 128 = 0) (ho' : o + 128 ≤ 512) (l : Fin 128) {c sa sb : EReal}
    (hp : ∀ n h, p n = P a0 a1 a2 a3 a4 a5 a6 b j ⟨col (2048 + n.val), h⟩)
    (hc : c = if j.val < 256 then 1 else if l.val < 64 then cosAt j ⟨l.val % 64 / 2, by omega⟩ else 1)
    (ha : sa = if j.val < 256 then 0 else if l.val < 64 then if l.val % 64 % 2 < 1 then -sinAt j ⟨l.val % 64 / 2, by omega⟩ else 0 else 0)
    (hb : sb = if j.val < 256 then 0 else if l.val < 64 then if l.val % 64 % 2 < 1 then 0 else sinAt j ⟨l.val % 64 / 2, by omega⟩ else 0) :
    lane p o ho' l c sa sb = refKV a0 a1 a2 a3 a4 a5 a6 (ix3 b j ⟨o + l.val, by omega⟩) := by
  by_cases hl : l.val < 64
  · exact kv_low a0 a1 a2 a3 a4 a5 a6 b j p o ho ho' l hl hp hc ha hb
  · have hge : ¬ (o + l.val) % 128 < 64 := by omega
    rw [refKV_at, dif_neg hge]
    exact kv_high a0 a1 a2 a3 a4 a5 a6 b j p o ho ho' l hl hp hc ha hb _ (by dsimp only; omega)

theorem vt_close (b : Fin 8) (j : Fin 2304) (p : Fin 512 → EReal) (o : ℕ) (ho : o % 128 = 0) (ho' : o + 128 ≤ 512) (l : Fin 64) {c sa sb : EReal}
    (hp : ∀ n h, p n = P a0 a1 a2 a3 a4 a5 a6 b j ⟨col (2048 + n.val), h⟩)
    (hc : c = if j.val < 256 then 1 else if 64 + l.val < 64 then cosAt j ⟨(64 + l.val) % 64 / 2, by omega⟩ else 1)
    (ha : sa = if j.val < 256 then 0 else if 64 + l.val < 64 then if (64 + l.val) % 64 % 2 < 1 then -sinAt j ⟨(64 + l.val) % 64 / 2, by omega⟩ else 0 else 0)
    (hb : sb = if j.val < 256 then 0 else if 64 + l.val < 64 then if (64 + l.val) % 64 % 2 < 1 then 0 else sinAt j ⟨(64 + l.val) % 64 / 2, by omega⟩ else 0)
    (n : Fin 256) (hn : n.val = o / 128 * 64 + l.val) :
    lane p o ho' ⟨64 + l.val, by omega⟩ c sa sb = refVT a0 a1 a2 a3 a4 a5 a6 (ix3 b n j) := by
  rw [refVT_at]
  exact kv_high a0 a1 a2 a3 a4 a5 a6 b j p o ho ho' ⟨64 + l.val, by omega⟩ (by dsimp only; omega) hp hc ha hb _ (by dsimp only; omega)

end

end Cert.EvenProj

end
-- ==== Proof.EvenProj.lean ====
/-
The even layers' input projection: the kernel's five results are the reference's.
-/
module

public import proofs.«01_k».proof.Defs
public import proofs.«01_k».proof.Proof.Scalar
public import proofs.«01_k».proof.Proof.InProj
public import proofs.«01_k».proof.Proof.EvenClose
public import proofs.«01_k».proof.Proof.EvenKV
public import proofs.«01_k».proof.Proof.EvenQ
public import proofs.«01_k».proof.Proof.Gen.Reference7Ideal.Run
public import Idealize.ShloMosaic.Lib.Pipeline.ValueKit
public import Idealize.ShloMosaic.Lib.Pipeline.Value
public import Idealize.ShloMosaic.Lib.Pointwise
public import Idealize.ShloMosaic.Lib.Claim
public import Idealize.ShloMosaic.Lib.Quiescent
public import Idealize.ShloMosaic.Lib.IdealHost

@[expose] public section

set_option maxRecDepth 16384
set_option maxHeartbeats 2000000

noncomputable section

namespace Cert.EvenProj

open Idealize.ShloMosaic Idealize.ShloMosaic.TcCoe Idealize.SL.Sem Idealize.ShloMosaic.Tactic

open Cert.Kernel7Ideal Cert.Kernel7Ideal.Gen Cert.Kernel7Ideal.EvenIn
open Cert.InProj (row)

variable (m : (ℓ : Loc nD τ sig) → Buf (Elt Ideal) ℓ)

theorem rows_close (a0 : FVec Ideal S8x2304x1024 .f32) (a1 a2 : FVec Ideal S8x1024 .f32) (a3 a4 a5 : FVec Ideal S1024 .f32)
    (b : Fin 8) (j : Fin 2304) {x v c d : Fin 1024 → EReal}
    (hx : ∀ k, x k = a0 (ix3 b j k)) (hv : ∀ k, v k = a5 (ix1 k))
    (hc : ∀ k, c k = if j.val < 256 then a4 (ix1 k) else a2 (ix2 b k)) (hd : ∀ k, d k = if j.val < 256 then a3 (ix1 k) else a1 (ix2 b k)) (k : Fin 1024) :
    Cert.InProj.rowMod x v c d k = row a0 a1 a2 a3 a4 a5 b j k := by
  obtain rfl : x = fun k => a0 (ix3 b j k) := funext hx
  obtain rfl : v = fun k => a5 (ix1 k) := funext hv
  obtain rfl : c = fun k => if j.val < 256 then a4 (ix1 k) else a2 (ix2 b k) := funext hc
  obtain rfl : d = fun k => if j.val < 256 then a3 (ix1 k) else a1 (ix2 b k) := funext hd
  rfl

/-- The activations read back, for a grid point's rows. -/
theorem stored (c : Dev nD) (t : Fin cfg0.N) (r : Fin 768) (k : Fin 1024) (h₀ h₁) :
    ((View.whole cc0_scratch0).readCov (Val := Elt Ideal)
      [⟨Rect.unit (s := S768x1024) ![512, 0] ![256, 1024] inb_S768x1024_S256x1024_512_0,
          k0_pay10 (F := Ideal) (k0_pay7 (F := Ideal) (View.ld (Val := Elt Ideal) (e' := .f32) (iblk m c 0 t) (Rect.unit (s := S1x768x1024) ![0, 512, 0] ![1, 256, 1024] inb_S1x768x1024_S1x256x1024_0_512_0)))
            (k0_pay8 (F := Ideal) (View.ld (Val := Elt Ideal) (e' := .f32) (iblk m c 0 t) (Rect.unit (s := S1x768x1024) ![0, 512, 0] ![1, 256, 1024] inb_S1x768x1024_S1x256x1024_0_512_0)))
            (k0_pay9 (F := Ideal)) (iblk m c 7 t) (iblk m c 6 t) (iblk m c 3 t)⟩,
        ⟨Rect.unit (s := S768x1024) ![256, 0] ![256, 1024] inb_S768x1024_S256x1024_256_0,
          k0_pay6 (F := Ideal) (k0_pay4 (F := Ideal) (View.ld (Val := Elt Ideal) (e' := .f32) (iblk m c 0 t) (Rect.unit (s := S1x768x1024) ![0, 256, 0] ![1, 256, 1024] inb_S1x768x1024_S1x256x1024_0_256_0)))
            (k0_pay5 (F := Ideal) (View.ld (Val := Elt Ideal) (e' := .f32) (iblk m c 0 t) (Rect.unit (s := S1x768x1024) ![0, 256, 0] ![1, 256, 1024] inb_S1x768x1024_S1x256x1024_0_256_0)))
            (iblk m c 7 t) (iblk m c 5 t) (iblk m c 2 t)⟩,
        ⟨Rect.unit (s := S768x1024) ![0, 0] ![256, 1024] inb_S768x1024_S256x1024_0_0,
          k0_pay3 (F := Ideal) (View.ld (Val := Elt Ideal) (e' := .f32) (iblk m c 0 t) (Rect.unit (s := S1x768x1024) ![0, 0, 0] ![1, 256, 1024] inb_S1x768x1024_S1x256x1024_0_0_0)) (iblk m c 7 t)
            (iblk m c 4 t) (iblk m c 1 t)⟩]
      (Rect.unit (s := S768x1024) ![0, 0] ![768, 1024] inb_S768x1024_S768x1024_0_0).toLoadRect : FVec Ideal S768x1024 .bf16) (ix2 r k)
      = row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val / 3, h₀⟩ ⟨768 * (t.val % 3) + r.val, h₁⟩ k := by
  have ht : t.val < 24 := (idx t).2.2.2.2.2.2.2.2.2.2.2.2.2.2.2.2.2.2.2.2
  refine back _ (fun r k => row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val / 3, h₀⟩ ⟨768 * (t.val % 3) + r.val, by omega⟩ k) _ _ _
    (fun r k h => ?_) (fun r k h => ?_) (fun r k h => ?_) r k
  · refine (rows0_at _ _ _ _ r k).trans ?_
    show Cert.InProj.rowMod _ _ _ _ k = row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val / 3, h₀⟩ ⟨768 * (t.val % 3) + (0 + r.val), by omega⟩ k
    refine rows_close _ _ _ _ _ _ _ _ (fun k => ?_) (iblk7 m c t) (fun k => ?_) (fun k => ?_) k
    · exact (ld0_at _ _ _).trans (iblk0 m c t ⟨0 + r.val, by omega⟩ k _ _)
    · exact iblk4 m c t _ k _ (by show 768 * (t.val % 3) + (0 + r.val) < 256 ↔ _; omega) _
    · exact iblk1 m c t _ k _ (by show 768 * (t.val % 3) + (0 + r.val) < 256 ↔ _; omega) _
  · refine (rows1_at _ _ _ _ r k).trans ?_
    show Cert.InProj.rowMod _ _ _ _ k = row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val / 3, h₀⟩ ⟨768 * (t.val % 3) + (256 + r.val), by omega⟩ k
    refine rows_close _ _ _ _ _ _ _ _ (fun k => ?_) (iblk7 m c t) (fun k => ?_) (fun k => ?_) k
    · exact (ld1_at _ _ _).trans (iblk0 m c t ⟨256 + r.val, by omega⟩ k _ _)
    · exact iblk5 m c t _ k _ (by show ¬ 768 * (t.val % 3) + (256 + r.val) < 256; omega) _
    · exact iblk2 m c t _ k _ (by show ¬ 768 * (t.val % 3) + (256 + r.val) < 256; omega) _
  · refine (rows2_at _ _ _ _ r k).trans ?_
    show Cert.InProj.rowMod _ _ _ _ k = row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val / 3, h₀⟩ ⟨768 * (t.val % 3) + (512 + r.val), by omega⟩ k
    refine rows_close _ _ _ _ _ _ _ _ (fun k => ?_) (iblk7 m c t) (fun k => ?_) (fun k => ?_) k
    · exact (ld2_at _ _ _).trans (iblk0 m c t ⟨512 + r.val, by omega⟩ k _ _)
    · exact iblk6 m c t _ k _ (by show ¬ 768 * (t.val % 3) + (512 + r.val) < 256; omega) _
    · exact iblk3 m c t _ k _ (by show ¬ 768 * (t.val % 3) + (512 + r.val) < 256; omega) _

theorem wq (c : Dev nD) (t : Fin cfg0.N) (k : Fin 1024) (n : Fin 1024) (h) :
    View.ld (Val := Elt Ideal) (e' := .bf16) (iblk m c 8 t) (Rect.unit (s := S1024x2560) ![0, 0] ![1024, 1024] inb_S1024x2560_S1024x1024_0_0) (ix2 k n)
      = m ((c : Thread nD τ).loc main_arg6) (ix2 k ⟨col (0 + n.val), h⟩) := by
  have e : View.ld (Val := Elt Ideal) (e' := .bf16) (iblk m c 8 t) (Rect.unit (s := S1024x2560) ![0, 0] ![1024, 1024] inb_S1024x2560_S1024x1024_0_0) (ix2 k n)
      = iblk m c 8 t (ix2 k ⟨0 + n.val, by omega⟩) := by
    pointwise []
  exact e.trans ((iblk8 m c t k _).trans (weight_at m c k _ h))

theorem wgate (c : Dev nD) (t : Fin cfg0.N) (k : Fin 1024) (n : Fin 1024) (h) :
    View.ld (Val := Elt Ideal) (e' := .bf16) (iblk m c 8 t) (Rect.unit (s := S1024x2560) ![0, 1024] ![1024, 1024] inb_S1024x2560_S1024x1024_0_1024) (ix2 k n)
      = m ((c : Thread nD τ).loc main_arg6) (ix2 k ⟨col (1024 + n.val), h⟩) := by
  have e : View.ld (Val := Elt Ideal) (e' := .bf16) (iblk m c 8 t) (Rect.unit (s := S1024x2560) ![0, 1024] ![1024, 1024] inb_S1024x2560_S1024x1024_0_1024) (ix2 k n)
      = iblk m c 8 t (ix2 k ⟨1024 + n.val, by omega⟩) := by
    pointwise []
  exact e.trans ((iblk8 m c t k _).trans (weight_at m c k _ h))

theorem wkv (c : Dev nD) (t : Fin cfg0.N) (k : Fin 1024) (n : Fin 512) (h) :
    View.ld (Val := Elt Ideal) (e' := .bf16) (iblk m c 8 t) (Rect.unit (s := S1024x2560) ![0, 2048] ![1024, 512] inb_S1024x2560_S1024x512_0_2048) (ix2 k n)
      = m ((c : Thread nD τ).loc main_arg6) (ix2 k ⟨col (2048 + n.val), h⟩) := by
  have e : View.ld (Val := Elt Ideal) (e' := .bf16) (iblk m c 8 t) (Rect.unit (s := S1024x2560) ![0, 2048] ![1024, 512] inb_S1024x2560_S1024x512_0_2048) (ix2 k n)
      = iblk m c 8 t (ix2 k ⟨2048 + n.val, by omega⟩) := by
    pointwise []
  exact e.trans ((iblk8 m c t k _).trans (weight_at m c k _ h))

/-! A grid point's lanes, whatever holds the activations `u` and the weight's columns `w`. -/

section
variable (c : Dev nD) (t : Fin cfg0.N) (r : Fin 768) (h₀ : t.val / 3 < 8) (h₁ : 768 * (t.val % 3) + r.val < 2304) (u : FVec Ideal S768x1024 .bf16)
  (hu : ∀ k, u (ix2 r k) = row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val / 3, h₀⟩ ⟨768 * (t.val % 3) + r.val, h₁⟩ k)
include hu

theorem qLane (w : FVec Ideal S1024x1024 .bf16) (hw : ∀ k (n : Fin 1024) h, w (ix2 k n) = m ((c : Thread nD τ).loc main_arg6) (ix2 k ⟨col (0 + n.val), h⟩))
    (l : Fin 128) (o : ℕ) (ho : o % 128 = 0) (ho' : o + 128 ≤ 1024) :
    lane (fun n => k0_pay29 (F := Ideal) u w (ix2 r n)) o ho' l (iblk m c 12 t (ix2 r l)) (iblk m c 13 t (ix2 r l)) (iblk m c 14 t (ix2 r l)) * Ideal.ofBits FTy.f32 0x3E38AA3B#32
      = refQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 ⟨t.val / 3, h₀⟩ ⟨768 * (t.val % 3) + r.val, h₁⟩ ⟨o + l.val, by omega⟩) := by
  refine q_close (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) _ _ _ o ho ho' l (fun n h => ?_)
    ((iblk12 m c t r l h₁).trans (cosQ_at m c _ l)) ((iblk13 m c t r l h₁).trans (evenQ_at m c _ l)) ((iblk14 m c t r l h₁).trans (oddQ_at m c _ l))
  have e : col (0 + n.val) = 2560 + n.val := by unfold col; split_ifs <;> omega
  exact (qProd_at u w r n).trans (Finset.sum_congr rfl fun k _ => congrArg₂ (· * ·) (hu k) ((hw k n (e ▸ h)).trans
    (congrArg (fun q => m ((c : Thread nD τ).loc main_arg6) (ix2 k q)) (Fin.ext e))))

section
variable (w : FVec Ideal S1024x512 .bf16) (hw : ∀ k (n : Fin 512) h, w (ix2 k n) = m ((c : Thread nD τ).loc main_arg6) (ix2 k ⟨col (2048 + n.val), h⟩))
include hw

theorem kvLane (l : Fin 128) (o : ℕ) (ho : o % 128 = 0) (ho' : o + 128 ≤ 512) :
    lane (fun n => k0_pay12 (F := Ideal) u w (ix2 r n)) o ho' l (iblk m c 9 t (ix2 r l)) (iblk m c 10 t (ix2 r l)) (iblk m c 11 t (ix2 r l))
      = refKV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 ⟨t.val / 3, h₀⟩ ⟨768 * (t.val % 3) + r.val, h₁⟩ ⟨o + l.val, by omega⟩) :=
  kv_close (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) _ _ _ o ho ho' l
    (fun n h => (kvProd_at u w r n).trans (Finset.sum_congr rfl fun k _ => congrArg₂ (· * ·) (hu k) (hw k n h)))
    ((iblk9 m c t r l h₁).trans (cosKV_at m c _ l)) ((iblk10 m c t r l h₁).trans (evenKV_at m c _ l)) ((iblk11 m c t r l h₁).trans (oddKV_at m c _ l))

theorem vtLane (l : Fin 64) (o : ℕ) (ho : o % 128 = 0) (ho' : o + 128 ≤ 512) (n : Fin 256) (hn : n.val = o / 128 * 64 + l.val) :
    lane (fun n => k0_pay12 (F := Ideal) u w (ix2 r n)) o ho' ⟨64 + l.val, by omega⟩ (iblk m c 9 t (ix2 r ⟨64 + l.val, by omega⟩))
        (iblk m c 10 t (ix2 r ⟨64 + l.val, by omega⟩)) (iblk m c 11 t (ix2 r ⟨64 + l.val, by omega⟩))
      = refVT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 ⟨t.val / 3, h₀⟩ n ⟨768 * (t.val % 3) + r.val, h₁⟩) :=
  vt_close (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) _ _ _ o ho ho' l
    (fun n h => (kvProd_at u w r n).trans (Finset.sum_congr rfl fun k _ => congrArg₂ (· * ·) (hu k) (hw k n h)))
    ((iblk9 m c t r _ h₁).trans (cosKV_at m c _ _)) ((iblk10 m c t r _ h₁).trans (evenKV_at m c _ _)) ((iblk11 m c t r _ h₁).trans (oddKV_at m c _ _)) n hn

end
end

/-! The five results, window by window. -/

theorem final15 (c : Dev nD) : (dats m 0 c).arrAt 15 cfg0.N = refGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 15 _ (by decide +kernel) fun t hf y => ?_
  blk_simp
  rw [after15]
  unfold outs
  dsimp only [at_]
  frame_out
  idx_vars y
  all_goals obtain rfl : y0 = 0 := Subsingleton.elim _ _
  all_goals have ht : t.val < 24 := (idx t).2.2.2.2.2.2.2.2.2.2.2.2.2.2.2.2.2.2.2.2
  have h₁ : 768 * (t.val % 3) + y1.val < 2304 := by omega
  have e : ((View.whole main_v83_0).slice (win0_15.rect t)).emb (ix3 0 y1 y2) = ix3 ⟨t.val / 3, by omega⟩ ⟨768 * (t.val % 3) + y1.val, h₁⟩ y2 := by
    blk_ext [idx t]
  have ec : col (1024 + y2.val) = 3584 + y2.val := by unfold col; split_ifs <;> omega
  refine (gate_at _ _ _ _).trans ((Finset.sum_congr rfl fun k _ => congrArg₂ (· * ·) (stored m c t y1 k (by omega) h₁) ((wgate m c t k y2 (by rw [ec]; omega)).trans
    (congrArg (fun q => m ((c : Thread nD τ).loc main_arg6) (ix2 k q)) (Fin.ext ec : _ = (⟨3584 + y2.val, by omega⟩ : Fin 4608))))).trans ?_)
  exact (refGate_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) _ _ _).symm.trans (congrArg _ e.symm)

theorem final16 (c : Dev nD) : (dats m 0 c).arrAt 16 cfg0.N = refU (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 16 _ (by decide +kernel) fun t hf y => ?_
  blk_simp
  rw [after16]
  unfold outs
  dsimp only [at_]
  frame_out
  idx_vars y
  all_goals obtain rfl : y0 = 0 := Subsingleton.elim _ _
  all_goals have ht : t.val < 24 := (idx t).2.2.2.2.2.2.2.2.2.2.2.2.2.2.2.2.2.2.2.2
  have h₁ : 768 * (t.val % 3) + y1.val < 2304 := by omega
  have e : ((View.whole main_v83_1).slice (win0_16.rect t)).emb (ix3 0 y1 y2) = ix3 ⟨t.val / 3, by omega⟩ ⟨768 * (t.val % 3) + y1.val, h₁⟩ y2 := by
    blk_ext [idx t]
  exact (u_at _ _ _).trans ((stored m c t y1 y2 (by omega) h₁).trans ((refU_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) _ _ _).symm.trans (congrArg _ e.symm)))

theorem final17 (c : Dev nD) : (dats m 0 c).arrAt 17 cfg0.N = refKV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 17 _ (by decide +kernel) fun t hf y => ?_
  blk_simp
  rw [after17]
  unfold outs
  dsimp only [at_]
  frame_out
  idx_vars y
  canon_tiles x h
  all_goals idx_vars x
  all_goals obtain rfl : x0 = 0 := Subsingleton.elim _ _
  all_goals obtain rfl : y0 = 0 := Subsingleton.elim _ _
  all_goals have ht : t.val < 24 := (idx t).2.2.2.2.2.2.2.2.2.2.2.2.2.2.2.2.2.2.2.2
  all_goals obtain rfl : y1 = x1 := Fin.ext h1
  all_goals have h₁ : 768 * (t.val % 3) + y1.val < 2304 := by omega
  case piece0 =>
    have e : ((View.whole main_v83_2).slice (win0_17.rect t)).emb (ix3 0 y1 y2) = ix3 ⟨t.val / 3, by omega⟩ ⟨768 * (t.val % 3) + y1.val, h₁⟩ ⟨384 + x2.val, by omega⟩ := by
      blk_ext [idx t, h2]
    exact (kv3_at _ _ _ _ _ _).trans ((kvLane m c t y1 (by omega) h₁ _ (fun k => stored m c t y1 k _ h₁) _ (wkv m c t) x2 384 rfl (by decide)).trans (congrArg _ e.symm))
  case piece1 =>
    have e : ((View.whole main_v83_2).slice (win0_17.rect t)).emb (ix3 0 y1 y2) = ix3 ⟨t.val / 3, by omega⟩ ⟨768 * (t.val % 3) + y1.val, h₁⟩ ⟨256 + x2.val, by omega⟩ := by
      blk_ext [idx t, h2]
    exact (kv2_at _ _ _ _ _ _).trans ((kvLane m c t y1 (by omega) h₁ _ (fun k => stored m c t y1 k _ h₁) _ (wkv m c t) x2 256 rfl (by decide)).trans (congrArg _ e.symm))
  case piece2 =>
    have e : ((View.whole main_v83_2).slice (win0_17.rect t)).emb (ix3 0 y1 y2) = ix3 ⟨t.val / 3, by omega⟩ ⟨768 * (t.val % 3) + y1.val, h₁⟩ ⟨128 + x2.val, by omega⟩ := by
      blk_ext [idx t, h2]
    exact (kv1_at _ _ _ _ _ _).trans ((kvLane m c t y1 (by omega) h₁ _ (fun k => stored m c t y1 k _ h₁) _ (wkv m c t) x2 128 rfl (by decide)).trans (congrArg _ e.symm))
  case piece3 =>
    have e : ((View.whole main_v83_2).slice (win0_17.rect t)).emb (ix3 0 y1 y2) = ix3 ⟨t.val / 3, by omega⟩ ⟨768 * (t.val % 3) + y1.val, h₁⟩ ⟨0 + x2.val, by omega⟩ := by
      blk_ext [idx t, h2]
    exact (kv0_at _ _ _ _ _ _).trans ((kvLane m c t y1 (by omega) h₁ _ (fun k => stored m c t y1 k _ h₁) _ (wkv m c t) x2 0 rfl (by decide)).trans (congrArg _ e.symm))

theorem final18 (c : Dev nD) : (dats m 0 c).arrAt 18 cfg0.N = refVT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 18 _ (by decide +kernel) fun t hf y => ?_
  blk_simp
  rw [after18]
  unfold outs
  dsimp only [at_]
  frame_out
  idx_vars y
  canon_tiles x h
  all_goals idx_vars x
  all_goals obtain rfl : x0 = 0 := Subsingleton.elim _ _
  all_goals obtain rfl : y0 = 0 := Subsingleton.elim _ _
  all_goals have ht : t.val < 24 := (idx t).2.2.2.2.2.2.2.2.2.2.2.2.2.2.2.2.2.2.2.2
  all_goals obtain rfl : y2 = x2 := Fin.ext h2
  all_goals have h₁ : 768 * (t.val % 3) + y2.val < 2304 := by omega
  all_goals have e : ((View.whole main_v83_3).slice (win0_18.rect t)).emb (ix3 0 y1 y2) = ix3 ⟨t.val / 3, by omega⟩ y1 ⟨768 * (t.val % 3) + y2.val, h₁⟩ := by blk_ext [idx t]
  case piece0 =>
    exact (vt3_at _ _ _ _ _ _).trans ((vtLane m c t y2 (by omega) h₁ _ (fun k => stored m c t y2 k _ h₁) _ (wkv m c t) x1 384 rfl (by decide) y1
      (h1)).trans (congrArg _ e.symm))
  case piece1 =>
    exact (vt2_at _ _ _ _ _ _).trans ((vtLane m c t y2 (by omega) h₁ _ (fun k => stored m c t y2 k _ h₁) _ (wkv m c t) x1 256 rfl (by decide) y1
      (h1)).trans (congrArg _ e.symm))
  case piece2 =>
    exact (vt1_at _ _ _ _ _ _).trans ((vtLane m c t y2 (by omega) h₁ _ (fun k => stored m c t y2 k _ h₁) _ (wkv m c t) x1 128 rfl (by decide) y1
      (h1)).trans (congrArg _ e.symm))
  case piece3 =>
    exact (vt0_at _ _ _ _ _ _).trans ((vtLane m c t y2 (by omega) h₁ _ (fun k => stored m c t y2 k _ h₁) _ (wkv m c t) x1 0 rfl (by decide) y1
      (h1.trans (Nat.zero_add _).symm)).trans (congrArg _ e.symm))

theorem final19 (c : Dev nD) : (dats m 0 c).arrAt 19 cfg0.N = refQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 19 _ (by decide +kernel) fun t hf y => ?_
  blk_simp
  rw [after19]
  unfold outs
  dsimp only [at_]
  frame_out
  idx_vars y
  canon_tiles x h
  all_goals idx_vars x
  all_goals obtain rfl : x0 = 0 := Subsingleton.elim _ _
  all_goals obtain rfl : y0 = 0 := Subsingleton.elim _ _
  all_goals have ht : t.val < 24 := (idx t).2.2.2.2.2.2.2.2.2.2.2.2.2.2.2.2.2.2.2.2
  all_goals obtain rfl : y1 = x1 := Fin.ext h1
  all_goals have h₁ : 768 * (t.val % 3) + y1.val < 2304 := by omega
  case piece0 =>
    have e : ((View.whole main_v83_4).slice (win0_19.rect t)).emb (ix3 0 y1 y2) = ix3 ⟨t.val / 3, by omega⟩ ⟨768 * (t.val % 3) + y1.val, h₁⟩ ⟨896 + x2.val, by omega⟩ := by
      blk_ext [idx t, h2]
    exact (q7_at _ _ _ _ _ _ _).trans ((qLane m c t y1 (by omega) h₁ _ (fun k => stored m c t y1 k _ h₁) _ (wq m c t) x2 896 rfl (by decide)).trans (congrArg _ e.symm))
  case piece1 =>
    have e : ((View.whole main_v83_4).slice (win0_19.rect t)).emb (ix3 0 y1 y2) = ix3 ⟨t.val / 3, by omega⟩ ⟨768 * (t.val % 3) + y1.val, h₁⟩ ⟨768 + x2.val, by omega⟩ := by
      blk_ext [idx t, h2]
    exact (q6_at _ _ _ _ _ _ _).trans ((qLane m c t y1 (by omega) h₁ _ (fun k => stored m c t y1 k _ h₁) _ (wq m c t) x2 768 rfl (by decide)).trans (congrArg _ e.symm))
  case piece2 =>
    have e : ((View.whole main_v83_4).slice (win0_19.rect t)).emb (ix3 0 y1 y2) = ix3 ⟨t.val / 3, by omega⟩ ⟨768 * (t.val % 3) + y1.val, h₁⟩ ⟨640 + x2.val, by omega⟩ := by
      blk_ext [idx t, h2]
    exact (q5_at _ _ _ _ _ _ _).trans ((qLane m c t y1 (by omega) h₁ _ (fun k => stored m c t y1 k _ h₁) _ (wq m c t) x2 640 rfl (by decide)).trans (congrArg _ e.symm))
  case piece3 =>
    have e : ((View.whole main_v83_4).slice (win0_19.rect t)).emb (ix3 0 y1 y2) = ix3 ⟨t.val / 3, by omega⟩ ⟨768 * (t.val % 3) + y1.val, h₁⟩ ⟨512 + x2.val, by omega⟩ := by
      blk_ext [idx t, h2]
    exact (q4_at _ _ _ _ _ _ _).trans ((qLane m c t y1 (by omega) h₁ _ (fun k => stored m c t y1 k _ h₁) _ (wq m c t) x2 512 rfl (by decide)).trans (congrArg _ e.symm))
  case piece4 =>
    have e : ((View.whole main_v83_4).slice (win0_19.rect t)).emb (ix3 0 y1 y2) = ix3 ⟨t.val / 3, by omega⟩ ⟨768 * (t.val % 3) + y1.val, h₁⟩ ⟨384 + x2.val, by omega⟩ := by
      blk_ext [idx t, h2]
    exact (q3_at _ _ _ _ _ _ _).trans ((qLane m c t y1 (by omega) h₁ _ (fun k => stored m c t y1 k _ h₁) _ (wq m c t) x2 384 rfl (by decide)).trans (congrArg _ e.symm))
  case piece5 =>
    have e : ((View.whole main_v83_4).slice (win0_19.rect t)).emb (ix3 0 y1 y2) = ix3 ⟨t.val / 3, by omega⟩ ⟨768 * (t.val % 3) + y1.val, h₁⟩ ⟨256 + x2.val, by omega⟩ := by
      blk_ext [idx t, h2]
    exact (q2_at _ _ _ _ _ _ _).trans ((qLane m c t y1 (by omega) h₁ _ (fun k => stored m c t y1 k _ h₁) _ (wq m c t) x2 256 rfl (by decide)).trans (congrArg _ e.symm))
  case piece6 =>
    have e : ((View.whole main_v83_4).slice (win0_19.rect t)).emb (ix3 0 y1 y2) = ix3 ⟨t.val / 3, by omega⟩ ⟨768 * (t.val % 3) + y1.val, h₁⟩ ⟨128 + x2.val, by omega⟩ := by
      blk_ext [idx t, h2]
    exact (q1_at _ _ _ _ _ _ _).trans ((qLane m c t y1 (by omega) h₁ _ (fun k => stored m c t y1 k _ h₁) _ (wq m c t) x2 128 rfl (by decide)).trans (congrArg _ e.symm))
  case piece7 =>
    have e : ((View.whole main_v83_4).slice (win0_19.rect t)).emb (ix3 0 y1 y2) = ix3 ⟨t.val / 3, by omega⟩ ⟨768 * (t.val % 3) + y1.val, h₁⟩ ⟨0 + x2.val, by omega⟩ := by
      blk_ext [idx t, h2]
    exact (q0_at _ _ _ _ _ _ _).trans ((qLane m c t y1 (by omega) h₁ _ (fun k => stored m c t y1 k _ h₁) _ (wq m c t) x2 0 rfl (by decide)).trans (congrArg _ e.symm))

end Cert.EvenProj

end
-- ==== Proof.EvenValue.lean ====
/-
The even layers' input projection: the value.
-/
module

public import proofs.«01_k».proof.Defs
public import proofs.«01_k».proof.Proof.Scalar
public import proofs.«01_k».proof.Proof.InProj
public import proofs.«01_k».proof.Proof.EvenProj
public import proofs.«01_k».proof.Proof.Gen.Reference7Ideal.Run
public import Idealize.ShloMosaic.Lib.Pipeline.ValueKit
public import Idealize.ShloMosaic.Lib.Pipeline.Value
public import Idealize.ShloMosaic.Lib.Pointwise
public import Idealize.ShloMosaic.Lib.Claim
public import Idealize.ShloMosaic.Lib.Quiescent
public import Idealize.ShloMosaic.Lib.IdealHost

@[expose] public section

set_option maxRecDepth 16384
set_option maxHeartbeats 2000000

noncomputable section

namespace Cert.EvenProj

open Idealize.ShloMosaic Idealize.ShloMosaic.TcCoe Idealize.SL.Sem Idealize.ShloMosaic.Tactic

open Cert.Kernel7Ideal.EvenIn in
theorem value : Cert.algebraic_Kernel7Ideal_Reference7Ideal := by
  intro m g m' g' _ hagree
  refine ⟨fun c => (dats m 0 c).arrAt 15 Cert.Kernel7Ideal.cfg0.N, fun c => (dats m 0 c).arrAt 16 Cert.Kernel7Ideal.cfg0.N,
    fun c => (dats m 0 c).arrAt 17 Cert.Kernel7Ideal.cfg0.N, fun c => (dats m 0 c).arrAt 18 Cert.Kernel7Ideal.cfg0.N,
    fun c => (dats m 0 c).arrAt 19 Cert.Kernel7Ideal.cfg0.N, ?_, ?_⟩
  · have hr := run_main (F := Ideal) m g
    have hf := frame_any (F := Ideal) m g
    refine (θ_run _ _ _).mono (fun r h c => ?_) (θ_run_and hf hr)
    exact ⟨(h.2.1 c).1 15, (h.2.1 c).1 16, (h.2.1 c).1 17, (h.2.1 c).1 18, (h.2.1 c).1 19, h.1.1 c⟩
  · refine (θ_run _ _ _).mono (fun _ h c => ?_) (Cert.Reference7Ideal.Value.run (F := Ideal) m' g')
    obtain ⟨h0, h1, h2, h3, h4, h5, h6⟩ := hagree c
    have e0 := final15 m c
    have e1 := final16 m c
    have e2 := final17 m c
    have e3 := final18 m c
    have e4 := final19 m c
    rw [← h0, ← h1, ← h2, ← h3, ← h4, ← h5, ← h6] at e0 e2 e3 e4
    rw [← h0, ← h1, ← h2, ← h3, ← h4, ← h5] at e1
    obtain ⟨q0, q1, q2, q3, q4, q⟩ := h c
    refine ⟨q0.trans (Eq.trans ?_ e0.symm), q1.trans (Eq.trans ?_ e1.symm), q2.trans ((kv_eq m' c).trans e2.symm), q3.trans (Eq.trans ?_ e3.symm),
      q4.trans ((q_eq m' c).trans e4.symm), q⟩
    · unfold refGate PC PL UC UL; rfl
    · unfold refU U UC UL; rfl
    · unfold refVT VT PC PL UC UL; rfl

end Cert.EvenProj

end
-- ==== Proof.lean ====
module

public import proofs.«01_k».proof.Defs
public import proofs.«01_k».proof.Proof.Final
public import proofs.«01_k».proof.Proof.FinalProj
public import proofs.«01_k».proof.Proof.InProj
public import proofs.«01_k».proof.Proof.EvenOut
public import proofs.«01_k».proof.Proof.TimeProj
public import proofs.«01_k».proof.Proof.OddOut
public import proofs.«01_k».proof.Proof.EvenFrame
public import proofs.«01_k».proof.Proof.EvenValue
public import proofs.«01_k».proof.Proof.Gen.Kernel7
public import proofs.«01_k».proof.Proof.Gen.Reference7Ideal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Final.preFacts,
    Cert.Final.frame_kernel, Cert.Final.frame_ideal, fun m ρ _ => Cert.Final.frame_ideal m ρ trivial,
    Cert.Final.frame_reference, fun m ρ _ => Cert.Final.frame_reference m ρ trivial,
    Cert.FinalProj.frame_kernel, Cert.FinalProj.frame_ideal, Cert.FinalProj.frame_reference,
    Cert.InProj.frame_kernel, Cert.InProj.frame_ideal, Cert.InProj.frame_reference,
    Cert.EvenOut.frame_kernel, Cert.EvenOut.frame_ideal, Cert.EvenOut.frame_reference,
    Cert.TimeProj.frame_kernel, Cert.TimeProj.frame_ideal, Cert.TimeProj.frame_reference,
    Cert.OddOut.frame_kernel, Cert.OddOut.frame_ideal, Cert.OddOut.frame_reference,
    Cert.EvenProj.frame_kernel, Cert.EvenProj.frame_ideal, Cert.EvenProj.frame_reference,
    trivial, Cert.Final.value, trivial, Cert.FinalProj.value, trivial, Cert.InProj.value,
    trivial, Cert.EvenOut.value, trivial, Cert.TimeProj.value, trivial, Cert.OddOut.value, trivial, Cert.EvenProj.value⟩

end Cert.Proof

end
